-- ==== Defs.lean ====
def Pre_Kernel [hPre_chunk_start_nonneg : Cert.Pre_chunk_start_nonneg.Facts] (m : (ℓ : Loc Cert.Kernel.nD Cert.Kernel.τ Cert.Kernel.sig) → Buf (Elt Bits) ℓ) : Prop :=
  ∀ c : Dev Cert.Kernel.nD,
    (Cert.Pre_chunk_start_nonneg.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_chunk_start_nonneg : Cert.Pre_chunk_start_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_chunk_start_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_chunk_start_nonneg : Cert.Pre_chunk_start_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunk_start_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_chunk_start_nonneg : Cert.Pre_chunk_start_nonneg.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_chunk_start_nonneg : Cert.Pre_chunk_start_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_chunk_start_nonneg : Cert.Pre_chunk_start_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chunk_start_nonneg : Cert.Pre_chunk_start_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_chunk_start_nonneg : Cert.Pre_chunk_start_nonneg.Facts),
    quiescent_Kernel (hKernel := hKernel) (hPre_chunk_start_nonneg := hPre_chunk_start_nonneg)
    ∧ quiescent_KernelIdeal (hKernelIdeal := hKernelIdeal) (hPre_chunk_start_nonneg := hPre_chunk_start_nonneg)
    ∧ quiescent_ReferenceIdeal (hReferenceIdeal := hReferenceIdeal) (hPre_chunk_start_nonneg := hPre_chunk_start_nonneg)
    ∧ preserves_Kernel_KernelIdeal
    ∧ algebraic_KernelIdeal_ReferenceIdeal (hKernelIdeal := hKernelIdeal) (hReferenceIdeal := hReferenceIdeal) (hPre_chunk_start_nonneg := hPre_chunk_start_nonneg)
-- ==== Pre_chunk_start_nonneg.lean ====
abbrev S1x128x16384 : Shape := ⟨3, ![1, 128, 16384]⟩
abbrev S1x128x2048x2 : Shape := ⟨4, ![1, 128, 2048, 2]⟩
abbrev S2x256x8 : Shape := ⟨3, ![2, 256, 8]⟩
abbrev S1x128 : Shape := ⟨2, ![1, 128]⟩
abbrev S64x8x16384 : Shape := ⟨3, ![64, 8, 16384]⟩
abbrev S_ : Shape := ⟨0, ![]⟩

class Facts : Prop where

variable [Facts]

def fn {F : FTy → Type} [FloatOps F] (main_arg0 : FVec F S1x128x16384 .f32) (main_arg1 : IVec S1x128x2048x2 8) (main_arg2 : FVec F S2x256x8 .bf16) (main_arg3 : FVec F S1x128 .f32) (main_arg4 : FVec F S64x8x16384 .f32) (main_arg5 : IVec S_ 32) : IVec S_ 1 :=
  let main_c : IVec S_ 32 := constantI S_ 32 0#32
  let main_v0 : IVec S_ 1 := cmpi .sge main_arg5 main_c
  main_v0
-- ==== Kernel.lean ====
abbrev S1x128x16384 : Shape := ⟨3, ![1, 128, 16384]⟩
abbrev S1x128x2048x2 : Shape := ⟨4, ![1, 128, 2048, 2]⟩
abbrev S2x256x8 : Shape := ⟨3, ![2, 256, 8]⟩
abbrev S1x128 : Shape := ⟨2, ![1, 128]⟩
abbrev S64x8x16384 : Shape := ⟨3, ![64, 8, 16384]⟩
abbrev S_ : Shape := ⟨0, ![]⟩
abbrev S1 : Shape := ⟨1, ![1]⟩
abbrev S128x16384 : Shape := ⟨2, ![128, 16384]⟩
abbrev S128x2048x2 : Shape := ⟨3, ![128, 2048, 2]⟩
abbrev S2x128x2048 : Shape := ⟨3, ![2, 128, 2048]⟩
abbrev S2x8x256 : Shape := ⟨3, ![2, 8, 256]⟩
abbrev S512x16384 : Shape := ⟨2, ![512, 16384]⟩
abbrev S512x128 : Shape := ⟨2, ![512, 128]⟩
abbrev S16x128x1024 : Shape := ⟨3, ![16, 128, 1024]⟩
abbrev S16x512x1024 : Shape := ⟨3, ![16, 512, 1024]⟩
abbrev S128x1024 : Shape := ⟨2, ![128, 1024]⟩
abbrev S2x8x2x8x128 : Shape := ⟨5, ![2, 8, 2, 8, 128]⟩
abbrev S128x128 : Shape := ⟨2, ![128, 128]⟩
abbrev S16 : Shape := ⟨1, ![16]⟩
abbrev S3 : Shape := ⟨1, ![3]⟩
abbrev S1x128x1024 : Shape := ⟨3, ![1, 128, 1024]⟩
abbrev S1x512x1024 : Shape := ⟨3, ![1, 512, 1024]⟩
abbrev S512x1024 : Shape := ⟨2, ![512, 1024]⟩
abbrev S1x8x256 : Shape := ⟨3, ![1, 8, 256]⟩
abbrev S8x256 : Shape := ⟨2, ![8, 256]⟩
abbrev S8x128 : Shape := ⟨2, ![8, 128]⟩
abbrev S1x1x1x8x128 : Shape := ⟨5, ![1, 1, 1, 8, 128]⟩
abbrev S1x32x128 : Shape := ⟨3, ![1, 32, 128]⟩
abbrev S32x128 : Shape := ⟨2, ![32, 128]⟩
abbrev S8x128x1 : Shape := ⟨3, ![8, 128, 1]⟩
abbrev S1x8x128 : Shape := ⟨3, ![1, 8, 128]⟩

abbrev nBuf : Space → Nat
  | .hbm => 14
  | .vmem => 11
  | .smem => 1
  | _ => 0

abbrev bufTy : (tb : Table) → Fin (tcTables nBuf tb) → BufTy
  | .hbm, ⟨0, _⟩ => ⟨S1x128x16384, .f32⟩
  | .hbm, ⟨1, _⟩ => ⟨S1x128x2048x2, .i8⟩
  | .hbm, ⟨2, _⟩ => ⟨S2x256x8, .bf16⟩
  | .hbm, ⟨3, _⟩ => ⟨S1x128, .f32⟩
  | .hbm, ⟨4, _⟩ => ⟨S64x8x16384, .f32⟩
  | .hbm, ⟨5, _⟩ => ⟨S_, .i32⟩
  | .hbm, ⟨6, _⟩ => ⟨S1, .i32⟩
  | .hbm, ⟨7, _⟩ => ⟨S128x16384, .f32⟩
  | .hbm, ⟨8, _⟩ => ⟨S128x2048x2, .i8⟩
  | .hbm, ⟨9, _⟩ => ⟨S2x128x2048, .i8⟩
  | .hbm, ⟨10, _⟩ => ⟨S2x8x256, .bf16⟩
  | .hbm, ⟨11, _⟩ => ⟨S512x16384, .f32⟩
  | .hbm, ⟨12, _⟩ => ⟨S512x128, .f32⟩
  | .hbm, ⟨13, _⟩ => ⟨S128x16384, .bf16⟩
  | .local _ .vmem, ⟨0, _⟩ => ⟨S512x128, .f32⟩
  | .local _ .vmem, ⟨1, _⟩ => ⟨S16x128x1024, .f32⟩
  | .local _ .vmem, ⟨2, _⟩ => ⟨S16x512x1024, .f32⟩
  | .local _ .vmem, ⟨3, _⟩ => ⟨S16x128x1024, .bf16⟩
  | .local _ .vmem, ⟨4, _⟩ => ⟨S128x1024, .bf16⟩
  | .local _ .vmem, ⟨5, _⟩ => ⟨S128x1024, .bf16⟩
  | .local _ .vmem, ⟨6, _⟩ => ⟨S2x128x2048, .i8⟩
  | .local _ .vmem, ⟨7, _⟩ => ⟨S2x8x256, .bf16⟩
  | .local _ .vmem, ⟨8, _⟩ => ⟨S1x128, .f32⟩
  | .local _ .vmem, ⟨9, _⟩ => ⟨S2x8x2x8x128, .f32⟩
  | .local _ .vmem, ⟨10, _⟩ => ⟨S128x128, .f32⟩
  | .local _ .smem, ⟨0, _⟩ => ⟨S1, .i32⟩
  | _, _ => ⟨S1x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_6 : BitVec 32 := 0#32
  let v24 : BitVec 32 := Scalar.addi v17 c0_i32_6
  let c16_i32 : BitVec 32 := 16#32
  let v25 : BitVec 32 := Scalar.remsi v24 c16_i32
  let c1024_i32 : BitVec 32 := 1024#32
  let v26 : BitVec 32 := Scalar.muli v25 c1024_i32
  v26

def k0_off1 (v0 : BitVec 32) (c0_i32_6 : BitVec 32) : Fin 2 → Nat :=
  let c0_i32_11 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let v24 : BitVec 32 := Scalar.addi v17 c0_i32_6
  let c16_i32 : BitVec 32 := 16#32
  let v25 : BitVec 32 := Scalar.remsi v24 c16_i32
  let c1024_i32 : BitVec 32 := 1024#32
  let v26 : BitVec 32 := Scalar.muli v25 c1024_i32
  let v27 : BitVec 32 := v26
  ![0, v27.toNat]
def k0_mult2 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_12 : BitVec 32 := 0#32
  let v33 : BitVec 32 := Scalar.addi v17 c0_i32_12
  let c16_i32_13 : BitVec 32 := 16#32
  let v34 : BitVec 32 := Scalar.remsi v33 c16_i32_13
  let c1024_i32_14 : BitVec 32 := 1024#32
  let v35 : BitVec 32 := Scalar.muli v34 c1024_i32_14
  v35
def k0_off2 (v0 : BitVec 32) (c0_i32_12 : BitVec 32) : Fin 2 → Nat :=
  let c0_i32_19 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let v33 : BitVec 32 := Scalar.addi v17 c0_i32_12
  let c16_i32_13 : BitVec 32 := 16#32
  let v34 : BitVec 32 := Scalar.remsi v33 c16_i32_13
  let c1024_i32_14 : BitVec 32 := 1024#32
  let v35 : BitVec 32 := Scalar.muli v34 c1024_i32_14
  let v36 : BitVec 32 := v35
  ![0, v36.toNat]
def k0_mult3 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_20 : BitVec 32 := 1#32
  let v42 : BitVec 32 := Scalar.addi v17 c1_i32_20
  let c16_i32_21 : BitVec 32 := 16#32
  let v43 : BitVec 32 := Scalar.remsi v42 c16_i32_21
  let c1024_i32_22 : BitVec 32 := 1024#32
  let v44 : BitVec 32 := Scalar.muli v43 c1024_i32_22
  v44
def k0_mult4 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_28 : BitVec 32 := 1#32
  let v51 : BitVec 32 := Scalar.addi v17 c1_i32_28
  let c16_i32_29 : BitVec 32 := 16#32
  let v52 : BitVec 32 := Scalar.remsi v51 c16_i32_29
  let c1024_i32_30 : BitVec 32 := 1024#32
  let v53 : BitVec 32 := Scalar.muli v52 c1024_i32_30
  v53
def k0_mult5 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_36 : BitVec 32 := 2#32
  let v60 : BitVec 32 := Scalar.addi v17 c2_i32_36
  let c16_i32_37 : BitVec 32 := 16#32
  let v61 : BitVec 32 := Scalar.remsi v60 c16_i32_37
  let c1024_i32_38 : BitVec 32 := 1024#32
  let v62 : BitVec 32 := Scalar.muli v61 c1024_i32_38
  v62
def k0_mult6 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_44 : BitVec 32 := 2#32
  let v69 : BitVec 32 := Scalar.addi v17 c2_i32_44
  let c16_i32_45 : BitVec 32 := 16#32
  let v70 : BitVec 32 := Scalar.remsi v69 c16_i32_45
  let c1024_i32_46 : BitVec 32 := 1024#32
  let v71 : BitVec 32 := Scalar.muli v70 c1024_i32_46
  v71
def k0_mult7 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c3_i32 : BitVec 32 := 3#32
  let v78 : BitVec 32 := Scalar.addi v17 c3_i32
  let c16_i32_52 : BitVec 32 := 16#32
  let v79 : BitVec 32 := Scalar.remsi v78 c16_i32_52
  let c1024_i32_53 : BitVec 32 := 1024#32
  let v80 : BitVec 32 := Scalar.muli v79 c1024_i32_53
  v80
def k0_mult8 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c3_i32_59 : BitVec 32 := 3#32
  let v87 : BitVec 32 := Scalar.addi v17 c3_i32_59
  let c16_i32_60 : BitVec 32 := 16#32
  let v88 : BitVec 32 := Scalar.remsi v87 c16_i32_60
  let c1024_i32_61 : BitVec 32 := 1024#32
  let v89 : BitVec 32 := Scalar.muli v88 c1024_i32_61
  v89
def k0_mult9 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c4_i32 : BitVec 32 := 4#32
  let v96 : BitVec 32 := Scalar.addi v17 c4_i32
  let c16_i32_67 : BitVec 32 := 16#32
  let v97 : BitVec 32 := Scalar.remsi v96 c16_i32_67
  let c1024_i32_68 : BitVec 32 := 1024#32
  let v98 : BitVec 32 := Scalar.muli v97 c1024_i32_68
  v98
def k0_mult10 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c4_i32_74 : BitVec 32 := 4#32
  let v105 : BitVec 32 := Scalar.addi v17 c4_i32_74
  let c16_i32_75 : BitVec 32 := 16#32
  let v106 : BitVec 32 := Scalar.remsi v105 c16_i32_75
  let c1024_i32_76 : BitVec 32 := 1024#32
  let v107 : BitVec 32 := Scalar.muli v106 c1024_i32_76
  v107
def k0_mult11 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c5_i32 : BitVec 32 := 5#32
  let v114 : BitVec 32 := Scalar.addi v17 c5_i32
  let c16_i32_82 : BitVec 32 := 16#32
  let v115 : BitVec 32 := Scalar.remsi v114 c16_i32_82
  let c1024_i32_83 : BitVec 32 := 1024#32
  let v116 : BitVec 32 := Scalar.muli v115 c1024_i32_83
  v116
def k0_mult12 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c5_i32_89 : BitVec 32 := 5#32
  let v123 : BitVec 32 := Scalar.addi v17 c5_i32_89
  let c16_i32_90 : BitVec 32 := 16#32
  let v124 : BitVec 32 := Scalar.remsi v123 c16_i32_90
  let c1024_i32_91 : BitVec 32 := 1024#32
  let v125 : BitVec 32 := Scalar.muli v124 c1024_i32_91
  v125
def k0_mult13 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c6_i32 : BitVec 32 := 6#32
  let v132 : BitVec 32 := Scalar.addi v17 c6_i32
  let c16_i32_97 : BitVec 32 := 16#32
  let v133 : BitVec 32 := Scalar.remsi v132 c16_i32_97
  let c1024_i32_98 : BitVec 32 := 1024#32
  let v134 : BitVec 32 := Scalar.muli v133 c1024_i32_98
  v134
def k0_mult14 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c6_i32_104 : BitVec 32 := 6#32
  let v141 : BitVec 32 := Scalar.addi v17 c6_i32_104
  let c16_i32_105 : BitVec 32 := 16#32
  let v142 : BitVec 32 := Scalar.remsi v141 c16_i32_105
  let c1024_i32_106 : BitVec 32 := 1024#32
  let v143 : BitVec 32 := Scalar.muli v142 c1024_i32_106
  v143
def k0_mult15 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c7_i32 : BitVec 32 := 7#32
  let v150 : BitVec 32 := Scalar.addi v17 c7_i32
  let c16_i32_112 : BitVec 32 := 16#32
  let v151 : BitVec 32 := Scalar.remsi v150 c16_i32_112
  let c1024_i32_113 : BitVec 32 := 1024#32
  let v152 : BitVec 32 := Scalar.muli v151 c1024_i32_113
  v152
def k0_mult16 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c7_i32_119 : BitVec 32 := 7#32
  let v159 : BitVec 32 := Scalar.addi v17 c7_i32_119
  let c16_i32_120 : BitVec 32 := 16#32
  let v160 : BitVec 32 := Scalar.remsi v159 c16_i32_120
  let c1024_i32_121 : BitVec 32 := 1024#32
  let v161 : BitVec 32 := Scalar.muli v160 c1024_i32_121
  v161
def k0_mult17 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c8_i32 : BitVec 32 := 8#32
  let v168 : BitVec 32 := Scalar.addi v17 c8_i32
  let c16_i32_127 : BitVec 32 := 16#32
  let v169 : BitVec 32 := Scalar.remsi v168 c16_i32_127
  let c1024_i32_128 : BitVec 32 := 1024#32
  let v170 : BitVec 32 := Scalar.muli v169 c1024_i32_128
  v170
def k0_mult18 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c8_i32_134 : BitVec 32 := 8#32
  let v177 : BitVec 32 := Scalar.addi v17 c8_i32_134
  let c16_i32_135 : BitVec 32 := 16#32
  let v178 : BitVec 32 := Scalar.remsi v177 c16_i32_135
  let c1024_i32_136 : BitVec 32 := 1024#32
  let v179 : BitVec 32 := Scalar.muli v178 c1024_i32_136
  v179
def k0_mult19 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c9_i32 : BitVec 32 := 9#32
  let v186 : BitVec 32 := Scalar.addi v17 c9_i32
  let c16_i32_142 : BitVec 32 := 16#32
  let v187 : BitVec 32 := Scalar.remsi v186 c16_i32_142
  let c1024_i32_143 : BitVec 32 := 1024#32
  let v188 : BitVec 32 := Scalar.muli v187 c1024_i32_143
  v188
def k0_mult20 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c9_i32_149 : BitVec 32 := 9#32
  let v195 : BitVec 32 := Scalar.addi v17 c9_i32_149
  let c16_i32_150 : BitVec 32 := 16#32
  let v196 : BitVec 32 := Scalar.remsi v195 c16_i32_150
  let c1024_i32_151 : BitVec 32 := 1024#32
  let v197 : BitVec 32 := Scalar.muli v196 c1024_i32_151
  v197
def k0_mult21 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c10_i32 : BitVec 32 := 10#32
  let v204 : BitVec 32 := Scalar.addi v17 c10_i32
  let c16_i32_157 : BitVec 32 := 16#32
  let v205 : BitVec 32 := Scalar.remsi v204 c16_i32_157
  let c1024_i32_158 : BitVec 32 := 1024#32
  let v206 : BitVec 32 := Scalar.muli v205 c1024_i32_158
  v206
def k0_mult22 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c10_i32_164 : BitVec 32 := 10#32
  let v213 : BitVec 32 := Scalar.addi v17 c10_i32_164
  let c16_i32_165 : BitVec 32 := 16#32
  let v214 : BitVec 32 := Scalar.remsi v213 c16_i32_165
  let c1024_i32_166 : BitVec 32 := 1024#32
  let v215 : BitVec 32 := Scalar.muli v214 c1024_i32_166
  v215
def k0_mult23 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c11_i32 : BitVec 32 := 11#32
  let v222 : BitVec 32 := Scalar.addi v17 c11_i32
  let c16_i32_172 : BitVec 32 := 16#32
  let v223 : BitVec 32 := Scalar.remsi v222 c16_i32_172
  let c1024_i32_173 : BitVec 32 := 1024#32
  let v224 : BitVec 32 := Scalar.muli v223 c1024_i32_173
  v224
def k0_mult24 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c11_i32_179 : BitVec 32 := 11#32
  let v231 : BitVec 32 := Scalar.addi v17 c11_i32_179
  let c16_i32_180 : BitVec 32 := 16#32
  let v232 : BitVec 32 := Scalar.remsi v231 c16_i32_180
  let c1024_i32_181 : BitVec 32 := 1024#32
  let v233 : BitVec 32 := Scalar.muli v232 c1024_i32_181
  v233
def k0_mult25 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c12_i32 : BitVec 32 := 12#32
  let v240 : BitVec 32 := Scalar.addi v17 c12_i32
  let c16_i32_187 : BitVec 32 := 16#32
  let v241 : BitVec 32 := Scalar.remsi v240 c16_i32_187
  let c1024_i32_188 : BitVec 32 := 1024#32
  let v242 : BitVec 32 := Scalar.muli v241 c1024_i32_188
  v242
def k0_mult26 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c12_i32_194 : BitVec 32 := 12#32
  let v249 : BitVec 32 := Scalar.addi v17 c12_i32_194
  let c16_i32_195 : BitVec 32 := 16#32
  let v250 : BitVec 32 := Scalar.remsi v249 c16_i32_195
  let c1024_i32_196 : BitVec 32 := 1024#32
  let v251 : BitVec 32 := Scalar.muli v250 c1024_i32_196
  v251
def k0_mult27 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c13_i32 : BitVec 32 := 13#32
  let v258 : BitVec 32 := Scalar.addi v17 c13_i32
  let c16_i32_202 : BitVec 32 := 16#32
  let v259 : BitVec 32 := Scalar.remsi v258 c16_i32_202
  let c1024_i32_203 : BitVec 32 := 1024#32
  let v260 : BitVec 32 := Scalar.muli v259 c1024_i32_203
  v260
def k0_mult28 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c13_i32_209 : BitVec 32 := 13#32
  let v267 : BitVec 32 := Scalar.addi v17 c13_i32_209
  let c16_i32_210 : BitVec 32 := 16#32
  let v268 : BitVec 32 := Scalar.remsi v267 c16_i32_210
  let c1024_i32_211 : BitVec 32 := 1024#32
  let v269 : BitVec 32 := Scalar.muli v268 c1024_i32_211
  v269
def k0_mult29 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c14_i32 : BitVec 32 := 14#32
  let v276 : BitVec 32 := Scalar.addi v17 c14_i32
  let c16_i32_217 : BitVec 32 := 16#32
  let v277 : BitVec 32 := Scalar.remsi v276 c16_i32_217
  let c1024_i32_218 : BitVec 32 := 1024#32
  let v278 : BitVec 32 := Scalar.muli v277 c1024_i32_218
  v278
def k0_mult30 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c14_i32_224 : BitVec 32 := 14#32
  let v285 : BitVec 32 := Scalar.addi v17 c14_i32_224
  let c16_i32_225 : BitVec 32 := 16#32
  let v286 : BitVec 32 := Scalar.remsi v285 c16_i32_225
  let c1024_i32_226 : BitVec 32 := 1024#32
  let v287 : BitVec 32 := Scalar.muli v286 c1024_i32_226
  v287
def k0_mult31 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c15_i32 : BitVec 32 := 15#32
  let v294 : BitVec 32 := Scalar.addi v17 c15_i32
  let c16_i32_232 : BitVec 32 := 16#32
  let v295 : BitVec 32 := Scalar.remsi v294 c16_i32_232
  let c1024_i32_233 : BitVec 32 := 1024#32
  let v296 : BitVec 32 := Scalar.muli v295 c1024_i32_233
  v296
def k0_mult32 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c15_i32_239 : BitVec 32 := 15#32
  let v303 : BitVec 32 := Scalar.addi v17 c15_i32_239
  let c16_i32_240 : BitVec 32 := 16#32
  let v304 : BitVec 32 := Scalar.remsi v303 c16_i32_240
  let c1024_i32_241 : BitVec 32 := 1024#32
  let v305 : BitVec 32 := Scalar.muli v304 c1024_i32_241
  v305
def k0_mult33 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_413 : BitVec 32 := 0#32
  let v523 : BitVec 32 := Scalar.addi v17 c0_i32_413
  let c16_i32_414 : BitVec 32 := 16#32
  let v524 : BitVec 32 := Scalar.remsi v523 c16_i32_414
  let c1024_i32_415 : BitVec 32 := 1024#32
  let v525 : BitVec 32 := Scalar.muli v524 c1024_i32_415
  v525
def k0_mult34 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_421 : BitVec 32 := 0#32
  let v532 : BitVec 32 := Scalar.addi v17 c0_i32_421
  let c16_i32_422 : BitVec 32 := 16#32
  let v533 : BitVec 32 := Scalar.remsi v532 c16_i32_422
  let c128_i32_423 : BitVec 32 := 128#32
  let v534 : BitVec 32 := Scalar.muli v533 c128_i32_423
  v534
@[reducible] def k0_t1_loop : Scf.Loop 32 :=
  let c0_i32_424 : BitVec 32 := 0#32
  let c4_i32_425 : BitVec 32 := 4#32
  let v536 : BitVec 32 := Scalar.addi c0_i32_424 c4_i32_425
  let c1_i32_426 : BitVec 32 := 1#32
  ⟨c0_i32_424, v536, c1_i32_426⟩
def k0_mult35 (k0_t1 : Fin k0_t1_loop.trips) : BitVec 32 :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  v879
def k0_off3 (v0 : BitVec 32) (k0_t1 : Fin k0_t1_loop.trips) : Fin 3 → Nat :=
  let c0_741 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v882 : Index := Scalar.indexCast v880
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_421 : BitVec 32 := 0#32
  let v532 : BitVec 32 := Scalar.addi v17 c0_i32_421
  let c16_i32_422 : BitVec 32 := 16#32
  let v533 : BitVec 32 := Scalar.remsi v532 c16_i32_422
  let c128_i32_423 : BitVec 32 := 128#32
  let v534 : BitVec 32 := Scalar.muli v533 c128_i32_423
  let v535 : BitVec 32 := v534
  let v883 : Index := Scalar.indexCast v535
  ![0, v882.toNat, v883.toNat]
def k0_off4 (v0 : BitVec 32) (k0_t1 : Fin k0_t1_loop.trips) : Fin 3 → Nat :=
  let c1_745 : Index := 1#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v904 : Index := Scalar.indexCast v880
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_421 : BitVec 32 := 0#32
  let v532 : BitVec 32 := Scalar.addi v17 c0_i32_421
  let c16_i32_422 : BitVec 32 := 16#32
  let v533 : BitVec 32 := Scalar.remsi v532 c16_i32_422
  let c128_i32_423 : BitVec 32 := 128#32
  let v534 : BitVec 32 := Scalar.muli v533 c128_i32_423
  let v535 : BitVec 32 := v534
  let v905 : Index := Scalar.indexCast v535
  ![1, v904.toNat, v905.toNat]
def k0_off5 (k0_t1 : Fin k0_t1_loop.trips) (c0_i32_944 : BitVec 32) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1263 : Index := Scalar.indexCast v1262
  let c0_945 : Index := 0#32
  ![v1263.toNat, 0]
def k0_off6 (k0_t1 : Fin k0_t1_loop.trips) (c0_i32_944 : BitVec 32) : Fin 3 → Nat :=
  let c0_946 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1265 : Index := Scalar.indexCast v1262
  let c0_947 : Index := 0#32
  ![0, v1265.toNat, 0]
def k0_off7 (k0_t1 : Fin k0_t1_loop.trips) (c0_i32_944 : BitVec 32) : Fin 3 → Nat :=
  let c0_948 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1270 : Index := Scalar.indexCast v1262
  let c128 : Index := 128#32
  ![0, v1270.toNat, 128]
def k0_off8 (k0_t1 : Fin k0_t1_loop.trips) (c0_i32_944 : BitVec 32) : Fin 3 → Nat :=
  let c0_949 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1275 : Index := Scalar.indexCast v1262
  let c256 : Index := 256#32
  ![0, v1275.toNat, 256]
def k0_off9 (k0_t1 : Fin k0_t1_loop.trips) (c0_i32_944 : BitVec 32) : Fin 3 → Nat :=
  let c0_950 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1280 : Index := Scalar.indexCast v1262
  let c384 : Index := 384#32
  ![0, v1280.toNat, 384]
def k0_off10 (k0_t1 : Fin k0_t1_loop.trips) (c0_i32_944 : BitVec 32) : Fin 3 → Nat :=
  let c0_951 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1285 : Index := Scalar.indexCast v1262
  let c512 : Index := 512#32
  ![0, v1285.toNat, 512]
def k0_off11 (k0_t1 : Fin k0_t1_loop.trips) (c0_i32_944 : BitVec 32) : Fin 3 → Nat :=
  let c0_952 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1290 : Index := Scalar.indexCast v1262
  let c640 : Index := 640#32
  ![0, v1290.toNat, 640]
def k0_off12 (k0_t1 : Fin k0_t1_loop.trips) (c0_i32_944 : BitVec 32) : Fin 3 → Nat :=
  let c0_953 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1295 : Index := Scalar.indexCast v1262
  let c768 : Index := 768#32
  ![0, v1295.toNat, 768]
def k0_off13 (k0_t1 : Fin k0_t1_loop.trips) (c0_i32_944 : BitVec 32) : Fin 3 → Nat :=
  let c0_954 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1300 : Index := Scalar.indexCast v1262
  let c896 : Index := 896#32
  ![0, v1300.toNat, 896]
def k0_off14 (k0_t1 : Fin k0_t1_loop.trips) : Fin 3 → Nat :=
  let c0_1599 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2447 : Index := Scalar.indexCast v880
  let c0_1600 : Index := 0#32
  ![0, v2447.toNat, 0]
def k0_off15 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2451 : Index := Scalar.indexCast v880
  let c0_1601 : Index := 0#32
  ![v2451.toNat, 0]
def k0_off16 (k0_t1 : Fin k0_t1_loop.trips) : Fin 3 → Nat :=
  let c0_1602 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2457 : Index := Scalar.indexCast v880
  let c128_1603 : Index := 128#32
  ![0, v2457.toNat, 128]
def k0_off17 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2461 : Index := Scalar.indexCast v880
  let c128_1604 : Index := 128#32
  ![v2461.toNat, 128]
def k0_off18 (k0_t1 : Fin k0_t1_loop.trips) : Fin 3 → Nat :=
  let c0_1605 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2467 : Index := Scalar.indexCast v880
  let c256_1606 : Index := 256#32
  ![0, v2467.toNat, 256]
def k0_off19 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2471 : Index := Scalar.indexCast v880
  let c256_1607 : Index := 256#32
  ![v2471.toNat, 256]
def k0_off20 (k0_t1 : Fin k0_t1_loop.trips) : Fin 3 → Nat :=
  let c0_1608 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2477 : Index := Scalar.indexCast v880
  let c384_1609 : Index := 384#32
  ![0, v2477.toNat, 384]
def k0_off21 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2481 : Index := Scalar.indexCast v880
  let c384_1610 : Index := 384#32
  ![v2481.toNat, 384]
def k0_off22 (k0_t1 : Fin k0_t1_loop.trips) : Fin 3 → Nat :=
  let c0_1611 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2487 : Index := Scalar.indexCast v880
  let c512_1612 : Index := 512#32
  ![0, v2487.toNat, 512]
def k0_off23 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2491 : Index := Scalar.indexCast v880
  let c512_1613 : Index := 512#32
  ![v2491.toNat, 512]
def k0_off24 (k0_t1 : Fin k0_t1_loop.trips) : Fin 3 → Nat :=
  let c0_1614 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2497 : Index := Scalar.indexCast v880
  let c640_1615 : Index := 640#32
  ![0, v2497.toNat, 640]
def k0_off25 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2501 : Index := Scalar.indexCast v880
  let c640_1616 : Index := 640#32
  ![v2501.toNat, 640]
def k0_off26 (k0_t1 : Fin k0_t1_loop.trips) : Fin 3 → Nat :=
  let c0_1617 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2507 : Index := Scalar.indexCast v880
  let c768_1618 : Index := 768#32
  ![0, v2507.toNat, 768]
def k0_off27 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2511 : Index := Scalar.indexCast v880
  let c768_1619 : Index := 768#32
  ![v2511.toNat, 768]
def k0_off28 (k0_t1 : Fin k0_t1_loop.trips) : Fin 3 → Nat :=
  let c0_1620 : Index := 0#32
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2517 : Index := Scalar.indexCast v880
  let c896_1621 : Index := 896#32
  ![0, v2517.toNat, 896]
def k0_off29 (k0_t1 : Fin k0_t1_loop.trips) : Fin 2 → Nat :=
  let c0_i32_740 : BitVec 32 := 0#32
  let c0_i32_424 : BitVec 32 := 0#32
  let c1_i32_426 : BitVec 32 := 1#32
  let arg22 : BitVec 32 := Scf.iv c0_i32_424 c1_i32_426 k0_t1
  let c32_i32 : BitVec 32 := 32#32
  let v878 : BitVec 32 := Scalar.muli arg22 c32_i32
  let v879 : BitVec 32 := Scalar.addi c0_i32_740 v878
  let v880 : BitVec 32 := v879
  let v2521 : Index := Scalar.indexCast v880
  let c896_1622 : Index := 896#32
  ![v2521.toNat, 896]
def k0_mult36 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_428 : BitVec 32 := 0#32
  let v537 : BitVec 32 := Scalar.addi v17 c0_i32_428
  let c16_i32_429 : BitVec 32 := 16#32
  let v538 : BitVec 32 := Scalar.remsi v537 c16_i32_429
  let c1024_i32_430 : BitVec 32 := 1024#32
  let v539 : BitVec 32 := Scalar.muli v538 c1024_i32_430
  v539
def k0_mult37 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_438 : BitVec 32 := 1#32
  let v548 : BitVec 32 := Scalar.addi v17 c1_i32_438
  let c16_i32_439 : BitVec 32 := 16#32
  let v549 : BitVec 32 := Scalar.remsi v548 c16_i32_439
  let c1024_i32_440 : BitVec 32 := 1024#32
  let v550 : BitVec 32 := Scalar.muli v549 c1024_i32_440
  v550
def k0_mult38 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_456 : BitVec 32 := 1#32
  let v566 : BitVec 32 := Scalar.addi v17 c1_i32_456
  let c16_i32_457 : BitVec 32 := 16#32
  let v567 : BitVec 32 := Scalar.remsi v566 c16_i32_457
  let c128_i32_458 : BitVec 32 := 128#32
  let v568 : BitVec 32 := Scalar.muli v567 c128_i32_458
  v568
@[reducible] def k0_t2_loop : Scf.Loop 32 :=
  let c0_i32_459 : BitVec 32 := 0#32
  let c4_i32_460 : BitVec 32 := 4#32
  let v570 : BitVec 32 := Scalar.addi c0_i32_459 c4_i32_460
  let c1_i32_461 : BitVec 32 := 1#32
  ⟨c0_i32_459, v570, c1_i32_461⟩
def k0_mult39 (k0_t2 : Fin k0_t2_loop.trips) : BitVec 32 :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  v879
def k0_off30 (v0 : BitVec 32) (k0_t2 : Fin k0_t2_loop.trips) : Fin 3 → Nat :=
  let c0_741 : Index := 0#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v882 : Index := Scalar.indexCast v880
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_456 : BitVec 32 := 1#32
  let v566 : BitVec 32 := Scalar.addi v17 c1_i32_456
  let c16_i32_457 : BitVec 32 := 16#32
  let v567 : BitVec 32 := Scalar.remsi v566 c16_i32_457
  let c128_i32_458 : BitVec 32 := 128#32
  let v568 : BitVec 32 := Scalar.muli v567 c128_i32_458
  let v569 : BitVec 32 := v568
  let v883 : Index := Scalar.indexCast v569
  ![0, v882.toNat, v883.toNat]
def k0_off31 (v0 : BitVec 32) (k0_t2 : Fin k0_t2_loop.trips) : Fin 3 → Nat :=
  let c1_745 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v904 : Index := Scalar.indexCast v880
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_456 : BitVec 32 := 1#32
  let v566 : BitVec 32 := Scalar.addi v17 c1_i32_456
  let c16_i32_457 : BitVec 32 := 16#32
  let v567 : BitVec 32 := Scalar.remsi v566 c16_i32_457
  let c128_i32_458 : BitVec 32 := 128#32
  let v568 : BitVec 32 := Scalar.muli v567 c128_i32_458
  let v569 : BitVec 32 := v568
  let v905 : Index := Scalar.indexCast v569
  ![1, v904.toNat, v905.toNat]
def k0_off32 (k0_t2 : Fin k0_t2_loop.trips) (c0_i32_944 : BitVec 32) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1263 : Index := Scalar.indexCast v1262
  let c0_945 : Index := 0#32
  ![v1263.toNat, 0]
def k0_off33 (k0_t2 : Fin k0_t2_loop.trips) (c0_i32_944 : BitVec 32) : Fin 3 → Nat :=
  let c1_946 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1265 : Index := Scalar.indexCast v1262
  let c0_947 : Index := 0#32
  ![1, v1265.toNat, 0]
def k0_off34 (k0_t2 : Fin k0_t2_loop.trips) (c0_i32_944 : BitVec 32) : Fin 3 → Nat :=
  let c1_948 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1270 : Index := Scalar.indexCast v1262
  let c128 : Index := 128#32
  ![1, v1270.toNat, 128]
def k0_off35 (k0_t2 : Fin k0_t2_loop.trips) (c0_i32_944 : BitVec 32) : Fin 3 → Nat :=
  let c1_949 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1275 : Index := Scalar.indexCast v1262
  let c256 : Index := 256#32
  ![1, v1275.toNat, 256]
def k0_off36 (k0_t2 : Fin k0_t2_loop.trips) (c0_i32_944 : BitVec 32) : Fin 3 → Nat :=
  let c1_950 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1280 : Index := Scalar.indexCast v1262
  let c384 : Index := 384#32
  ![1, v1280.toNat, 384]
def k0_off37 (k0_t2 : Fin k0_t2_loop.trips) (c0_i32_944 : BitVec 32) : Fin 3 → Nat :=
  let c1_951 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1285 : Index := Scalar.indexCast v1262
  let c512 : Index := 512#32
  ![1, v1285.toNat, 512]
def k0_off38 (k0_t2 : Fin k0_t2_loop.trips) (c0_i32_944 : BitVec 32) : Fin 3 → Nat :=
  let c1_952 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1290 : Index := Scalar.indexCast v1262
  let c640 : Index := 640#32
  ![1, v1290.toNat, 640]
def k0_off39 (k0_t2 : Fin k0_t2_loop.trips) (c0_i32_944 : BitVec 32) : Fin 3 → Nat :=
  let c1_953 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1295 : Index := Scalar.indexCast v1262
  let c768 : Index := 768#32
  ![1, v1295.toNat, 768]
def k0_off40 (k0_t2 : Fin k0_t2_loop.trips) (c0_i32_944 : BitVec 32) : Fin 3 → Nat :=
  let c1_954 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v1262 : BitVec 32 := Scalar.addi v880 c0_i32_944
  let v1300 : Index := Scalar.indexCast v1262
  let c896 : Index := 896#32
  ![1, v1300.toNat, 896]
def k0_off41 (k0_t2 : Fin k0_t2_loop.trips) : Fin 3 → Nat :=
  let c1_1599 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2447 : Index := Scalar.indexCast v880
  let c0_1600 : Index := 0#32
  ![1, v2447.toNat, 0]
def k0_off42 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2451 : Index := Scalar.indexCast v880
  let c0_1601 : Index := 0#32
  ![v2451.toNat, 0]
def k0_off43 (k0_t2 : Fin k0_t2_loop.trips) : Fin 3 → Nat :=
  let c1_1602 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2457 : Index := Scalar.indexCast v880
  let c128_1603 : Index := 128#32
  ![1, v2457.toNat, 128]
def k0_off44 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2461 : Index := Scalar.indexCast v880
  let c128_1604 : Index := 128#32
  ![v2461.toNat, 128]
def k0_off45 (k0_t2 : Fin k0_t2_loop.trips) : Fin 3 → Nat :=
  let c1_1605 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2467 : Index := Scalar.indexCast v880
  let c256_1606 : Index := 256#32
  ![1, v2467.toNat, 256]
def k0_off46 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2471 : Index := Scalar.indexCast v880
  let c256_1607 : Index := 256#32
  ![v2471.toNat, 256]
def k0_off47 (k0_t2 : Fin k0_t2_loop.trips) : Fin 3 → Nat :=
  let c1_1608 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2477 : Index := Scalar.indexCast v880
  let c384_1609 : Index := 384#32
  ![1, v2477.toNat, 384]
def k0_off48 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2481 : Index := Scalar.indexCast v880
  let c384_1610 : Index := 384#32
  ![v2481.toNat, 384]
def k0_off49 (k0_t2 : Fin k0_t2_loop.trips) : Fin 3 → Nat :=
  let c1_1611 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2487 : Index := Scalar.indexCast v880
  let c512_1612 : Index := 512#32
  ![1, v2487.toNat, 512]
def k0_off50 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2491 : Index := Scalar.indexCast v880
  let c512_1613 : Index := 512#32
  ![v2491.toNat, 512]
def k0_off51 (k0_t2 : Fin k0_t2_loop.trips) : Fin 3 → Nat :=
  let c1_1614 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2497 : Index := Scalar.indexCast v880
  let c640_1615 : Index := 640#32
  ![1, v2497.toNat, 640]
def k0_off52 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2501 : Index := Scalar.indexCast v880
  let c640_1616 : Index := 640#32
  ![v2501.toNat, 640]
def k0_off53 (k0_t2 : Fin k0_t2_loop.trips) : Fin 3 → Nat :=
  let c1_1617 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2507 : Index := Scalar.indexCast v880
  let c768_1618 : Index := 768#32
  ![1, v2507.toNat, 768]
def k0_off54 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2511 : Index := Scalar.indexCast v880
  let c768_1619 : Index := 768#32
  ![v2511.toNat, 768]
def k0_off55 (k0_t2 : Fin k0_t2_loop.trips) : Fin 3 → Nat :=
  let c1_1620 : Index := 1#32
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2517 : Index := Scalar.indexCast v880
  let c896_1621 : Index := 896#32
  ![1, v2517.toNat, 896]
def k0_off56 (k0_t2 : Fin k0_t2_loop.trips) : Fin 2 → Nat :=
  let c0_i32_740 : BitVec 32 := 0#32
  let c0_i32_459 : BitVec 32 := 0#32
  let c1_i32_461 : BitVec 32 := 1#32
  let arg22 : BitVec 32 := Scf.iv c0_i32_459 c1_i32_461 k0_t2
  let c32_i32 : BitVec 32 := 32#32
  let v878 : BitVec 32 := Scalar.muli arg22 c32_i32
  let v879 : BitVec 32 := Scalar.addi c0_i32_740 v878
  let v880 : BitVec 32 := v879
  let v2521 : Index := Scalar.indexCast v880
  let c896_1622 : Index := 896#32
  ![v2521.toNat, 896]
@[reducible] def k0_t3_loop : Scf.Loop 32 :=
  let c0_i32_463 : BitVec 32 := 0#32
  let c7_i32_464 : BitVec 32 := 7#32
  let v571 : BitVec 32 := Scalar.addi c0_i32_463 c7_i32_464
  let c1_i32_465 : BitVec 32 := 1#32
  ⟨c0_i32_463, v571, c1_i32_465⟩
def k0_mult40 (v0 : BitVec 32) (k0_t3 : Fin k0_t3_loop.trips) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v882 : BitVec 32 := Scalar.addi v17 v881
  let c16_i32_744 : BitVec 32 := 16#32
  let v883 : BitVec 32 := Scalar.remsi v882 c16_i32_744
  let c1024_i32_745 : BitVec 32 := 1024#32
  let v884 : BitVec 32 := Scalar.muli v883 c1024_i32_745
  v884
def k0_off57 (k0_t3 : Fin k0_t3_loop.trips) : Fin 1 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  ![v881.toNat]
def k0_off58 (k0_t3 : Fin k0_t3_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c0_i32_746 : BitVec 32 := 0#32
  let c0_i32_747 : BitVec 32 := 0#32
  ![v881.toNat, 0, 0]
def k0_off59 (v0 : BitVec 32) (k0_t3 : Fin k0_t3_loop.trips) : Fin 2 → Nat :=
  let c0_i32_748 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v882 : BitVec 32 := Scalar.addi v17 v881
  let c16_i32_744 : BitVec 32 := 16#32
  let v883 : BitVec 32 := Scalar.remsi v882 c16_i32_744
  let c1024_i32_745 : BitVec 32 := 1024#32
  let v884 : BitVec 32 := Scalar.muli v883 c1024_i32_745
  let v885 : BitVec 32 := v884
  ![0, v885.toNat]
def k0_mult41 (v0 : BitVec 32) (k0_t3 : Fin k0_t3_loop.trips) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_749 : BitVec 32 := 1#32
  let v891 : BitVec 32 := Scalar.subi v881 c1_i32_749
  let v892 : BitVec 32 := Scalar.addi v17 v891
  let c16_i32_750 : BitVec 32 := 16#32
  let v893 : BitVec 32 := Scalar.remsi v892 c16_i32_750
  let c1024_i32_751 : BitVec 32 := 1024#32
  let v894 : BitVec 32 := Scalar.muli v893 c1024_i32_751
  v894
def k0_off60 (k0_t3 : Fin k0_t3_loop.trips) : Fin 1 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_749 : BitVec 32 := 1#32
  let v891 : BitVec 32 := Scalar.subi v881 c1_i32_749
  ![v891.toNat]
def k0_off61 (k0_t3 : Fin k0_t3_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_749 : BitVec 32 := 1#32
  let v891 : BitVec 32 := Scalar.subi v881 c1_i32_749
  let c0_i32_752 : BitVec 32 := 0#32
  let c0_i32_753 : BitVec 32 := 0#32
  ![v891.toNat, 0, 0]
def k0_off62 (v0 : BitVec 32) (k0_t3 : Fin k0_t3_loop.trips) : Fin 2 → Nat :=
  let c0_i32_754 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_749 : BitVec 32 := 1#32
  let v891 : BitVec 32 := Scalar.subi v881 c1_i32_749
  let v892 : BitVec 32 := Scalar.addi v17 v891
  let c16_i32_750 : BitVec 32 := 16#32
  let v893 : BitVec 32 := Scalar.remsi v892 c16_i32_750
  let c1024_i32_751 : BitVec 32 := 1024#32
  let v894 : BitVec 32 := Scalar.muli v893 c1024_i32_751
  let v895 : BitVec 32 := v894
  ![0, v895.toNat]
def k0_off63 (k0_t3 : Fin k0_t3_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_757 : BitVec 32 := 1#32
  let v903 : BitVec 32 := Scalar.subi v881 c1_i32_757
  let v904 : Index := Scalar.indexCast v903
  let c0_758 : Index := 0#32
  let c0_759 : Index := 0#32
  ![v904.toNat, 0, 0]
def k0_mult42 (v0 : BitVec 32) (k0_t3 : Fin k0_t3_loop.trips) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v912 : BitVec 32 := Scalar.addi v17 v881
  let c16_i32_765 : BitVec 32 := 16#32
  let v913 : BitVec 32 := Scalar.remsi v912 c16_i32_765
  let c128_i32_766 : BitVec 32 := 128#32
  let v914 : BitVec 32 := Scalar.muli v913 c128_i32_766
  v914
@[reducible] def k0_t4_loop : Scf.Loop 32 :=
  let c0_i32_767 : BitVec 32 := 0#32
  let c4_i32_768 : BitVec 32 := 4#32
  let v916 : BitVec 32 := Scalar.addi c0_i32_767 c4_i32_768
  let c1_i32_769 : BitVec 32 := 1#32
  ⟨c0_i32_767, v916, c1_i32_769⟩
def k0_mult43 (k0_t4 : Fin k0_t4_loop.trips) : BitVec 32 :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  v954
def k0_off64 (v0 : BitVec 32) (k0_t3 : Fin k0_t3_loop.trips) (k0_t4 : Fin k0_t4_loop.trips) : Fin 3 → Nat :=
  let c0_800 : Index := 0#32
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v957 : Index := Scalar.indexCast v955
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v912 : BitVec 32 := Scalar.addi v17 v881
  let c16_i32_765 : BitVec 32 := 16#32
  let v913 : BitVec 32 := Scalar.remsi v912 c16_i32_765
  let c128_i32_766 : BitVec 32 := 128#32
  let v914 : BitVec 32 := Scalar.muli v913 c128_i32_766
  let v915 : BitVec 32 := v914
  let v958 : Index := Scalar.indexCast v915
  ![0, v957.toNat, v958.toNat]
def k0_off65 (v0 : BitVec 32) (k0_t3 : Fin k0_t3_loop.trips) (k0_t4 : Fin k0_t4_loop.trips) : Fin 3 → Nat :=
  let c1_804 : Index := 1#32
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v979 : Index := Scalar.indexCast v955
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v912 : BitVec 32 := Scalar.addi v17 v881
  let c16_i32_765 : BitVec 32 := 16#32
  let v913 : BitVec 32 := Scalar.remsi v912 c16_i32_765
  let c128_i32_766 : BitVec 32 := 128#32
  let v914 : BitVec 32 := Scalar.muli v913 c128_i32_766
  let v915 : BitVec 32 := v914
  let v980 : Index := Scalar.indexCast v915
  ![1, v979.toNat, v980.toNat]
def k0_off66 (k0_t4 : Fin k0_t4_loop.trips) (c0_i32_1003 : BitVec 32) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1338 : Index := Scalar.indexCast v1337
  let c0_1004 : Index := 0#32
  ![v1338.toNat, 0]
def k0_off67 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1340 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1341 : Index := Scalar.indexCast v1337
  let c0_1005 : Index := 0#32
  ![v1340.toNat, v1341.toNat, 0]
def k0_off68 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1346 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1347 : Index := Scalar.indexCast v1337
  let c128 : Index := 128#32
  ![v1346.toNat, v1347.toNat, 128]
def k0_off69 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1352 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1353 : Index := Scalar.indexCast v1337
  let c256 : Index := 256#32
  ![v1352.toNat, v1353.toNat, 256]
def k0_off70 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1358 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1359 : Index := Scalar.indexCast v1337
  let c384 : Index := 384#32
  ![v1358.toNat, v1359.toNat, 384]
def k0_off71 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1364 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1365 : Index := Scalar.indexCast v1337
  let c512 : Index := 512#32
  ![v1364.toNat, v1365.toNat, 512]
def k0_off72 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1370 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1371 : Index := Scalar.indexCast v1337
  let c640 : Index := 640#32
  ![v1370.toNat, v1371.toNat, 640]
def k0_off73 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1376 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1377 : Index := Scalar.indexCast v1337
  let c768 : Index := 768#32
  ![v1376.toNat, v1377.toNat, 768]
def k0_off74 (k0_t3 : Fin k0_t3_loop.trips) (k0_t4 : Fin k0_t4_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v1382 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1383 : Index := Scalar.indexCast v1337
  let c896 : Index := 896#32
  ![v1382.toNat, v1383.toNat, 896]
def k0_off75 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2554 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2555 : Index := Scalar.indexCast v955
  let c0_1626 : Index := 0#32
  ![v2554.toNat, v2555.toNat, 0]
def k0_off76 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2559 : Index := Scalar.indexCast v955
  let c0_1627 : Index := 0#32
  ![v2559.toNat, 0]
def k0_off77 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2565 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2566 : Index := Scalar.indexCast v955
  let c128_1628 : Index := 128#32
  ![v2565.toNat, v2566.toNat, 128]
def k0_off78 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2570 : Index := Scalar.indexCast v955
  let c128_1629 : Index := 128#32
  ![v2570.toNat, 128]
def k0_off79 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2576 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2577 : Index := Scalar.indexCast v955
  let c256_1630 : Index := 256#32
  ![v2576.toNat, v2577.toNat, 256]
def k0_off80 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2581 : Index := Scalar.indexCast v955
  let c256_1631 : Index := 256#32
  ![v2581.toNat, 256]
def k0_off81 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2587 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2588 : Index := Scalar.indexCast v955
  let c384_1632 : Index := 384#32
  ![v2587.toNat, v2588.toNat, 384]
def k0_off82 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2592 : Index := Scalar.indexCast v955
  let c384_1633 : Index := 384#32
  ![v2592.toNat, 384]
def k0_off83 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2598 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2599 : Index := Scalar.indexCast v955
  let c512_1634 : Index := 512#32
  ![v2598.toNat, v2599.toNat, 512]
def k0_off84 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2603 : Index := Scalar.indexCast v955
  let c512_1635 : Index := 512#32
  ![v2603.toNat, 512]
def k0_off85 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2609 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2610 : Index := Scalar.indexCast v955
  let c640_1636 : Index := 640#32
  ![v2609.toNat, v2610.toNat, 640]
def k0_off86 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2614 : Index := Scalar.indexCast v955
  let c640_1637 : Index := 640#32
  ![v2614.toNat, 640]
def k0_off87 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2620 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2621 : Index := Scalar.indexCast v955
  let c768_1638 : Index := 768#32
  ![v2620.toNat, v2621.toNat, 768]
def k0_off88 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2625 : Index := Scalar.indexCast v955
  let c768_1639 : Index := 768#32
  ![v2625.toNat, 768]
def k0_off89 (k0_t3 : Fin k0_t3_loop.trips) (k0_t4 : Fin k0_t4_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let v2631 : Index := Scalar.indexCast v881
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2632 : Index := Scalar.indexCast v955
  let c896_1640 : Index := 896#32
  ![v2631.toNat, v2632.toNat, 896]
def k0_off90 (k0_t4 : Fin k0_t4_loop.trips) : Fin 2 → Nat :=
  let c0_i32_799 : BitVec 32 := 0#32
  let c0_i32_767 : BitVec 32 := 0#32
  let c1_i32_769 : BitVec 32 := 1#32
  let arg23 : BitVec 32 := Scf.iv c0_i32_767 c1_i32_769 k0_t4
  let c32_i32 : BitVec 32 := 32#32
  let v953 : BitVec 32 := Scalar.muli arg23 c32_i32
  let v954 : BitVec 32 := Scalar.addi c0_i32_799 v953
  let v955 : BitVec 32 := v954
  let v2636 : Index := Scalar.indexCast v955
  let c896_1641 : Index := 896#32
  ![v2636.toNat, 896]
def k0_mult44 (v0 : BitVec 32) (k0_t3 : Fin k0_t3_loop.trips) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v918 : BitVec 32 := Scalar.addi v17 v917
  let c16_i32_772 : BitVec 32 := 16#32
  let v919 : BitVec 32 := Scalar.remsi v918 c16_i32_772
  let c1024_i32_773 : BitVec 32 := 1024#32
  let v920 : BitVec 32 := Scalar.muli v919 c1024_i32_773
  v920
def k0_off91 (k0_t3 : Fin k0_t3_loop.trips) : Fin 1 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  ![v917.toNat]
def k0_off92 (k0_t3 : Fin k0_t3_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let c0_i32_774 : BitVec 32 := 0#32
  let c0_i32_775 : BitVec 32 := 0#32
  ![v917.toNat, 0, 0]
def k0_off93 (v0 : BitVec 32) (k0_t3 : Fin k0_t3_loop.trips) : Fin 2 → Nat :=
  let c0_i32_776 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v918 : BitVec 32 := Scalar.addi v17 v917
  let c16_i32_772 : BitVec 32 := 16#32
  let v919 : BitVec 32 := Scalar.remsi v918 c16_i32_772
  let c1024_i32_773 : BitVec 32 := 1024#32
  let v920 : BitVec 32 := Scalar.muli v919 c1024_i32_773
  let v921 : BitVec 32 := v920
  ![0, v921.toNat]
def k0_mult45 (v0 : BitVec 32) (k0_t3 : Fin k0_t3_loop.trips) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let c1_i32_777 : BitVec 32 := 1#32
  let v927 : BitVec 32 := Scalar.subi v917 c1_i32_777
  let v928 : BitVec 32 := Scalar.addi v17 v927
  let c16_i32_778 : BitVec 32 := 16#32
  let v929 : BitVec 32 := Scalar.remsi v928 c16_i32_778
  let c1024_i32_779 : BitVec 32 := 1024#32
  let v930 : BitVec 32 := Scalar.muli v929 c1024_i32_779
  v930
def k0_off94 (k0_t3 : Fin k0_t3_loop.trips) : Fin 1 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let c1_i32_777 : BitVec 32 := 1#32
  let v927 : BitVec 32 := Scalar.subi v917 c1_i32_777
  ![v927.toNat]
def k0_off95 (k0_t3 : Fin k0_t3_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let c1_i32_777 : BitVec 32 := 1#32
  let v927 : BitVec 32 := Scalar.subi v917 c1_i32_777
  let c0_i32_780 : BitVec 32 := 0#32
  let c0_i32_781 : BitVec 32 := 0#32
  ![v927.toNat, 0, 0]
def k0_off96 (v0 : BitVec 32) (k0_t3 : Fin k0_t3_loop.trips) : Fin 2 → Nat :=
  let c0_i32_782 : BitVec 32 := 0#32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let c1_i32_777 : BitVec 32 := 1#32
  let v927 : BitVec 32 := Scalar.subi v917 c1_i32_777
  let v928 : BitVec 32 := Scalar.addi v17 v927
  let c16_i32_778 : BitVec 32 := 16#32
  let v929 : BitVec 32 := Scalar.remsi v928 c16_i32_778
  let c1024_i32_779 : BitVec 32 := 1024#32
  let v930 : BitVec 32 := Scalar.muli v929 c1024_i32_779
  let v931 : BitVec 32 := v930
  ![0, v931.toNat]
def k0_off97 (k0_t3 : Fin k0_t3_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let c1_i32_785 : BitVec 32 := 1#32
  let v939 : BitVec 32 := Scalar.subi v917 c1_i32_785
  let v940 : Index := Scalar.indexCast v939
  let c0_786 : Index := 0#32
  let c0_787 : Index := 0#32
  ![v940.toNat, 0, 0]
def k0_mult46 (v0 : BitVec 32) (k0_t3 : Fin k0_t3_loop.trips) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v948 : BitVec 32 := Scalar.addi v17 v917
  let c16_i32_793 : BitVec 32 := 16#32
  let v949 : BitVec 32 := Scalar.remsi v948 c16_i32_793
  let c128_i32_794 : BitVec 32 := 128#32
  let v950 : BitVec 32 := Scalar.muli v949 c128_i32_794
  v950
@[reducible] def k0_t5_loop : Scf.Loop 32 :=
  let c0_i32_795 : BitVec 32 := 0#32
  let c4_i32_796 : BitVec 32 := 4#32
  let v952 : BitVec 32 := Scalar.addi c0_i32_795 c4_i32_796
  let c1_i32_797 : BitVec 32 := 1#32
  ⟨c0_i32_795, v952, c1_i32_797⟩
def k0_mult47 (k0_t5 : Fin k0_t5_loop.trips) : BitVec 32 :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  v954
def k0_off98 (v0 : BitVec 32) (k0_t3 : Fin k0_t3_loop.trips) (k0_t5 : Fin k0_t5_loop.trips) : Fin 3 → Nat :=
  let c0_800 : Index := 0#32
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v957 : Index := Scalar.indexCast v955
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v948 : BitVec 32 := Scalar.addi v17 v917
  let c16_i32_793 : BitVec 32 := 16#32
  let v949 : BitVec 32 := Scalar.remsi v948 c16_i32_793
  let c128_i32_794 : BitVec 32 := 128#32
  let v950 : BitVec 32 := Scalar.muli v949 c128_i32_794
  let v951 : BitVec 32 := v950
  let v958 : Index := Scalar.indexCast v951
  ![0, v957.toNat, v958.toNat]
def k0_off99 (v0 : BitVec 32) (k0_t3 : Fin k0_t3_loop.trips) (k0_t5 : Fin k0_t5_loop.trips) : Fin 3 → Nat :=
  let c1_804 : Index := 1#32
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v979 : Index := Scalar.indexCast v955
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v948 : BitVec 32 := Scalar.addi v17 v917
  let c16_i32_793 : BitVec 32 := 16#32
  let v949 : BitVec 32 := Scalar.remsi v948 c16_i32_793
  let c128_i32_794 : BitVec 32 := 128#32
  let v950 : BitVec 32 := Scalar.muli v949 c128_i32_794
  let v951 : BitVec 32 := v950
  let v980 : Index := Scalar.indexCast v951
  ![1, v979.toNat, v980.toNat]
def k0_off100 (k0_t5 : Fin k0_t5_loop.trips) (c0_i32_1003 : BitVec 32) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1338 : Index := Scalar.indexCast v1337
  let c0_1004 : Index := 0#32
  ![v1338.toNat, 0]
def k0_off101 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1340 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1341 : Index := Scalar.indexCast v1337
  let c0_1005 : Index := 0#32
  ![v1340.toNat, v1341.toNat, 0]
def k0_off102 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1346 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1347 : Index := Scalar.indexCast v1337
  let c128 : Index := 128#32
  ![v1346.toNat, v1347.toNat, 128]
def k0_off103 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1352 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1353 : Index := Scalar.indexCast v1337
  let c256 : Index := 256#32
  ![v1352.toNat, v1353.toNat, 256]
def k0_off104 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1358 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1359 : Index := Scalar.indexCast v1337
  let c384 : Index := 384#32
  ![v1358.toNat, v1359.toNat, 384]
def k0_off105 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1364 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1365 : Index := Scalar.indexCast v1337
  let c512 : Index := 512#32
  ![v1364.toNat, v1365.toNat, 512]
def k0_off106 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1370 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1371 : Index := Scalar.indexCast v1337
  let c640 : Index := 640#32
  ![v1370.toNat, v1371.toNat, 640]
def k0_off107 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1376 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1377 : Index := Scalar.indexCast v1337
  let c768 : Index := 768#32
  ![v1376.toNat, v1377.toNat, 768]
def k0_off108 (k0_t3 : Fin k0_t3_loop.trips) (k0_t5 : Fin k0_t5_loop.trips) (c0_i32_1003 : BitVec 32) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v1382 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v1337 : BitVec 32 := Scalar.addi v955 c0_i32_1003
  let v1383 : Index := Scalar.indexCast v1337
  let c896 : Index := 896#32
  ![v1382.toNat, v1383.toNat, 896]
def k0_off109 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2554 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2555 : Index := Scalar.indexCast v955
  let c0_1626 : Index := 0#32
  ![v2554.toNat, v2555.toNat, 0]
def k0_off110 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2559 : Index := Scalar.indexCast v955
  let c0_1627 : Index := 0#32
  ![v2559.toNat, 0]
def k0_off111 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2565 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2566 : Index := Scalar.indexCast v955
  let c128_1628 : Index := 128#32
  ![v2565.toNat, v2566.toNat, 128]
def k0_off112 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2570 : Index := Scalar.indexCast v955
  let c128_1629 : Index := 128#32
  ![v2570.toNat, 128]
def k0_off113 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2576 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2577 : Index := Scalar.indexCast v955
  let c256_1630 : Index := 256#32
  ![v2576.toNat, v2577.toNat, 256]
def k0_off114 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2581 : Index := Scalar.indexCast v955
  let c256_1631 : Index := 256#32
  ![v2581.toNat, 256]
def k0_off115 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2587 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2588 : Index := Scalar.indexCast v955
  let c384_1632 : Index := 384#32
  ![v2587.toNat, v2588.toNat, 384]
def k0_off116 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2592 : Index := Scalar.indexCast v955
  let c384_1633 : Index := 384#32
  ![v2592.toNat, 384]
def k0_off117 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2598 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2599 : Index := Scalar.indexCast v955
  let c512_1634 : Index := 512#32
  ![v2598.toNat, v2599.toNat, 512]
def k0_off118 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2603 : Index := Scalar.indexCast v955
  let c512_1635 : Index := 512#32
  ![v2603.toNat, 512]
def k0_off119 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2609 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2610 : Index := Scalar.indexCast v955
  let c640_1636 : Index := 640#32
  ![v2609.toNat, v2610.toNat, 640]
def k0_off120 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2614 : Index := Scalar.indexCast v955
  let c640_1637 : Index := 640#32
  ![v2614.toNat, 640]
def k0_off121 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2620 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2621 : Index := Scalar.indexCast v955
  let c768_1638 : Index := 768#32
  ![v2620.toNat, v2621.toNat, 768]
def k0_off122 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2625 : Index := Scalar.indexCast v955
  let c768_1639 : Index := 768#32
  ![v2625.toNat, 768]
def k0_off123 (k0_t3 : Fin k0_t3_loop.trips) (k0_t5 : Fin k0_t5_loop.trips) : Fin 3 → Nat :=
  let c2_i32_742 : BitVec 32 := 2#32
  let c0_i32_741 : BitVec 32 := 0#32
  let c0_i32_463 : BitVec 32 := 0#32
  let c1_i32_465 : BitVec 32 := 1#32
  let arg22 : BitVec 32 := Scf.iv c0_i32_463 c1_i32_465 k0_t3
  let c1_i32_740 : BitVec 32 := 1#32
  let v878 : BitVec 32 := Scalar.muli arg22 c1_i32_740
  let v879 : BitVec 32 := Scalar.addi c0_i32_741 v878
  let v880 : BitVec 32 := Scalar.muli c2_i32_742 v879
  let c2_i32_743 : BitVec 32 := 2#32
  let v881 : BitVec 32 := Scalar.addi v880 c2_i32_743
  let c1_i32_771 : BitVec 32 := 1#32
  let v917 : BitVec 32 := Scalar.addi v881 c1_i32_771
  let v2631 : Index := Scalar.indexCast v917
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2632 : Index := Scalar.indexCast v955
  let c896_1640 : Index := 896#32
  ![v2631.toNat, v2632.toNat, 896]
def k0_off124 (k0_t5 : Fin k0_t5_loop.trips) : Fin 2 → Nat :=
  let c0_i32_799 : BitVec 32 := 0#32
  let c0_i32_795 : BitVec 32 := 0#32
  let c1_i32_797 : BitVec 32 := 1#32
  let arg23 : BitVec 32 := Scf.iv c0_i32_795 c1_i32_797 k0_t5
  let c32_i32 : BitVec 32 := 32#32
  let v953 : BitVec 32 := Scalar.muli arg23 c32_i32
  let v954 : BitVec 32 := Scalar.addi c0_i32_799 v953
  let v955 : BitVec 32 := v954
  let v2636 : Index := Scalar.indexCast v955
  let c896_1641 : Index := 896#32
  ![v2636.toNat, 896]
def k0_mult48 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c15_i32_467 : BitVec 32 := 15#32
  let v572 : BitVec 32 := Scalar.addi v17 c15_i32_467
  let c16_i32_468 : BitVec 32 := 16#32
  let v573 : BitVec 32 := Scalar.remsi v572 c16_i32_468
  let c1024_i32_469 : BitVec 32 := 1024#32
  let v574 : BitVec 32 := Scalar.muli v573 c1024_i32_469
  v574
def k0_mult49 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_475 : BitVec 32 := 0#32
  let v581 : BitVec 32 := Scalar.addi v17 c0_i32_475
  let c16_i32_476 : BitVec 32 := 16#32
  let v582 : BitVec 32 := Scalar.remsi v581 c16_i32_476
  let c1024_i32_477 : BitVec 32 := 1024#32
  let v583 : BitVec 32 := Scalar.muli v582 c1024_i32_477
  v583
def k0_mult50 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_483 : BitVec 32 := 1#32
  let v590 : BitVec 32 := Scalar.addi v17 c1_i32_483
  let c16_i32_484 : BitVec 32 := 16#32
  let v591 : BitVec 32 := Scalar.remsi v590 c16_i32_484
  let c1024_i32_485 : BitVec 32 := 1024#32
  let v592 : BitVec 32 := Scalar.muli v591 c1024_i32_485
  v592
def k0_mult51 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_491 : BitVec 32 := 2#32
  let v599 : BitVec 32 := Scalar.addi v17 c2_i32_491
  let c16_i32_492 : BitVec 32 := 16#32
  let v600 : BitVec 32 := Scalar.remsi v599 c16_i32_492
  let c1024_i32_493 : BitVec 32 := 1024#32
  let v601 : BitVec 32 := Scalar.muli v600 c1024_i32_493
  v601
def k0_mult52 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c3_i32_499 : BitVec 32 := 3#32
  let v608 : BitVec 32 := Scalar.addi v17 c3_i32_499
  let c16_i32_500 : BitVec 32 := 16#32
  let v609 : BitVec 32 := Scalar.remsi v608 c16_i32_500
  let c1024_i32_501 : BitVec 32 := 1024#32
  let v610 : BitVec 32 := Scalar.muli v609 c1024_i32_501
  v610
def k0_mult53 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c4_i32_507 : BitVec 32 := 4#32
  let v617 : BitVec 32 := Scalar.addi v17 c4_i32_507
  let c16_i32_508 : BitVec 32 := 16#32
  let v618 : BitVec 32 := Scalar.remsi v617 c16_i32_508
  let c1024_i32_509 : BitVec 32 := 1024#32
  let v619 : BitVec 32 := Scalar.muli v618 c1024_i32_509
  v619
def k0_mult54 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c5_i32_515 : BitVec 32 := 5#32
  let v626 : BitVec 32 := Scalar.addi v17 c5_i32_515
  let c16_i32_516 : BitVec 32 := 16#32
  let v627 : BitVec 32 := Scalar.remsi v626 c16_i32_516
  let c1024_i32_517 : BitVec 32 := 1024#32
  let v628 : BitVec 32 := Scalar.muli v627 c1024_i32_517
  v628
def k0_mult55 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c6_i32_523 : BitVec 32 := 6#32
  let v635 : BitVec 32 := Scalar.addi v17 c6_i32_523
  let c16_i32_524 : BitVec 32 := 16#32
  let v636 : BitVec 32 := Scalar.remsi v635 c16_i32_524
  let c1024_i32_525 : BitVec 32 := 1024#32
  let v637 : BitVec 32 := Scalar.muli v636 c1024_i32_525
  v637
def k0_mult56 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c7_i32_531 : BitVec 32 := 7#32
  let v644 : BitVec 32 := Scalar.addi v17 c7_i32_531
  let c16_i32_532 : BitVec 32 := 16#32
  let v645 : BitVec 32 := Scalar.remsi v644 c16_i32_532
  let c1024_i32_533 : BitVec 32 := 1024#32
  let v646 : BitVec 32 := Scalar.muli v645 c1024_i32_533
  v646
def k0_mult57 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c8_i32_539 : BitVec 32 := 8#32
  let v653 : BitVec 32 := Scalar.addi v17 c8_i32_539
  let c16_i32_540 : BitVec 32 := 16#32
  let v654 : BitVec 32 := Scalar.remsi v653 c16_i32_540
  let c1024_i32_541 : BitVec 32 := 1024#32
  let v655 : BitVec 32 := Scalar.muli v654 c1024_i32_541
  v655
def k0_mult58 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c9_i32_547 : BitVec 32 := 9#32
  let v662 : BitVec 32 := Scalar.addi v17 c9_i32_547
  let c16_i32_548 : BitVec 32 := 16#32
  let v663 : BitVec 32 := Scalar.remsi v662 c16_i32_548
  let c1024_i32_549 : BitVec 32 := 1024#32
  let v664 : BitVec 32 := Scalar.muli v663 c1024_i32_549
  v664
def k0_mult59 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c10_i32_555 : BitVec 32 := 10#32
  let v671 : BitVec 32 := Scalar.addi v17 c10_i32_555
  let c16_i32_556 : BitVec 32 := 16#32
  let v672 : BitVec 32 := Scalar.remsi v671 c16_i32_556
  let c1024_i32_557 : BitVec 32 := 1024#32
  let v673 : BitVec 32 := Scalar.muli v672 c1024_i32_557
  v673
def k0_mult60 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c11_i32_563 : BitVec 32 := 11#32
  let v680 : BitVec 32 := Scalar.addi v17 c11_i32_563
  let c16_i32_564 : BitVec 32 := 16#32
  let v681 : BitVec 32 := Scalar.remsi v680 c16_i32_564
  let c1024_i32_565 : BitVec 32 := 1024#32
  let v682 : BitVec 32 := Scalar.muli v681 c1024_i32_565
  v682
def k0_mult61 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c12_i32_571 : BitVec 32 := 12#32
  let v689 : BitVec 32 := Scalar.addi v17 c12_i32_571
  let c16_i32_572 : BitVec 32 := 16#32
  let v690 : BitVec 32 := Scalar.remsi v689 c16_i32_572
  let c1024_i32_573 : BitVec 32 := 1024#32
  let v691 : BitVec 32 := Scalar.muli v690 c1024_i32_573
  v691
def k0_mult62 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c13_i32_579 : BitVec 32 := 13#32
  let v698 : BitVec 32 := Scalar.addi v17 c13_i32_579
  let c16_i32_580 : BitVec 32 := 16#32
  let v699 : BitVec 32 := Scalar.remsi v698 c16_i32_580
  let c1024_i32_581 : BitVec 32 := 1024#32
  let v700 : BitVec 32 := Scalar.muli v699 c1024_i32_581
  v700
def k0_mult63 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c14_i32_587 : BitVec 32 := 14#32
  let v707 : BitVec 32 := Scalar.addi v17 c14_i32_587
  let c16_i32_588 : BitVec 32 := 16#32
  let v708 : BitVec 32 := Scalar.remsi v707 c16_i32_588
  let c1024_i32_589 : BitVec 32 := 1024#32
  let v709 : BitVec 32 := Scalar.muli v708 c1024_i32_589
  v709
def k0_mult64 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c15_i32_595 : BitVec 32 := 15#32
  let v716 : BitVec 32 := Scalar.addi v17 c15_i32_595
  let c16_i32_596 : BitVec 32 := 16#32
  let v717 : BitVec 32 := Scalar.remsi v716 c16_i32_596
  let c1024_i32_597 : BitVec 32 := 1024#32
  let v718 : BitVec 32 := Scalar.muli v717 c1024_i32_597
  v718
def k0_mult65 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c0_i32_612 : BitVec 32 := 0#32
  let v734 : BitVec 32 := Scalar.addi v17 c0_i32_612
  let c16_i32_613 : BitVec 32 := 16#32
  let v735 : BitVec 32 := Scalar.remsi v734 c16_i32_613
  let c1024_i32_614 : BitVec 32 := 1024#32
  let v736 : BitVec 32 := Scalar.muli v735 c1024_i32_614
  v736
def k0_mult66 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c1_i32_620 : BitVec 32 := 1#32
  let v743 : BitVec 32 := Scalar.addi v17 c1_i32_620
  let c16_i32_621 : BitVec 32 := 16#32
  let v744 : BitVec 32 := Scalar.remsi v743 c16_i32_621
  let c1024_i32_622 : BitVec 32 := 1024#32
  let v745 : BitVec 32 := Scalar.muli v744 c1024_i32_622
  v745
def k0_mult67 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c2_i32_628 : BitVec 32 := 2#32
  let v752 : BitVec 32 := Scalar.addi v17 c2_i32_628
  let c16_i32_629 : BitVec 32 := 16#32
  let v753 : BitVec 32 := Scalar.remsi v752 c16_i32_629
  let c1024_i32_630 : BitVec 32 := 1024#32
  let v754 : BitVec 32 := Scalar.muli v753 c1024_i32_630
  v754
def k0_mult68 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c3_i32_636 : BitVec 32 := 3#32
  let v761 : BitVec 32 := Scalar.addi v17 c3_i32_636
  let c16_i32_637 : BitVec 32 := 16#32
  let v762 : BitVec 32 := Scalar.remsi v761 c16_i32_637
  let c1024_i32_638 : BitVec 32 := 1024#32
  let v763 : BitVec 32 := Scalar.muli v762 c1024_i32_638
  v763
def k0_mult69 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c4_i32_644 : BitVec 32 := 4#32
  let v770 : BitVec 32 := Scalar.addi v17 c4_i32_644
  let c16_i32_645 : BitVec 32 := 16#32
  let v771 : BitVec 32 := Scalar.remsi v770 c16_i32_645
  let c1024_i32_646 : BitVec 32 := 1024#32
  let v772 : BitVec 32 := Scalar.muli v771 c1024_i32_646
  v772
def k0_mult70 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c5_i32_652 : BitVec 32 := 5#32
  let v779 : BitVec 32 := Scalar.addi v17 c5_i32_652
  let c16_i32_653 : BitVec 32 := 16#32
  let v780 : BitVec 32 := Scalar.remsi v779 c16_i32_653
  let c1024_i32_654 : BitVec 32 := 1024#32
  let v781 : BitVec 32 := Scalar.muli v780 c1024_i32_654
  v781
def k0_mult71 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c6_i32_660 : BitVec 32 := 6#32
  let v788 : BitVec 32 := Scalar.addi v17 c6_i32_660
  let c16_i32_661 : BitVec 32 := 16#32
  let v789 : BitVec 32 := Scalar.remsi v788 c16_i32_661
  let c1024_i32_662 : BitVec 32 := 1024#32
  let v790 : BitVec 32 := Scalar.muli v789 c1024_i32_662
  v790
def k0_mult72 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c7_i32_668 : BitVec 32 := 7#32
  let v797 : BitVec 32 := Scalar.addi v17 c7_i32_668
  let c16_i32_669 : BitVec 32 := 16#32
  let v798 : BitVec 32 := Scalar.remsi v797 c16_i32_669
  let c1024_i32_670 : BitVec 32 := 1024#32
  let v799 : BitVec 32 := Scalar.muli v798 c1024_i32_670
  v799
def k0_mult73 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c8_i32_676 : BitVec 32 := 8#32
  let v806 : BitVec 32 := Scalar.addi v17 c8_i32_676
  let c16_i32_677 : BitVec 32 := 16#32
  let v807 : BitVec 32 := Scalar.remsi v806 c16_i32_677
  let c1024_i32_678 : BitVec 32 := 1024#32
  let v808 : BitVec 32 := Scalar.muli v807 c1024_i32_678
  v808
def k0_mult74 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c9_i32_684 : BitVec 32 := 9#32
  let v815 : BitVec 32 := Scalar.addi v17 c9_i32_684
  let c16_i32_685 : BitVec 32 := 16#32
  let v816 : BitVec 32 := Scalar.remsi v815 c16_i32_685
  let c1024_i32_686 : BitVec 32 := 1024#32
  let v817 : BitVec 32 := Scalar.muli v816 c1024_i32_686
  v817
def k0_mult75 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c10_i32_692 : BitVec 32 := 10#32
  let v824 : BitVec 32 := Scalar.addi v17 c10_i32_692
  let c16_i32_693 : BitVec 32 := 16#32
  let v825 : BitVec 32 := Scalar.remsi v824 c16_i32_693
  let c1024_i32_694 : BitVec 32 := 1024#32
  let v826 : BitVec 32 := Scalar.muli v825 c1024_i32_694
  v826
def k0_mult76 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c11_i32_700 : BitVec 32 := 11#32
  let v833 : BitVec 32 := Scalar.addi v17 c11_i32_700
  let c16_i32_701 : BitVec 32 := 16#32
  let v834 : BitVec 32 := Scalar.remsi v833 c16_i32_701
  let c1024_i32_702 : BitVec 32 := 1024#32
  let v835 : BitVec 32 := Scalar.muli v834 c1024_i32_702
  v835
def k0_mult77 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c12_i32_708 : BitVec 32 := 12#32
  let v842 : BitVec 32 := Scalar.addi v17 c12_i32_708
  let c16_i32_709 : BitVec 32 := 16#32
  let v843 : BitVec 32 := Scalar.remsi v842 c16_i32_709
  let c1024_i32_710 : BitVec 32 := 1024#32
  let v844 : BitVec 32 := Scalar.muli v843 c1024_i32_710
  v844
def k0_mult78 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c13_i32_716 : BitVec 32 := 13#32
  let v851 : BitVec 32 := Scalar.addi v17 c13_i32_716
  let c16_i32_717 : BitVec 32 := 16#32
  let v852 : BitVec 32 := Scalar.remsi v851 c16_i32_717
  let c1024_i32_718 : BitVec 32 := 1024#32
  let v853 : BitVec 32 := Scalar.muli v852 c1024_i32_718
  v853
def k0_mult79 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c14_i32_724 : BitVec 32 := 14#32
  let v860 : BitVec 32 := Scalar.addi v17 c14_i32_724
  let c16_i32_725 : BitVec 32 := 16#32
  let v861 : BitVec 32 := Scalar.remsi v860 c16_i32_725
  let c1024_i32_726 : BitVec 32 := 1024#32
  let v862 : BitVec 32 := Scalar.muli v861 c1024_i32_726
  v862
def k0_mult80 (v0 : BitVec 32) : BitVec 32 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c15_i32_732 : BitVec 32 := 15#32
  let v869 : BitVec 32 := Scalar.addi v17 c15_i32_732
  let c16_i32_733 : BitVec 32 := 16#32
  let v870 : BitVec 32 := Scalar.remsi v869 c16_i32_733
  let c1024_i32_734 : BitVec 32 := 1024#32
  let v871 : BitVec 32 := Scalar.muli v870 c1024_i32_734
  v871

def k0_chk1_0 (v0 : BitVec 32) : Prop :=
  (1024 ∣ (k0_mult1 v0).toNat) ∧
  (∀ (r : Fin 16), ∀ a, (k0_off1 v0 (BitVec.ofNat 32 r.val)) a + S128x1024.size a ≤ S128x16384.size a) ∧
  (1024 ∣ (k0_mult2 v0).toNat) ∧
  (∀ (r : Fin 16), ∀ a, (k0_off2 v0 (BitVec.ofNat 32 r.val)) a + S512x1024.size a ≤ S512x16384.size a) ∧
  (1024 ∣ (k0_mult3 v0).toNat) ∧
  (1024 ∣ (k0_mult4 v0).toNat) ∧
  (1024 ∣ (k0_mult5 v0).toNat) ∧
  (1024 ∣ (k0_mult6 v0).toNat) ∧
  (1024 ∣ (k0_mult7 v0).toNat) ∧
  (1024 ∣ (k0_mult8 v0).toNat) ∧
  (1024 ∣ (k0_mult9 v0).toNat) ∧
  (1024 ∣ (k0_mult10 v0).toNat) ∧
  (1024 ∣ (k0_mult11 v0).toNat) ∧
  (1024 ∣ (k0_mult12 v0).toNat) ∧
  (1024 ∣ (k0_mult13 v0).toNat) ∧
  (1024 ∣ (k0_mult14 v0).toNat) ∧
  (1024 ∣ (k0_mult15 v0).toNat) ∧
  (1024 ∣ (k0_mult16 v0).toNat) ∧
  (1024 ∣ (k0_mult17 v0).toNat) ∧
  (1024 ∣ (k0_mult18 v0).toNat) ∧
  (1024 ∣ (k0_mult19 v0).toNat) ∧
  (1024 ∣ (k0_mult20 v0).toNat) ∧
  (1024 ∣ (k0_mult21 v0).toNat) ∧
  (1024 ∣ (k0_mult22 v0).toNat) ∧
  (1024 ∣ (k0_mult23 v0).toNat) ∧
  (1024 ∣ (k0_mult24 v0).toNat) ∧
  (1024 ∣ (k0_mult25 v0).toNat) ∧
  (1024 ∣ (k0_mult26 v0).toNat) ∧
  (1024 ∣ (k0_mult27 v0).toNat) ∧
  (1024 ∣ (k0_mult28 v0).toNat) ∧
  (1024 ∣ (k0_mult29 v0).toNat) ∧
  (1024 ∣ (k0_mult30 v0).toNat)
def k0_chk1_1 (v0 : BitVec 32) : Prop :=
  (1024 ∣ (k0_mult31 v0).toNat) ∧
  (1024 ∣ (k0_mult32 v0).toNat) ∧
  (1024 ∣ (k0_mult33 v0).toNat) ∧
  (128 ∣ (k0_mult34 v0).toNat) ∧
  (∀ k0_t1 : Fin k0_t1_loop.trips, ∀ a, (k0_off3 v0 k0_t1) a + S1x32x128.size a ≤ S2x128x2048.size a) ∧
  (∀ k0_t1 : Fin k0_t1_loop.trips, ∀ a, (k0_off4 v0 k0_t1) a + S1x32x128.size a ≤ S2x128x2048.size a) ∧
  (1024 ∣ (k0_mult36 v0).toNat) ∧
  (1024 ∣ (k0_mult37 v0).toNat) ∧
  (128 ∣ (k0_mult38 v0).toNat) ∧
  (∀ k0_t2 : Fin k0_t2_loop.trips, ∀ a, (k0_off30 v0 k0_t2) a + S1x32x128.size a ≤ S2x128x2048.size a) ∧
  (∀ k0_t2 : Fin k0_t2_loop.trips, ∀ a, (k0_off31 v0 k0_t2) a + S1x32x128.size a ≤ S2x128x2048.size a) ∧
  (∀ k0_t3 : Fin k0_t3_loop.trips, 1024 ∣ (k0_mult40 v0 k0_t3).toNat) ∧
  (∀ k0_t3 : Fin k0_t3_loop.trips, ∀ a, (k0_off59 v0 k0_t3) a + S128x1024.size a ≤ S128x16384.size a) ∧
  (∀ k0_t3 : Fin k0_t3_loop.trips, 1024 ∣ (k0_mult41 v0 k0_t3).toNat) ∧
  (∀ k0_t3 : Fin k0_t3_loop.trips, ∀ a, (k0_off62 v0 k0_t3) a + S512x1024.size a ≤ S512x16384.size a) ∧
  (∀ k0_t3 : Fin k0_t3_loop.trips, 128 ∣ (k0_mult42 v0 k0_t3).toNat) ∧
  (∀ (k0_t3 : Fin k0_t3_loop.trips) (k0_t4 : Fin k0_t4_loop.trips), ∀ a, (k0_off64 v0 k0_t3 k0_t4) a + S1x32x128.size a ≤ S2x128x2048.size a) ∧
  (∀ (k0_t3 : Fin k0_t3_loop.trips) (k0_t4 : Fin k0_t4_loop.trips), ∀ a, (k0_off65 v0 k0_t3 k0_t4) a + S1x32x128.size a ≤ S2x128x2048.size a) ∧
  (∀ k0_t3 : Fin k0_t3_loop.trips, 1024 ∣ (k0_mult44 v0 k0_t3).toNat) ∧
  (∀ k0_t3 : Fin k0_t3_loop.trips, ∀ a, (k0_off93 v0 k0_t3) a + S128x1024.size a ≤ S128x16384.size a) ∧
  (∀ k0_t3 : Fin k0_t3_loop.trips, 1024 ∣ (k0_mult45 v0 k0_t3).toNat) ∧
  (∀ k0_t3 : Fin k0_t3_loop.trips, ∀ a, (k0_off96 v0 k0_t3) a + S512x1024.size a ≤ S512x16384.size a) ∧
  (∀ k0_t3 : Fin k0_t3_loop.trips, 128 ∣ (k0_mult46 v0 k0_t3).toNat) ∧
  (∀ (k0_t3 : Fin k0_t3_loop.trips) (k0_t5 : Fin k0_t5_loop.trips), ∀ a, (k0_off98 v0 k0_t3 k0_t5) a + S1x32x128.size a ≤ S2x128x2048.size a) ∧
  (∀ (k0_t3 : Fin k0_t3_loop.trips) (k0_t5 : Fin k0_t5_loop.trips), ∀ a, (k0_off99 v0 k0_t3 k0_t5) a + S1x32x128.size a ≤ S2x128x2048.size a) ∧
  (1024 ∣ (k0_mult48 v0).toNat) ∧
  (1024 ∣ (k0_mult49 v0).toNat) ∧
  (∀ (r : Fin 16), ∀ (hinb : ∀ a, (k0_off1 v0 (BitVec.ofNat 32 r.val)) a + S128x1024.size a ≤ S128x16384.size a), (Rect.unit (s := S128x16384) (k0_off1 v0 (BitVec.ofNat 32 r.val)) S128x1024.size hinb).WholeWords (EltTy.packing .bf16)) ∧
  (1024 ∣ (k0_mult50 v0).toNat) ∧
  (1024 ∣ (k0_mult51 v0).toNat) ∧
  (1024 ∣ (k0_mult52 v0).toNat) ∧
  (1024 ∣ (k0_mult53 v0).toNat)
def k0_chk1_2 (v0 : BitVec 32) : Prop :=
  (1024 ∣ (k0_mult54 v0).toNat) ∧
  (1024 ∣ (k0_mult55 v0).toNat) ∧
  (1024 ∣ (k0_mult56 v0).toNat) ∧
  (1024 ∣ (k0_mult57 v0).toNat) ∧
  (1024 ∣ (k0_mult58 v0).toNat) ∧
  (1024 ∣ (k0_mult59 v0).toNat) ∧
  (1024 ∣ (k0_mult60 v0).toNat) ∧
  (1024 ∣ (k0_mult61 v0).toNat) ∧
  (1024 ∣ (k0_mult62 v0).toNat) ∧
  (1024 ∣ (k0_mult63 v0).toNat) ∧
  (1024 ∣ (k0_mult64 v0).toNat) ∧
  (1024 ∣ (k0_mult65 v0).toNat) ∧
  (1024 ∣ (k0_mult66 v0).toNat) ∧
  (1024 ∣ (k0_mult67 v0).toNat) ∧
  (1024 ∣ (k0_mult68 v0).toNat) ∧
  (1024 ∣ (k0_mult69 v0).toNat) ∧
  (1024 ∣ (k0_mult70 v0).toNat) ∧
  (1024 ∣ (k0_mult71 v0).toNat) ∧
  (1024 ∣ (k0_mult72 v0).toNat) ∧
  (1024 ∣ (k0_mult73 v0).toNat) ∧
  (1024 ∣ (k0_mult74 v0).toNat) ∧
  (1024 ∣ (k0_mult75 v0).toNat) ∧
  (1024 ∣ (k0_mult76 v0).toNat) ∧
  (1024 ∣ (k0_mult77 v0).toNat) ∧
  (1024 ∣ (k0_mult78 v0).toNat) ∧
  (1024 ∣ (k0_mult79 v0).toNat) ∧
  (1024 ∣ (k0_mult80 v0).toNat)
def k0_chk1 (v0 : BitVec 32) : Prop :=
  k0_chk1_0 v0 ∧
  k0_chk1_1 v0 ∧
  k0_chk1_2 v0
theorem k0_mult1_dvd : ∀ (v0 : BitVec 32) (k0_hw1 : k0_chk1 v0), 1024 ∣ (k0_mult1 v0).toNat := fun v0 k0_hw1 => k0_hw1.1.1
theorem k0_off1_inb : ∀ (v0 : BitVec 32) (k0_hw1 : k0_chk1 v0), ∀ (r : Fin 16), ∀ a, (k0_off1 v0 (BitVec.ofNat 32 r.val)) a + S128x1024.size a ≤ S128x16384.size a := fun v0 k0_hw1 r => k0_hw1.1.2.1 r
theorem k0_mult2_dvd : ∀ (v0 : BitVec 32) (k0_hw1 : k0_chk1 v0), 1024 ∣ (k0_mult2 v0).toNat := fun v0 k0_hw1 => k0_hw1.1.2.2.1
theorem k0_off2_inb : ∀ (v0 : BitVec 32) (k0_hw1 : k0_chk1 v0), ∀ (r : Fin 16), ∀ a, (k0_off2 v0 (BitVec.ofNat 32 r.val)) a + S512x1024.size a ≤ S512x16384.size a := fun v0 k0_hw1 r => k0_hw1.1.2.2.2.1 r
theorem k0_mult3_dvd : ∀ (v0 : BitVec 32) (k0_hw1 : k0_chk1 v0), 1024 ∣ (k0_mult3 v0).toNat := fun v0 k0_hw1 => k0_hw1.1.2.2.2.2.1
theorem k0_mult4_dvd : ∀ (v0 : BitVec 32) (k0_hw1 : k0_chk1 v0), 1024 ∣ (k0_mult4 v0).toNat := fun v0 k0_hw1 => k0_hw1.1.2.2.2.2.2.1
theorem k0_mult5_dvd : ∀ (v0 : BitVec 32) (k0_hw1 : k0_chk1 v0), 1024 ∣ (k0_mult5 v0).toNat := fun v0 k0_hw1 => k0_hw1.1.2.2.2.2.2.2.1
theorem k0_mult6_dvd : ∀ (v0 : BitVec 32) (k0_hw1 : k0_chk1 v0), 1024 ∣ (k0_mult6 v0).toNat := fun v0 k0_hw1 => k0_hw1.1.2.2.2.2.2.2.2.1
theorem k0_mult7_dvd : ∀ (v0 : BitVec 32) (k0_hw1 : k0_chk1 v0), 1024 ∣ (k0_mult7 v0).toNat := fun v0 k0_hw1 => k0_hw1.1.2.2.2.2.2.2.2.2.1
theorem k0_mult8_dvd : ∀ (v0 : BitVec 32) (k0_hw1 : k0_chk1 v0), 1024 ∣ (k0_mult8 v0).toNat := fun v0 k0_hw1 => k0_hw1.1.2.2.2.2.2.2.2.2.2.1
theorem k0_mult9_dvd : ∀ (v0 : BitVec 32) (k0_hw1 : k0_chk1 v0), 1024 ∣ (k0_mult9 v0).toNat := fun v0 k0_hw1 => k0_hw1.1.2.2.2.2.2.2.2.2.2.2.1
theorem k0_mult10_dvd : ∀ (v0 : BitVec 32) (k0_hw1 : k0_chk1 v0), 1024 ∣ (k0_mult10 v0).toNat := fun v0 k0_hw1 => k0_hw1.1.2.2.2.2.2.2.2.2.2.2.2.1
theorem k0_mult11_dvd : ∀ (v0 : BitVec 32) (k0_hw1 : k0_chk1 v0), 1024 ∣ (k0_mult11 v0).toNat := fun v0 k0_hw1 => k0_hw1.1.2.2.2.2.2.2.2.2.2.2.2.2.1
theorem k0_mult12_dvd : ∀ (v0 : BitVec 32) (k0_hw1 : k0_chk1 v0), 1024 ∣ (k0_mult12 v0).toNat := fun v0 k0_hw1 => k0_hw1.1.2.2.2.2.2.2.2.2.2.2.2.2.2.1
theorem k0_mult13_dvd : ∀ (v0 : BitVec 32) (k0_hw1 : k0_chk1 v0), 1024 ∣ (k0_mult13 v0).toNat := fun v0 k0_hw1 => k0_hw1.1.2.2.2.2.2.2.2.2.2.2.2.2.2.2.1
theorem k0_mult14_dvd : ∀ (v0 : BitVec 32) (k0_hw1 : k0_chk1 v0), 1024 ∣ (k0_mult14 v0).toNat := fun v0 k0_hw1 => k0_hw1.1.2.2.2.2.2.2.2.2.2.2.2.2.2.2.2.1
theorem k0_mult15_dvd : ∀ (v0 : BitVec 32) (k0_hw1 : k0_chk1 v0), 1024 ∣ (k0_mult15 v0).toNat := fun v0 k0_hw1 => k0_hw1.1.2.2.2.2.2.2.2.2.2.2.2.2.2.2.2.2.1
theorem k0_mult16_dvd : ∀ (v0 : BitVec 32) (k0_hw1 : k0_chk1 v0), 1024 ∣ (k0_mult16 v0).toNat := fun v0 k0_hw1 => k0_hw1.1.2.2.2.2.2.2.2.2.2.2.2.2.2.2.2.2.2.1
theorem k0_mult17_dvd : ∀ (v0 : BitVec 32) (k0_hw1 : k0_chk1 v0), 1024 ∣ (k0_mult17 v0).toNat := fun v0 k0_hw1 => k0_hw1.1.2.2.2.2.2.2.2.2.2.2.2.2.2.2.2.2.2.2.1
theorem k0_mult18_dvd : ∀ (v0 : BitVec 32) (k0_hw1 : k0_chk1 v0), 1024 ∣ (k0_mult18 v0).toNat := fun v0 k0_hw1 => k0_hw1.1.2.2.2.2.2.2.2.2.2.2.2.2.2.2.2.2.2.2.2.1
theorem k0_mult19_dvd : ∀ (v0 : BitVec 32) (k0_hw1 : k0_chk1 v0), 1024 ∣ (k0_mult19 v0).toNat := fun v0 k0_hw1 => k0_hw1.1.2.2.2.2.2.2.2.2.2.2.2.2.2.2.2.2.2.2.2.2.1
theorem k0_mult20_dvd : ∀ (v0 : BitVec 32) (k0_hw1 : k0_chk1 v0), 1024 ∣ (k0_mult20 v0).toNat := fun v0 k0_hw1 => k0_hw1.1.2.2.2.2.2.2.2.2.2.2.2.2.2.2.2.2.2.2.2.2.2.1
theorem k0_mult21_dvd : ∀ (v0 : BitVec 32) (k0_hw1 : k0_chk1 v0), 1024 ∣ (k0_mult21 v0).toNat := fun v0 k0_hw1 => k0_hw1.1.2.2.2.2.2.2.2.2.2.2.2.2.2.2.2.2.2.2.2.2.2.2.1
theorem k0_mult22_dvd : ∀ (v0 : BitVec 32) (k0_hw1 : k0_chk1 v0), 1024 ∣ (k0_mult22 v0).toNat := fun v0 k0_hw1 => k0_hw1.1.2.2.2.2.2.2.2.2.2.2.2.2.2.2.2.2.2.2.2.2.2.2.2.1
theorem k0_mult23_dvd : ∀ (v0 : BitVec 32) (k0_hw1 : k0_chk1 v0), 1024 ∣ (k0_mult23 v0).toNat := fun v0 k0_hw1 => k0_hw1.1.2.2.2.2.2.2.2.2.2.2.2.2.2.2.2.2.2.2.2.2.2.2.2.2.1
theorem k0_mult24_dvd : ∀ (v0 : BitVec 32) (k0_hw1 : k0_chk1 v0), 1024 ∣ (k0_mult24 v0).toNat := fun v0 k0_hw1 => k0_hw1.1.2.2.2.2.2.2.2.2.2.2.2.2.2.2.2.2.2.2.2.2.2.2.2.2.2.1
theorem k0_mult25_dvd : ∀ (v0 : BitVec 32) (k0_hw1 : k0_chk1 v0), 1024 ∣ (k0_mult25 v0).toNat := fun v0 k0_hw1 => k0_hw1.1.2.2.2.2.2.2.2.2.2.2.2.2.2.2.2.2.2.2.2.2.2.2.2.2.2.2.1
theorem k0_mult26_dvd : ∀ (v0 : BitVec 32) (k0_hw1 : k0_chk1 v0), 1024 ∣ (k0_mult26 v0).toNat := fun v0 k0_hw1 => k0_hw1.1.2.2.2.2.2.2.2.2.2.2.2.2.2.2.2.2.2.2.2.2.2.2.2.2.2.2.2.1
theorem k0_mult27_dvd : ∀ (v0 : BitVec 32) (k0_hw1 : k0_chk1 v0), 1024 ∣ (k0_mult27 v0).toNat := fun v0 k0_hw1 => k0_hw1.1.2.2.2.2.2.2.2.2.2.2.2.2.2.2.2.2.2.2.2.2.2.2.2.2.2.2.2.2.1
theorem k0_mult28_dvd : ∀ (v0 : BitVec 32) (k0_hw1 : k0_chk1 v0), 1024 ∣ (k0_mult28 v0).toNat := fun v0 k0_hw1 => k0_hw1.1.2.2.2.2.2.2.2.2.2.2.2.2.2.2.2.2.2.2.2.2.2.2.2.2.2.2.2.2.2.1
theorem k0_mult29_dvd : ∀ (v0 : BitVec 32) (k0_hw1 : k0_chk1 v0), 1024 ∣ (k0_mult29 v0).toNat := fun v0 k0_hw1 => k0_hw1.1.2.2.2.2.2.2.2.2.2.2.2.2.2.2.2.2.2.2.2.2.2.2.2.2.2.2.2.2.2.2.1
theorem k0_mult30_dvd : ∀ (v0 : BitVec 32) (k0_hw1 : k0_chk1 v0), 1024 ∣ (k0_mult30 v0).toNat := fun v0 k0_hw1 => k0_hw1.1.2.2.2.2.2.2.2.2.2.2.2.2.2.2.2.2.2.2.2.2.2.2.2.2.2.2.2.2.2.2.2
theorem k0_mult31_dvd : ∀ (v0 : BitVec 32) (k0_hw1 : k0_chk1 v0), 1024 ∣ (k0_mult31 v0).toNat := fun v0 k0_hw1 => k0_hw1.2.1.1
theorem k0_mult32_dvd : ∀ (v0 : BitVec 32) (k0_hw1 : k0_chk1 v0), 1024 ∣ (k0_mult32 v0).toNat := fun v0 k0_hw1 => k0_hw1.2.1.2.1
theorem k0_mult33_dvd : ∀ (v0 : BitVec 32) (k0_hw1 : k0_chk1 v0), 1024 ∣ (k0_mult33 v0).toNat := fun v0 k0_hw1 => k0_hw1.2.1.2.2.1
theorem k0_mult34_dvd : ∀ (v0 : BitVec 32) (k0_hw1 : k0_chk1 v0), 128 ∣ (k0_mult34 v0).toNat := fun v0 k0_hw1 => k0_hw1.2.1.2.2.2.1
theorem k0_off3_inb : ∀ (v0 : BitVec 32) (k0_hw1 : k0_chk1 v0) (k0_t1 : Fin k0_t1_loop.trips), ∀ a, (k0_off3 v0 k0_t1) a + S1x32x128.size a ≤ S2x128x2048.size a := fun v0 k0_hw1 k0_t1 => k0_hw1.2.1.2.2.2.2.1 k0_t1
theorem k0_off4_inb : ∀ (v0 : BitVec 32) (k0_hw1 : k0_chk1 v0) (k0_t1 : Fin k0_t1_loop.trips), ∀ a, (k0_off4 v0 k0_t1) a + S1x32x128.size a ≤ S2x128x2048.size a := fun v0 k0_hw1 k0_t1 => k0_hw1.2.1.2.2.2.2.2.1 k0_t1
theorem k0_mult36_dvd : ∀ (v0 : BitVec 32) (k0_hw1 : k0_chk1 v0), 1024 ∣ (k0_mult36 v0).toNat := fun v0 k0_hw1 => k0_hw1.2.1.2.2.2.2.2.2.1
theorem k0_mult37_dvd : ∀ (v0 : BitVec 32) (k0_hw1 : k0_chk1 v0), 1024 ∣ (k0_mult37 v0).toNat := fun v0 k0_hw1 => k0_hw1.2.1.2.2.2.2.2.2.2.1
theorem k0_mult38_dvd : ∀ (v0 : BitVec 32) (k0_hw1 : k0_chk1 v0), 128 ∣ (k0_mult38 v0).toNat := fun v0 k0_hw1 => k0_hw1.2.1.2.2.2.2.2.2.2.2.1
theorem k0_off30_inb : ∀ (v0 : BitVec 32) (k0_hw1 : k0_chk1 v0) (k0_t2 : Fin k0_t2_loop.trips), ∀ a, (k0_off30 v0 k0_t2) a + S1x32x128.size a ≤ S2x128x2048.size a := fun v0 k0_hw1 k0_t2 => k0_hw1.2.1.2.2.2.2.2.2.2.2.2.1 k0_t2
theorem k0_off31_inb : ∀ (v0 : BitVec 32) (k0_hw1 : k0_chk1 v0) (k0_t2 : Fin k0_t2_loop.trips), ∀ a, (k0_off31 v0 k0_t2) a + S1x32x128.size a ≤ S2x128x2048.size a := fun v0 k0_hw1 k0_t2 => k0_hw1.2.1.2.2.2.2.2.2.2.2.2.2.1 k0_t2
theorem k0_mult40_dvd : ∀ (v0 : BitVec 32) (k0_hw1 : k0_chk1 v0) (k0_t3 : Fin k0_t3_loop.trips), 1024 ∣ (k0_mult40 v0 k0_t3).toNat := fun v0 k0_hw1 k0_t3 => k0_hw1.2.1.2.2.2.2.2.2.2.2.2.2.2.1 k0_t3
theorem k0_off59_inb : ∀ (v0 : BitVec 32) (k0_hw1 : k0_chk1 v0) (k0_t3 : Fin k0_t3_loop.trips), ∀ a, (k0_off59 v0 k0_t3) a + S128x1024.size a ≤ S128x16384.size a := fun v0 k0_hw1 k0_t3 => k0_hw1.2.1.2.2.2.2.2.2.2.2.2.2.2.2.1 k0_t3
theorem k0_mult41_dvd : ∀ (v0 : BitVec 32) (k0_hw1 : k0_chk1 v0) (k0_t3 : Fin k0_t3_loop.trips), 1024 ∣ (k0_mult41 v0 k0_t3).toNat := fun v0 k0_hw1 k0_t3 => k0_hw1.2.1.2.2.2.2.2.2.2.2.2.2.2.2.2.1 k0_t3
theorem k0_off62_inb : ∀ (v0 : BitVec 32) (k0_hw1 : k0_chk1 v0) (k0_t3 : Fin k0_t3_loop.trips), ∀ a, (k0_off62 v0 k0_t3) a + S512x1024.size a ≤ S512x16384.size a := fun v0 k0_hw1 k0_t3 => k0_hw1.2.1.2.2.2.2.2.2.2.2.2.2.2.2.2.2.1 k0_t3
theorem k0_mult42_dvd : ∀ (v0 : BitVec 32) (k0_hw1 : k0_chk1 v0) (k0_t3 : Fin k0_t3_loop.trips), 128 ∣ (k0_mult42 v0 k0_t3).toNat := fun v0 k0_hw1 k0_t3 => k0_hw1.2.1.2.2.2.2.2.2.2.2.2.2.2.2.2.2.2.1 k0_t3
theorem k0_off64_inb : ∀ (v0 : BitVec 32) (k0_hw1 : k0_chk1 v0) (k0_t3 : Fin k0_t3_loop.trips) (k0_t4 : Fin k0_t4_loop.trips), ∀ a, (k0_off64 v0 k0_t3 k0_t4) a + S1x32x128.size a ≤ S2x128x2048.size a := fun v0 k0_hw1 k0_t3 k0_t4 => k0_hw1.2.1.2.2.2.2.2.2.2.2.2.2.2.2.2.2.2.2.1 k0_t3 k0_t4
theorem k0_off65_inb : ∀ (v0 : BitVec 32) (k0_hw1 : k0_chk1 v0) (k0_t3 : Fin k0_t3_loop.trips) (k0_t4 : Fin k0_t4_loop.trips), ∀ a, (k0_off65 v0 k0_t3 k0_t4) a + S1x32x128.size a ≤ S2x128x2048.size a := fun v0 k0_hw1 k0_t3 k0_t4 => k0_hw1.2.1.2.2.2.2.2.2.2.2.2.2.2.2.2.2.2.2.2.1 k0_t3 k0_t4
theorem k0_mult44_dvd : ∀ (v0 : BitVec 32) (k0_hw1 : k0_chk1 v0) (k0_t3 : Fin k0_t3_loop.trips), 1024 ∣ (k0_mult44 v0 k0_t3).toNat := fun v0 k0_hw1 k0_t3 => k0_hw1.2.1.2.2.2.2.2.2.2.2.2.2.2.2.2.2.2.2.2.2.1 k0_t3
theorem k0_off93_inb : ∀ (v0 : BitVec 32) (k0_hw1 : k0_chk1 v0) (k0_t3 : Fin k0_t3_loop.trips), ∀ a, (k0_off93 v0 k0_t3) a + S128x1024.size a ≤ S128x16384.size a := fun v0 k0_hw1 k0_t3 => k0_hw1.2.1.2.2.2.2.2.2.2.2.2.2.2.2.2.2.2.2.2.2.2.1 k0_t3
theorem k0_mult45_dvd : ∀ (v0 : BitVec 32) (k0_hw1 : k0_chk1 v0) (k0_t3 : Fin k0_t3_loop.trips), 1024 ∣ (k0_mult45 v0 k0_t3).toNat := fun v0 k0_hw1 k0_t3 => k0_hw1.2.1.2.2.2.2.2.2.2.2.2.2.2.2.2.2.2.2.2.2.2.2.1 k0_t3
theorem k0_off96_inb : ∀ (v0 : BitVec 32) (k0_hw1 : k0_chk1 v0) (k0_t3 : Fin k0_t3_loop.trips), ∀ a, (k0_off96 v0 k0_t3) a + S512x1024.size a ≤ S512x16384.size a := fun v0 k0_hw1 k0_t3 => k0_hw1.2.1.2.2.2.2.2.2.2.2.2.2.2.2.2.2.2.2.2.2.2.2.2.1 k0_t3
theorem k0_mult46_dvd : ∀ (v0 : BitVec 32) (k0_hw1 : k0_chk1 v0) (k0_t3 : Fin k0_t3_loop.trips), 128 ∣ (k0_mult46 v0 k0_t3).toNat := fun v0 k0_hw1 k0_t3 => k0_hw1.2.1.2.2.2.2.2.2.2.2.2.2.2.2.2.2.2.2.2.2.2.2.2.2.1 k0_t3
theorem k0_off98_inb : ∀ (v0 : BitVec 32) (k0_hw1 : k0_chk1 v0) (k0_t3 : Fin k0_t3_loop.trips) (k0_t5 : Fin k0_t5_loop.trips), ∀ a, (k0_off98 v0 k0_t3 k0_t5) a + S1x32x128.size a ≤ S2x128x2048.size a := fun v0 k0_hw1 k0_t3 k0_t5 => k0_hw1.2.1.2.2.2.2.2.2.2.2.2.2.2.2.2.2.2.2.2.2.2.2.2.2.2.1 k0_t3 k0_t5
theorem k0_off99_inb : ∀ (v0 : BitVec 32) (k0_hw1 : k0_chk1 v0) (k0_t3 : Fin k0_t3_loop.trips) (k0_t5 : Fin k0_t5_loop.trips), ∀ a, (k0_off99 v0 k0_t3 k0_t5) a + S1x32x128.size a ≤ S2x128x2048.size a := fun v0 k0_hw1 k0_t3 k0_t5 => k0_hw1.2.1.2.2.2.2.2.2.2.2.2.2.2.2.2.2.2.2.2.2.2.2.2.2.2.2.1 k0_t3 k0_t5
theorem k0_mult48_dvd : ∀ (v0 : BitVec 32) (k0_hw1 : k0_chk1 v0), 1024 ∣ (k0_mult48 v0).toNat := fun v0 k0_hw1 => k0_hw1.2.1.2.2.2.2.2.2.2.2.2.2.2.2.2.2.2.2.2.2.2.2.2.2.2.2.2.1
theorem k0_mult49_dvd : ∀ (v0 : BitVec 32) (k0_hw1 : k0_chk1 v0), 1024 ∣ (k0_mult49 v0).toNat := fun v0 k0_hw1 => k0_hw1.2.1.2.2.2.2.2.2.2.2.2.2.2.2.2.2.2.2.2.2.2.2.2.2.2.2.2.2.1
theorem k0_off1_wordsbf16 : ∀ (v0 : BitVec 32) (k0_hw1 : k0_chk1 v0), ∀ (r : Fin 16), (Rect.unit (s := S128x16384) (k0_off1 v0 (BitVec.ofNat 32 r.val)) S128x1024.size (k0_off1_inb v0 k0_hw1 r)).WholeWords (EltTy.packing .bf16) := fun v0 k0_hw1 r => k0_hw1.2.1.2.2.2.2.2.2.2.2.2.2.2.2.2.2.2.2.2.2.2.2.2.2.2.2.2.2.2.1 r (k0_off1_inb v0 k0_hw1 r)
theorem k0_mult50_dvd : ∀ (v0 : BitVec 32) (k0_hw1 : k0_chk1 v0), 1024 ∣ (k0_mult50 v0).toNat := fun v0 k0_hw1 => k0_hw1.2.1.2.2.2.2.2.2.2.2.2.2.2.2.2.2.2.2.2.2.2.2.2.2.2.2.2.2.2.2.1
theorem k0_mult51_dvd : ∀ (v0 : BitVec 32) (k0_hw1 : k0_chk1 v0), 1024 ∣ (k0_mult51 v0).toNat := fun v0 k0_hw1 => k0_hw1.2.1.2.2.2.2.2.2.2.2.2.2.2.2.2.2.2.2.2.2.2.2.2.2.2.2.2.2.2.2.2.1
theorem k0_mult52_dvd : ∀ (v0 : BitVec 32) (k0_hw1 : k0_chk1 v0), 1024 ∣ (k0_mult52 v0).toNat := fun v0 k0_hw1 => k0_hw1.2.1.2.2.2.2.2.2.2.2.2.2.2.2.2.2.2.2.2.2.2.2.2.2.2.2.2.2.2.2.2.2.1
theorem k0_mult53_dvd : ∀ (v0 : BitVec 32) (k0_hw1 : k0_chk1 v0), 1024 ∣ (k0_mult53 v0).toNat := fun v0 k0_hw1 => k0_hw1.2.1.2.2.2.2.2.2.2.2.2.2.2.2.2.2.2.2.2.2.2.2.2.2.2.2.2.2.2.2.2.2.2
theorem k0_mult54_dvd : ∀ (v0 : BitVec 32) (k0_hw1 : k0_chk1 v0), 1024 ∣ (k0_mult54 v0).toNat := fun v0 k0_hw1 => k0_hw1.2.2.1
theorem k0_mult55_dvd : ∀ (v0 : BitVec 32) (k0_hw1 : k0_chk1 v0), 1024 ∣ (k0_mult55 v0).toNat := fun v0 k0_hw1 => k0_hw1.2.2.2.1
theorem k0_mult56_dvd : ∀ (v0 : BitVec 32) (k0_hw1 : k0_chk1 v0), 1024 ∣ (k0_mult56 v0).toNat := fun v0 k0_hw1 => k0_hw1.2.2.2.2.1
theorem k0_mult57_dvd : ∀ (v0 : BitVec 32) (k0_hw1 : k0_chk1 v0), 1024 ∣ (k0_mult57 v0).toNat := fun v0 k0_hw1 => k0_hw1.2.2.2.2.2.1
theorem k0_mult58_dvd : ∀ (v0 : BitVec 32) (k0_hw1 : k0_chk1 v0), 1024 ∣ (k0_mult58 v0).toNat := fun v0 k0_hw1 => k0_hw1.2.2.2.2.2.2.1
theorem k0_mult59_dvd : ∀ (v0 : BitVec 32) (k0_hw1 : k0_chk1 v0), 1024 ∣ (k0_mult59 v0).toNat := fun v0 k0_hw1 => k0_hw1.2.2.2.2.2.2.2.1
theorem k0_mult60_dvd : ∀ (v0 : BitVec 32) (k0_hw1 : k0_chk1 v0), 1024 ∣ (k0_mult60 v0).toNat := fun v0 k0_hw1 => k0_hw1.2.2.2.2.2.2.2.2.1
theorem k0_mult61_dvd : ∀ (v0 : BitVec 32) (k0_hw1 : k0_chk1 v0), 1024 ∣ (k0_mult61 v0).toNat := fun v0 k0_hw1 => k0_hw1.2.2.2.2.2.2.2.2.2.1
theorem k0_mult62_dvd : ∀ (v0 : BitVec 32) (k0_hw1 : k0_chk1 v0), 1024 ∣ (k0_mult62 v0).toNat := fun v0 k0_hw1 => k0_hw1.2.2.2.2.2.2.2.2.2.2.1
theorem k0_mult63_dvd : ∀ (v0 : BitVec 32) (k0_hw1 : k0_chk1 v0), 1024 ∣ (k0_mult63 v0).toNat := fun v0 k0_hw1 => k0_hw1.2.2.2.2.2.2.2.2.2.2.2.1
theorem k0_mult64_dvd : ∀ (v0 : BitVec 32) (k0_hw1 : k0_chk1 v0), 1024 ∣ (k0_mult64 v0).toNat := fun v0 k0_hw1 => k0_hw1.2.2.2.2.2.2.2.2.2.2.2.2.1
theorem k0_mult65_dvd : ∀ (v0 : BitVec 32) (k0_hw1 : k0_chk1 v0), 1024 ∣ (k0_mult65 v0).toNat := fun v0 k0_hw1 => k0_hw1.2.2.2.2.2.2.2.2.2.2.2.2.2.1
theorem k0_mult66_dvd : ∀ (v0 : BitVec 32) (k0_hw1 : k0_chk1 v0), 1024 ∣ (k0_mult66 v0).toNat := fun v0 k0_hw1 => k0_hw1.2.2.2.2.2.2.2.2.2.2.2.2.2.2.1
theorem k0_mult67_dvd : ∀ (v0 : BitVec 32) (k0_hw1 : k0_chk1 v0), 1024 ∣ (k0_mult67 v0).toNat := fun v0 k0_hw1 => k0_hw1.2.2.2.2.2.2.2.2.2.2.2.2.2.2.2.1
theorem k0_mult68_dvd : ∀ (v0 : BitVec 32) (k0_hw1 : k0_chk1 v0), 1024 ∣ (k0_mult68 v0).toNat := fun v0 k0_hw1 => k0_hw1.2.2.2.2.2.2.2.2.2.2.2.2.2.2.2.2.1
theorem k0_mult69_dvd : ∀ (v0 : BitVec 32) (k0_hw1 : k0_chk1 v0), 1024 ∣ (k0_mult69 v0).toNat := fun v0 k0_hw1 => k0_hw1.2.2.2.2.2.2.2.2.2.2.2.2.2.2.2.2.2.1
theorem k0_mult70_dvd : ∀ (v0 : BitVec 32) (k0_hw1 : k0_chk1 v0), 1024 ∣ (k0_mult70 v0).toNat := fun v0 k0_hw1 => k0_hw1.2.2.2.2.2.2.2.2.2.2.2.2.2.2.2.2.2.2.1
theorem k0_mult71_dvd : ∀ (v0 : BitVec 32) (k0_hw1 : k0_chk1 v0), 1024 ∣ (k0_mult71 v0).toNat := fun v0 k0_hw1 => k0_hw1.2.2.2.2.2.2.2.2.2.2.2.2.2.2.2.2.2.2.2.1
theorem k0_mult72_dvd : ∀ (v0 : BitVec 32) (k0_hw1 : k0_chk1 v0), 1024 ∣ (k0_mult72 v0).toNat := fun v0 k0_hw1 => k0_hw1.2.2.2.2.2.2.2.2.2.2.2.2.2.2.2.2.2.2.2.2.1
theorem k0_mult73_dvd : ∀ (v0 : BitVec 32) (k0_hw1 : k0_chk1 v0), 1024 ∣ (k0_mult73 v0).toNat := fun v0 k0_hw1 => k0_hw1.2.2.2.2.2.2.2.2.2.2.2.2.2.2.2.2.2.2.2.2.2.1
theorem k0_mult74_dvd : ∀ (v0 : BitVec 32) (k0_hw1 : k0_chk1 v0), 1024 ∣ (k0_mult74 v0).toNat := fun v0 k0_hw1 => k0_hw1.2.2.2.2.2.2.2.2.2.2.2.2.2.2.2.2.2.2.2.2.2.2.1
theorem k0_mult75_dvd : ∀ (v0 : BitVec 32) (k0_hw1 : k0_chk1 v0), 1024 ∣ (k0_mult75 v0).toNat := fun v0 k0_hw1 => k0_hw1.2.2.2.2.2.2.2.2.2.2.2.2.2.2.2.2.2.2.2.2.2.2.2.1
theorem k0_mult76_dvd : ∀ (v0 : BitVec 32) (k0_hw1 : k0_chk1 v0), 1024 ∣ (k0_mult76 v0).toNat := fun v0 k0_hw1 => k0_hw1.2.2.2.2.2.2.2.2.2.2.2.2.2.2.2.2.2.2.2.2.2.2.2.2.1
theorem k0_mult77_dvd : ∀ (v0 : BitVec 32) (k0_hw1 : k0_chk1 v0), 1024 ∣ (k0_mult77 v0).toNat := fun v0 k0_hw1 => k0_hw1.2.2.2.2.2.2.2.2.2.2.2.2.2.2.2.2.2.2.2.2.2.2.2.2.2.1
theorem k0_mult78_dvd : ∀ (v0 : BitVec 32) (k0_hw1 : k0_chk1 v0), 1024 ∣ (k0_mult78 v0).toNat := fun v0 k0_hw1 => k0_hw1.2.2.2.2.2.2.2.2.2.2.2.2.2.2.2.2.2.2.2.2.2.2.2.2.2.2.1
theorem k0_mult79_dvd : ∀ (v0 : BitVec 32) (k0_hw1 : k0_chk1 v0), 1024 ∣ (k0_mult79 v0).toNat := fun v0 k0_hw1 => k0_hw1.2.2.2.2.2.2.2.2.2.2.2.2.2.2.2.2.2.2.2.2.2.2.2.2.2.2.2.1
theorem k0_mult80_dvd : ∀ (v0 : BitVec 32) (k0_hw1 : k0_chk1 v0), 1024 ∣ (k0_mult80 v0).toNat := fun v0 k0_hw1 => k0_hw1.2.2.2.2.2.2.2.2.2.2.2.2.2.2.2.2.2.2.2.2.2.2.2.2.2.2.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x128x16384 : Shape := ⟨3, ![1, 128, 16384]⟩
abbrev S1x128x2048x2 : Shape := ⟨4, ![1, 128, 2048, 2]⟩
abbrev S2x256x8 : Shape := ⟨3, ![2, 256, 8]⟩
abbrev S1x128 : Shape := ⟨2, ![1, 128]⟩
abbrev S64x8x16384 : Shape := ⟨3, ![64, 8, 16384]⟩
abbrev S_ : Shape := ⟨0, ![]⟩
abbrev S2 : Shape := ⟨1, ![2]⟩
abbrev S1x128x2048x2x1 : Shape := ⟨5, ![1, 128, 2048, 2, 1]⟩
abbrev S1x128x2048x2x2 : Shape := ⟨5, ![1, 128, 2048, 2, 2]⟩
abbrev S1x128x2048x2x8 : Shape := ⟨5, ![1, 128, 2048, 2, 8]⟩
abbrev S1x128x1x1 : Shape := ⟨4, ![1, 128, 1, 1]⟩
abbrev S1x128x2048x8 : Shape := ⟨4, ![1, 128, 2048, 8]⟩
abbrev S64x8x1x128 : Shape := ⟨4, ![64, 8, 1, 128]⟩
abbrev S512x128 : Shape := ⟨2, ![512, 128]⟩
abbrev S128x16384 : Shape := ⟨2, ![128, 16384]⟩

abbrev nBuf : Space → Nat
  | .hbm => 40
  | .vmem => 0
  | .smem => 0
  | _ => 0

abbrev bufTy : (tb : Table) → Fin (tcTables nBuf tb) → BufTy
  | .hbm, ⟨0, _⟩ => ⟨S1x128x16384, .f32⟩
  | .hbm, ⟨1, _⟩ => ⟨S1x128x2048x2, .i8⟩
  | .hbm, ⟨2, _⟩ => ⟨S2x256x8, .bf16⟩
  | .hbm, ⟨3, _⟩ => ⟨S1x128, .f32⟩
  | .hbm, ⟨4, _⟩ => ⟨S64x8x16384, .f32⟩
  | .hbm, ⟨5, _⟩ => ⟨S_, .i32⟩
  | .hbm, ⟨6, _⟩ => ⟨S2x256x8, .f32⟩
  | .hbm, ⟨7, _⟩ => ⟨S2, .i32⟩
  | .hbm, ⟨8, _⟩ => ⟨S1x128x2048x2, .i32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S_, .i32⟩
  | .hbm, ⟨13, _⟩ => ⟨S2, .i32⟩
  | .hbm, ⟨14, _⟩ => ⟨S2, .i32⟩
  | .hbm, ⟨15, _⟩ => ⟨S2, .i32⟩
  | .hbm, ⟨16, _⟩ => ⟨S_, .i32⟩
  | .hbm, ⟨17, _⟩ => ⟨S1x128x2048x2, .i32⟩
  | .hbm, ⟨18, _⟩ => ⟨S1x128x2048x2, .i1⟩
  | .hbm, ⟨19, _⟩ => ⟨S_, .i32⟩
  | .hbm, ⟨20, _⟩ => ⟨S1x128x2048x2, .i32⟩
  | .hbm, ⟨21, _⟩ => ⟨S1x128x2048x2, .i32⟩
  | .hbm, ⟨22, _⟩ => ⟨S1x128x2048x2, .i32⟩
  | .hbm, ⟨23, _⟩ => ⟨S1x128x2048x2, .i32⟩
  | .hbm, ⟨24, _⟩ => ⟨S1x128x2048x2x1, .i32⟩
  | .hbm, ⟨25, _⟩ => ⟨S1x128x2048x2x1, .i32⟩
  | .hbm, ⟨26, _⟩ => ⟨S1x128x2048x2x2, .i32⟩
  | .hbm, ⟨27, _⟩ => ⟨S1x128x2048x2x8, .f32⟩
  | .hbm, ⟨28, _⟩ => ⟨S1x128x1x1, .f32⟩
  | .hbm, ⟨29, _⟩ => ⟨S_, .f32⟩
  | .hbm, ⟨30, _⟩ => ⟨S1x128x2048x8, .f32⟩
  | .hbm, ⟨31, _⟩ => ⟨S1x128x2048x8, .f32⟩
  | .hbm, ⟨32, _⟩ => ⟨S1x128x2048x8, .f32⟩
  | .hbm, ⟨33, _⟩ => ⟨S1x128x16384, .f32⟩
  | .hbm, ⟨34, _⟩ => ⟨S1x128x16384, .f32⟩
  | .hbm, ⟨35, _⟩ => ⟨S1x128x16384, .bf16⟩
  | .hbm, ⟨36, _⟩ => ⟨S64x8x16384, .bf16⟩
  | .hbm, ⟨37, _⟩ => ⟨S64x8x1x128, .f32⟩
  | .hbm, ⟨38, _⟩ => ⟨S512x128, .f32⟩
  | .hbm, ⟨39, _⟩ => ⟨S128x16384, .bf16⟩
  | _, _ => ⟨S1x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Dec.lean ====
module

public import proofs.«01_k».proof.Proof.Gen.KernelIdeal.Skeleton
public import Idealize.ShloMosaic.Lib.Pointwise
public import Idealize.ShloMosaic.Lib.Pointwise.Index
public import Idealize.ShloMosaic.Lib.BitcastPair
public import Idealize.ShloMosaic.Lib.Pipeline.Value

@[expose] public section

set_option maxRecDepth 16384

noncomputable section

namespace Cert.KernelIdeal.Hand

open Cert.KernelIdeal Cert.KernelIdeal.Gen
open Idealize.ShloMosaic

variable {F : FTy → Type} [FloatOps F]

/-- The lane number of every element. -/
def lane : IVec S8x128 32 := iota .tc S8x128 32 [1] iota_S8x128_d1_w32
/-- Whether the lane number has the bits `b`. -/
def bitv (b : BitVec 32) : IVec S8x128 1 := cmpi .ne (andi lane (broadcast S8x128 b)) (broadcast S8x128 0#32)
/-- Through a column shape and back. -/
def viaCol (x : IVec S8x128 32) : IVec S8x128 32 := shapeCast S8x128 (shapeCast S8x128x1 x shapeCasts_S8x128_S8x128x1) shapeCasts_S8x128x1_S8x128
/-- Lanes turned by `d` inside each group of eight. -/
def roll (d : BitVec 32) (x : FVec F S8x128 .f32) : FVec F S8x128 .f32 :=
  dynamicGather 1 x (viaCol (ori (andi lane (broadcast S8x128 4294967288#32)) (andi (subi lane (broadcast S8x128 d)) (broadcast S8x128 7#32))))
/-- One stage of the barrel shift over the eight vectors. -/
def stage (b : BitVec 32) (n : Fin 8) (x : Fin 8 → FVec F S8x128 .f32) : Fin 8 → FVec F S8x128 .f32 :=
  fun i => select (bitv b) (x (i + n)) (x i)
/-- The barrel shift over the eight vectors. -/
def barrel (x : Fin 8 → FVec F S8x128 .f32) : Fin 8 → FVec F S8x128 .f32 := stage 4#32 4 (stage 2#32 2 (stage 1#32 1 x))
/-- The eight vectors, one lane of each in turn. -/
def interl (x : Fin 8 → FVec F S8x128 .f32) (t : Fin 8) : FVec F S8x128 .f32 :=
  barrel ![barrel x 0, roll 1#32 (barrel x 1), roll 2#32 (barrel x 2), roll 3#32 (barrel x 3), roll 4#32 (barrel x 4),
    roll 5#32 (barrel x 5), roll 6#32 (barrel x 6), roll 7#32 (barrel x 7)] (-t)

theorem viaCol_eq (x : IVec S8x128 32) : viaCol x = x := by
  unfold viaCol
  funext i
  unfold shapeCast
  rw [Shape.reshapeEquiv_reshapeEquiv, Shape.reshapeEquiv_self]

theorem lane_at (r : Fin 8) (j : Fin 128) : lane (ix2 r j) = BitVec.ofNat 32 j.val := by
  unfold lane
  simp only [pointwise]
  congr 1
  show (0 * 128 + j.val) = j.val
  omega

def selE (b : BitVec 32) (j : Fin 128) : Bool := (BitVec.ofNat 32 j.val &&& b) != 0#32

theorem bitv_at (b : BitVec 32) (r : Fin 8) (j : Fin 128) : bitv b (ix2 r j) = BitVec.ofBool (selE b j) := by
  show Scalar.cmpi .ne (lane (ix2 r j) &&& b) 0#32 = _
  rw [lane_at]
  rfl

theorem stage_at (b : BitVec 32) (n : Fin 8) (x : Fin 8 → FVec F S8x128 .f32) (i r : Fin 8) (j : Fin 128) :
    stage b n x i (ix2 r j) = x (if selE b j then i + n else i) (ix2 r j) := by
  show Scalar.select (bitv b (ix2 r j)) (x (i + n) (ix2 r j)) (x i (ix2 r j)) = _
  rw [bitv_at]
  cases selE b j <;> rfl

theorem sel_all : ∀ (j : Fin 128) (i : Fin 8),
    (if selE 1#32 j then (if selE 2#32 j then (if selE 4#32 j then i + 4 else i) + 2 else (if selE 4#32 j then i + 4 else i)) + 1
      else (if selE 2#32 j then (if selE 4#32 j then i + 4 else i) + 2 else (if selE 4#32 j then i + 4 else i)))
    = i + ⟨j.val % 8, Nat.mod_lt _ (by decide)⟩ := by
  decide +kernel

theorem barrel_at (x : Fin 8 → FVec F S8x128 .f32) (i r : Fin 8) (j : Fin 128) :
    barrel x i (ix2 r j) = x (i + ⟨j.val % 8, Nat.mod_lt _ (by decide)⟩) (ix2 r j) := by
  unfold barrel
  rw [stage_at, stage_at, stage_at, sel_all]

theorem gather_at {α : Type} (x : S8x128.Idx → α) (idx : IVec S8x128 32) (r : Fin 8) (j : Fin 128) :
    dynamicGather 1 x idx (ix2 r j) = x (ix2 r ⟨(idx (ix2 r j)).toNat % 128, Nat.mod_lt _ (by decide)⟩) := by
  unfold dynamicGather
  congr 1
  funext b
  match b with
  | ⟨0, _⟩ => rfl
  | ⟨1, _⟩ => rfl

theorem roll_word : ∀ (d : Fin 8) (j : Fin 128),
    ((BitVec.ofNat 32 j.val &&& 4294967288#32) ||| ((BitVec.ofNat 32 j.val - BitVec.ofNat 32 d.val) &&& 7#32)).toNat % 128
      = j.val / 8 * 8 + (j.val + 8 - d.val) % 8 := by
  decide +kernel

theorem roll_at (d : Fin 8) (x : FVec F S8x128 .f32) (r : Fin 8) (j : Fin 128) :
    roll (BitVec.ofNat 32 d.val) x (ix2 r j) = x (ix2 r ⟨j.val / 8 * 8 + (j.val + 8 - d.val) % 8, by omega⟩) := by
  unfold roll
  rw [gather_at, viaCol_eq]
  congr 2
  apply Fin.ext
  show ((lane (ix2 r j) &&& 4294967288#32) ||| ((lane (ix2 r j) - BitVec.ofNat 32 d.val) &&& 7#32)).toNat % 128 = _
  rw [lane_at, roll_word]

theorem interl_at (x : Fin 8 → FVec F S8x128 .f32) (t r : Fin 8) (j : Fin 128) :
    interl x t (ix2 r j) = x ⟨j.val % 8, Nat.mod_lt _ (by decide)⟩ (ix2 r ⟨j.val / 8 * 8 + t.val, by omega⟩) := by
  unfold interl
  rw [barrel_at]
  have hv : ∀ d : Fin 8, (![barrel x 0, roll 1#32 (barrel x 1), roll 2#32 (barrel x 2), roll 3#32 (barrel x 3), roll 4#32 (barrel x 4),
    roll 5#32 (barrel x 5), roll 6#32 (barrel x 6), roll 7#32 (barrel x 7)] : Fin 8 → FVec F S8x128 .f32) d (ix2 r j)
      = barrel x d (ix2 r ⟨j.val / 8 * 8 + (j.val + 8 - d.val) % 8, by omega⟩) := by
    intro d
    match d with
    | ⟨0, _⟩ =>
      show barrel x 0 (ix2 r j) = _
      congr 2
      apply Fin.ext
      show j.val = j.val / 8 * 8 + (j.val + 8 - 0) % 8
      omega
    | ⟨1, _⟩ => exact roll_at 1 (barrel x 1) r j
    | ⟨2, _⟩ => exact roll_at 2 (barrel x 2) r j
    | ⟨3, _⟩ => exact roll_at 3 (barrel x 3) r j
    | ⟨4, _⟩ => exact roll_at 4 (barrel x 4) r j
    | ⟨5, _⟩ => exact roll_at 5 (barrel x 5) r j
    | ⟨6, _⟩ => exact roll_at 6 (barrel x 6) r j
    | ⟨7, _⟩ => exact roll_at 7 (barrel x 7) r j
  rw [hv, barrel_at]
  have hd : (-t + (⟨j.val % 8, Nat.mod_lt _ (by decide)⟩ : Fin 8)).val = (8 - t.val + j.val % 8) % 8 := by
    rw [Fin.val_add, Fin.neg_def]
    simp
  have e1 : j.val / 8 * 8 + (j.val + 8 - (-t + (⟨j.val % 8, Nat.mod_lt _ (by decide)⟩ : Fin 8)).val) % 8 = j.val / 8 * 8 + t.val := by
    rw [hd]; omega
  have e2 : -t + (⟨j.val % 8, Nat.mod_lt _ (by decide)⟩ : Fin 8) + ⟨(j.val / 8 * 8 + (j.val + 8 - (-t + (⟨j.val % 8, Nat.mod_lt _ (by decide)⟩ : Fin 8)).val) % 8) % 8, Nat.mod_lt _ (by decide)⟩ = ⟨j.val % 8, Nat.mod_lt _ (by decide)⟩ := by
    apply Fin.ext
    rw [Fin.val_add, hd]
    show ((8 - t.val + j.val % 8) % 8 + (j.val / 8 * 8 + (j.val + 8 - (8 - t.val + j.val % 8) % 8) % 8) % 8) % 8 = j.val % 8
    omega
  exact congr (congrArg x e2) (congrArg (ix2 r) (Fin.ext e1))

/-- The table's two halves looked up at the codes `c`. -/
def look (c : IVec S8x128 32) (a b : Vec F S1x1x1x8x128 .f32) : FVec F S8x128 .f32 :=
  select (cmpi .sge c (broadcast S8x128 128#32))
    (dynamicGather 1 (shapeCast S8x128 b shapeCasts_S1x1x1x8x128_S8x128) (viaCol (andi c (broadcast S8x128 127#32))))
    (dynamicGather 1 (shapeCast S8x128 a shapeCasts_S1x1x1x8x128_S8x128) (viaCol (andi c (broadcast S8x128 127#32))))

theorem word127 (c : BitVec 8) : (BitVec.setWidth 32 c &&& 127#32).toNat % 128 = c.toNat % 128 := by
  revert c; decide +kernel

theorem wordge (c : BitVec 8) : Scalar.cmpi .sge (BitVec.setWidth 32 c) 128#32 = BitVec.ofBool (decide (128 ≤ c.toNat)) := by
  revert c; decide +kernel

theorem look_at (c : IVec S8x128 32) (a b : Vec F S1x1x1x8x128 .f32) (T : Fin 256 → F .f32) (q : BitVec 8) (r : Fin 8) (l : Fin 128)
    (hc : c (ix2 r l) = BitVec.setWidth 32 q)
    (ha : ∀ l : Fin 128, a (ix5 (n0 := 1) (n1 := 1) (n2 := 1) (n3 := 8) (n4 := 128) 0 0 0 r l) = T ⟨l.val, by omega⟩)
    (hb : ∀ l : Fin 128, b (ix5 (n0 := 1) (n1 := 1) (n2 := 1) (n3 := 8) (n4 := 128) 0 0 0 r l) = T ⟨128 + l.val, by omega⟩) :
    look c a b (ix2 r l) = T ⟨q.toNat, q.isLt⟩ := by
  have hs : ∀ (z : Vec F S1x1x1x8x128 .f32) (l : Fin 128), shapeCast S8x128 z shapeCasts_S1x1x1x8x128_S8x128 (ix2 r l) = z (ix5 (n0 := 1) (n1 := 1) (n2 := 1) (n3 := 8) (n4 := 128) 0 0 0 r l) := by
    intro z l
    simp only [pointwise]
  have hg : ∀ (z : Vec F S1x1x1x8x128 .f32), dynamicGather 1 (shapeCast S8x128 z shapeCasts_S1x1x1x8x128_S8x128) (viaCol (andi c (broadcast S8x128 127#32))) (ix2 r l)
      = z (ix5 (n0 := 1) (n1 := 1) (n2 := 1) (n3 := 8) (n4 := 128) 0 0 0 r ⟨q.toNat % 128, Nat.mod_lt _ (by decide)⟩) := by
    intro z
    rw [gather_at, viaCol_eq, hs]
    congr 2
    apply Fin.ext
    show (c (ix2 r l) &&& 127#32).toNat % 128 = _
    rw [hc, word127]
  show Scalar.select (Scalar.cmpi .sge (c (ix2 r l)) 128#32) (dynamicGather 1 _ _ (ix2 r l)) (dynamicGather 1 _ _ (ix2 r l)) = _
  rw [hg, hg, hc, wordge, ha, hb]
  have hq := q.isLt
  by_cases h : 128 ≤ q.toNat
  · rw [decide_eq_true h]
    show T _ = T _
    congr 1; apply Fin.ext; show 128 + q.toNat % 128 = q.toNat; omega
  · rw [decide_eq_false h]
    show T _ = T _
    congr 1; apply Fin.ext; show q.toNat % 128 = q.toNat; omega

theorem perm_word : ∀ l : Fin 128, (((BitVec.ofNat 32 l.val &&& 7#32) * 16#32) + (BitVec.ofNat 32 l.val).sshiftRight 3).toNat % 128 = l.val % 8 * 16 + l.val / 8 := by
  decide +kernel

/-- Row `row j` of the word vector, bytes put together: byte `p` of word row `a` is row `4 a + p`. -/
theorem pack_bit (x : IVec S32x128 8) (a : Fin 8) (l : Fin 128) (q : ℕ) (hq : q < 32) :
    (bitcast S8x128 32 x bitcasts_S32x128_w8_S8x128_w32 (ix2 a l)).getLsbD q = (x (ix2 ⟨4 * a.val + q / 8, by omega⟩ l)).getLsbD (q % 8) := by
  rw [bitcast_getLsbD x bitcasts_S32x128_w8_S8x128_w32 (ix2 a l) q hq (by decide)]
  have er : S8x128.row (ix2 a l) = a.val := rfl
  have em : (S8x128.row (ix2 a l) * 32 + q) % 8 = q % 8 := by rw [er]; omega
  rw [em]
  congr 2
  funext b
  apply Fin.ext
  match b with
  | ⟨0, _⟩ => show (a.val * 32 + q) / 8 = 4 * a.val + q / 8; omega
  | ⟨1, _⟩ => rfl

theorem unpack_bit (x : IVec S8x128 32) (r : Fin 32) (l : Fin 128) (q : ℕ) (hq : q < 8) :
    (bitcast S32x128 8 x bitcasts_S8x128_w32_S32x128_w8 (ix2 r l)).getLsbD q = (x (ix2 ⟨r.val / 4, by omega⟩ l)).getLsbD (r.val % 4 * 8 + q) := by
  rw [bitcast_getLsbD x bitcasts_S8x128_w32_S32x128_w8 (ix2 r l) q hq (by decide)]
  have er : S32x128.row (ix2 r l) = r.val := rfl
  have em : (S32x128.row (ix2 r l) * 8 + q) % 32 = r.val % 4 * 8 + q := by rw [er]; omega
  rw [em]
  congr 2
  funext b
  apply Fin.ext
  match b with
  | ⟨0, _⟩ => show (r.val * 8 + q) / 32 = r.val / 4; omega
  | ⟨1, _⟩ => rfl

/-- The lane permutation of the packed codes. -/
def permv : IVec S8x128 32 := addi (muli (andi lane (broadcast S8x128 7#32)) (broadcast S8x128 16#32)) (shrsi lane (broadcast S8x128 3#32))

theorem permv_at (r : Fin 8) (l : Fin 128) : (permv (ix2 r l)).toNat % 128 = l.val % 8 * 16 + l.val / 8 := by
  show (((lane (ix2 r l) &&& 7#32) * 16#32) + Scalar.shrsi (lane (ix2 r l)) 3#32).toNat % 128 = _
  rw [lane_at]
  revert l; decide +kernel

/-- The unpacked codes at row `r`, lane `l`: the code of the same row at the group the lane holds. -/
theorem codes_at (C : Vec F S1x32x128 .i8) (r : Fin 32) (l : Fin 128) :
    k0_pay1 C (ix2 r l) = BitVec.setWidth 32 (C (ix3 (n0 := 1) (n1 := 32) (n2 := 128) 0 r ⟨l.val % 8 * 16 + l.val / 8, by omega⟩) : BitVec 8) := by
  show BitVec.setWidth 32 (bitcast S32x128 8 (dynamicGather 1 (bitcast S8x128 32 (shapeCast S32x128 C shapeCasts_S1x32x128_S32x128) bitcasts_S32x128_w8_S8x128_w32) (viaCol permv)) bitcasts_S8x128_w32_S32x128_w8 (ix2 r l)) = _
  congr 1
  apply BitVec.eq_of_getLsbD_eq
  intro q hq
  rw [unpack_bit _ r l q hq, gather_at, viaCol_eq, pack_bit _ _ _ _ (by omega)]
  have e : ∀ (a : Fin 32) (b : Fin 128), shapeCast S32x128 C shapeCasts_S1x32x128_S32x128 (ix2 a b) = C (ix3 (n0 := 1) (n1 := 32) (n2 := 128) 0 a b) := by
    intro a b
    simp only [pointwise]
  rw [e]
  have e1 : (r.val % 4 * 8 + q) % 8 = q := by omega
  rw [e1]
  congr 2
  congr 1
  · apply Fin.ext; show 4 * (r.val / 4) + (r.val % 4 * 8 + q) / 8 = r.val; omega
  · exact Fin.ext (permv_at _ l)

/-- One part of eight rows: the residual less the scaled, interleaved sums. -/
def rpart (c0 c1 : IVec S8x128 32) (T : Fin 2 → Fin 8 → Fin 2 → Vec F S1x1x1x8x128 .f32) (sc : Vec F S8x128 .f32)
    (w : Vec F S1x8x128 .f32) (i : Fin 8) : FVec F S8x128 .f32 :=
  subf (shapeCast S8x128 w shapeCasts_S1x8x128_S8x128)
    (mulf sc (interl (fun e => addf (look c0 (T 0 e 0) (T 0 e 1)) (look c1 (T 1 e 0) (T 1 e 1))) i))

theorem rpart_at (c0 c1 : IVec S8x128 32) (T : Fin 2 → Fin 8 → Fin 2 → Vec F S1x1x1x8x128 .f32) (sc : Vec F S8x128 .f32)
    (w : Vec F S1x8x128 .f32) (i r : Fin 8) (j : Fin 128) (B : Fin 2 → Fin 8 → Fin 256 → F .f32) (q0 q1 : BitVec 8)
    (h0 : c0 (ix2 r ⟨j.val / 8 * 8 + i.val, by omega⟩) = BitVec.setWidth 32 q0) (h1 : c1 (ix2 r ⟨j.val / 8 * 8 + i.val, by omega⟩) = BitVec.setWidth 32 q1)
    (hT : ∀ (m : Fin 2) (e : Fin 8) (hf : Fin 2) (l : Fin 128), T m e hf (ix5 (n0 := 1) (n1 := 1) (n2 := 1) (n3 := 8) (n4 := 128) 0 0 0 r l) = B m e ⟨128 * hf.val + l.val, by omega⟩) :
    rpart c0 c1 T sc w i (ix2 r j) = FloatOps.subf (w (ix3 (n0 := 1) (n1 := 8) (n2 := 128) 0 r j))
      (FloatOps.mulf (sc (ix2 r j)) (FloatOps.addf (B 0 ⟨j.val % 8, Nat.mod_lt _ (by decide)⟩ ⟨q0.toNat, q0.isLt⟩) (B 1 ⟨j.val % 8, Nat.mod_lt _ (by decide)⟩ ⟨q1.toNat, q1.isLt⟩))) := by
  have hs : shapeCast S8x128 w shapeCasts_S1x8x128_S8x128 (ix2 r j) = w (ix3 (n0 := 1) (n1 := 8) (n2 := 128) 0 r j) := by
    simp only [pointwise]
  show FloatOps.subf (shapeCast S8x128 w shapeCasts_S1x8x128_S8x128 (ix2 r j)) (FloatOps.mulf (sc (ix2 r j)) (interl _ i (ix2 r j))) = _
  rw [hs, interl_at]
  have hl : ∀ (m : Fin 2) (c : IVec S8x128 32) (q : BitVec 8) (e : Fin 8), c (ix2 r ⟨j.val / 8 * 8 + i.val, by omega⟩) = BitVec.setWidth 32 q →
      look c (T m e 0) (T m e 1) (ix2 r ⟨j.val / 8 * 8 + i.val, by omega⟩) = B m e ⟨q.toNat, q.isLt⟩ := by
    intro m c q e hc
    refine look_at c (T m e 0) (T m e 1) (B m e) q r _ hc (fun l => ?_) (fun l => ?_)
    · rw [hT]; congr 1; apply Fin.ext; show 128 * 0 + l.val = l.val; omega
    · rw [hT]; rfl
  show FloatOps.subf _ (FloatOps.mulf _ (FloatOps.addf (look c0 _ _ _) (look c1 _ _ _))) = _
  rw [hl 0 c0 q0 _ h0, hl 1 c1 q1 _ h1]

/-- A band of thirty-two rows, narrowed. -/
def rband (c0 c1 : Fin 4 → IVec S8x128 32) (T : Fin 2 → Fin 8 → Fin 2 → Vec F S1x1x1x8x128 .f32) (sc : Fin 4 → Vec F S8x128 .f32)
    (w : Fin 4 → Vec F S1x8x128 .f32) (i : Fin 8) : FVec F S32x128 .bf16 :=
  truncf .bf16 (concatenate S32x128 0 [⟨S8x128, rpart (c0 0) (c1 0) T (sc 0) (w 0) i⟩, ⟨S8x128, rpart (c0 1) (c1 1) T (sc 1) (w 1) i⟩,
    ⟨S8x128, rpart (c0 2) (c1 2) T (sc 2) (w 2) i⟩, ⟨S8x128, rpart (c0 3) (c1 3) T (sc 3) (w 3) i⟩] concatenates_S8x128_S8x128_S8x128_S8x128_S32x128_d0) bitsLt_bf16_f32

theorem rband_at (c0 c1 : Fin 4 → IVec S8x128 32) (T : Fin 2 → Fin 8 → Fin 2 → Vec F S1x1x1x8x128 .f32) (sc : Fin 4 → Vec F S8x128 .f32)
    (w : Fin 4 → Vec F S1x8x128 .f32) (i : Fin 8) (r : Fin 32) (j : Fin 128) :
    rband c0 c1 T sc w i (ix2 r j) = FloatOps.truncf .bf16 bitsLt_bf16_f32
      (rpart (c0 ⟨r.val / 8, by omega⟩) (c1 ⟨r.val / 8, by omega⟩) T (sc ⟨r.val / 8, by omega⟩) (w ⟨r.val / 8, by omega⟩) i (ix2 ⟨r.val % 8, by omega⟩ j)) := by
  unfold rband
  show FloatOps.truncf .bf16 bitsLt_bf16_f32 (concatenate S32x128 0 _ _ (ix2 r j)) = _
  exact congrArg _ (concatenate_ofFn_apply (t := S32x128) (s₁ := S8x128) 0 (fun n : Fin 4 => rpart (c0 n) (c1 n) T (sc n) (w n) i)
    concatenates_S8x128_S8x128_S8x128_S8x128_S32x128_d0 rfl 8 rfl (ix2 r j) ⟨r.val / 8, by omega⟩ rfl (ix2 ⟨r.val % 8, by omega⟩ j) rfl (by
      intro b hb
      match b with
      | ⟨0, _⟩ => exact absurd rfl hb
      | ⟨1, _⟩ => rfl))

/-- The chunk's block number, as the kernel computes it. -/
def base (v0 : BitVec 32) : BitVec 32 :=
  Scalar.select
    (Scalar.andi
      (Scalar.cmpi .ne
        (Scalar.subi (Scalar.extui (Scalar.cmpi .sgt v0 0#32)) (Scalar.extui (Scalar.cmpi .slt v0 0#32)))
        (Scalar.subi (Scalar.extui (Scalar.cmpi .sgt 128#32 0#32)) (Scalar.extui (Scalar.cmpi .slt 128#32 0#32))))
      (Scalar.cmpi .ne (Scalar.remsi v0 128#32) 0#32))
    (Scalar.subi (Scalar.divsi v0 128#32) 1#32) (Scalar.divsi v0 128#32)

/-- The first code column of the block that is `x` blocks after the chunk's, of the sixteen in a ring. -/
def ccol (v0 x : BitVec 32) : ℕ :=
  (Scalar.muli (Scalar.remsi (Scalar.addi (base v0) x) 16#32) 128#32).toNat

/-- The number of the block that trip `t` of the main loop fetches first. -/
def fetchX (t : Fin k0_t3_loop.trips) : BitVec 32 :=
  Scalar.addi (Scalar.muli 2#32 (Scalar.addi 0#32 (Scalar.muli (Scf.iv 0#32 1#32 t) 1#32))) 2#32

/-- The four row groups of a band's codes. -/
def cgrp (C : Vec F S1x32x128 .i8) : Fin 4 → IVec S8x128 32 := ![k0_pay2 C, k0_pay3 C, k0_pay4 C, k0_pay5 C]

theorem cgrp_at (C : Vec F S1x32x128 .i8) (q : Fin 4) (r : Fin 8) (l : Fin 128) :
    cgrp C q (ix2 r l) = BitVec.setWidth 32 (C (ix3 (n0 := 1) (n1 := 32) (n2 := 128) 0 ⟨8 * q.val + r.val, by omega⟩ ⟨l.val % 8 * 16 + l.val / 8, by omega⟩) : BitVec 8) := by
  have hs : ∀ (x : IVec S32x128 32) (o : Fin 2 → ℕ) (h : S32x128.Slices o S8x128) (ho : o = ![8 * q.val, 0]), extractStridedSlice S8x128 o x h (ix2 r l) = x (ix2 ⟨8 * q.val + r.val, by omega⟩ l) := by
    intro x o h ho
    refine extractStridedSlice_apply o x h (ix2 r l) (ix2 ⟨8 * q.val + r.val, by omega⟩ l) ?_
    subst ho
    intro a
    match a with
    | ⟨0, _⟩ => rfl
    | ⟨1, _⟩ => exact (Nat.zero_add _).symm
  have e : cgrp C q (ix2 r l) = k0_pay1 C (ix2 ⟨8 * q.val + r.val, by omega⟩ l) := by
    match q, hs with
    | ⟨0, _⟩, hs => exact hs (k0_pay1 C) ![0, 0] slices_S32x128_o0_0_S8x128 rfl
    | ⟨1, _⟩, hs => exact hs (k0_pay1 C) ![8, 0] slices_S32x128_o8_0_S8x128 rfl
    | ⟨2, _⟩, hs => exact hs (k0_pay1 C) ![16, 0] slices_S32x128_o16_0_S8x128 rfl
    | ⟨3, _⟩, hs => exact hs (k0_pay1 C) ![24, 0] slices_S32x128_o24_0_S8x128 rfl
  rw [e, codes_at]

theorem k0_off3_ceq (v0 : BitVec 32) (k : Fin k0_t1_loop.trips) : k0_off3 v0 k = ![0, 32 * k.val, ccol v0 0#32] := by
  have h : ∀ k : Fin k0_t1_loop.trips, k0_off3 0#32 k 1 = 32 * k.val := by decide +kernel
  have e : k0_off3 v0 k = ![0, k0_off3 0#32 k 1, ccol v0 0#32] := by unfold k0_off3 ccol base; rfl
  rw [e, h]

theorem k0_off4_ceq (v0 : BitVec 32) (k : Fin k0_t1_loop.trips) : k0_off4 v0 k = ![1, 32 * k.val, ccol v0 0#32] := by
  have h : ∀ k : Fin k0_t1_loop.trips, k0_off4 0#32 k 1 = 32 * k.val := by decide +kernel
  have e : k0_off4 v0 k = ![1, k0_off4 0#32 k 1, ccol v0 0#32] := by unfold k0_off4 ccol base; rfl
  rw [e, h]

theorem k0_off30_ceq (v0 : BitVec 32) (k : Fin k0_t2_loop.trips) : k0_off30 v0 k = ![0, 32 * k.val, ccol v0 1#32] := by
  have h : ∀ k : Fin k0_t2_loop.trips, k0_off30 0#32 k 1 = 32 * k.val := by decide +kernel
  have e : k0_off30 v0 k = ![0, k0_off30 0#32 k 1, ccol v0 1#32] := by unfold k0_off30 ccol base; rfl
  rw [e, h]

theorem k0_off31_ceq (v0 : BitVec 32) (k : Fin k0_t2_loop.trips) : k0_off31 v0 k = ![1, 32 * k.val, ccol v0 1#32] := by
  have h : ∀ k : Fin k0_t2_loop.trips, k0_off31 0#32 k 1 = 32 * k.val := by decide +kernel
  have e : k0_off31 v0 k = ![1, k0_off31 0#32 k 1, ccol v0 1#32] := by unfold k0_off31 ccol base; rfl
  rw [e, h]

theorem k0_off64_ceq (v0 : BitVec 32) (k0_t3 : Fin k0_t3_loop.trips) (k : Fin k0_t4_loop.trips) : k0_off64 v0 k0_t3 k = ![0, 32 * k.val, ccol v0 (fetchX k0_t3)] := by
  have h : ∀ k : Fin k0_t4_loop.trips, k0_off64 0#32 ⟨0, by decide⟩ k 1 = 32 * k.val := by decide +kernel
  have e : k0_off64 v0 k0_t3 k = ![0, k0_off64 0#32 ⟨0, by decide⟩ k 1, ccol v0 (fetchX k0_t3)] := by unfold k0_off64 ccol base fetchX; rfl
  rw [e, h]

theorem k0_off65_ceq (v0 : BitVec 32) (k0_t3 : Fin k0_t3_loop.trips) (k : Fin k0_t4_loop.trips) : k0_off65 v0 k0_t3 k = ![1, 32 * k.val, ccol v0 (fetchX k0_t3)] := by
  have h : ∀ k : Fin k0_t4_loop.trips, k0_off65 0#32 ⟨0, by decide⟩ k 1 = 32 * k.val := by decide +kernel
  have e : k0_off65 v0 k0_t3 k = ![1, k0_off65 0#32 ⟨0, by decide⟩ k 1, ccol v0 (fetchX k0_t3)] := by unfold k0_off65 ccol base fetchX; rfl
  rw [e, h]

theorem k0_off98_ceq (v0 : BitVec 32) (k0_t3 : Fin k0_t3_loop.trips) (k : Fin k0_t5_loop.trips) : k0_off98 v0 k0_t3 k = ![0, 32 * k.val, ccol v0 (Scalar.addi (fetchX k0_t3) 1#32)] := by
  have h : ∀ k : Fin k0_t5_loop.trips, k0_off98 0#32 ⟨0, by decide⟩ k 1 = 32 * k.val := by decide +kernel
  have e : k0_off98 v0 k0_t3 k = ![0, k0_off98 0#32 ⟨0, by decide⟩ k 1, ccol v0 (Scalar.addi (fetchX k0_t3) 1#32)] := by unfold k0_off98 ccol base fetchX; rfl
  rw [e, h]

theorem k0_off99_ceq (v0 : BitVec 32) (k0_t3 : Fin k0_t3_loop.trips) (k : Fin k0_t5_loop.trips) : k0_off99 v0 k0_t3 k = ![1, 32 * k.val, ccol v0 (Scalar.addi (fetchX k0_t3) 1#32)] := by
  have h : ∀ k : Fin k0_t5_loop.trips, k0_off99 0#32 ⟨0, by decide⟩ k 1 = 32 * k.val := by decide +kernel
  have e : k0_off99 v0 k0_t3 k = ![1, k0_off99 0#32 ⟨0, by decide⟩ k 1, ccol v0 (Scalar.addi (fetchX k0_t3) 1#32)] := by unfold k0_off99 ccol base fetchX; rfl
  rw [e, h]

end Cert.KernelIdeal.Hand
end
-- ==== Proof.Body.lean ====
module

public import proofs.«01_k».proof.Proof.Dec
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev aC0 : Memref sig .tc .smem S1 .i32 := Memref.whole cc0_stg0_0
abbrev aAcc : Memref sig .tc .vmem S512x128 .f32 := Memref.whole cc0_stg1_0
abbrev aW : Memref sig .tc .hbm S128x16384 .f32 := Memref.whole main_v1
abbrev aCd : Memref sig .tc .hbm S2x128x2048 .i8 := Memref.whole main_v3
abbrev aCb : Memref sig .tc .hbm S2x8x256 .bf16 := Memref.whole main_v4
abbrev aSc : Memref sig .tc .hbm S1x128 .f32 := Memref.whole main_arg3
abbrev aH : Memref sig .tc .hbm S512x16384 .f32 := Memref.whole main_v5
abbrev aR : Memref sig .tc .hbm S128x16384 .bf16 := Memref.whole main_v6_1
abbrev aWb : Memref sig .tc .vmem S16x128x1024 .f32 := Memref.whole cc0_scratch0
abbrev aHb : Memref sig .tc .vmem S16x512x1024 .f32 := Memref.whole cc0_scratch1
abbrev aRb : Memref sig .tc .vmem S16x128x1024 .bf16 := Memref.whole cc0_scratch2
abbrev aRa : Memref sig .tc .vmem S128x1024 .bf16 := Memref.whole cc0_scratch3
abbrev aRc : Memref sig .tc .vmem S128x1024 .bf16 := Memref.whole cc0_scratch4
abbrev aCodes : Memref sig .tc .vmem S2x128x2048 .i8 := Memref.whole cc0_scratch5
abbrev aCbv : Memref sig .tc .vmem S2x8x256 .bf16 := Memref.whole cc0_scratch6
abbrev aSv : Memref sig .tc .vmem S1x128 .f32 := Memref.whole cc0_scratch7
abbrev aTab : Memref sig .tc .vmem S2x8x2x8x128 .f32 := Memref.whole cc0_scratch8
abbrev aScol : Memref sig .tc .vmem S128x128 .f32 := Memref.whole cc0_scratch9

theorem slot_inb {n : ℕ} (h : n < 16) : ∀ a, (![n, 0, 0] : Fin 3 → ℕ) a + S1x128x1024.size a ≤ S16x128x1024.size a := by
  intro a
  match a with
  | ⟨0, _⟩ => show n + 1 ≤ 16; omega
  | ⟨1, _⟩ => show 0 + 128 ≤ 128; omega
  | ⟨2, _⟩ => show 0 + 1024 ≤ 1024; omega
theorem slotH_inb {n : ℕ} (h : n < 16) : ∀ a, (![n, 0, 0] : Fin 3 → ℕ) a + S1x512x1024.size a ≤ S16x512x1024.size a := by
  intro a
  match a with
  | ⟨0, _⟩ => show n + 1 ≤ 16; omega
  | ⟨1, _⟩ => show 0 + 512 ≤ 512; omega
  | ⟨2, _⟩ => show 0 + 1024 ≤ 1024; omega

/-- Slot `n` of the residual buffer. -/
abbrev wSlot (n : ℕ) (h : n < 16) : Memref sig .tc .vmem S128x1024 .f32 :=
  (aWb.slice (Rect.unit (s := S16x128x1024) ![n, 0, 0] S1x128x1024.size (slot_inb h)) (fun _ => rfl)).squeeze S128x1024 squeezes_S1x128x1024_S128x1024
/-- Slot `n` of the Hessian-row buffer. -/
abbrev hSlot (n : ℕ) (h : n < 16) : Memref sig .tc .vmem S512x1024 .f32 :=
  (aHb.slice (Rect.unit (s := S16x512x1024) ![n, 0, 0] S1x512x1024.size (slotH_inb h)) (fun _ => rfl)).squeeze S512x1024 squeezes_S1x512x1024_S512x1024

/-- The code of group `g` of row `r`, of the codebook `m`, in the block whose codes start at column `o`. -/
def tcode (XC : aCodes.view.ty.Contents (Elt F)) (o : ℕ) (m : Fin 2) (r : Fin 128) (g : ℕ) : BitVec 8 :=
  XC (ix3 (n0 := 2) (n1 := 128) (n2 := 2048) m r ⟨(o + g) % 2048, Nat.mod_lt _ (by decide)⟩)
/-- Entry `q` of column `e` of the codebook `m`, as the table holds it for row `r`. -/
def tent (XT : aTab.view.ty.Contents (Elt F)) (r : Fin 128) (m : Fin 2) (e : Fin 8) (q : Fin 256) : F .f32 :=
  XT (ix5 (n0 := 2) (n1 := 8) (n2 := 2) (n3 := 8) (n4 := 128) m e ⟨q.val / 128, by omega⟩ ⟨r.val % 8, by omega⟩ ⟨q.val % 128, by omega⟩)
/-- The residual at row `r` and column `cl` of a block: `x` less the scaled sum of the two codebook entries, narrowed. -/
def deci (XC : aCodes.view.ty.Contents (Elt F)) (XT : aTab.view.ty.Contents (Elt F)) (XS : aScol.view.ty.Contents (Elt F)) (o : ℕ)
    (x : F .f32) (r : Fin 128) (cl : Fin 1024) : F .bf16 :=
  FloatOps.truncf .bf16 bitsLt_bf16_f32 (FloatOps.subf x
    (FloatOps.mulf (XS (ix2 (n0 := 128) (n1 := 128) r ⟨cl.val % 128, Nat.mod_lt _ (by decide)⟩) : F .f32)
      (FloatOps.addf (tent XT r 0 ⟨cl.val % 8, Nat.mod_lt _ (by decide)⟩ ⟨(tcode XC o 0 r (cl.val / 8)).toNat, (tcode XC o 0 r (cl.val / 8)).isLt⟩)
        (tent XT r 1 ⟨cl.val % 8, Nat.mod_lt _ (by decide)⟩ ⟨(tcode XC o 1 r (cl.val / 8)).toNat, (tcode XC o 1 r (cl.val / 8)).isLt⟩))))
/-- The residual of slot `t`. -/
abbrev decs (XC : aCodes.view.ty.Contents (Elt F)) (XT : aTab.view.ty.Contents (Elt F)) (XS : aScol.view.ty.Contents (Elt F)) (o : ℕ)
    (t : Fin 16) (X : aWb.view.ty.Contents (Elt F)) : Fin 128 → Fin 1024 → F .bf16 :=
  fun r cl => deci XC XT XS o (X (ix3 (n0 := 16) (n1 := 128) (n2 := 1024) t r cl)) r cl

/-- Rows `32 k` to `32 k + 31` of slot `t` of the narrowed buffer, from the values `D`. -/
def bandR (t : ℕ) (D : Fin 128 → Fin 1024 → F .bf16) (k : ℕ) (g : aRb.view.ty.Contents (Elt F)) : aRb.view.ty.Contents (Elt F) :=
  fun y => if (y 0).val = t ∧ 32 * k ≤ (y 1).val ∧ (y 1).val < 32 * k + 32 then D (y 1) (y 2) else g y

/-- The narrowed buffer after `k` trips. -/
def updR (t : ℕ) (D : Fin 128 → Fin 1024 → F .bf16) (g : aRb.view.ty.Contents (Elt F)) : ℕ → aRb.view.ty.Contents (Elt F)
  | 0 => g
  | k + 1 => bandR t D k (updR t D g k)

/-- Rows `32 k` to `32 k + 31` of the matrix operand, from the values `D`. -/
def bandA (D : Fin 128 → Fin 1024 → F .bf16) (k : ℕ) (g : aRa.view.ty.Contents (Elt F)) : aRa.view.ty.Contents (Elt F) :=
  fun y => if 32 * k ≤ (y 0).val ∧ (y 0).val < 32 * k + 32 then D (y 0) (y 1) else g y

/-- The matrix operand after `k` trips of the loop of block `t` (the number only names the loop). -/
def updA (t : ℕ) (D : Fin 128 → Fin 1024 → F .bf16) (g : aRa.view.ty.Contents (Elt F)) : ℕ → aRa.view.ty.Contents (Elt F)
  | 0 => g
  | k + 1 => bandA D k (updA t D g k)

theorem forall_fin8 {P : Fin 8 → Prop} (h0 : P 0) (h1 : P 1) (h2 : P 2) (h3 : P 3) (h4 : P 4) (h5 : P 5) (h6 : P 6) (h7 : P 7) : ∀ i, P i := fun
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7

theorem shR_apply (p : FVec F S32x128 .bf16) (D : Fin 128 → Fin 1024 → F .bf16) (t k : ℕ) (i : Fin 8) (hk : k < 4) (o : Fin 3 → ℕ)
    (h : ∀ a, o a + S1x32x128.size a ≤ S16x128x1024.size a) (ho : o = ![t, 32 * k, 128 * i.val])
    (hp : ∀ (r : Fin 32) (j : Fin 128), p (ix2 r j) = D ⟨32 * k + r.val, by omega⟩ ⟨128 * i.val + j.val, by omega⟩) (x : S1x32x128.Idx) :
    shapeCast S1x32x128 p shapeCasts_S32x128_S1x32x128 x
      = D ((Rect.unit (s := S16x128x1024) o S1x32x128.size h).emb x 1) ((Rect.unit (s := S16x128x1024) o S1x32x128.size h).emb x 2) := by
  subst ho
  have e : x = ix3 (n0 := 1) (n1 := 32) (n2 := 128) 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have e2 : shapeCast S1x32x128 p shapeCasts_S32x128_S1x32x128 (ix3 (n0 := 1) (n1 := 32) (n2 := 128) 0 (x 1) (x 2)) = p (ix2 (n0 := 32) (n1 := 128) (x 1) (x 2)) := by
    simp only [pointwise]
  refine (congrArg _ e).trans (e2.trans ((hp (x 1) (x 2)).trans ?_))
  refine congr (congrArg D (Fin.ext ?_)) (Fin.ext ?_)
  · show 32 * k + (x 1).val = 32 * k + 1 * (x 1).val
    omega
  · show 128 * i.val + (x 2).val = 128 * i.val + 1 * (x 2).val
    omega

theorem shA_apply (p : FVec F S32x128 .bf16) (D : Fin 128 → Fin 1024 → F .bf16) (k : ℕ) (i : Fin 8) (hk : k < 4) (o : Fin 2 → ℕ)
    (h : ∀ a, o a + S32x128.size a ≤ S128x1024.size a) (ho : o = ![32 * k, 128 * i.val])
    (hp : ∀ (r : Fin 32) (j : Fin 128), p (ix2 r j) = D ⟨32 * k + r.val, by omega⟩ ⟨128 * i.val + j.val, by omega⟩) (x : S32x128.Idx) :
    shapeCast S32x128 p shapeCasts_S32x128_S32x128 x
      = D ((Rect.unit (s := S128x1024) o S32x128.size h).emb x 0) ((Rect.unit (s := S128x1024) o S32x128.size h).emb x 1) := by
  subst ho
  have e : x = ix2 (n0 := 32) (n1 := 128) (x 0) (x 1) := by
    funext a
    match a with
    | ⟨0, _⟩ => rfl
    | ⟨1, _⟩ => rfl
  have e2 : shapeCast S32x128 p shapeCasts_S32x128_S32x128 x = p x := by
    unfold shapeCast
    rw [Shape.reshapeEquiv_self]
  refine e2.trans ((congrArg p e).trans ((hp (x 0) (x 1)).trans ?_))
  refine congr (congrArg D (Fin.ext ?_)) (Fin.ext ?_)
  · show 32 * k + (x 0).val = 32 * k + 1 * (x 0).val
    omega
  · show 128 * i.val + (x 1).val = 128 * i.val + 1 * (x 1).val
    omega

theorem bandR_eq (t k : ℕ) (D : Fin 128 → Fin 1024 → F .bf16) (g : aRb.view.ty.Contents (Elt F)) (o : Fin 8 → Fin 3 → ℕ)
    (h : ∀ i a, o i a + S1x32x128.size a ≤ S16x128x1024.size a) (ho : ∀ i, o i = ![t, 32 * k, 128 * i.val]) (hk : k < 4) (p : Fin 8 → FVec F S32x128 .bf16)
    (hp : ∀ (i : Fin 8) (r : Fin 32) (j : Fin 128), p i (ix2 r j) = D ⟨32 * k + r.val, by omega⟩ ⟨128 * i.val + j.val, by omega⟩) :
    aRb.view.writes (Elt F) g [⟨Rect.unit (s := S16x128x1024) (o 7) S1x32x128.size (h 7), shapeCast S1x32x128 (p 7) shapeCasts_S32x128_S1x32x128⟩,
      ⟨Rect.unit (s := S16x128x1024) (o 6) S1x32x128.size (h 6), shapeCast S1x32x128 (p 6) shapeCasts_S32x128_S1x32x128⟩,
      ⟨Rect.unit (s := S16x128x1024) (o 5) S1x32x128.size (h 5), shapeCast S1x32x128 (p 5) shapeCasts_S32x128_S1x32x128⟩,
      ⟨Rect.unit (s := S16x128x1024) (o 4) S1x32x128.size (h 4), shapeCast S1x32x128 (p 4) shapeCasts_S32x128_S1x32x128⟩,
      ⟨Rect.unit (s := S16x128x1024) (o 3) S1x32x128.size (h 3), shapeCast S1x32x128 (p 3) shapeCasts_S32x128_S1x32x128⟩,
      ⟨Rect.unit (s := S16x128x1024) (o 2) S1x32x128.size (h 2), shapeCast S1x32x128 (p 2) shapeCasts_S32x128_S1x32x128⟩,
      ⟨Rect.unit (s := S16x128x1024) (o 1) S1x32x128.size (h 1), shapeCast S1x32x128 (p 1) shapeCasts_S32x128_S1x32x128⟩,
      ⟨Rect.unit (s := S16x128x1024) (o 0) S1x32x128.size (h 0), shapeCast S1x32x128 (p 0) shapeCasts_S32x128_S1x32x128⟩] = bandR t D k g := by
  have hmem : ∀ (L : List (View.Piece (Elt F) S16x128x1024 .bf16)), L = List.map (fun i : Fin 8 => (⟨Rect.unit (s := S16x128x1024) (o i) S1x32x128.size (h i), shapeCast S1x32x128 (p i) shapeCasts_S32x128_S1x32x128⟩ : View.Piece (Elt F) S16x128x1024 .bf16)) [7, 6, 5, 4, 3, 2, 1, 0] →
      aRb.view.writes (Elt F) g L = bandR t D k g := by
    intro L hL
    funext y
    show aRb.view.read (Elt F) (aRb.view.writes (Elt F) g L) y = _
    unfold bandR
    split
    · rename_i hy
      rw [View.read_writes_apply_of_pieces aRb.view g (fun y => D (y 1) (y 2)) L]
      · intro q hq x
        rw [hL, List.mem_map] at hq
        obtain ⟨i, -, rfl⟩ := hq
        exact shR_apply (p i) D t k i hk (o i) (h i) (ho i) (hp i) x
      · have hc : (y 2).val < 1024 := (y 2).isLt
        have hi : (y 2).val / 128 < 8 := by omega
        refine ⟨⟨Rect.unit (s := S16x128x1024) (o ⟨(y 2).val / 128, hi⟩) S1x32x128.size (h ⟨(y 2).val / 128, hi⟩), shapeCast S1x32x128 (p ⟨(y 2).val / 128, hi⟩) shapeCasts_S32x128_S1x32x128⟩, ?_, ?_⟩
        · rw [hL, List.mem_map]
          refine ⟨⟨(y 2).val / 128, hi⟩, ?_, rfl⟩
          generalize (⟨(y 2).val / 128, hi⟩ : Fin 8) = q
          revert q; decide
        · rw [Rect.mem_set_unit, ho]
          intro a
          match a with
          | ⟨0, _⟩ => show t ≤ (y 0).val ∧ (y 0).val < t + 1; omega
          | ⟨1, _⟩ => show 32 * k ≤ (y 1).val ∧ (y 1).val < 32 * k + 32; omega
          | ⟨2, _⟩ => show 128 * ((y 2).val / 128) ≤ (y 2).val ∧ (y 2).val < 128 * ((y 2).val / 128) + 128; omega
    · rename_i hy
      rw [View.read_writes_apply_of_forall_not_mem aRb.view g y L]
      · rfl
      · intro q hq hm
        rw [hL, List.mem_map] at hq
        obtain ⟨i, -, rfl⟩ := hq
        rw [Rect.mem_set_unit, ho] at hm
        apply hy
        have h0 : t ≤ (y 0).val ∧ (y 0).val < t + 1 := hm 0
        have h1 : 32 * k ≤ (y 1).val ∧ (y 1).val < 32 * k + 32 := hm 1
        omega
  exact hmem _ rfl

theorem bandA_eq (v : View sig .tc .vmem S128x1024 .bf16) (k : ℕ) (D : Fin 128 → Fin 1024 → F .bf16) (g : v.ty.Contents (Elt F))
    (q : Fin 8 → Fin 2 → ℕ) (hq : ∀ i a, q i a + S32x128.size a ≤ S128x1024.size a) (hqe : ∀ i, q i = ![32 * k, 128 * i.val]) (hk : k < 4) (p : Fin 8 → FVec F S32x128 .bf16)
    (hp : ∀ (i : Fin 8) (r : Fin 32) (j : Fin 128), p i (ix2 r j) = D ⟨32 * k + r.val, by omega⟩ ⟨128 * i.val + j.val, by omega⟩) :
    v.read (Elt F) (v.writes (Elt F) g [⟨Rect.unit (s := S128x1024) (q 7) S32x128.size (hq 7), shapeCast S32x128 (p 7) shapeCasts_S32x128_S32x128⟩,
      ⟨Rect.unit (s := S128x1024) (q 6) S32x128.size (hq 6), shapeCast S32x128 (p 6) shapeCasts_S32x128_S32x128⟩,
      ⟨Rect.unit (s := S128x1024) (q 5) S32x128.size (hq 5), shapeCast S32x128 (p 5) shapeCasts_S32x128_S32x128⟩,
      ⟨Rect.unit (s := S128x1024) (q 4) S32x128.size (hq 4), shapeCast S32x128 (p 4) shapeCasts_S32x128_S32x128⟩,
      ⟨Rect.unit (s := S128x1024) (q 3) S32x128.size (hq 3), shapeCast S32x128 (p 3) shapeCasts_S32x128_S32x128⟩,
      ⟨Rect.unit (s := S128x1024) (q 2) S32x128.size (hq 2), shapeCast S32x128 (p 2) shapeCasts_S32x128_S32x128⟩,
      ⟨Rect.unit (s := S128x1024) (q 1) S32x128.size (hq 1), shapeCast S32x128 (p 1) shapeCasts_S32x128_S32x128⟩,
      ⟨Rect.unit (s := S128x1024) (q 0) S32x128.size (hq 0), shapeCast S32x128 (p 0) shapeCasts_S32x128_S32x128⟩]) = bandA D k (v.read (Elt F) g) := by
  have hmem : ∀ (L : List (View.Piece (Elt F) S128x1024 .bf16)), L = List.map (fun i : Fin 8 => (⟨Rect.unit (s := S128x1024) (q i) S32x128.size (hq i), shapeCast S32x128 (p i) shapeCasts_S32x128_S32x128⟩ : View.Piece (Elt F) S128x1024 .bf16)) [7, 6, 5, 4, 3, 2, 1, 0] →
      v.read (Elt F) (v.writes (Elt F) g L) = bandA D k (v.read (Elt F) g) := by
    intro L hL
    funext y
    unfold bandA
    split
    · rename_i hy
      rw [View.read_writes_apply_of_pieces v g (fun y => D (y 0) (y 1)) L]
      · intro z hz x
        rw [hL, List.mem_map] at hz
        obtain ⟨i, -, rfl⟩ := hz
        exact shA_apply (p i) D k i hk (q i) (hq i) (hqe i) (hp i) x
      · have hc : (y 1).val < 1024 := (y 1).isLt
        have hi : (y 1).val / 128 < 8 := by omega
        refine ⟨⟨Rect.unit (s := S128x1024) (q ⟨(y 1).val / 128, hi⟩) S32x128.size (hq ⟨(y 1).val / 128, hi⟩), shapeCast S32x128 (p ⟨(y 1).val / 128, hi⟩) shapeCasts_S32x128_S32x128⟩, ?_, ?_⟩
        · rw [hL, List.mem_map]
          refine ⟨⟨(y 1).val / 128, hi⟩, ?_, rfl⟩
          generalize (⟨(y 1).val / 128, hi⟩ : Fin 8) = q
          revert q; decide
        · rw [Rect.mem_set_unit, hqe]
          intro a
          match a with
          | ⟨0, _⟩ => show 32 * k ≤ (y 0).val ∧ (y 0).val < 32 * k + 32; omega
          | ⟨1, _⟩ => show 128 * ((y 1).val / 128) ≤ (y 1).val ∧ (y 1).val < 128 * ((y 1).val / 128) + 128; omega
    · rename_i hy
      rw [View.read_writes_apply_of_forall_not_mem v g y L]
      · intro z hz hm
        rw [hL, List.mem_map] at hz
        obtain ⟨i, -, rfl⟩ := hz
        rw [Rect.mem_set_unit, hqe] at hm
        apply hy
        have h1 : 32 * k ≤ (y 0).val ∧ (y 0).val < 32 * k + 32 := hm 0
        omega
  exact hmem _ rfl

theorem inb_tab (m : Fin 2) (e : Fin 8) (hf : Fin 2) : ∀ a, (![m.val, e.val, hf.val, 0, 0] : Fin 5 → ℕ) a + S1x1x1x8x128.size a ≤ S2x8x2x8x128.size a := by
  intro a
  match a with
  | ⟨0, _⟩ => show m.val + 1 ≤ 2; omega
  | ⟨1, _⟩ => show e.val + 1 ≤ 8; omega
  | ⟨2, _⟩ => show hf.val + 1 ≤ 2; omega
  | ⟨3, _⟩ => show 0 + 8 ≤ 8; omega
  | ⟨4, _⟩ => show 0 + 128 ≤ 128; omega

/-- The table's rows, as the loops load them. -/
def tabs (XT : aTab.view.ty.Contents (Elt F)) (m : Fin 2) (e : Fin 8) (hf : Fin 2) : Vec F S1x1x1x8x128 .f32 :=
  aTab.view.readAt (Elt F) (Rect.unit (s := S2x8x2x8x128) ![m.val, e.val, hf.val, 0, 0] S1x1x1x8x128.size (inb_tab m e hf)).toLoadRect XT

theorem tabs_at (XT : aTab.view.ty.Contents (Elt F)) (m : Fin 2) (e : Fin 8) (hf : Fin 2) (r : Fin 8) (l : Fin 128) :
    tabs XT m e hf (ix5 (n0 := 1) (n1 := 1) (n2 := 1) (n3 := 8) (n4 := 128) 0 0 0 r l) = XT (ix5 (n0 := 2) (n1 := 8) (n2 := 2) (n3 := 8) (n4 := 128) m e hf r l) := by
  show XT ((Rect.unit (s := S2x8x2x8x128) ![m.val, e.val, hf.val, 0, 0] S1x1x1x8x128.size (inb_tab m e hf)).emb _) = _
  congr 1
  funext a
  apply Fin.ext
  match a with
  | ⟨0, _⟩ => show m.val + 1 * 0 = m.val; omega
  | ⟨1, _⟩ => show e.val + 1 * 0 = e.val; omega
  | ⟨2, _⟩ => show hf.val + 1 * 0 = hf.val; omega
  | ⟨3, _⟩ => show 0 + 1 * r.val = r.val; omega
  | ⟨4, _⟩ => show 0 + 1 * l.val = l.val; omega

/-- A band of thirty-two rows of the residual, as a trip computes it from what it loads. -/
def pval (XC : aCodes.view.ty.Contents (Elt F)) (XT : aTab.view.ty.Contents (Elt F)) (XS : aScol.view.ty.Contents (Elt F)) (X : aWb.view.ty.Contents (Elt F))
    (oc : Fin 2 → Fin 3 → ℕ) (hc : ∀ m a, oc m a + S1x32x128.size a ≤ S2x128x2048.size a)
    (os : Fin 4 → Fin 2 → ℕ) (hs : ∀ q a, os q a + S8x128.size a ≤ S128x128.size a)
    (ow : Fin 8 → Fin 4 → Fin 3 → ℕ) (hw : ∀ i q a, ow i q a + S1x8x128.size a ≤ S16x128x1024.size a) (i : Fin 8) : FVec F S32x128 .bf16 :=
  rband (cgrp (aCodes.view.readAt (Elt F) (Rect.unit (s := S2x128x2048) (oc 0) S1x32x128.size (hc 0)).toLoadRect XC))
    (cgrp (aCodes.view.readAt (Elt F) (Rect.unit (s := S2x128x2048) (oc 1) S1x32x128.size (hc 1)).toLoadRect XC))
    (tabs XT)
    (fun q => aScol.view.readAt (Elt F) (Rect.unit (s := S128x128) (os q) S8x128.size (hs q)).toLoadRect XS)
    (fun q => aWb.view.readAt (Elt F) (Rect.unit (s := S16x128x1024) (ow i q) S1x8x128.size (hw i q)).toLoadRect X) i

theorem pval_at (XC : aCodes.view.ty.Contents (Elt F)) (XT : aTab.view.ty.Contents (Elt F)) (XS : aScol.view.ty.Contents (Elt F)) (X : aWb.view.ty.Contents (Elt F))
    (oc : Fin 2 → Fin 3 → ℕ) (hc : ∀ m a, oc m a + S1x32x128.size a ≤ S2x128x2048.size a)
    (os : Fin 4 → Fin 2 → ℕ) (hs : ∀ q a, os q a + S8x128.size a ≤ S128x128.size a)
    (ow : Fin 8 → Fin 4 → Fin 3 → ℕ) (hw : ∀ i q a, ow i q a + S1x8x128.size a ≤ S16x128x1024.size a)
    (k o : ℕ) (t : Fin 16) (hk : k < 4) (hoc : ∀ m, oc m = ![m.val, 32 * k, o]) (hos : ∀ q, os q = ![32 * k + 8 * q.val, 0])
    (how : ∀ i q, ow i q = ![t.val, 32 * k + 8 * q.val, 128 * i.val]) (i : Fin 8) (r : Fin 32) (j : Fin 128) :
    pval XC XT XS X oc hc os hs ow hw i (ix2 r j) = decs XC XT XS o t X ⟨32 * k + r.val, by omega⟩ ⟨128 * i.val + j.val, by omega⟩ := by
  have hq : r.val / 8 < 4 := by omega
  have ho : o + 128 ≤ 2048 := by
    have := hc 0 2
    rw [hoc] at this
    exact this
  have hcode : ∀ (m : Fin 2), cgrp (aCodes.view.readAt (Elt F) (Rect.unit (s := S2x128x2048) (oc m) S1x32x128.size (hc m)).toLoadRect XC) ⟨r.val / 8, hq⟩ (ix2 ⟨r.val % 8, by omega⟩ ⟨j.val / 8 * 8 + i.val, by omega⟩)
      = BitVec.setWidth 32 (tcode XC o m ⟨32 * k + r.val, by omega⟩ ((128 * i.val + j.val) / 8)) := by
    intro m
    rw [cgrp_at]
    refine congrArg (BitVec.setWidth 32) (congrArg XC (?_ : (Rect.unit (s := S2x128x2048) (oc m) S1x32x128.size (hc m)).emb _ = _))
    have e1 := hoc m
    funext a
    apply Fin.ext
    match a with
    | ⟨0, _⟩ => exact (Nat.add_zero _).trans (congrFun e1 0)
    | ⟨1, _⟩ => exact (congrArg (· + 1 * (8 * (r.val / 8) + r.val % 8)) (congrFun e1 1)).trans (by show 32 * k + 1 * (8 * (r.val / 8) + r.val % 8) = 32 * k + r.val; omega)
    | ⟨2, _⟩ =>
      refine (congrArg (· + 1 * ((j.val / 8 * 8 + i.val) % 8 * 16 + (j.val / 8 * 8 + i.val) / 8)) (congrFun e1 2)).trans ?_
      show o + 1 * ((j.val / 8 * 8 + i.val) % 8 * 16 + (j.val / 8 * 8 + i.val) / 8) = (o + (128 * i.val + j.val) / 8) % 2048
      have a1 : (128 * i.val + j.val) / 8 = 16 * i.val + j.val / 8 := by omega
      have a2 : (j.val / 8 * 8 + i.val) % 8 = i.val := by omega
      have a3 : (j.val / 8 * 8 + i.val) / 8 = j.val / 8 := by omega
      rw [a1, a2, a3, Nat.mod_eq_of_lt (by omega)]
      omega
  unfold pval
  rw [rband_at, rpart_at _ _ _ _ _ i ⟨r.val % 8, by omega⟩ j (tent XT ⟨32 * k + r.val, by omega⟩) _ _ (hcode 0) (hcode 1) (by
    intro m e hf l
    rw [tabs_at]
    unfold tent
    congr 1
    funext a
    apply Fin.ext
    match a with
    | ⟨0, _⟩ => rfl
    | ⟨1, _⟩ => rfl
    | ⟨2, _⟩ => show hf.val = (128 * hf.val + l.val) / 128; omega
    | ⟨3, _⟩ => show r.val % 8 = (32 * k + r.val) % 8; omega
    | ⟨4, _⟩ => show l.val = (128 * hf.val + l.val) % 128; omega)]
  have hx : aWb.view.readAt (Elt F) (Rect.unit (s := S16x128x1024) (ow i ⟨r.val / 8, hq⟩) S1x8x128.size (hw i ⟨r.val / 8, hq⟩)).toLoadRect X (ix3 (n0 := 1) (n1 := 8) (n2 := 128) 0 ⟨r.val % 8, by omega⟩ j)
      = X (ix3 (n0 := 16) (n1 := 128) (n2 := 1024) t ⟨32 * k + r.val, by omega⟩ ⟨128 * i.val + j.val, by omega⟩) := by
    refine congrArg X (?_ : (Rect.unit (s := S16x128x1024) (ow i ⟨r.val / 8, hq⟩) S1x8x128.size (hw i ⟨r.val / 8, hq⟩)).emb _ = _)
    have e1 := how i ⟨r.val / 8, hq⟩
    funext a
    apply Fin.ext
    match a with
    | ⟨0, _⟩ => exact (Nat.add_zero _).trans (congrFun e1 0)
    | ⟨1, _⟩ => exact (congrArg (· + 1 * (r.val % 8)) (congrFun e1 1)).trans (by show 32 * k + 8 * (r.val / 8) + 1 * (r.val % 8) = 32 * k + r.val; omega)
    | ⟨2, _⟩ => exact (congrArg (· + 1 * j.val) (congrFun e1 2)).trans (by show 128 * i.val + 1 * j.val = 128 * i.val + j.val; omega)
  have hsx : aScol.view.readAt (Elt F) (Rect.unit (s := S128x128) (os ⟨r.val / 8, hq⟩) S8x128.size (hs ⟨r.val / 8, hq⟩)).toLoadRect XS (ix2 (n0 := 8) (n1 := 128) ⟨r.val % 8, by omega⟩ j)
      = XS (ix2 (n0 := 128) (n1 := 128) ⟨32 * k + r.val, by omega⟩ ⟨(128 * i.val + j.val) % 128, Nat.mod_lt _ (by decide)⟩) := by
    refine congrArg XS (?_ : (Rect.unit (s := S128x128) (os ⟨r.val / 8, hq⟩) S8x128.size (hs ⟨r.val / 8, hq⟩)).emb _ = _)
    have e1 := hos ⟨r.val / 8, hq⟩
    funext a
    apply Fin.ext
    match a with
    | ⟨0, _⟩ => exact (congrArg (· + 1 * (r.val % 8)) (congrFun e1 0)).trans (by show 32 * k + 8 * (r.val / 8) + 1 * (r.val % 8) = 32 * k + r.val; omega)
    | ⟨1, _⟩ => exact (congrArg (· + 1 * j.val) (congrFun e1 1)).trans (by show 0 + 1 * j.val = (128 * i.val + j.val) % 128; omega)
  rw [hx, hsx]
  have he : (⟨j.val % 8, Nat.mod_lt _ (by decide)⟩ : Fin 8) = ⟨(128 * i.val + j.val) % 8, Nat.mod_lt _ (by decide)⟩ := Fin.ext (by show j.val % 8 = (128 * i.val + j.val) % 8; omega)
  rw [he]
  rfl

abbrev slot2 (i : Fin k0_t3_loop.trips) : Fin 16 := ⟨2 * i.val + 2, by have : i.val < 7 := Nat.lt_of_lt_of_le i.isLt k0_t3_abs.2.1; omega⟩
abbrev slot3 (i : Fin k0_t3_loop.trips) : Fin 16 := ⟨2 * i.val + 3, by have : i.val < 7 := Nat.lt_of_lt_of_le i.isLt k0_t3_abs.2.1; omega⟩

theorem forall_fin2 {P : Fin 2 → Prop} (h0 : P 0) (h1 : P 1) : ∀ i, P i := fun
  | ⟨0, _⟩ => h0 | ⟨1, _⟩ => h1

end Cert.KernelIdeal.Hand
end
-- ==== Proof.Vals.lean ====
module

public import proofs.«01_k».proof.Proof.Body
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.VecWindow
public import Idealize.ShloMosaic.Lib.Pointwise
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev rWin (v0 : Elt F .i32) (hw : k0_chk1 v0) (i : Fin 16) : Memref sig .tc .hbm S128x1024 .bf16 :=
  aR.slice (Rect.unit (s := S128x16384) (k0_off1 v0 (BitVec.ofNat 32 i.val)) S128x1024.size (k0_off1_inb v0 hw i)) (fun _ => rfl)

/-- A coordinate of an element of a rectangle of unit strides. -/
theorem unit_emb_val {s : Shape} (off size : Fin s.rank → ℕ) (inb : ∀ a, off a + size a ≤ s.size a) (x : (Rect.unit (s := s) off size inb).shape.Idx) (a : Fin s.rank) :
    ((Rect.unit (s := s) off size inb).emb x a).val = off a + (x a).val := by
  rw [Rect.emb_apply]
  show off a + 1 * (x a).val = _
  omega

/-- Block `i` of the residual: the columns that the transfer into slot `i` of the residual buffer reads. -/
def wV (v0 : Elt F .i32) (hw : k0_chk1 v0) (fw : aW.view.ty.Contents (Elt F)) (i : Fin 16) : S128x1024.Idx → Elt F .f32 :=
  fun x => fw ((Rect.unit (s := S128x16384) (k0_off1 v0 (BitVec.ofNat 32 i.val)) S128x1024.size (k0_off1_inb v0 hw i)).emb x)

/-- Block `i` of the Hessian rows. -/
def hV (v0 : Elt F .i32) (hw : k0_chk1 v0) (fh : aH.view.ty.Contents (Elt F)) (i : Fin 16) : S512x1024.Idx → Elt F .f32 :=
  fun x => fh ((Rect.unit (s := S512x16384) (k0_off2 v0 (BitVec.ofNat 32 i.val)) S512x1024.size (k0_off2_inb v0 hw i)).emb x)

/-- The residual buffer with `p` landed in slot `i`. -/
abbrev wX (i : Fin 16) (p : S128x1024.Idx → Elt F .f32) : aWb.view.ty.Contents (Elt F) :=
  (wSlot i.val i.isLt).view.writes (Elt F) (wSlot i.val i.isLt).view.junk [⟨Rect.whole S128x1024, p⟩]
/-- The Hessian-row buffer with `p` landed in slot `i`. -/
abbrev hX (i : Fin 16) (p : S512x1024.Idx → Elt F .f32) : aHb.view.ty.Contents (Elt F) :=
  (hSlot i.val i.isLt).view.writes (Elt F) (hSlot i.val i.isLt).view.junk [⟨Rect.whole S512x1024, p⟩]

theorem wSlot_emb (i : Fin 16) (a : Fin 128) (b : Fin 1024) : (wSlot i.val i.isLt).view.emb (ix2 a b) = ix3 (n0 := 16) (n1 := 128) (n2 := 1024) i a b := by
  have e : Shape.reshapeEquiv (Shape.Squeezes.numel_eq squeezes_S1x128x1024_S128x1024) (ix2 a b) = ix3 (n0 := 1) (n1 := 128) (n2 := 1024) 0 a b :=
    (Shape.reshapeEquiv_cons_one (d := ![128, 1024]) (Shape.Squeezes.numel_eq squeezes_S1x128x1024_S128x1024) (ix2 a b)).trans (by funext a; fin_cases a <;> rfl)
  show (Rect.unit (s := S16x128x1024) ![i.val, 0, 0] S1x128x1024.size (slot_inb i.isLt)).emb (Shape.reshapeEquiv _ (ix2 a b)) = _
  refine (congrArg (Rect.unit (s := S16x128x1024) ![i.val, 0, 0] S1x128x1024.size (slot_inb i.isLt)).emb e).trans ?_
  funext d
  apply Fin.ext
  refine (unit_emb_val (s := S16x128x1024) _ _ _ _ d).trans ?_
  match d with
  | ⟨0, _⟩ => rfl
  | ⟨1, _⟩ => exact Nat.zero_add _
  | ⟨2, _⟩ => exact Nat.zero_add _

theorem hSlot_emb (i : Fin 16) (a : Fin 512) (b : Fin 1024) : (hSlot i.val i.isLt).view.emb (ix2 a b) = ix3 (n0 := 16) (n1 := 512) (n2 := 1024) i a b := by
  have e : Shape.reshapeEquiv (Shape.Squeezes.numel_eq squeezes_S1x512x1024_S512x1024) (ix2 a b) = ix3 (n0 := 1) (n1 := 512) (n2 := 1024) 0 a b :=
    (Shape.reshapeEquiv_cons_one (d := ![512, 1024]) (Shape.Squeezes.numel_eq squeezes_S1x512x1024_S512x1024) (ix2 a b)).trans (by funext a; fin_cases a <;> rfl)
  show (Rect.unit (s := S16x512x1024) ![i.val, 0, 0] S1x512x1024.size (slotH_inb i.isLt)).emb (Shape.reshapeEquiv _ (ix2 a b)) = _
  refine (congrArg (Rect.unit (s := S16x512x1024) ![i.val, 0, 0] S1x512x1024.size (slotH_inb i.isLt)).emb e).trans ?_
  funext d
  apply Fin.ext
  refine (unit_emb_val (s := S16x512x1024) _ _ _ _ d).trans ?_
  match d with
  | ⟨0, _⟩ => rfl
  | ⟨1, _⟩ => exact Nat.zero_add _
  | ⟨2, _⟩ => exact Nat.zero_add _

theorem wSlot_read (i : Fin 16) (a : Fin 128) (b : Fin 1024) (f : aWb.view.ty.Contents (Elt F)) :
    (wSlot i.val i.isLt).view.read (Elt F) f (ix2 a b) = f (ix3 (n0 := 16) (n1 := 128) (n2 := 1024) i a b) := congrArg f (wSlot_emb i a b)

theorem wX_apply (i : Fin 16) (p : S128x1024.Idx → Elt F .f32) (a : Fin 128) (b : Fin 1024) :
    wX i p (ix3 (n0 := 16) (n1 := 128) (n2 := 1024) i a b) = p (ix2 a b) := by
  have h := congrFun (View.read_writes_whole (wSlot i.val i.isLt).view (wSlot i.val i.isLt).view.junk p) (ix2 a b)
  exact (wSlot_read i a b _).symm.trans h

theorem hSlot_read (i : Fin 16) (a : Fin 512) (b : Fin 1024) (f : aHb.view.ty.Contents (Elt F)) :
    (hSlot i.val i.isLt).view.read (Elt F) f (ix2 a b) = f (ix3 (n0 := 16) (n1 := 512) (n2 := 1024) i a b) := congrArg f (hSlot_emb i a b)

theorem hX_apply (i : Fin 16) (p : S512x1024.Idx → Elt F .f32) (a : Fin 512) (b : Fin 1024) :
    hX i p (ix3 (n0 := 16) (n1 := 512) (n2 := 1024) i a b) = p (ix2 a b) := by
  have h := congrFun (View.read_writes_whole (hSlot i.val i.isLt).view (hSlot i.val i.isLt).view.junk p) (ix2 a b)
  exact (hSlot_read i a b _).symm.trans h

/-- What the product of block `i` reads of the Hessian rows. -/
def hblk (v0 : Elt F .i32) (hw : k0_chk1 v0) (fh : aH.view.ty.Contents (Elt F)) (i : Fin 16) : Vec F S1x512x1024 .f32 :=
  fun z => hV v0 hw fh i (ix2 (n0 := 512) (n1 := 1024) (z 1) (z 2))
/-- What the product of block `i` reads of the residual: the values `D` of the block. -/
def rblk (D : Fin 16 → Fin 128 → Fin 1024 → F .bf16) (i : Fin 16) : Vec F S128x1024 .bf16 :=
  fun x => D i (x 0) (x 1)

/-- The accumulator after the products of the first `n` blocks. -/
def accAt (v0 : Elt F .i32) (hw : k0_chk1 v0) (D : Fin 16 → Fin 128 → Fin 1024 → F .bf16) (fh : aH.view.ty.Contents (Elt F)) : ℕ → Vec F S512x128 .f32
  | 0 => k0_pay1789
  | n + 1 => k0_pay1790 (accAt v0 hw D fh n) (hblk v0 hw fh (Fin.ofNat 16 n)) (rblk D (Fin.ofNat 16 n))

/-- A load of slot `i` of the Hessian-row buffer, once block `i` has landed. -/
theorem hload (v0 : Elt F .i32) (hw : k0_chk1 v0) (fh : aH.view.ty.Contents (Elt F)) (i : Fin 16) (h : ∀ a, (![i.val, 0, 0] : Fin 3 → ℕ) a + S1x512x1024.size a ≤ S16x512x1024.size a) :
    aHb.view.readAt (Elt F) (Rect.unit (s := S16x512x1024) ![i.val, 0, 0] S1x512x1024.size h).toLoadRect (hX i (hV v0 hw fh i)) = hblk v0 hw fh i := by
  funext z
  have e : (Rect.unit (s := S16x512x1024) ![i.val, 0, 0] S1x512x1024.size h).emb z = ix3 (n0 := 16) (n1 := 512) (n2 := 1024) i (z 1) (z 2) := by
    funext d
    apply Fin.ext
    refine (unit_emb_val (s := S16x512x1024) _ _ _ _ d).trans ?_
    match d with
    | ⟨0, _⟩ => show i.val + (z 0).val = i.val; have : (z 0).val < 1 := (z 0).isLt; omega
    | ⟨1, _⟩ => exact Nat.zero_add _
    | ⟨2, _⟩ => exact Nat.zero_add _
  have hr : ∀ f : aHb.view.ty.Contents (Elt F), aHb.view.readAt (Elt F) (Rect.unit (s := S16x512x1024) ![i.val, 0, 0] S1x512x1024.size h).toLoadRect f z = f (ix3 (n0 := 16) (n1 := 512) (n2 := 1024) i (z 1) (z 2)) :=
    fun f => congrArg f e
  exact (hr _).trans (hX_apply i _ _ _)

theorem updA_four (t : ℕ) (D : Fin 128 → Fin 1024 → F .bf16) (g : aRa.view.ty.Contents (Elt F)) (y : S128x1024.Idx) :
    updA t D g 4 y = D (y 0) (y 1) := by
  have hy : (y 0).val < 128 := (y 0).isLt
  show bandA D 3 (bandA D 2 (bandA D 1 (bandA D 0 g))) y = _
  unfold bandA
  split; · rfl
  split; · rfl
  split; · rfl
  split; · rfl
  exfalso; rename_i h3 h2 h1 h0
  have : ((y 0).val / 32 = 0 ∨ (y 0).val / 32 = 1 ∨ (y 0).val / 32 = 2 ∨ (y 0).val / 32 = 3) := by omega
  omega

/-- A load of the whole of a matrix operand, filled from slot `i`. -/
theorem aload (i : Fin 16) (t : ℕ) (D : Fin 16 → Fin 128 → Fin 1024 → F .bf16) (g : aRa.view.ty.Contents (Elt F)) :
    (fun x : S128x1024.Idx => updA t (D i) g 4 ((Rect.unit (s := S128x1024) ![0, 0] S128x1024.size inb_S128x1024_S128x1024_0_0).emb x)) = rblk D i := by
  funext x
  have e : (Rect.unit (s := S128x1024) ![0, 0] S128x1024.size inb_S128x1024_S128x1024_0_0).emb x = x := Rect.emb_unit_full (s := S128x1024) (off := ![0, 0]) inb_S128x1024_S128x1024_0_0 x
  show updA t (D i) g 4 _ = _
  rw [e]
  exact updA_four t (D i) g x

theorem load_ra (i : Fin 16) (t : ℕ) (D : Fin 16 → Fin 128 → Fin 1024 → F .bf16) (g : aRa.view.ty.Contents (Elt F)) :
    aRa.view.readAt (Elt F) (Rect.unit (s := S128x1024) ![0, 0] S128x1024.size inb_S128x1024_S128x1024_0_0).toLoadRect (updA t (D i) g 4) = rblk D i :=
  aload i t D g
theorem load_rc (i : Fin 16) (t : ℕ) (D : Fin 16 → Fin 128 → Fin 1024 → F .bf16) (g : aRc.view.ty.Contents (Elt F)) :
    aRc.view.readAt (Elt F) (Rect.unit (s := S128x1024) ![0, 0] S128x1024.size inb_S128x1024_S128x1024_0_0).toLoadRect (updA t (D i) g 4) = rblk D i :=
  aload i t D g

/-- The accumulator's whole box. -/
abbrev boxAcc : Rect S512x128 := Rect.unit (s := S512x128) ![0, 0] S512x128.size inb_S512x128_S512x128_0_0

/-- The list of stores `L` into the accumulator ends with the sum over the first `n` blocks. -/
def AccL (v0 : Elt F .i32) (hw : k0_chk1 v0) (D : Fin 16 → Fin 128 → Fin 1024 → F .bf16) (fh : aH.view.ty.Contents (Elt F)) (n : ℕ) (L : List (View.Piece (Elt F) S512x128 .f32)) : Prop :=
  ∃ L', L = ⟨boxAcc, accAt v0 hw D fh n⟩ :: L'

theorem AccL_zero (v0 : Elt F .i32) (hw : k0_chk1 v0) (D : Fin 16 → Fin 128 → Fin 1024 → F .bf16) (fh : aH.view.ty.Contents (Elt F)) :
    AccL v0 hw D fh 0 [⟨boxAcc, k0_pay1789⟩] := ⟨[], rfl⟩

theorem AccL_step (v0 : Elt F .i32) (hw : k0_chk1 v0) (D : Fin 16 → Fin 128 → Fin 1024 → F .bf16) (fh : aH.view.ty.Contents (Elt F)) (n : ℕ)
    (L : List (View.Piece (Elt F) S512x128 .f32)) (p : Vec F S512x128 .f32) (zh : Vec F S1x512x1024 .f32) (zr : Vec F S128x1024 .bf16)
    (hp : p = k0_pay1790 (aAcc.view.readCov L boxAcc.toLoadRect) zh zr)
    (hh : zh = hblk v0 hw fh (Fin.ofNat 16 n)) (hr : zr = rblk D (Fin.ofNat 16 n)) (hL : AccL v0 hw D fh n L) :
    AccL v0 hw D fh (n + 1) (⟨boxAcc, p⟩ :: L) := by
  obtain ⟨L', rfl⟩ := hL
  refine ⟨⟨boxAcc, accAt v0 hw D fh n⟩ :: L', ?_⟩
  rw [hp, View.readCov_cons_toLoadRect, hh, hr]
  rfl

theorem AccL_final (v0 : Elt F .i32) (hw : k0_chk1 v0) (D : Fin 16 → Fin 128 → Fin 1024 → F .bf16) (fh : aH.view.ty.Contents (Elt F)) (n : ℕ)
    (L : List (View.Piece (Elt F) S512x128 .f32)) (f : aAcc.view.ty.Contents (Elt F)) (hL : AccL v0 hw D fh n L) :
    aAcc.view.writes (Elt F) f L = accAt v0 hw D fh n := by
  obtain ⟨L', rfl⟩ := hL
  funext y
  have e : boxAcc.emb y = y := Rect.emb_unit_full (s := S512x128) (off := ![0, 0]) inb_S512x128_S512x128_0_0 y
  have h := View.read_writes_cons_emb aAcc.view f boxAcc (accAt v0 hw D fh n) L' y
  have hr : ∀ (f : aAcc.view.ty.Contents (Elt F)), aAcc.view.read (Elt F) f (boxAcc.emb y) = f y := fun f => congrArg f e
  exact (hr _).symm.trans h

/-- The narrowed buffer holds the rounded blocks in its first `n` slots. -/
def RB (D : Fin 16 → Fin 128 → Fin 1024 → F .bf16) (n : ℕ) (g : aRb.view.ty.Contents (Elt F)) : Prop :=
  ∀ i : Fin 16, i.val < n → ∀ (a : Fin 128) (b : Fin 1024), g (ix3 (n0 := 16) (n1 := 128) (n2 := 1024) i a b) = rblk D i (ix2 a b)

theorem RB_zero (D : Fin 16 → Fin 128 → Fin 1024 → F .bf16) (g : aRb.view.ty.Contents (Elt F)) : RB D 0 g :=
  fun i h => absurd h (Nat.not_lt_zero _)

theorem RB_step (D : Fin 16 → Fin 128 → Fin 1024 → F .bf16) (n : ℕ) (hn : n < 16) (g : aRb.view.ty.Contents (Elt F)) (h : RB D n g) :
    RB D (n + 1) (updR n (D ⟨n, hn⟩) g 4) := by
  intro i hi a b
  have ha : a.val < 128 := a.isLt
  show bandR n _ 3 (bandR n _ 2 (bandR n _ 1 (bandR n _ 0 g))) (ix3 i a b) = _
  by_cases hin : i.val = n
  · subst hin
    have key : D ⟨i.val, hn⟩ a b = rblk D i (ix2 a b) := rfl
    unfold bandR
    split; · exact key
    split; · exact key
    split; · exact key
    split; · exact key
    exfalso; rename_i h3 h2 h1 h0
    have e1 : ((ix3 (n0 := 16) (n1 := 128) (n2 := 1024) i a b) 1).val = a.val := rfl
    have e0 : ((ix3 (n0 := 16) (n1 := 128) (n2 := 1024) i a b) 0).val = i.val := rfl
    rw [e1, e0] at h3 h2 h1 h0
    omega
  · have hz : ∀ k g', bandR n (D ⟨n, hn⟩) k g' (ix3 (n0 := 16) (n1 := 128) (n2 := 1024) i a b) = g' (ix3 (n0 := 16) (n1 := 128) (n2 := 1024) i a b) := by
      intro k g'
      unfold bandR
      rw [if_neg]
      intro hc
      exact hin hc.1
    rw [hz, hz, hz, hz]
    exact h i (by omega) a b

/-- Slot `i` of the narrowed buffer. -/
abbrev rSlot (i : Fin 16) : Memref sig .tc .vmem S128x1024 .bf16 :=
  (aRb.slice (Rect.unit (s := S16x128x1024) ![i.val, 0, 0] S1x128x1024.size (slot_inb i.isLt)) (fun _ => rfl)).squeeze S128x1024 squeezes_S1x128x1024_S128x1024

/-- What the copy out of slot `i` writes into its columns of the narrowed residual. -/
theorem out_eq (v0 : Elt F .i32) (hw : k0_chk1 v0) (D : Fin 16 → Fin 128 → Fin 1024 → F .bf16) (E : aR.view.ty.Contents (Elt F))
    (hE : ∀ (i : Fin 16) (x : S128x1024.Idx), D i (x 0) (x 1) = E ((Rect.unit (s := S128x16384) (k0_off1 v0 (BitVec.ofNat 32 i.val)) S128x1024.size (k0_off1_inb v0 hw i)).emb x)) (fr : aR.view.ty.Contents (Elt F)) (i : Fin 16) (g : aRb.view.ty.Contents (Elt F))
    (p : S128x1024.Idx → Elt F .bf16) (hp : p = (rSlot i).view.read (Elt F) g) (hg : RB D 16 g) :
    ∀ y ∈ (rWin v0 hw i).view.set, (rWin v0 hw i).view.writes (Elt F) fr [⟨Rect.whole S128x1024, p⟩] y = E y := by
  intro y hy
  obtain ⟨x, -, rfl⟩ := Finset.mem_map.mp hy
  have ex : (ix2 (n0 := 128) (n1 := 1024) (x 0) (x 1) : S128x1024.Idx) = x := by funext a; fin_cases a <;> rfl
  have hr : ∀ f : aR.view.ty.Contents (Elt F), (rWin v0 hw i).view.read (Elt F) f x = f ((rWin v0 hw i).view.emb x) := fun f => rfl
  refine (hr _).symm.trans ?_
  refine (congrFun (View.read_writes_whole (rWin v0 hw i).view fr p) x).trans ?_
  rw [hp]
  have hs : ∀ f : aRb.view.ty.Contents (Elt F), (rSlot i).view.read (Elt F) f (ix2 (n0 := 128) (n1 := 1024) (x 0) (x 1)) = f (ix3 (n0 := 16) (n1 := 128) (n2 := 1024) i (x 0) (x 1)) :=
    fun f => congrArg f (wSlot_emb i (x 0) (x 1))
  refine (congrArg ((rSlot i).view.read (Elt F) g) ex.symm).trans ?_
  refine (hs g).trans ?_
  refine (hg i i.isLt (x 0) (x 1)).trans ?_
  exact hE i x

end Cert.KernelIdeal.Hand
end
-- ==== Proof.Tab.lean ====
module

public import proofs.«01_k».proof.Proof.Vals
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.VecWindow
public import Idealize.ShloMosaic.Lib.Pointwise
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The table, from the codebooks: every entry widened, the same in each of the eight rows. -/
def tabC (X : aCbv.view.ty.Contents (Elt F)) : aTab.view.ty.Contents (Elt F) :=
  fun y => FloatOps.extf .f32 bitsLt_bf16_f32 (X (ix3 (n0 := 2) (n1 := 8) (n2 := 256) (y 0) (y 1)
    ⟨128 * (y 2).val + (y 4).val, by have h2 : (y 2).val < 2 := (y 2).isLt; have h4 : (y 4).val < 128 := (y 4).isLt; show _ < 256; omega⟩) : F .bf16)
/-- The scales as a column, the same in every lane. -/
def scolC (X : aSv.view.ty.Contents (Elt F)) : aScol.view.ty.Contents (Elt F) :=
  fun y => X (ix2 (n0 := 1) (n1 := 128) 0 (y 0))

/-- The residual of every block. -/
def dval (v0 : Elt F .i32) (hw : k0_chk1 v0) (fw : aW.view.ty.Contents (Elt F)) (fcd : aCd.view.ty.Contents (Elt F)) (fcb : aCb.view.ty.Contents (Elt F)) (fsc : aSc.view.ty.Contents (Elt F)) :
    Fin 16 → Fin 128 → Fin 1024 → F .bf16 :=
  fun i => decs fcd (tabC fcb) (scolC fsc) (ccol v0 (BitVec.ofNat 32 i.val)) i (wX i (wV v0 hw fw i))

/-- What the kernel stores into the table for codebook `m`, column `e`, half `hf`. -/
def tpay (X : aCbv.view.ty.Contents (Elt F)) (m : Fin 2) (h : ∀ a, (![m.val, 0, 0] : Fin 3 → ℕ) a + S1x8x256.size a ≤ S2x8x256.size a)
    (o : Fin 2 → ℕ) (ho : S8x256.Slices o S1x128) : FVec F S1x1x1x8x128 .f32 :=
  shapeCast S1x1x1x8x128 (broadcastTo S8x128 (shapeCast S1x128 (extractStridedSlice S1x128 o
    (extf .f32 (shapeCast S8x256 (aCbv.view.readAt (Elt F) (Rect.unit (s := S2x8x256) ![m.val, 0, 0] S1x8x256.size h).toLoadRect X) shapeCasts_S1x8x256_S8x256) bitsLt_bf16_f32) ho)
    shapeCasts_S1x128_S1x128) broadcasts_S1x128_S8x128) shapeCasts_S8x128_S1x1x1x8x128

theorem tpay_at (X : aCbv.view.ty.Contents (Elt F)) (m : Fin 2) (h : ∀ a, (![m.val, 0, 0] : Fin 3 → ℕ) a + S1x8x256.size a ≤ S2x8x256.size a)
    (e : Fin 8) (hf : Fin 2) (o : Fin 2 → ℕ) (ho : S8x256.Slices o S1x128) (hoe : o = ![e.val, 128 * hf.val]) (r : Fin 8) (l : Fin 128) :
    tpay X m h o ho (ix5 (n0 := 1) (n1 := 1) (n2 := 1) (n3 := 8) (n4 := 128) 0 0 0 r l)
      = tabC X (ix5 (n0 := 2) (n1 := 8) (n2 := 2) (n3 := 8) (n4 := 128) m e hf r l) := by
  subst hoe
  unfold tpay
  have e1 : ∀ (z : FVec F S8x128 .f32), shapeCast S1x1x1x8x128 z shapeCasts_S8x128_S1x1x1x8x128 (ix5 (n0 := 1) (n1 := 1) (n2 := 1) (n3 := 8) (n4 := 128) 0 0 0 r l) = z (ix2 r l) := by
    intro z
    simp only [pointwise]
  have e2 : ∀ (z : FVec F S1x128 .f32), broadcastTo S8x128 z broadcasts_S1x128_S8x128 (ix2 r l) = z (ix2 0 l) := by
    intro z
    simp only [pointwise]
    rfl
  have e3 : ∀ (z : FVec F S1x128 .f32), shapeCast S1x128 z shapeCasts_S1x128_S1x128 = z := by
    intro z
    funext x
    unfold shapeCast
    rw [Shape.reshapeEquiv_self]
  rw [e1, e2, e3]
  refine (extractStridedSlice_apply _ _ ho (ix2 0 l) (ix2 (n0 := 8) (n1 := 256) e ⟨128 * hf.val + l.val, by omega⟩) (by
    intro a
    match a with
    | ⟨0, _⟩ => rfl
    | ⟨1, _⟩ => rfl)).trans ?_
  have e4 : ∀ (z : Vec F S1x8x256 .bf16) (a : Fin 8) (b : Fin 256), shapeCast S8x256 z shapeCasts_S1x8x256_S8x256 (ix2 a b) = z (ix3 (n0 := 1) (n1 := 8) (n2 := 256) 0 a b) := by
    intro z a b
    simp only [pointwise]
  show FloatOps.extf .f32 bitsLt_bf16_f32 (shapeCast S8x256 _ shapeCasts_S1x8x256_S8x256 (ix2 (n0 := 8) (n1 := 256) e _)) = _
  rw [e4]
  unfold tabC
  refine congrArg _ (congrArg X (?_ : (Rect.unit (s := S2x8x256) ![m.val, 0, 0] S1x8x256.size h).emb _ = _))
  funext a
  apply Fin.ext
  match a with
  | ⟨0, _⟩ => show m.val + 1 * 0 = m.val; omega
  | ⟨1, _⟩ => show 0 + 1 * e.val = e.val; omega
  | ⟨2, _⟩ => show 0 + 1 * (128 * hf.val + l.val) = 128 * hf.val + l.val; omega

theorem spay_at (X : aSv.view.ty.Contents (Elt F)) (z : Vec F S1x128 .f32) (hz : ∀ r : Fin 128, z (ix2 0 r) = X (ix2 (n0 := 1) (n1 := 128) 0 r)) (r l : Fin 128) :
    k0_pay1784 z (ix2 r l) = scolC X (ix2 (n0 := 128) (n1 := 128) r l) := by
  refine Eq.trans ?_ (hz r)
  unfold k0_pay1784
  have e3 : ∀ (z : FVec F S1x128 .f32), shapeCast S1x128 z shapeCasts_S1x128_S1x128 = z := by
    intro z
    funext x
    unfold shapeCast
    rw [Shape.reshapeEquiv_self]
  have e4 : ∀ (z : FVec F S128x128 .f32), shapeCast S128x128 z shapeCasts_S128x128_S128x128 = z := by
    intro z
    funext x
    unfold shapeCast
    rw [Shape.reshapeEquiv_self]
  have e2 : ∀ (z : FVec F S1x128 .f32) (a b : Fin 128), broadcastTo S128x128 z broadcasts_S1x128_S128x128 (ix2 a b) = z (ix2 0 b) := by
    intro z a b
    simp only [pointwise]
    rfl
  have e5 : ∀ (z : FVec F S128x128 .f32), transpose S128x128 [1, 0] z transposes_S128x128_p1_0_S128x128 (ix2 r l) = z (ix2 l r) := by
    intro z
    simp only [pointwise]
  show shapeCast S128x128 (transpose S128x128 [1, 0] (broadcastTo S128x128 (shapeCast S1x128 z shapeCasts_S1x128_S1x128) broadcasts_S1x128_S128x128) transposes_S128x128_p1_0_S128x128) shapeCasts_S128x128_S128x128 (ix2 r l) = z (ix2 0 r)
  rw [e4, e5, e2, e3]

/-- The codebook, column and half of the `q`-th store into the table. -/
def tm (q : Fin 32) : Fin 2 := ⟨q.val / 16, by omega⟩
def te (q : Fin 32) : Fin 8 := ⟨q.val % 16 / 2, by omega⟩
def th (q : Fin 32) : Fin 2 := ⟨q.val % 2, by omega⟩

/-- The table's stores, all thirty-two of them, leave the table of the codebooks. -/
theorem tab_eq (X : aCbv.view.ty.Contents (Elt F)) (f : aTab.view.ty.Contents (Elt F))
    (h : ∀ (m : Fin 2) a, (![m.val, 0, 0] : Fin 3 → ℕ) a + S1x8x256.size a ≤ S2x8x256.size a)
    (ho : ∀ (e : Fin 8) (hf : Fin 2), S8x256.Slices ![e.val, 128 * hf.val] S1x128)
    (L : List (View.Piece (Elt F) S2x8x2x8x128 .f32))
    (hL : L = List.map (fun q : Fin 32 => (⟨Rect.unit (s := S2x8x2x8x128) ![(tm q).val, (te q).val, (th q).val, 0, 0] S1x1x1x8x128.size (inb_tab (tm q) (te q) (th q)),
      tpay X (tm q) (h (tm q)) ![(te q).val, 128 * (th q).val] (ho (te q) (th q))⟩ : View.Piece (Elt F) S2x8x2x8x128 .f32))
      [31, 30, 29, 28, 27, 26, 25, 24, 23, 22, 21, 20, 19, 18, 17, 16, 15, 14, 13, 12, 11, 10, 9, 8, 7, 6, 5, 4, 3, 2, 1, 0]) :
    aTab.view.writes (Elt F) f L = tabC X := by
  funext y
  show aTab.view.read (Elt F) (aTab.view.writes (Elt F) f L) y = _
  have h0 : (y 0).val < 2 := (y 0).isLt
  have h1 : (y 1).val < 8 := (y 1).isLt
  have h2 : (y 2).val < 2 := (y 2).isLt
  have h3 : (y 3).val < 8 := (y 3).isLt
  have h4 : (y 4).val < 128 := (y 4).isLt
  rw [View.read_writes_apply_of_pieces aTab.view f (tabC X) L]
  · intro q hq x
    rw [hL, List.mem_map] at hq
    obtain ⟨i, -, rfl⟩ := hq
    have e : (ix5 (n0 := 1) (n1 := 1) (n2 := 1) (n3 := 8) (n4 := 128) 0 0 0 (x 3) (x 4) : S1x1x1x8x128.Idx) = x := by
      funext a
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl
      | ⟨4, _⟩ => rfl
    rw [← e]
    refine (tpay_at X (tm i) (h (tm i)) (te i) (th i) _ (ho (te i) (th i)) rfl (x 3) (x 4)).trans (congrArg (tabC X) ?_)
    funext a
    apply Fin.ext
    match a with
    | ⟨0, _⟩ => show (tm i).val = (tm i).val + 1 * 0; omega
    | ⟨1, _⟩ => show (te i).val = (te i).val + 1 * 0; omega
    | ⟨2, _⟩ => show (th i).val = (th i).val + 1 * 0; omega
    | ⟨3, _⟩ => show (x 3).val = 0 + 1 * (x 3).val; omega
    | ⟨4, _⟩ => show (x 4).val = 0 + 1 * (x 4).val; omega
  · have hi : 16 * (y 0).val + 2 * (y 1).val + (y 2).val < 32 := by omega
    have hq : ∀ q : Fin 32, q ∈ ([31, 30, 29, 28, 27, 26, 25, 24, 23, 22, 21, 20, 19, 18, 17, 16, 15, 14, 13, 12, 11, 10, 9, 8, 7, 6, 5, 4, 3, 2, 1, 0] : List (Fin 32)) := by decide
    refine ⟨_, by rw [hL]; exact List.mem_map_of_mem (hq ⟨16 * (y 0).val + 2 * (y 1).val + (y 2).val, hi⟩), ?_⟩
    · rw [Rect.mem_set_unit]
      intro a
      match a with
      | ⟨0, _⟩ => show (16 * (y 0).val + 2 * (y 1).val + (y 2).val) / 16 ≤ (y 0).val ∧ (y 0).val < (16 * (y 0).val + 2 * (y 1).val + (y 2).val) / 16 + 1; omega
      | ⟨1, _⟩ => show (16 * (y 0).val + 2 * (y 1).val + (y 2).val) % 16 / 2 ≤ (y 1).val ∧ (y 1).val < (16 * (y 0).val + 2 * (y 1).val + (y 2).val) % 16 / 2 + 1; omega
      | ⟨2, _⟩ => show (16 * (y 0).val + 2 * (y 1).val + (y 2).val) % 2 ≤ (y 2).val ∧ (y 2).val < (16 * (y 0).val + 2 * (y 1).val + (y 2).val) % 2 + 1; omega
      | ⟨3, _⟩ => show 0 ≤ (y 3).val ∧ (y 3).val < 0 + 8; omega
      | ⟨4, _⟩ => show 0 ≤ (y 4).val ∧ (y 4).val < 0 + 128; omega

/-- The scale column's store leaves the scales. -/
theorem scol_eq (X : aSv.view.ty.Contents (Elt F)) (f : aScol.view.ty.Contents (Elt F)) (z : Vec F S1x128 .f32)
    (hz : z = aSv.view.readAt (Elt F) (Rect.unit (s := S1x128) ![0, 0] S1x128.size inb_S1x128_S1x128_0_0).toLoadRect X)
    (h : ∀ a, (![0, 0] : Fin 2 → ℕ) a + S128x128.size a ≤ S128x128.size a) :
    aScol.view.writes (Elt F) f [⟨Rect.unit (s := S128x128) ![0, 0] S128x128.size h, k0_pay1784 z⟩] = scolC X := by
  funext y
  have e : (Rect.unit (s := S128x128) ![0, 0] S128x128.size h).emb y = y := Rect.emb_unit_full (s := S128x128) (off := ![0, 0]) h y
  have hw := View.read_writes_cons_emb aScol.view f (Rect.unit (s := S128x128) ![0, 0] S128x128.size h) (k0_pay1784 z) [] y
  have hr : ∀ (f : aScol.view.ty.Contents (Elt F)), aScol.view.read (Elt F) f ((Rect.unit (s := S128x128) ![0, 0] S128x128.size h).emb y) = f y := fun f => congrArg f e
  refine ((hr _).symm.trans hw).trans ?_
  have ey : (ix2 (n0 := 128) (n1 := 128) (y 0) (y 1) : S128x128.Idx) = y := by funext a; fin_cases a <;> rfl
  rw [← ey]
  refine spay_at X z (fun r => ?_) (y 0) (y 1)
  rw [hz]
  exact congrArg X (Rect.emb_unit_full (s := S1x128) (off := ![0, 0]) inb_S1x128_S1x128_0_0 (ix2 (n0 := 1) (n1 := 128) 0 r))

theorem codes_eq (x : aCodes.view.ty.Contents (Elt F)) (p : S2x128x2048.Idx → Elt F .i8) (X : aCodes.view.ty.Contents (Elt F)) (hp : p = X) :
    View.write (Elt F) aCodes.view x p Finset.univ = X :=
  (View.read_write_univ x p).trans hp

theorem cbv_eq (x : aCbv.view.ty.Contents (Elt F)) (p : S2x8x256.Idx → Elt F .bf16) (X : aCbv.view.ty.Contents (Elt F)) (hp : p = X) :
    View.write (Elt F) aCbv.view x p Finset.univ = X :=
  (View.read_write_univ x p).trans hp

theorem sv_eq (x : aSv.view.ty.Contents (Elt F)) (p : S1x128.Idx → Elt F .f32) (X : aSv.view.ty.Contents (Elt F)) (hp : p = X) :
    View.write (Elt F) aSv.view x p Finset.univ = X :=
  (View.read_write_univ x p).trans hp

end Cert.KernelIdeal.Hand
end
-- ==== Proof.Loop1.lean ====
module

public import proofs.«01_k».proof.Proof.Body
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t1`: four trips of thirty-two rows, the narrowed buffer and the matrix operand filled row band by row band. -/
@[sl_loop] def inv_k0_t1 (c : Dev nD) (v0 : Elt F .i32) (k0_hw1 : k0_chk1 v0) (v17 v535 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRa.view.ty.Contents (Elt F)) :
    LoopInvTy_k0_t1 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 v535 where
  inv k _ := iprop(((wSlot 0 (by decide)).view.loc (c : Thread nD τ) ↦[(wSlot 0 (by decide)).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR 0 (decs XC XT XS (ccol v0 0#32) 0 X) g k)
    ∗ (aRa.view.loc (c : Thread nD τ) ↦{fullShare} updA 0 (decs XC XT XS (ccol v0 0#32) 0 X) ga k))
  step k acc := by
    have hk : k.val < 4 := Nat.lt_of_lt_of_le k.isLt k0_t1_abs.2.1
    unfold k0_t1_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR 0 (decs XC XT XS (ccol v0 0#32) 0 X) g (k.val + 1) = bandR 0 (decs XC XT XS (ccol v0 0#32) 0 X) k.val (updR 0 (decs XC XT XS (ccol v0 0#32) 0 X) g k.val) from rfl,
        ← bandR_eq 0 k.val (decs XC XT XS (ccol v0 0#32) 0 X) (updR 0 (decs XC XT XS (ccol v0 0#32) 0 X) g k.val) ![k0_off14 k, k0_off16 k, k0_off18 k, k0_off20 k, k0_off22 k, k0_off24 k, k0_off26 k, k0_off28 k] (forall_fin8 (k0_off14_inb k) (k0_off16_inb k) (k0_off18_inb k) (k0_off20_inb k) (k0_off22_inb k) (k0_off24_inb k) (k0_off26_inb k) (k0_off28_inb k)) (forall_fin8 (k0_off14_eq k) (k0_off16_eq k) (k0_off18_eq k) (k0_off20_eq k) (k0_off22_eq k) (k0_off24_eq k) (k0_off26_eq k) (k0_off28_eq k)) hk
          (pval XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)))
          (pval_at XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)) k.val (ccol v0 0#32) 0 hk (forall_fin2 (k0_off3_ceq v0 k) (k0_off4_ceq v0 k)) (fun q => k0_off5_eq k q) (forall_fin8 (fun q => k0_off6_eq k q) (fun q => k0_off7_eq k q) (fun q => k0_off8_eq k q) (fun q => k0_off9_eq k q) (fun q => k0_off10_eq k q) (fun q => k0_off11_eq k q) (fun q => k0_off12_eq k q) (fun q => k0_off13_eq k q)))]
      iexact HR
    · rw [show updA 0 (decs XC XT XS (ccol v0 0#32) 0 X) ga (k.val + 1) = bandA (decs XC XT XS (ccol v0 0#32) 0 X) k.val (updA 0 (decs XC XT XS (ccol v0 0#32) 0 X) ga k.val) from rfl,
        show updA 0 (decs XC XT XS (ccol v0 0#32) 0 X) ga k.val = aRa.view.read (Elt F) (updA 0 (decs XC XT XS (ccol v0 0#32) 0 X) ga k.val) from rfl,
        ← bandA_eq aRa.view k.val (decs XC XT XS (ccol v0 0#32) 0 X) (updA 0 (decs XC XT XS (ccol v0 0#32) 0 X) ga k.val) ![k0_off15 k, k0_off17 k, k0_off19 k, k0_off21 k, k0_off23 k, k0_off25 k, k0_off27 k, k0_off29 k] (forall_fin8 (k0_off15_inb k) (k0_off17_inb k) (k0_off19_inb k) (k0_off21_inb k) (k0_off23_inb k) (k0_off25_inb k) (k0_off27_inb k) (k0_off29_inb k)) (forall_fin8 (k0_off15_eq k) (k0_off17_eq k) (k0_off19_eq k) (k0_off21_eq k) (k0_off23_eq k) (k0_off25_eq k) (k0_off27_eq k) (k0_off29_eq k)) hk
          (pval XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)))
          (pval_at XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)) k.val (ccol v0 0#32) 0 hk (forall_fin2 (k0_off3_ceq v0 k) (k0_off4_ceq v0 k)) (fun q => k0_off5_eq k q) (forall_fin8 (fun q => k0_off6_eq k q) (fun q => k0_off7_eq k q) (fun q => k0_off8_eq k q) (fun q => k0_off9_eq k q) (fun q => k0_off10_eq k q) (fun q => k0_off11_eq k q) (fun q => k0_off12_eq k q) (fun q => k0_off13_eq k q)))]
      iexact HA

end Cert.KernelIdeal.Hand
end
-- ==== Proof.Loop2.lean ====
module

public import proofs.«01_k».proof.Proof.Body
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t2`: four trips of thirty-two rows, the narrowed buffer and the matrix operand filled row band by row band. -/
@[sl_loop] def inv_k0_t2 (c : Dev nD) (v0 : Elt F .i32) (k0_hw1 : k0_chk1 v0) (v17 v569 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRc.view.ty.Contents (Elt F)) :
    LoopInvTy_k0_t2 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 v569 where
  inv k _ := iprop(((wSlot 1 (by decide)).view.loc (c : Thread nD τ) ↦[(wSlot 1 (by decide)).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR 1 (decs XC XT XS (ccol v0 1#32) 1 X) g k)
    ∗ (aRc.view.loc (c : Thread nD τ) ↦{fullShare} updA 1 (decs XC XT XS (ccol v0 1#32) 1 X) ga k))
  step k acc := by
    have hk : k.val < 4 := Nat.lt_of_lt_of_le k.isLt k0_t2_abs.2.1
    unfold k0_t2_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR 1 (decs XC XT XS (ccol v0 1#32) 1 X) g (k.val + 1) = bandR 1 (decs XC XT XS (ccol v0 1#32) 1 X) k.val (updR 1 (decs XC XT XS (ccol v0 1#32) 1 X) g k.val) from rfl,
        ← bandR_eq 1 k.val (decs XC XT XS (ccol v0 1#32) 1 X) (updR 1 (decs XC XT XS (ccol v0 1#32) 1 X) g k.val) ![k0_off41 k, k0_off43 k, k0_off45 k, k0_off47 k, k0_off49 k, k0_off51 k, k0_off53 k, k0_off55 k] (forall_fin8 (k0_off41_inb k) (k0_off43_inb k) (k0_off45_inb k) (k0_off47_inb k) (k0_off49_inb k) (k0_off51_inb k) (k0_off53_inb k) (k0_off55_inb k)) (forall_fin8 (k0_off41_eq k) (k0_off43_eq k) (k0_off45_eq k) (k0_off47_eq k) (k0_off49_eq k) (k0_off51_eq k) (k0_off53_eq k) (k0_off55_eq k)) hk
          (pval XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)))
          (pval_at XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)) k.val (ccol v0 1#32) 1 hk (forall_fin2 (k0_off30_ceq v0 k) (k0_off31_ceq v0 k)) (fun q => k0_off32_eq k q) (forall_fin8 (fun q => k0_off33_eq k q) (fun q => k0_off34_eq k q) (fun q => k0_off35_eq k q) (fun q => k0_off36_eq k q) (fun q => k0_off37_eq k q) (fun q => k0_off38_eq k q) (fun q => k0_off39_eq k q) (fun q => k0_off40_eq k q)))]
      iexact HR
    · rw [show updA 1 (decs XC XT XS (ccol v0 1#32) 1 X) ga (k.val + 1) = bandA (decs XC XT XS (ccol v0 1#32) 1 X) k.val (updA 1 (decs XC XT XS (ccol v0 1#32) 1 X) ga k.val) from rfl,
        show updA 1 (decs XC XT XS (ccol v0 1#32) 1 X) ga k.val = aRc.view.read (Elt F) (updA 1 (decs XC XT XS (ccol v0 1#32) 1 X) ga k.val) from rfl,
        ← bandA_eq aRc.view k.val (decs XC XT XS (ccol v0 1#32) 1 X) (updA 1 (decs XC XT XS (ccol v0 1#32) 1 X) ga k.val) ![k0_off42 k, k0_off44 k, k0_off46 k, k0_off48 k, k0_off50 k, k0_off52 k, k0_off54 k, k0_off56 k] (forall_fin8 (k0_off42_inb k) (k0_off44_inb k) (k0_off46_inb k) (k0_off48_inb k) (k0_off50_inb k) (k0_off52_inb k) (k0_off54_inb k) (k0_off56_inb k)) (forall_fin8 (k0_off42_eq k) (k0_off44_eq k) (k0_off46_eq k) (k0_off48_eq k) (k0_off50_eq k) (k0_off52_eq k) (k0_off54_eq k) (k0_off56_eq k)) hk
          (pval XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)))
          (pval_at XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)) k.val (ccol v0 1#32) 1 hk (forall_fin2 (k0_off30_ceq v0 k) (k0_off31_ceq v0 k)) (fun q => k0_off32_eq k q) (forall_fin8 (fun q => k0_off33_eq k q) (fun q => k0_off34_eq k q) (fun q => k0_off35_eq k q) (fun q => k0_off36_eq k q) (fun q => k0_off37_eq k q) (fun q => k0_off38_eq k q) (fun q => k0_off39_eq k q) (fun q => k0_off40_eq k q)))]
      iexact HA

end Cert.KernelIdeal.Hand
end
-- ==== Proof.Loop4.lean ====
module

public import proofs.«01_k».proof.Proof.Body
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t4`: four trips of thirty-two rows, the narrowed buffer and the matrix operand filled row band by row band. -/
@[sl_loop] def inv_k0_t4 (c : Dev nD) (v0 : Elt F .i32) (k0_hw1 : k0_chk1 v0) (v17 : BitVec 32) (k0_t3 : Fin k0_t3_loop.trips) (v881 : BitVec 32) (v910 : FVec F S512x128 .f32) (v915 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRa.view.ty.Contents (Elt F)) :
    LoopInvTy_k0_t4 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 k0_t3 v881 v910 v915 where
  inv k _ := iprop(((wSlot (2 * k0_t3.val + 2) (slot2 k0_t3).isLt).view.loc (c : Thread nD τ) ↦[(wSlot (2 * k0_t3.val + 2) (slot2 k0_t3).isLt).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR (2 * k0_t3.val + 2) (decs XC XT XS (ccol v0 (fetchX k0_t3)) (slot2 k0_t3) X) g k)
    ∗ (aRa.view.loc (c : Thread nD τ) ↦{fullShare} updA (2 * k0_t3.val + 2) (decs XC XT XS (ccol v0 (fetchX k0_t3)) (slot2 k0_t3) X) ga k))
  step k acc := by
    have hk : k.val < 4 := Nat.lt_of_lt_of_le k.isLt k0_t4_abs.2.1
    have h3 : k0_t3.val < 7 := Nat.lt_of_lt_of_le k0_t3.isLt k0_t3_abs.2.1
    unfold k0_t4_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR (2 * k0_t3.val + 2) (decs XC XT XS (ccol v0 (fetchX k0_t3)) (slot2 k0_t3) X) g (k.val + 1) = bandR (2 * k0_t3.val + 2) (decs XC XT XS (ccol v0 (fetchX k0_t3)) (slot2 k0_t3) X) k.val (updR (2 * k0_t3.val + 2) (decs XC XT XS (ccol v0 (fetchX k0_t3)) (slot2 k0_t3) X) g k.val) from rfl,
        ← bandR_eq (2 * k0_t3.val + 2) k.val (decs XC XT XS (ccol v0 (fetchX k0_t3)) (slot2 k0_t3) X) (updR (2 * k0_t3.val + 2) (decs XC XT XS (ccol v0 (fetchX k0_t3)) (slot2 k0_t3) X) g k.val) ![k0_off75 k0_t3 k, k0_off77 k0_t3 k, k0_off79 k0_t3 k, k0_off81 k0_t3 k, k0_off83 k0_t3 k, k0_off85 k0_t3 k, k0_off87 k0_t3 k, k0_off89 k0_t3 k] (forall_fin8 (k0_off75_inb k0_t3 k) (k0_off77_inb k0_t3 k) (k0_off79_inb k0_t3 k) (k0_off81_inb k0_t3 k) (k0_off83_inb k0_t3 k) (k0_off85_inb k0_t3 k) (k0_off87_inb k0_t3 k) (k0_off89_inb k0_t3 k)) (forall_fin8 (k0_off75_eq k0_t3 k) (k0_off77_eq k0_t3 k) (k0_off79_eq k0_t3 k) (k0_off81_eq k0_t3 k) (k0_off83_eq k0_t3 k) (k0_off85_eq k0_t3 k) (k0_off87_eq k0_t3 k) (k0_off89_eq k0_t3 k)) hk
          (pval XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)))
          (pval_at XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)) k.val (ccol v0 (fetchX k0_t3)) (slot2 k0_t3) hk (forall_fin2 (k0_off64_ceq v0 k0_t3 k) (k0_off65_ceq v0 k0_t3 k)) (fun q => k0_off66_eq k q) (forall_fin8 (fun q => k0_off67_eq k0_t3 k q) (fun q => k0_off68_eq k0_t3 k q) (fun q => k0_off69_eq k0_t3 k q) (fun q => k0_off70_eq k0_t3 k q) (fun q => k0_off71_eq k0_t3 k q) (fun q => k0_off72_eq k0_t3 k q) (fun q => k0_off73_eq k0_t3 k q) (fun q => k0_off74_eq k0_t3 k q)))]
      iexact HR
    · rw [show updA (2 * k0_t3.val + 2) (decs XC XT XS (ccol v0 (fetchX k0_t3)) (slot2 k0_t3) X) ga (k.val + 1) = bandA (decs XC XT XS (ccol v0 (fetchX k0_t3)) (slot2 k0_t3) X) k.val (updA (2 * k0_t3.val + 2) (decs XC XT XS (ccol v0 (fetchX k0_t3)) (slot2 k0_t3) X) ga k.val) from rfl,
        show updA (2 * k0_t3.val + 2) (decs XC XT XS (ccol v0 (fetchX k0_t3)) (slot2 k0_t3) X) ga k.val = aRa.view.read (Elt F) (updA (2 * k0_t3.val + 2) (decs XC XT XS (ccol v0 (fetchX k0_t3)) (slot2 k0_t3) X) ga k.val) from rfl,
        ← bandA_eq aRa.view k.val (decs XC XT XS (ccol v0 (fetchX k0_t3)) (slot2 k0_t3) X) (updA (2 * k0_t3.val + 2) (decs XC XT XS (ccol v0 (fetchX k0_t3)) (slot2 k0_t3) X) ga k.val) ![k0_off76 k, k0_off78 k, k0_off80 k, k0_off82 k, k0_off84 k, k0_off86 k, k0_off88 k, k0_off90 k] (forall_fin8 (k0_off76_inb k) (k0_off78_inb k) (k0_off80_inb k) (k0_off82_inb k) (k0_off84_inb k) (k0_off86_inb k) (k0_off88_inb k) (k0_off90_inb k)) (forall_fin8 (k0_off76_eq k) (k0_off78_eq k) (k0_off80_eq k) (k0_off82_eq k) (k0_off84_eq k) (k0_off86_eq k) (k0_off88_eq k) (k0_off90_eq k)) hk
          (pval XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)))
          (pval_at XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)) k.val (ccol v0 (fetchX k0_t3)) (slot2 k0_t3) hk (forall_fin2 (k0_off64_ceq v0 k0_t3 k) (k0_off65_ceq v0 k0_t3 k)) (fun q => k0_off66_eq k q) (forall_fin8 (fun q => k0_off67_eq k0_t3 k q) (fun q => k0_off68_eq k0_t3 k q) (fun q => k0_off69_eq k0_t3 k q) (fun q => k0_off70_eq k0_t3 k q) (fun q => k0_off71_eq k0_t3 k q) (fun q => k0_off72_eq k0_t3 k q) (fun q => k0_off73_eq k0_t3 k q) (fun q => k0_off74_eq k0_t3 k q)))]
      iexact HA

end Cert.KernelIdeal.Hand
end
-- ==== Proof.Loop5.lean ====
module

public import proofs.«01_k».proof.Proof.Body
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t5`: four trips of thirty-two rows, the narrowed buffer and the matrix operand filled row band by row band. -/
@[sl_loop] def inv_k0_t5 (c : Dev nD) (v0 : Elt F .i32) (k0_hw1 : k0_chk1 v0) (v17 : BitVec 32) (k0_t3 : Fin k0_t3_loop.trips) (v917 : BitVec 32) (v951 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRc.view.ty.Contents (Elt F)) :
    LoopInvTy_k0_t5 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 k0_t3 v917 v951 where
  inv k _ := iprop(((wSlot (2 * k0_t3.val + 3) (slot3 k0_t3).isLt).view.loc (c : Thread nD τ) ↦[(wSlot (2 * k0_t3.val + 3) (slot3 k0_t3).isLt).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR (2 * k0_t3.val + 3) (decs XC XT XS (ccol v0 (Scalar.addi (fetchX k0_t3) 1#32)) (slot3 k0_t3) X) g k)
    ∗ (aRc.view.loc (c : Thread nD τ) ↦{fullShare} updA (2 * k0_t3.val + 3) (decs XC XT XS (ccol v0 (Scalar.addi (fetchX k0_t3) 1#32)) (slot3 k0_t3) X) ga k))
  step k acc := by
    have hk : k.val < 4 := Nat.lt_of_lt_of_le k.isLt k0_t5_abs.2.1
    have h3 : k0_t3.val < 7 := Nat.lt_of_lt_of_le k0_t3.isLt k0_t3_abs.2.1
    unfold k0_t5_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR (2 * k0_t3.val + 3) (decs XC XT XS (ccol v0 (Scalar.addi (fetchX k0_t3) 1#32)) (slot3 k0_t3) X) g (k.val + 1) = bandR (2 * k0_t3.val + 3) (decs XC XT XS (ccol v0 (Scalar.addi (fetchX k0_t3) 1#32)) (slot3 k0_t3) X) k.val (updR (2 * k0_t3.val + 3) (decs XC XT XS (ccol v0 (Scalar.addi (fetchX k0_t3) 1#32)) (slot3 k0_t3) X) g k.val) from rfl,
        ← bandR_eq (2 * k0_t3.val + 3) k.val (decs XC XT XS (ccol v0 (Scalar.addi (fetchX k0_t3) 1#32)) (slot3 k0_t3) X) (updR (2 * k0_t3.val + 3) (decs XC XT XS (ccol v0 (Scalar.addi (fetchX k0_t3) 1#32)) (slot3 k0_t3) X) g k.val) ![k0_off109 k0_t3 k, k0_off111 k0_t3 k, k0_off113 k0_t3 k, k0_off115 k0_t3 k, k0_off117 k0_t3 k, k0_off119 k0_t3 k, k0_off121 k0_t3 k, k0_off123 k0_t3 k] (forall_fin8 (k0_off109_inb k0_t3 k) (k0_off111_inb k0_t3 k) (k0_off113_inb k0_t3 k) (k0_off115_inb k0_t3 k) (k0_off117_inb k0_t3 k) (k0_off119_inb k0_t3 k) (k0_off121_inb k0_t3 k) (k0_off123_inb k0_t3 k)) (forall_fin8 (k0_off109_eq k0_t3 k) (k0_off111_eq k0_t3 k) (k0_off113_eq k0_t3 k) (k0_off115_eq k0_t3 k) (k0_off117_eq k0_t3 k) (k0_off119_eq k0_t3 k) (k0_off121_eq k0_t3 k) (k0_off123_eq k0_t3 k)) hk
          (pval XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)))
          (pval_at XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)) k.val (ccol v0 (Scalar.addi (fetchX k0_t3) 1#32)) (slot3 k0_t3) hk (forall_fin2 (k0_off98_ceq v0 k0_t3 k) (k0_off99_ceq v0 k0_t3 k)) (fun q => k0_off100_eq k q) (forall_fin8 (fun q => k0_off101_eq k0_t3 k q) (fun q => k0_off102_eq k0_t3 k q) (fun q => k0_off103_eq k0_t3 k q) (fun q => k0_off104_eq k0_t3 k q) (fun q => k0_off105_eq k0_t3 k q) (fun q => k0_off106_eq k0_t3 k q) (fun q => k0_off107_eq k0_t3 k q) (fun q => k0_off108_eq k0_t3 k q)))]
      iexact HR
    · rw [show updA (2 * k0_t3.val + 3) (decs XC XT XS (ccol v0 (Scalar.addi (fetchX k0_t3) 1#32)) (slot3 k0_t3) X) ga (k.val + 1) = bandA (decs XC XT XS (ccol v0 (Scalar.addi (fetchX k0_t3) 1#32)) (slot3 k0_t3) X) k.val (updA (2 * k0_t3.val + 3) (decs XC XT XS (ccol v0 (Scalar.addi (fetchX k0_t3) 1#32)) (slot3 k0_t3) X) ga k.val) from rfl,
        show updA (2 * k0_t3.val + 3) (decs XC XT XS (ccol v0 (Scalar.addi (fetchX k0_t3) 1#32)) (slot3 k0_t3) X) ga k.val = aRc.view.read (Elt F) (updA (2 * k0_t3.val + 3) (decs XC XT XS (ccol v0 (Scalar.addi (fetchX k0_t3) 1#32)) (slot3 k0_t3) X) ga k.val) from rfl,
        ← bandA_eq aRc.view k.val (decs XC XT XS (ccol v0 (Scalar.addi (fetchX k0_t3) 1#32)) (slot3 k0_t3) X) (updA (2 * k0_t3.val + 3) (decs XC XT XS (ccol v0 (Scalar.addi (fetchX k0_t3) 1#32)) (slot3 k0_t3) X) ga k.val) ![k0_off110 k, k0_off112 k, k0_off114 k, k0_off116 k, k0_off118 k, k0_off120 k, k0_off122 k, k0_off124 k] (forall_fin8 (k0_off110_inb k) (k0_off112_inb k) (k0_off114_inb k) (k0_off116_inb k) (k0_off118_inb k) (k0_off120_inb k) (k0_off122_inb k) (k0_off124_inb k)) (forall_fin8 (k0_off110_eq k) (k0_off112_eq k) (k0_off114_eq k) (k0_off116_eq k) (k0_off118_eq k) (k0_off120_eq k) (k0_off122_eq k) (k0_off124_eq k)) hk
          (pval XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)))
          (pval_at XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)) k.val (ccol v0 (Scalar.addi (fetchX k0_t3) 1#32)) (slot3 k0_t3) hk (forall_fin2 (k0_off98_ceq v0 k0_t3 k) (k0_off99_ceq v0 k0_t3 k)) (fun q => k0_off100_eq k q) (forall_fin8 (fun q => k0_off101_eq k0_t3 k q) (fun q => k0_off102_eq k0_t3 k q) (fun q => k0_off103_eq k0_t3 k q) (fun q => k0_off104_eq k0_t3 k q) (fun q => k0_off105_eq k0_t3 k q) (fun q => k0_off106_eq k0_t3 k q) (fun q => k0_off107_eq k0_t3 k q) (fun q => k0_off108_eq k0_t3 k q)))]
      iexact HA

end Cert.KernelIdeal.Hand
end
-- ==== Proof.Run.lean ====
module

public import proofs.«01_k».proof.Proof.Tab
public import proofs.«01_k».proof.Proof.Loop1
public import proofs.«01_k».proof.Proof.Loop2
public import proofs.«01_k».proof.Proof.Loop4
public import proofs.«01_k».proof.Proof.Loop5
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise.Index

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev ptC (c : Dev nD) (f : aC0.view.ty.Contents (Elt F)) : sProp 𝕄 := aC0.view.loc (c : Thread nD τ) ↦{fullShare} f
abbrev ptAcc (c : Dev nD) (f : aAcc.view.ty.Contents (Elt F)) : sProp 𝕄 := aAcc.view.loc (c : Thread nD τ) ↦{fullShare} f
abbrev ptRb (c : Dev nD) (f : aRb.view.ty.Contents (Elt F)) : sProp 𝕄 := aRb.view.loc (c : Thread nD τ) ↦{fullShare} f
abbrev ptRa (c : Dev nD) (f : aRa.view.ty.Contents (Elt F)) : sProp 𝕄 := aRa.view.loc (c : Thread nD τ) ↦{fullShare} f
abbrev ptRc (c : Dev nD) (f : aRc.view.ty.Contents (Elt F)) : sProp 𝕄 := aRc.view.loc (c : Thread nD τ) ↦{fullShare} f
abbrev ptCd (c : Dev nD) (f : aCd.view.ty.Contents (Elt F)) : sProp 𝕄 := aCd.view.loc (c : Thread nD τ) ↦{fullShare} f
abbrev ptCb (c : Dev nD) (f : aCb.view.ty.Contents (Elt F)) : sProp 𝕄 := aCb.view.loc (c : Thread nD τ) ↦{fullShare} f
abbrev ptSc (c : Dev nD) (f : aSc.view.ty.Contents (Elt F)) : sProp 𝕄 := aSc.view.loc (c : Thread nD τ) ↦{fullShare} f
abbrev ptCodes (c : Dev nD) (f : aCodes.view.ty.Contents (Elt F)) : sProp 𝕄 := aCodes.view.loc (c : Thread nD τ) ↦{fullShare} f
abbrev ptCbv (c : Dev nD) (f : aCbv.view.ty.Contents (Elt F)) : sProp 𝕄 := aCbv.view.loc (c : Thread nD τ) ↦{fullShare} f
abbrev ptSv (c : Dev nD) (f : aSv.view.ty.Contents (Elt F)) : sProp 𝕄 := aSv.view.loc (c : Thread nD τ) ↦{fullShare} f
abbrev ptTab (c : Dev nD) (f : aTab.view.ty.Contents (Elt F)) : sProp 𝕄 := aTab.view.loc (c : Thread nD τ) ↦{fullShare} f
abbrev ptScol (c : Dev nD) (f : aScol.view.ty.Contents (Elt F)) : sProp 𝕄 := aScol.view.loc (c : Thread nD τ) ↦{fullShare} f
abbrev tokW (c : Dev nD) (f : aW.view.ty.Contents (Elt F)) (i : Fin 16) : sProp 𝕄 := aW.view.loc (c : Thread nD τ) ↦{Transfers.shareTok fullShare 16 i} f
abbrev tokH (c : Dev nD) (f : aH.view.ty.Contents (Elt F)) (i : Fin 16) : sProp 𝕄 := aH.view.loc (c : Thread nD τ) ↦{Transfers.shareTok fullShare 16 i} f
abbrev ptS (c : Dev nD) (f : aWb.view.ty.Contents (Elt F)) (i : ℕ) (h : i < 16) : sProp 𝕄 := (wSlot i h).view.loc (c : Thread nD τ) ↦[(wSlot i h).view.set]{fullShare} f
abbrev ptT (c : Dev nD) (f : aHb.view.ty.Contents (Elt F)) (i : ℕ) (h : i < 16) : sProp 𝕄 := (hSlot i h).view.loc (c : Thread nD τ) ↦[(hSlot i h).view.set]{fullShare} f
abbrev ptO (c : Dev nD) (v0 : Elt F .i32) (hw : k0_chk1 v0) (f : aR.view.ty.Contents (Elt F)) (i : Fin 16) : sProp 𝕄 := (rWin v0 hw i).view.loc (c : Thread nD τ) ↦[(rWin v0 hw i).view.set]{fullShare} f
abbrev cel (c : Dev nD) (i : DmaSem sig) : sProp 𝕄 := semVal ((c : Thread nD τ), SemLoc.dma i) 0
def gW (c : Dev nD) (f : aW.view.ty.Contents (Elt F)) : sProp 𝕄 := iprop(tokW c f 0 ∗ tokW c f 1 ∗ tokW c f 2 ∗ tokW c f 3 ∗ tokW c f 4 ∗ tokW c f 5 ∗ tokW c f 6 ∗ tokW c f 7 ∗ tokW c f 8 ∗ tokW c f 9 ∗ tokW c f 10 ∗ tokW c f 11 ∗ tokW c f 12 ∗ tokW c f 13 ∗ tokW c f 14 ∗ tokW c f 15)
def gH (c : Dev nD) (f : aH.view.ty.Contents (Elt F)) : sProp 𝕄 := iprop(tokH c f 0 ∗ tokH c f 1 ∗ tokH c f 2 ∗ tokH c f 3 ∗ tokH c f 4 ∗ tokH c f 5 ∗ tokH c f 6 ∗ tokH c f 7 ∗ tokH c f 8 ∗ tokH c f 9 ∗ tokH c f 10 ∗ tokH c f 11 ∗ tokH c f 12 ∗ tokH c f 13 ∗ tokH c f 14 ∗ tokH c f 15)
def gS (c : Dev nD) (f : aWb.view.ty.Contents (Elt F)) : sProp 𝕄 := iprop(ptS c f 0 (by decide) ∗ ptS c f 1 (by decide) ∗ ptS c f 2 (by decide) ∗ ptS c f 3 (by decide) ∗ ptS c f 4 (by decide) ∗ ptS c f 5 (by decide) ∗ ptS c f 6 (by decide) ∗ ptS c f 7 (by decide) ∗ ptS c f 8 (by decide) ∗ ptS c f 9 (by decide) ∗ ptS c f 10 (by decide) ∗ ptS c f 11 (by decide) ∗ ptS c f 12 (by decide) ∗ ptS c f 13 (by decide) ∗ ptS c f 14 (by decide) ∗ ptS c f 15 (by decide))
def gT (c : Dev nD) (f : aHb.view.ty.Contents (Elt F)) : sProp 𝕄 := iprop(ptT c f 0 (by decide) ∗ ptT c f 1 (by decide) ∗ ptT c f 2 (by decide) ∗ ptT c f 3 (by decide) ∗ ptT c f 4 (by decide) ∗ ptT c f 5 (by decide) ∗ ptT c f 6 (by decide) ∗ ptT c f 7 (by decide) ∗ ptT c f 8 (by decide) ∗ ptT c f 9 (by decide) ∗ ptT c f 10 (by decide) ∗ ptT c f 11 (by decide) ∗ ptT c f 12 (by decide) ∗ ptT c f 13 (by decide) ∗ ptT c f 14 (by decide) ∗ ptT c f 15 (by decide))
def gO (c : Dev nD) (v0 : Elt F .i32) (hw : k0_chk1 v0) (f : aR.view.ty.Contents (Elt F)) : sProp 𝕄 := iprop(ptO c v0 hw f 0 ∗ ptO c v0 hw f 1 ∗ ptO c v0 hw f 2 ∗ ptO c v0 hw f 3 ∗ ptO c v0 hw f 4 ∗ ptO c v0 hw f 5 ∗ ptO c v0 hw f 6 ∗ ptO c v0 hw f 7 ∗ ptO c v0 hw f 8 ∗ ptO c v0 hw f 9 ∗ ptO c v0 hw f 10 ∗ ptO c v0 hw f 11 ∗ ptO c v0 hw f 12 ∗ ptO c v0 hw f 13 ∗ ptO c v0 hw f 14 ∗ ptO c v0 hw f 15)
def gSx (c : Dev nD)  : sProp 𝕄 := iprop((∃ f : aWb.view.ty.Contents (Elt F), ptS c f 0 (by decide)) ∗ (∃ f : aWb.view.ty.Contents (Elt F), ptS c f 1 (by decide)) ∗ (∃ f : aWb.view.ty.Contents (Elt F), ptS c f 2 (by decide)) ∗ (∃ f : aWb.view.ty.Contents (Elt F), ptS c f 3 (by decide)) ∗ (∃ f : aWb.view.ty.Contents (Elt F), ptS c f 4 (by decide)) ∗ (∃ f : aWb.view.ty.Contents (Elt F), ptS c f 5 (by decide)) ∗ (∃ f : aWb.view.ty.Contents (Elt F), ptS c f 6 (by decide)) ∗ (∃ f : aWb.view.ty.Contents (Elt F), ptS c f 7 (by decide)) ∗ (∃ f : aWb.view.ty.Contents (Elt F), ptS c f 8 (by decide)) ∗ (∃ f : aWb.view.ty.Contents (Elt F), ptS c f 9 (by decide)) ∗ (∃ f : aWb.view.ty.Contents (Elt F), ptS c f 10 (by decide)) ∗ (∃ f : aWb.view.ty.Contents (Elt F), ptS c f 11 (by decide)) ∗ (∃ f : aWb.view.ty.Contents (Elt F), ptS c f 12 (by decide)) ∗ (∃ f : aWb.view.ty.Contents (Elt F), ptS c f 13 (by decide)) ∗ (∃ f : aWb.view.ty.Contents (Elt F), ptS c f 14 (by decide)) ∗ (∃ f : aWb.view.ty.Contents (Elt F), ptS c f 15 (by decide)))
def gTx (c : Dev nD)  : sProp 𝕄 := iprop((∃ f : aHb.view.ty.Contents (Elt F), ptT c f 0 (by decide)) ∗ (∃ f : aHb.view.ty.Contents (Elt F), ptT c f 1 (by decide)) ∗ (∃ f : aHb.view.ty.Contents (Elt F), ptT c f 2 (by decide)) ∗ (∃ f : aHb.view.ty.Contents (Elt F), ptT c f 3 (by decide)) ∗ (∃ f : aHb.view.ty.Contents (Elt F), ptT c f 4 (by decide)) ∗ (∃ f : aHb.view.ty.Contents (Elt F), ptT c f 5 (by decide)) ∗ (∃ f : aHb.view.ty.Contents (Elt F), ptT c f 6 (by decide)) ∗ (∃ f : aHb.view.ty.Contents (Elt F), ptT c f 7 (by decide)) ∗ (∃ f : aHb.view.ty.Contents (Elt F), ptT c f 8 (by decide)) ∗ (∃ f : aHb.view.ty.Contents (Elt F), ptT c f 9 (by decide)) ∗ (∃ f : aHb.view.ty.Contents (Elt F), ptT c f 10 (by decide)) ∗ (∃ f : aHb.view.ty.Contents (Elt F), ptT c f 11 (by decide)) ∗ (∃ f : aHb.view.ty.Contents (Elt F), ptT c f 12 (by decide)) ∗ (∃ f : aHb.view.ty.Contents (Elt F), ptT c f 13 (by decide)) ∗ (∃ f : aHb.view.ty.Contents (Elt F), ptT c f 14 (by decide)) ∗ (∃ f : aHb.view.ty.Contents (Elt F), ptT c f 15 (by decide)))
def gQ0 (c : Dev nD)  : sProp 𝕄 := iprop(cel (F := F) c 2 ∗ cel (F := F) c 3 ∗ cel (F := F) c 4 ∗ cel (F := F) c 5 ∗ cel (F := F) c 6 ∗ cel (F := F) c 7 ∗ cel (F := F) c 8 ∗ cel (F := F) c 9 ∗ cel (F := F) c 10 ∗ cel (F := F) c 11 ∗ cel (F := F) c 12 ∗ cel (F := F) c 13 ∗ cel (F := F) c 14 ∗ cel (F := F) c 15 ∗ cel (F := F) c 16 ∗ cel (F := F) c 17)
def gQ1 (c : Dev nD)  : sProp 𝕄 := iprop(cel (F := F) c 18 ∗ cel (F := F) c 19 ∗ cel (F := F) c 20 ∗ cel (F := F) c 21 ∗ cel (F := F) c 22 ∗ cel (F := F) c 23 ∗ cel (F := F) c 24 ∗ cel (F := F) c 25 ∗ cel (F := F) c 26 ∗ cel (F := F) c 27 ∗ cel (F := F) c 28 ∗ cel (F := F) c 29 ∗ cel (F := F) c 30 ∗ cel (F := F) c 31 ∗ cel (F := F) c 32 ∗ cel (F := F) c 33)
def gQ2 (c : Dev nD)  : sProp 𝕄 := iprop(cel (F := F) c 37 ∗ cel (F := F) c 38 ∗ cel (F := F) c 39 ∗ cel (F := F) c 40 ∗ cel (F := F) c 41 ∗ cel (F := F) c 42 ∗ cel (F := F) c 43 ∗ cel (F := F) c 44 ∗ cel (F := F) c 45 ∗ cel (F := F) c 46 ∗ cel (F := F) c 47 ∗ cel (F := F) c 48 ∗ cel (F := F) c 49 ∗ cel (F := F) c 50 ∗ cel (F := F) c 51 ∗ cel (F := F) c 52)
def gQs (c : Dev nD)  : sProp 𝕄 := iprop(cel (F := F) c 34 ∗ cel (F := F) c 35 ∗ cel (F := F) c 36)

/-- The narrowed buffer after the loops of the first `n` blocks. -/
def gAll (D : Fin 16 → Fin 128 → Fin 1024 → F .bf16) (g : aRb.view.ty.Contents (Elt F)) : ℕ → aRb.view.ty.Contents (Elt F)
  | 0 => g
  | n + 1 => updR n (D (Fin.ofNat 16 n)) (gAll D g n) 4

theorem RB_all (D : Fin 16 → Fin 128 → Fin 1024 → F .bf16) (g : aRb.view.ty.Contents (Elt F)) : ∀ n, n ≤ 16 → RB D n (gAll D g n)
  | 0, _ => RB_zero D g
  | n + 1, h => by
    have e : (Fin.ofNat 16 n) = ⟨n, h⟩ := Fin.ext (Nat.mod_eq_of_lt h)
    show RB D (n + 1) (updR n (D (Fin.ofNat 16 n)) (gAll D g n) 4)
    rw [e]
    exact RB_step D n h _ (RB_all D g n (Nat.le_of_succ_le h))

theorem pay1737_eq (a : Vec F S512x128 .f32) (h : Vec F S1x512x1024 .f32) (r : Vec F S128x1024 .bf16) : k0_pay1737 a h r = k0_pay1790 a h r := rfl
theorem pay1795_eq (a : Vec F S512x128 .f32) (h : Vec F S1x512x1024 .f32) (r : Vec F S128x1024 .bf16) : k0_pay1795 (k0_pay1742 a) (k0_pay1743 h) r = k0_pay1790 a h r := rfl
theorem pay1800_eq (a : Vec F S512x128 .f32) (h : Vec F S1x512x1024 .f32) (r : Vec F S128x1024 .bf16) : k0_pay1800 a h r = k0_pay1790 a h r := rfl

theorem acc_conv (c : Dev nD) (v0 : Elt F .i32) (hw : k0_chk1 v0) (D D' : Fin 16 → Fin 128 → Fin 1024 → F .bf16) (hD : D = D') (fh : aH.view.ty.Contents (Elt F))
    (L : List (View.Piece (Elt F) S512x128 .f32)) (hL : AccL v0 hw D fh 16 L) :
    ptAcc c (aAcc.view.writes (Elt F) aAcc.view.junk L) ⊢ ptAcc c (accAt v0 hw D' fh 16) :=
  BIBase.Entails.of_eq (congrArg (ptAcc c) (hD ▸ AccL_final v0 hw D fh 16 L aAcc.view.junk hL))

theorem out_conv (c : Dev nD) (v0 : Elt F .i32) (hw : k0_chk1 v0) (D D' : Fin 16 → Fin 128 → Fin 1024 → F .bf16) (hD : D = D') (E : aR.view.ty.Contents (Elt F))
    (hE : ∀ (i : Fin 16) (x : S128x1024.Idx), D' i (x 0) (x 1) = E ((Rect.unit (s := S128x16384) (k0_off1 v0 (BitVec.ofNat 32 i.val)) S128x1024.size (k0_off1_inb v0 hw i)).emb x))
    (fr : aR.view.ty.Contents (Elt F)) (i : Fin 16) (g : aRb.view.ty.Contents (Elt F))
    (p : S128x1024.Idx → Elt F .bf16) (hp : p = (rSlot i).view.read (Elt F) g) (hg : RB D 16 g) :
    ptO c v0 hw ((rWin v0 hw i).view.writes (Elt F) fr [⟨Rect.whole S128x1024, p⟩]) i ⊢ ptO c v0 hw E i :=
  BIBase.Entails.of_eq (pointsTo_congr (out_eq v0 hw D' E hE fr i g p hp (hD ▸ hg)))

/-- The residual of every block, of what the codes', the table's and the scales' buffers hold. -/
abbrev draw (v0 : Elt F .i32) (hw : k0_chk1 v0) (fw : aW.view.ty.Contents (Elt F)) (XC : aCodes.view.ty.Contents (Elt F)) (XT : aTab.view.ty.Contents (Elt F)) (XS : aScol.view.ty.Contents (Elt F)) :
    Fin 16 → Fin 128 → Fin 1024 → F .bf16 :=
  fun i => decs XC XT XS (ccol v0 (BitVec.ofNat 32 i.val)) i (wX i (wV v0 hw fw i))

set_option sl_exec.dmaWindow true in
set_option maxHeartbeats 2000000 in
theorem run (c : Dev nD) (X0 : aC0.view.ty.Contents (Elt F)) (v0 : Elt F .i32) (hv0 : ∀ y, X0 y = v0) (hw : k0_chk1 v0)
    (facc : aAcc.view.ty.Contents (Elt F)) (fw : aW.view.ty.Contents (Elt F)) (fh : aH.view.ty.Contents (Elt F)) (fr : aR.view.ty.Contents (Elt F))
    (fs : aWb.view.ty.Contents (Elt F)) (ft : aHb.view.ty.Contents (Elt F)) (frb : aRb.view.ty.Contents (Elt F))
    (fra : aRa.view.ty.Contents (Elt F)) (frc : aRc.view.ty.Contents (Elt F)) (fcd : aCd.view.ty.Contents (Elt F)) (fcb : aCb.view.ty.Contents (Elt F)) (fsc : aSc.view.ty.Contents (Elt F))
    (xcd : aCodes.view.ty.Contents (Elt F)) (xcb : aCbv.view.ty.Contents (Elt F)) (xsv : aSv.view.ty.Contents (Elt F)) (xtab : aTab.view.ty.Contents (Elt F)) (xscol : aScol.view.ty.Contents (Elt F))
    (E : aR.view.ty.Contents (Elt F))
    (hE : ∀ (i : Fin 16) (x : S128x1024.Idx), dval v0 hw fw fcd fcb fsc i (x 0) (x 1) = E ((Rect.unit (s := S128x16384) (k0_off1 v0 (BitVec.ofNat 32 i.val)) S128x1024.size (k0_off1_inb v0 hw i)).emb x))
    (W : Waits sig Unit) (Q : Unit → sProp 𝕄) :
    iprop(ptC c X0 ∗ ptAcc c facc ∗ gW c fw ∗ gH c fh ∗ gS c fs ∗ gT c ft ∗ ptRb c frb ∗ ptRa c fra ∗ ptRc c frc ∗ ptCd c fcd ∗ ptCb c fcb ∗ ptSc c fsc ∗ ptCodes c xcd ∗ ptCbv c xcb ∗ ptSv c xsv ∗ ptTab c xtab ∗ ptScol c xscol ∗ gO c v0 hw fr ∗ gQ0 (F := F) c ∗ gQ1 (F := F) c ∗ gQs (F := F) c ∗ gQ2 (F := F) c ∗ owes (c : Thread nD τ) 0 W ∗ ((ptC c X0 ∗ ptAcc c (accAt v0 hw (dval v0 hw fw fcd fcb fsc) fh 16) ∗ gW c fw ∗ gH c fh ∗ gSx (F := F) c ∗ gTx (F := F) c ∗ (∃ f, ptRb c f) ∗ (∃ f, ptRa c f) ∗ (∃ f, ptRc c f) ∗ ptCd c fcd ∗ ptCb c fcb ∗ ptSc c fsc ∗ (∃ f, ptCodes c f) ∗ (∃ f, ptCbv c f) ∗ (∃ f, ptSv c f) ∗ (∃ f, ptTab c f) ∗ (∃ f, ptScol c f) ∗ gO c v0 hw E ∗ gQ0 (F := F) c ∗ gQ1 (F := F) c ∗ gQs (F := F) c ∗ gQ2 (F := F) c ∗ (∃ W' : Waits sig Unit, owes (c : Thread nD τ) 0 W')) -∗ Q PUnit.unit)) ⊢
    wp frame (wpE (defs₀ (F := F)) Variants.none (c : Thread nD τ) none) Set.univ
      (cc0_aqlm_scores (F := F) aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13) Q := by
  simp only [cc0_aqlm_scores_eq_skeleton]; unfold cc0_aqlm_scores_skel
  unfold gW gH gS gT gSx gTx gO gQ0 gQ1 gQs gQ2
  iintro ⟨HC, HAcc, ⟨HW0, HW1, HW2, HW3, HW4, HW5, HW6, HW7, HW8, HW9, HW10, HW11, HW12, HW13, HW14, HW15⟩, ⟨HH0, HH1, HH2, HH3, HH4, HH5, HH6, HH7, HH8, HH9, HH10, HH11, HH12, HH13, HH14, HH15⟩, ⟨HS0, HS1, HS2, HS3, HS4, HS5, HS6, HS7, HS8, HS9, HS10, HS11, HS12, HS13, HS14, HS15⟩, ⟨HT0, HT1, HT2, HT3, HT4, HT5, HT6, HT7, HT8, HT9, HT10, HT11, HT12, HT13, HT14, HT15⟩, HRb, HRa, HRc, HCd, HCb, HSc, HCodes, HCbv, HSv, HTab, HScol, ⟨HO0, HO1, HO2, HO3, HO4, HO5, HO6, HO7, HO8, HO9, HO10, HO11, HO12, HO13, HO14, HO15⟩, ⟨Hq0, Hq1, Hq2, Hq3, Hq4, Hq5, Hq6, Hq7, Hq8, Hq9, Hq10, Hq11, Hq12, Hq13, Hq14, Hq15⟩, ⟨Hq16, Hq17, Hq18, Hq19, Hq20, Hq21, Hq22, Hq23, Hq24, Hq25, Hq26, Hq27, Hq28, Hq29, Hq30, Hq31⟩, ⟨Hs0, Hs1, Hs2⟩, ⟨Hq32, Hq33, Hq34, Hq35, Hq36, Hq37, Hq38, Hq39, Hq40, Hq41, Hq42, Hq43, Hq44, Hq45, Hq46, Hq47⟩, HE, Hk⟩
  sl_exec
  rw [show run.sl.r X0 = v0 from hv0 _]
  sl_exec
  sl_unroll
  sl_exec
  sl_step
  have hC : View.write (Elt F) aCodes.view xcd (run.sl.dma0_2 fcd) Finset.univ = fcd := codes_eq xcd _ fcd rfl
  have hB : View.write (Elt F) aCbv.view xcb (run.sl.dma0 fcb) Finset.univ = fcb := cbv_eq xcb _ fcb rfl
  have hV : View.write (Elt F) aSv.view xsv (run.sl.dma0_1 fsc) Finset.univ = fsc := sv_eq xsv _ fsc rfl
  have hT : aTab.view.writes (Elt F) aTab.view.junk (run.sl.HTab_32 fcb xcb) = tabC fcb :=
    (tab_eq (View.write (Elt F) aCbv.view xcb (run.sl.dma0 fcb) Finset.univ) _
      (fun m => by revert m; decide) (fun e hf => by revert e hf; decide) _ rfl).trans (congrArg tabC hB)
  have hS : aScol.view.writes (Elt F) aScol.view.junk (run.sl.HScol_1 fsc xsv) = scolC fsc :=
    (scol_eq (View.write (Elt F) aSv.view xsv (run.sl.dma0_1 fsc) Finset.univ) _ _ rfl _).trans (congrArg scolC hV)
  have hD : (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) = dval v0 hw fw fcd fcb fsc := by
    rw [hC, hT, hS]
    rfl
  have hacc : AccL v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 16
      (⟨boxAcc, k0_pay1800 (run.sl.v725 v0 hw fw fh fra frc fcd fcb fsc xcd xcb xsv) (run.sl.v727 v0 hw fh) (run.sl.v730 v0 hw fw frc fcd fcb fsc xcd xcb xsv)⟩ :: ⟨boxAcc, k0_pay1795 (run.sl.r_23 v0 hw fw fh fra frc fcd fcb fsc xcd xcb xsv) (run.sl.r_24 v0 hw fh) (run.sl.v944_6 v0 hw fw fra fcd fcb fsc xcd xcb xsv)⟩ :: ⟨boxAcc, run.sl.r_22 v0 hw fw fh fra frc fcd fcb fsc xcd xcb xsv⟩ :: ⟨boxAcc, k0_pay1795 (run.sl.r_20 v0 hw fw fh fra frc fcd fcb fsc xcd xcb xsv) (run.sl.r_21 v0 hw fh) (run.sl.v944_5 v0 hw fw fra fcd fcb fsc xcd xcb xsv)⟩ :: ⟨boxAcc, run.sl.r_19 v0 hw fw fh fra frc fcd fcb fsc xcd xcb xsv⟩ :: ⟨boxAcc, k0_pay1795 (run.sl.r_17 v0 hw fw fh fra frc fcd fcb fsc xcd xcb xsv) (run.sl.r_18 v0 hw fh) (run.sl.v944_4 v0 hw fw fra fcd fcb fsc xcd xcb xsv)⟩ :: ⟨boxAcc, run.sl.r_16 v0 hw fw fh fra frc fcd fcb fsc xcd xcb xsv⟩ :: ⟨boxAcc, k0_pay1795 (run.sl.r_14 v0 hw fw fh fra frc fcd fcb fsc xcd xcb xsv) (run.sl.r_15 v0 hw fh) (run.sl.v944_3 v0 hw fw fra fcd fcb fsc xcd xcb xsv)⟩ :: ⟨boxAcc, run.sl.r_13 v0 hw fw fh fra frc fcd fcb fsc xcd xcb xsv⟩ :: ⟨boxAcc, k0_pay1795 (run.sl.r_11 v0 hw fw fh fra frc fcd fcb fsc xcd xcb xsv) (run.sl.r_12 v0 hw fh) (run.sl.v944_2 v0 hw fw fra fcd fcb fsc xcd xcb xsv)⟩ :: ⟨boxAcc, run.sl.r_10 v0 hw fw fh fra frc fcd fcb fsc xcd xcb xsv⟩ :: ⟨boxAcc, k0_pay1795 (run.sl.r_8 v0 hw fw fh fra frc fcd fcb fsc xcd xcb xsv) (run.sl.r_9 v0 hw fh) (run.sl.v944_1 v0 hw fw fra fcd fcb fsc xcd xcb xsv)⟩ :: ⟨boxAcc, run.sl.r_7 v0 hw fw fh fra frc fcd fcb fsc xcd xcb xsv⟩ :: ⟨boxAcc, k0_pay1795 (run.sl.r_5 v0 hw fw fh fra frc fcd fcb fsc xcd xcb xsv) (run.sl.r_6 v0 hw fh) (run.sl.v944 v0 hw fw fra fcd fcb fsc xcd xcb xsv)⟩ :: ⟨boxAcc, run.sl.r_4 v0 hw fw fh fra frc fcd fcb fsc xcd xcb xsv⟩ :: run.sl.HAcc_2 v0 hw fw fh fra fcd fcb fsc xcd xcb xsv) := by
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 15 _ _ _ _ (pay1800_eq _ _ _) (hload v0 hw fh (Fin.ofNat 16 15) _) (load_rc (Fin.ofNat 16 15) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 14 _ _ _ _ (pay1795_eq _ _ _) (hload v0 hw fh (Fin.ofNat 16 14) _) (load_ra (Fin.ofNat 16 14) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 13 _ _ _ _ (pay1737_eq _ _ _) (hload v0 hw fh (Fin.ofNat 16 13) _) (load_rc (Fin.ofNat 16 13) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 12 _ _ _ _ (pay1795_eq _ _ _) (hload v0 hw fh (Fin.ofNat 16 12) _) (load_ra (Fin.ofNat 16 12) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 11 _ _ _ _ (pay1737_eq _ _ _) (hload v0 hw fh (Fin.ofNat 16 11) _) (load_rc (Fin.ofNat 16 11) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 10 _ _ _ _ (pay1795_eq _ _ _) (hload v0 hw fh (Fin.ofNat 16 10) _) (load_ra (Fin.ofNat 16 10) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 9 _ _ _ _ (pay1737_eq _ _ _) (hload v0 hw fh (Fin.ofNat 16 9) _) (load_rc (Fin.ofNat 16 9) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 8 _ _ _ _ (pay1795_eq _ _ _) (hload v0 hw fh (Fin.ofNat 16 8) _) (load_ra (Fin.ofNat 16 8) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 7 _ _ _ _ (pay1737_eq _ _ _) (hload v0 hw fh (Fin.ofNat 16 7) _) (load_rc (Fin.ofNat 16 7) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 6 _ _ _ _ (pay1795_eq _ _ _) (hload v0 hw fh (Fin.ofNat 16 6) _) (load_ra (Fin.ofNat 16 6) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 5 _ _ _ _ (pay1737_eq _ _ _) (hload v0 hw fh (Fin.ofNat 16 5) _) (load_rc (Fin.ofNat 16 5) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 4 _ _ _ _ (pay1795_eq _ _ _) (hload v0 hw fh (Fin.ofNat 16 4) _) (load_ra (Fin.ofNat 16 4) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 3 _ _ _ _ (pay1737_eq _ _ _) (hload v0 hw fh (Fin.ofNat 16 3) _) (load_rc (Fin.ofNat 16 3) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 2 _ _ _ _ (pay1795_eq _ _ _) (hload v0 hw fh (Fin.ofNat 16 2) _) (load_ra (Fin.ofNat 16 2) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 1 _ _ _ _ (pay1737_eq _ _ _) (hload v0 hw fh (Fin.ofNat 16 1) _) (load_rc (Fin.ofNat 16 1) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 0 _ _ _ _ (rfl) (hload v0 hw fh (Fin.ofNat 16 0) _) (load_ra (Fin.ofNat 16 0) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    exact AccL_zero v0 hw _ fh
  iapply Hk
  isplitl [HC]; · iexact HC
  isplitl [HAcc]
  · iapply (acc_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD fh _ hacc)
    iexact HAcc
  isplitl [HW0 HW1 HW2 HW3 HW4 HW5 HW6 HW7 HW8 HW9 HW10 HW11 HW12 HW13 HW14 HW15]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    isplitl [HW8]; · iexact HW8
    isplitl [HW9]; · iexact HW9
    isplitl [HW10]; · iexact HW10
    isplitl [HW11]; · iexact HW11
    isplitl [HW12]; · iexact HW12
    isplitl [HW13]; · iexact HW13
    isplitl [HW14]; · iexact HW14
    iexact HW15
  isplitl [HH0 HH1 HH2 HH3 HH4 HH5 HH6 HH7 HH8 HH9 HH10 HH11 HH12 HH13 HH14 HH15]
  · isplitl [HH0]; · iexact HH0
    isplitl [HH1]; · iexact HH1
    isplitl [HH2]; · iexact HH2
    isplitl [HH3]; · iexact HH3
    isplitl [HH4]; · iexact HH4
    isplitl [HH5]; · iexact HH5
    isplitl [HH6]; · iexact HH6
    isplitl [HH7]; · iexact HH7
    isplitl [HH8]; · iexact HH8
    isplitl [HH9]; · iexact HH9
    isplitl [HH10]; · iexact HH10
    isplitl [HH11]; · iexact HH11
    isplitl [HH12]; · iexact HH12
    isplitl [HH13]; · iexact HH13
    isplitl [HH14]; · iexact HH14
    iexact HH15
  isplitl [HS0 HS1 HS2 HS3 HS4 HS5 HS6 HS7 HS8 HS9 HS10 HS11 HS12 HS13 HS14 HS15]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15
  isplitl [HT0 HT1 HT2 HT3 HT4 HT5 HT6 HT7 HT8 HT9 HT10 HT11 HT12 HT13 HT14 HT15]
  · isplitl [HT0]; · iexists _; iexact HT0
    isplitl [HT1]; · iexists _; iexact HT1
    isplitl [HT2]; · iexists _; iexact HT2
    isplitl [HT3]; · iexists _; iexact HT3
    isplitl [HT4]; · iexists _; iexact HT4
    isplitl [HT5]; · iexists _; iexact HT5
    isplitl [HT6]; · iexists _; iexact HT6
    isplitl [HT7]; · iexists _; iexact HT7
    isplitl [HT8]; · iexists _; iexact HT8
    isplitl [HT9]; · iexists _; iexact HT9
    isplitl [HT10]; · iexists _; iexact HT10
    isplitl [HT11]; · iexists _; iexact HT11
    isplitl [HT12]; · iexists _; iexact HT12
    isplitl [HT13]; · iexists _; iexact HT13
    isplitl [HT14]; · iexists _; iexact HT14
    iexists _; iexact HT15
  isplitl [HRb]; · iexists _; iexact HRb
  isplitl [HRa]; · iexists _; iexact HRa
  isplitl [HRc]; · iexists _; iexact HRc
  isplitl [HCd]; · iexact HCd
  isplitl [HCb]; · iexact HCb
  isplitl [HSc]; · iexact HSc
  isplitl [HCodes]; · iexists _; iexact HCodes
  isplitl [HCbv]; · iexists _; iexact HCbv
  isplitl [HSv]; · iexists _; iexact HSv
  isplitl [HTab]; · iexists _; iexact HTab
  isplitl [HScol]; · iexists _; iexact HScol
  isplitl [HO0 HO1 HO2 HO3 HO4 HO5 HO6 HO7 HO8 HO9 HO10 HO11 HO12 HO13 HO14 HO15]
  · isplitl [HO0]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 0 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_35 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO0
    isplitl [HO1]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 1 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_36 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO1
    isplitl [HO2]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 2 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_37 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO2
    isplitl [HO3]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 3 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_38 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO3
    isplitl [HO4]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 4 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_39 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO4
    isplitl [HO5]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 5 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_40 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO5
    isplitl [HO6]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 6 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_41 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO6
    isplitl [HO7]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 7 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_42 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO7
    isplitl [HO8]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 8 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_43 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO8
    isplitl [HO9]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 9 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_44 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO9
    isplitl [HO10]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 10 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_45 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO10
    isplitl [HO11]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 11 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_46 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO11
    isplitl [HO12]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 12 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_47 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO12
    isplitl [HO13]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 13 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_48 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO13
    isplitl [HO14]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 14 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_49 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO14
    iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 15 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_50 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO15
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hq16 Hq17 Hq18 Hq19 Hq20 Hq21 Hq22 Hq23 Hq24 Hq25 Hq26 Hq27 Hq28 Hq29 Hq30 Hq31]
  · isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  isplitl [Hs0 Hs1 Hs2]
  · isplitl [Hs0]; · iexact Hs0
    isplitl [Hs1]; · iexact Hs1
    iexact Hs2
  isplitl [Hq32 Hq33 Hq34 Hq35 Hq36 Hq37 Hq38 Hq39 Hq40 Hq41 Hq42 Hq43 Hq44 Hq45 Hq46 Hq47]
  · isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    iexact Hq47
  iexists _; iexact HE
end Cert.KernelIdeal.Hand
end
-- ==== Proof.Idx.lean ====
module

public import proofs.«01_k».proof.Proof.Vals
public import Idealize.ShloMosaic.Lib.Affine

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The first column of the block that is `x` blocks after the chunk's, of the sixteen in a ring. -/
def col (v0 x : BitVec 32) : BitVec 32 :=
  Scalar.muli (Scalar.remsi (Scalar.addi (base v0) x) 16#32) 1024#32

theorem toNat_divsi (x : BitVec 32) (hx : 2 * x.toNat < 2 ^ 32) : (Scalar.divsi x 128#32).toNat = x.toNat / 128 := by
  have hi : x.toInt = x.toNat := BitVec.toInt_eq_toNat_of_lt hx
  refine Affine.nat_eq (ea := x.toInt / 128) (Affine.divsi (Affine.word x) (Affine.word 128#32) ⟨rfl, ?_, by decide⟩) _ ?_
  · omega
  · omega

theorem base_toNat (v0 : BitVec 32) (h : 2 * v0.toNat < 2 ^ 32) : (base v0).toNat = v0.toNat / 128 := by
  have hc : ¬ Scalar.andi
      (Scalar.cmpi .ne
        (Scalar.subi (Scalar.extui (Scalar.cmpi .sgt v0 0#32)) (Scalar.extui (Scalar.cmpi .slt v0 0#32)))
        (Scalar.subi (Scalar.extui (Scalar.cmpi .sgt 128#32 0#32)) (Scalar.extui (Scalar.cmpi .slt 128#32 0#32))))
      (Scalar.cmpi .ne (Scalar.remsi v0 128#32) 0#32) = 1#1 := by
    intro hc
    obtain ⟨h1, h2⟩ := IntOp.andi_eq_one.mp hc
    have hr : (Scalar.remsi v0 128#32).toNat = v0.toNat % 128 := IntOp.toNat_remsi _ h 128 (by decide) (by decide)
    have h0 : v0.toNat ≠ 0 := by
      intro h0
      have : v0 = 0#32 := BitVec.eq_of_toNat_eq (by simpa using h0)
      subst this
      exact absurd h2 (by decide)
    have hi : v0.toInt = v0.toNat := BitVec.toInt_eq_toNat_of_lt h
    have hp : Scalar.cmpi .sgt v0 0#32 = 1#1 := IntOp.cmpi_sgt.mpr (by rw [hi]; simp; omega)
    have hn : Scalar.cmpi .slt v0 0#32 = 0#1 := by
      rcases (by revert h; generalize Scalar.cmpi .slt v0 0#32 = c; intro _; revert c; decide : Scalar.cmpi .slt v0 0#32 = 0#1 ∨ Scalar.cmpi .slt v0 0#32 = 1#1) with e | e
      · exact e
      · have := IntOp.cmpi_slt.mp e
        rw [hi] at this
        simp at this
        omega
    rw [hp, hn] at h1
    exact absurd h1 (by decide)
  unfold base
  rw [show Scalar.select _ _ _ = Scalar.divsi v0 128#32 from if_neg hc]
  exact toNat_divsi v0 h

theorem col_toNat (v0 x : BitVec 32) (h : 2 * v0.toNat < 2 ^ 32) (hx : x.toNat < 32) :
    (col v0 x).toNat = ((v0.toNat / 128 + x.toNat) % 16) * 1024 := by
  have hb := base_toNat v0 h
  have ha : (Scalar.addi (base v0) x).toNat = v0.toNat / 128 + x.toNat := by
    rw [Scalar.addi, IntOp.addi, BitVec.toNat_add, hb]
    omega
  have hr : (Scalar.remsi (Scalar.addi (base v0) x) 16#32).toNat = (v0.toNat / 128 + x.toNat) % 16 := by
    rw [← ha]
    exact IntOp.toNat_remsi _ (by rw [ha]; omega) 16 (by decide) (by decide)
  rw [col, Scalar.muli, IntOp.muli, BitVec.toNat_mul, hr]
  show _ * 1024 % 2 ^ 32 = _
  omega

theorem dvd_any (x : BitVec 32) : 1024 ∣ (Scalar.muli x 1024#32).toNat := by
  rw [Scalar.muli, IntOp.muli, BitVec.toNat_mul]
  show 1024 ∣ x.toNat * 1024 % 2 ^ 32
  omega

theorem inb_w (v0 x : BitVec 32) (h : 2 * v0.toNat < 2 ^ 32) (hx : x.toNat < 32) (a : Fin 2) :
    (![0, (col v0 x).toNat] : Fin 2 → ℕ) a + S128x1024.size a ≤ S128x16384.size a := by
  have hc := col_toNat v0 x h hx
  match a with
  | ⟨0, _⟩ => exact le_refl 128
  | ⟨1, _⟩ => show (col v0 x).toNat + 1024 ≤ 16384; omega

theorem inb_h (v0 x : BitVec 32) (h : 2 * v0.toNat < 2 ^ 32) (hx : x.toNat < 32) (a : Fin 2) :
    (![0, (col v0 x).toNat] : Fin 2 → ℕ) a + S512x1024.size a ≤ S512x16384.size a := by
  have hc := col_toNat v0 x h hx
  match a with
  | ⟨0, _⟩ => exact le_refl 512
  | ⟨1, _⟩ => show (col v0 x).toNat + 1024 ≤ 16384; omega

theorem fin16_lt (i : Fin 16) : (BitVec.ofNat 32 i.val).toNat < 32 := by revert i; decide
theorem fin16_val (i : Fin 16) : (BitVec.ofNat 32 i.val).toNat = i.val := by revert i; decide

theorem off1_eq' (v0 x : BitVec 32) : k0_off1 v0 x = ![0, (col v0 x).toNat] := rfl
theorem off2_eq' (v0 x : BitVec 32) : k0_off2 v0 x = ![0, (col v0 x).toNat] := rfl

theorem fetch_lt : ∀ t : Fin k0_t3_loop.trips, (fetchX t).toNat < 32 := by decide
theorem fetch_lt2 : ∀ t : Fin k0_t3_loop.trips, (Scalar.subi (fetchX t) 1#32).toNat < 32 := by decide
theorem fetch_lt3 : ∀ t : Fin k0_t3_loop.trips, (Scalar.subi (Scalar.addi (fetchX t) 1#32) 1#32).toNat < 32 := by decide
theorem fetch_lt' : ∀ t : Fin k0_t3_loop.trips, (Scalar.addi (fetchX t) 1#32).toNat < 32 := by decide

theorem chk1_0_of (v0 : BitVec 32) (h : 2 * v0.toNat < 2 ^ 32) : k0_chk1_0 v0 := by
  unfold k0_chk1_0
  refine ⟨dvd_any _, fun r a => inb_w v0 _ h (fin16_lt r) a, dvd_any _, fun r a => inb_h v0 _ h (fin16_lt r) a, ?_⟩
  iterate 27 refine ⟨dvd_any _, ?_⟩
  exact dvd_any _

theorem off59_eq (v0 : BitVec 32) (t : Fin k0_t3_loop.trips) : k0_off59 v0 t = ![0, (col v0 (fetchX t)).toNat] := by unfold k0_off59 col base fetchX; rfl
theorem off62_eq (v0 : BitVec 32) (t : Fin k0_t3_loop.trips) : k0_off62 v0 t = ![0, (col v0 (Scalar.subi (fetchX t) 1#32)).toNat] := by unfold k0_off62 col base fetchX; rfl
theorem off93_eq (v0 : BitVec 32) (t : Fin k0_t3_loop.trips) : k0_off93 v0 t = ![0, (col v0 (Scalar.addi (fetchX t) 1#32)).toNat] := by unfold k0_off93 col base fetchX; rfl
theorem off96_eq (v0 : BitVec 32) (t : Fin k0_t3_loop.trips) : k0_off96 v0 t = ![0, (col v0 (Scalar.subi (Scalar.addi (fetchX t) 1#32) 1#32)).toNat] := by unfold k0_off96 col base fetchX; rfl

theorem ccol_toNat (v0 x : BitVec 32) (h : 2 * v0.toNat < 2 ^ 32) (hx : x.toNat < 32) :
    ccol v0 x = ((v0.toNat / 128 + x.toNat) % 16) * 128 := by
  have hb := base_toNat v0 h
  have ha : (Scalar.addi (base v0) x).toNat = v0.toNat / 128 + x.toNat := by
    rw [Scalar.addi, IntOp.addi, BitVec.toNat_add, hb]
    omega
  have hr : (Scalar.remsi (Scalar.addi (base v0) x) 16#32).toNat = (v0.toNat / 128 + x.toNat) % 16 := by
    rw [← ha]
    exact IntOp.toNat_remsi _ (by rw [ha]; omega) 16 (by decide) (by decide)
  rw [ccol, Scalar.muli, IntOp.muli, BitVec.toNat_mul, hr]
  show _ * 128 % 2 ^ 32 = _
  omega

theorem dvd_any' (x : BitVec 32) : 128 ∣ (Scalar.muli x 128#32).toNat := by
  rw [Scalar.muli, IntOp.muli, BitVec.toNat_mul]
  show 128 ∣ x.toNat * 128 % 2 ^ 32
  omega

theorem inb_c (v0 x : BitVec 32) (h : 2 * v0.toNat < 2 ^ 32) (hx : x.toNat < 32) (m k : ℕ) (hm : m < 2) (hk : k < 4) (a : Fin 3) :
    (![m, 32 * k, ccol v0 x] : Fin 3 → ℕ) a + S1x32x128.size a ≤ S2x128x2048.size a := by
  have hc := ccol_toNat v0 x h hx
  match a with
  | ⟨0, _⟩ => show m + 1 ≤ 2; omega
  | ⟨1, _⟩ => show 32 * k + 32 ≤ 128; omega
  | ⟨2, _⟩ => show ccol v0 x + 128 ≤ 2048; omega

theorem trip1 (k : Fin k0_t1_loop.trips) : k.val < 4 := Nat.lt_of_lt_of_le k.isLt k0_t1_abs.2.1
theorem trip2 (k : Fin k0_t2_loop.trips) : k.val < 4 := Nat.lt_of_lt_of_le k.isLt k0_t2_abs.2.1
theorem trip4 (k : Fin k0_t4_loop.trips) : k.val < 4 := Nat.lt_of_lt_of_le k.isLt k0_t4_abs.2.1
theorem trip5 (k : Fin k0_t5_loop.trips) : k.val < 4 := Nat.lt_of_lt_of_le k.isLt k0_t5_abs.2.1

theorem chk1_1_of (v0 : BitVec 32) (h : 2 * v0.toNat < 2 ^ 32) : k0_chk1_1 v0 := by
  unfold k0_chk1_1
  refine ⟨dvd_any _, dvd_any _, dvd_any _, dvd_any' _,
    fun k a => by rw [k0_off3_ceq]; exact inb_c v0 _ h (by decide) 0 _ (by decide) (trip1 k) a,
    fun k a => by rw [k0_off4_ceq]; exact inb_c v0 _ h (by decide) 1 _ (by decide) (trip1 k) a,
    dvd_any _, dvd_any _, dvd_any' _,
    fun k a => by rw [k0_off30_ceq]; exact inb_c v0 _ h (by decide) 0 _ (by decide) (trip2 k) a,
    fun k a => by rw [k0_off31_ceq]; exact inb_c v0 _ h (by decide) 1 _ (by decide) (trip2 k) a,
    fun _ => dvd_any _, fun t a => by rw [off59_eq]; exact inb_w v0 _ h (fetch_lt t) a,
    fun _ => dvd_any _, fun t a => by rw [off62_eq]; exact inb_h v0 _ h (fetch_lt2 t) a,
    fun _ => dvd_any' _,
    fun t k a => by rw [k0_off64_ceq]; exact inb_c v0 _ h (fetch_lt t) 0 _ (by decide) (trip4 k) a,
    fun t k a => by rw [k0_off65_ceq]; exact inb_c v0 _ h (fetch_lt t) 1 _ (by decide) (trip4 k) a,
    fun _ => dvd_any _, fun t a => by rw [off93_eq]; exact inb_w v0 _ h (fetch_lt' t) a,
    fun _ => dvd_any _, fun t a => by rw [off96_eq]; exact inb_h v0 _ h (fetch_lt3 t) a,
    fun _ => dvd_any' _,
    fun t k a => by rw [k0_off98_ceq]; exact inb_c v0 _ h (fetch_lt' t) 0 _ (by decide) (trip5 k) a,
    fun t k a => by rw [k0_off99_ceq]; exact inb_c v0 _ h (fetch_lt' t) 1 _ (by decide) (trip5 k) a,
    dvd_any _, dvd_any _, fun r hinb => Affine.words_rows (by decide) rfl rfl, ?_⟩
  iterate 3 refine ⟨dvd_any _, ?_⟩
  exact dvd_any _

theorem chk1_2_of (v0 : BitVec 32) : k0_chk1_2 v0 := by
  unfold k0_chk1_2
  iterate 26 refine ⟨dvd_any _, ?_⟩
  exact dvd_any _

/-- A chunk that starts at or after position zero meets the side condition of the body. -/
theorem chk1_of (v0 : BitVec 32) (h : 2 * v0.toNat < 2 ^ 32) : k0_chk1 v0 :=
  ⟨chk1_0_of v0 h, chk1_1_of v0 h, chk1_2_of v0⟩

/-- The block in the array that is the `i`-th in the ring. -/
def ring (v0 : BitVec 32) (i : ℕ) : ℕ := (v0.toNat / 128 + i) % 16

theorem off1_eq (v0 : BitVec 32) (h : 2 * v0.toNat < 2 ^ 32) (i : Fin 16) :
    k0_off1 v0 (BitVec.ofNat 32 i.val) = ![0, ring v0 i.val * 1024] := by
  rw [off1_eq', col_toNat v0 _ h (fin16_lt i), fin16_val]; rfl
theorem off2_eq (v0 : BitVec 32) (h : 2 * v0.toNat < 2 ^ 32) (i : Fin 16) :
    k0_off2 v0 (BitVec.ofNat 32 i.val) = ![0, ring v0 i.val * 1024] := by
  rw [off2_eq', col_toNat v0 _ h (fin16_lt i), fin16_val]; rfl

/-- The elements of the output that block `i` is copied to. -/
def outSet (v0 : BitVec 32) (hw : k0_chk1 v0) (i : Fin 16) : Finset S128x16384.Idx :=
  (Rect.unit (s := S128x16384) (k0_off1 v0 (BitVec.ofNat 32 i.val)) S128x1024.size (k0_off1_inb v0 hw i)).set

theorem mem_outSet (v0 : BitVec 32) (h : 2 * v0.toNat < 2 ^ 32) (hw : k0_chk1 v0) (i : Fin 16) (y : S128x16384.Idx) :
    y ∈ outSet v0 hw i ↔ (y 1).val / 1024 = ring v0 i.val := by
  unfold outSet
  refine Rect.mem_set_unit.trans ?_
  rw [off1_eq v0 h i]
  constructor
  · intro hy
    have h1 := hy (1 : Fin 2)
    change ring v0 i.val * 1024 ≤ (y 1).val ∧ (y 1).val < ring v0 i.val * 1024 + 1024 at h1
    omega
  · intro hy a
    match a with
    | ⟨0, _⟩ => exact ⟨Nat.zero_le _, by show (y 0).val < 0 + 128; have : (y 0).val < 128 := (y 0).isLt; omega⟩
    | ⟨1, _⟩ =>
      show ring v0 i.val * 1024 ≤ (y 1).val ∧ (y 1).val < ring v0 i.val * 1024 + 1024
      omega

theorem out_disjoint (v0 : BitVec 32) (h : 2 * v0.toNat < 2 ^ 32) (hw : k0_chk1 v0) (i j : Fin 16) (hij : i ≠ j) :
    Disjoint (outSet v0 hw i) (outSet v0 hw j) := by
  rw [Finset.disjoint_left]
  intro y hi hj
  rw [mem_outSet v0 h] at hi hj
  apply hij
  apply Fin.ext
  have := hi.symm.trans hj
  unfold ring at this
  omega

/-- The place in the ring of block `k` of the array. -/
def place (v0 : BitVec 32) (k : ℕ) : Fin 16 := ⟨(k + (16 - v0.toNat / 128 % 16)) % 16, Nat.mod_lt _ (by decide)⟩

theorem ring_place (v0 : BitVec 32) (k : ℕ) (hk : k < 16) : ring v0 (place v0 k).val = k := by
  unfold ring place
  show (v0.toNat / 128 + (k + (16 - v0.toNat / 128 % 16)) % 16) % 16 = k
  omega

theorem out_cover (v0 : BitVec 32) (h : 2 * v0.toNat < 2 ^ 32) (hw : k0_chk1 v0) :
    Finset.univ.biUnion (outSet v0 hw) = Finset.univ := by
  ext y
  simp only [Finset.mem_biUnion, Finset.mem_univ, true_and, iff_true]
  refine ⟨place v0 ((y 1).val / 1024), (mem_outSet v0 h hw _ y).mpr (ring_place v0 _ ?_).symm⟩
  have : (y 1).val < 16384 := (y 1).isLt
  omega

end Cert.KernelIdeal.Hand
end
-- ==== Proof.Res.lean ====
module

public import proofs.«01_k».proof.Proof.Tab
public import proofs.«01_k».proof.Proof.Idx
public import Idealize.ShloMosaic.Lib.Pointwise
public import Idealize.ShloMosaic.Lib.ValueIdx

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The entry of codebook `m`, column `e`, that the code `q` names. -/
def cent (fcb : aCb.view.ty.Contents (Elt F)) (m : Fin 2) (e : Fin 8) (q : BitVec 8) : F .f32 :=
  FloatOps.extf .f32 bitsLt_bf16_f32 (fcb (ix3 (n0 := 2) (n1 := 8) (n2 := 256) m e ⟨q.toNat, q.isLt⟩) : F .bf16)

/-- The residual at a row and a column of the whole array. -/
def resE (fw : aW.view.ty.Contents (Elt F)) (fcd : aCd.view.ty.Contents (Elt F)) (fcb : aCb.view.ty.Contents (Elt F)) (fsc : aSc.view.ty.Contents (Elt F))
    (r : Fin 128) (q : Fin 16384) : F .bf16 :=
  FloatOps.truncf .bf16 bitsLt_bf16_f32 (FloatOps.subf (fw (ix2 (n0 := 128) (n1 := 16384) r q) : F .f32)
    (FloatOps.mulf (fsc (ix2 (n0 := 1) (n1 := 128) 0 r) : F .f32)
      (FloatOps.addf (cent fcb 0 ⟨q.val % 8, by omega⟩ (fcd (ix3 (n0 := 2) (n1 := 128) (n2 := 2048) 0 r ⟨q.val / 8, by omega⟩)))
        (cent fcb 1 ⟨q.val % 8, by omega⟩ (fcd (ix3 (n0 := 2) (n1 := 128) (n2 := 2048) 1 r ⟨q.val / 8, by omega⟩))))))

/-- The residual, as the array the kernel copies it to. -/
def resC (fw : aW.view.ty.Contents (Elt F)) (fcd : aCd.view.ty.Contents (Elt F)) (fcb : aCb.view.ty.Contents (Elt F)) (fsc : aSc.view.ty.Contents (Elt F)) :
    aR.view.ty.Contents (Elt F) := fun y => resE fw fcd fcb fsc (y 0) (y 1)

/-- The table's entry is the codebook's. -/
theorem tent_tab (fcb : aCb.view.ty.Contents (Elt F)) (r : Fin 128) (m : Fin 2) (e : Fin 8) (q : BitVec 8) :
    tent (tabC fcb) r m e ⟨q.toNat, q.isLt⟩ = cent fcb m e q := by
  unfold tent cent tabC
  refine congrArg (fun z : Fin 256 => (FloatOps.extf .f32 bitsLt_bf16_f32 (fcb (ix3 (n0 := 2) (n1 := 8) (n2 := 256) m e z) : F .bf16) : F .f32)) (Fin.ext ?_)
  show 128 * (q.toNat / 128) + q.toNat % 128 = q.toNat
  omega

/-- The column of the array that is column `k` of the block `i`-th in the ring. -/
def pos (v0 : BitVec 32) (i : ℕ) (k : Fin 1024) : Fin 16384 :=
  ⟨ring v0 i * 1024 + k.val, by have := k.isLt; have : ring v0 i < 16 := Nat.mod_lt _ (by decide); omega⟩

theorem off1_emb (v0 : BitVec 32) (h : 2 * v0.toNat < 2 ^ 32) (hw : k0_chk1 v0) (i : Fin 16) (x : S128x1024.Idx) :
    (Rect.unit (s := S128x16384) (k0_off1 v0 (BitVec.ofNat 32 i.val)) S128x1024.size (k0_off1_inb v0 hw i)).emb x
      = ix2 (n0 := 128) (n1 := 16384) (x 0) (pos v0 i.val (x 1)) := by
  funext d
  apply Fin.ext
  refine (unit_emb_val (s := S128x16384) _ _ _ _ d).trans ?_
  refine (congrArg (· + _) (congrFun (off1_eq v0 h i) d)).trans ?_
  match d with
  | ⟨0, _⟩ => exact Nat.zero_add _
  | ⟨1, _⟩ => rfl

/-- A block's residual is the array's, at the block's columns. -/
theorem dval_eq (v0 : BitVec 32) (h : 2 * v0.toNat < 2 ^ 32) (hw : k0_chk1 v0) (fw : aW.view.ty.Contents (Elt F)) (fcd : aCd.view.ty.Contents (Elt F))
    (fcb : aCb.view.ty.Contents (Elt F)) (fsc : aSc.view.ty.Contents (Elt F)) (i : Fin 16) (r : Fin 128) (cl : Fin 1024) :
    dval (F := F) v0 hw fw fcd fcb fsc i r cl = resE fw fcd fcb fsc r (pos v0 i.val cl) := by
  have hcl := cl.isLt
  have hr : ring v0 i.val < 16 := Nat.mod_lt _ (by decide)
  have ho : ccol v0 (BitVec.ofNat 32 i.val) = ring v0 i.val * 128 := by
    rw [ccol_toNat v0 _ h (fin16_lt i), fin16_val]; rfl
  have hx : wX i (wV v0 hw fw i) (ix3 (n0 := 16) (n1 := 128) (n2 := 1024) i r cl) = fw (ix2 (n0 := 128) (n1 := 16384) r (pos v0 i.val cl)) :=
    (wX_apply i _ r cl).trans (congrArg fw (off1_emb v0 h hw i (ix2 r cl)))
  have hc : ∀ m : Fin 2, tcode fcd (ring v0 i.val * 128) m r (cl.val / 8)
      = fcd (ix3 (n0 := 2) (n1 := 128) (n2 := 2048) m r ⟨(pos v0 i.val cl).val / 8, by omega⟩) := by
    intro m
    unfold tcode
    refine congrArg (fun z : Fin 2048 => fcd (ix3 (n0 := 2) (n1 := 128) (n2 := 2048) m r z)) (Fin.ext ?_)
    show (ring v0 i.val * 128 + cl.val / 8) % 2048 = (ring v0 i.val * 1024 + cl.val) / 8
    omega
  have he : (⟨cl.val % 8, Nat.mod_lt _ (by decide)⟩ : Fin 8) = ⟨(pos v0 i.val cl).val % 8, by omega⟩ := by
    apply Fin.ext
    show cl.val % 8 = (ring v0 i.val * 1024 + cl.val) % 8
    omega
  show deci fcd (tabC fcb) (scolC fsc) (ccol v0 (BitVec.ofNat 32 i.val)) (wX i (wV v0 hw fw i) (ix3 (n0 := 16) (n1 := 128) (n2 := 1024) i r cl)) r cl = _
  rw [ho, hx]
  unfold deci resE
  rw [tent_tab, tent_tab, hc, hc, he]
  rfl

theorem res_emb (v0 : BitVec 32) (h : 2 * v0.toNat < 2 ^ 32) (hw : k0_chk1 v0) (fw : aW.view.ty.Contents (Elt F)) (fcd : aCd.view.ty.Contents (Elt F))
    (fcb : aCb.view.ty.Contents (Elt F)) (fsc : aSc.view.ty.Contents (Elt F)) (i : Fin 16) (x : S128x1024.Idx) :
    dval v0 hw fw fcd fcb fsc i (x 0) (x 1)
      = resC fw fcd fcb fsc ((Rect.unit (s := S128x16384) (k0_off1 v0 (BitVec.ofNat 32 i.val)) S128x1024.size (k0_off1_inb v0 hw i)).emb x) :=
  (dval_eq v0 h hw fw fcd fcb fsc i (x 0) (x 1)).trans (congrArg (resC fw fcd fcb fsc) (off1_emb v0 h hw i x)).symm

end Cert.KernelIdeal.Hand

end
-- ==== Proof.Whole.lean ====
module

public import proofs.«01_k».proof.Proof.Run
public import proofs.«01_k».proof.Proof.Res

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem gW_eq (c : Dev nD) (f : aW.view.ty.Contents (Elt F)) : (gW (F := F) c f : sProp 𝕄) = bigSep Finset.univ (fun i : Fin 16 => tokW c f i) := by
  rw [bigSep_univ_eq_bigSepL ([0, 1, 2, 3, 4, 5, 6, 7, 8, 9, 10, 11, 12, 13, 14, 15] : List (Fin 16)) (by decide) (by decide)]; rfl

theorem gH_eq (c : Dev nD) (f : aH.view.ty.Contents (Elt F)) : (gH (F := F) c f : sProp 𝕄) = bigSep Finset.univ (fun i : Fin 16 => tokH c f i) := by
  rw [bigSep_univ_eq_bigSepL ([0, 1, 2, 3, 4, 5, 6, 7, 8, 9, 10, 11, 12, 13, 14, 15] : List (Fin 16)) (by decide) (by decide)]; rfl

theorem gS_eq (c : Dev nD) (f : aWb.view.ty.Contents (Elt F)) : (gS (F := F) c f : sProp 𝕄) = bigSep Finset.univ (fun i : Fin 16 => ptS c f i.val i.isLt) := by
  rw [bigSep_univ_eq_bigSepL ([0, 1, 2, 3, 4, 5, 6, 7, 8, 9, 10, 11, 12, 13, 14, 15] : List (Fin 16)) (by decide) (by decide)]; rfl

theorem gT_eq (c : Dev nD) (f : aHb.view.ty.Contents (Elt F)) : (gT (F := F) c f : sProp 𝕄) = bigSep Finset.univ (fun i : Fin 16 => ptT c f i.val i.isLt) := by
  rw [bigSep_univ_eq_bigSepL ([0, 1, 2, 3, 4, 5, 6, 7, 8, 9, 10, 11, 12, 13, 14, 15] : List (Fin 16)) (by decide) (by decide)]; rfl

theorem gSx_eq (c : Dev nD)  : (gSx (F := F) c  : sProp 𝕄) = bigSep Finset.univ (fun i : Fin 16 => iprop(∃ f : aWb.view.ty.Contents (Elt F), ptS c f i.val i.isLt)) := by
  rw [bigSep_univ_eq_bigSepL ([0, 1, 2, 3, 4, 5, 6, 7, 8, 9, 10, 11, 12, 13, 14, 15] : List (Fin 16)) (by decide) (by decide)]; rfl

theorem gTx_eq (c : Dev nD)  : (gTx (F := F) c  : sProp 𝕄) = bigSep Finset.univ (fun i : Fin 16 => iprop(∃ f : aHb.view.ty.Contents (Elt F), ptT c f i.val i.isLt)) := by
  rw [bigSep_univ_eq_bigSepL ([0, 1, 2, 3, 4, 5, 6, 7, 8, 9, 10, 11, 12, 13, 14, 15] : List (Fin 16)) (by decide) (by decide)]; rfl

theorem gO_eq (c : Dev nD) (v0 : Elt F .i32) (hw : k0_chk1 v0) (f : aR.view.ty.Contents (Elt F)) : (gO (F := F) c v0 hw f : sProp 𝕄) = bigSep Finset.univ (fun i : Fin 16 => ptO c v0 hw f i) := by
  rw [bigSep_univ_eq_bigSepL ([0, 1, 2, 3, 4, 5, 6, 7, 8, 9, 10, 11, 12, 13, 14, 15] : List (Fin 16)) (by decide) (by decide)]; rfl

abbrev ptW (c : Dev nD) (f : aW.view.ty.Contents (Elt F)) : sProp 𝕄 := aW.view.loc (c : Thread nD τ) ↦{fullShare} f
abbrev ptH (c : Dev nD) (f : aH.view.ty.Contents (Elt F)) : sProp 𝕄 := aH.view.loc (c : Thread nD τ) ↦{fullShare} f
abbrev ptR (c : Dev nD) (f : aR.view.ty.Contents (Elt F)) : sProp 𝕄 := aR.view.loc (c : Thread nD τ) ↦{fullShare} f
abbrev ptWb (c : Dev nD) (f : aWb.view.ty.Contents (Elt F)) : sProp 𝕄 := aWb.view.loc (c : Thread nD τ) ↦{fullShare} f
abbrev ptHb (c : Dev nD) (f : aHb.view.ty.Contents (Elt F)) : sProp 𝕄 := aHb.view.loc (c : Thread nD τ) ↦{fullShare} f
abbrev restW (c : Dev nD) (f : aW.view.ty.Contents (Elt F)) : sProp 𝕄 := aW.view.loc (c : Thread nD τ) ↦{Transfers.shareDrop fullShare 16} f
abbrev restH (c : Dev nD) (f : aH.view.ty.Contents (Elt F)) : sProp 𝕄 := aH.view.loc (c : Thread nD τ) ↦{Transfers.shareDrop fullShare 16} f

/-- The residual held whole are a share for each of the sixteen transfers and what remains. -/
theorem w_split (c : Dev nD) (f : aW.view.ty.Contents (Elt F)) : ptW c f ⊢ iprop(restW c f ∗ gW c f) := by
  rw [gW_eq]; exact Transfers.pointsTo_toks_split fullShare 16
theorem w_join (c : Dev nD) (f : aW.view.ty.Contents (Elt F)) : iprop(restW c f ∗ gW c f) ⊢ ptW c f := by
  rw [gW_eq]; exact Transfers.pointsTo_toks_join fullShare 16
theorem h_split (c : Dev nD) (f : aH.view.ty.Contents (Elt F)) : ptH c f ⊢ iprop(restH c f ∗ gH c f) := by
  rw [gH_eq]; exact Transfers.pointsTo_toks_split fullShare 16
theorem h_join (c : Dev nD) (f : aH.view.ty.Contents (Elt F)) : iprop(restH c f ∗ gH c f) ⊢ ptH c f := by
  rw [gH_eq]; exact Transfers.pointsTo_toks_join fullShare 16

abbrev slotSet (i : Fin 16) : Finset S16x128x1024.Idx := (Rect.unit (s := S16x128x1024) ![i.val, 0, 0] S1x128x1024.size (slot_inb i.isLt)).set
theorem slot_disjoint (i j : Fin 16) (h : i ≠ j) : Disjoint (slotSet i) (slotSet j) :=
  Ring.lead_disjoint (s := S16x128x1024) (0 : Fin 3) 1 (fun j : Fin 16 => (![j.val, 0, 0] : Fin 3 → Nat)) S1x128x1024.size (fun i => slot_inb i.isLt) (fun j => by simp) rfl i j h
theorem slot_cover : Finset.univ.biUnion slotSet = Finset.univ :=
  Ring.lead_cover (s := S16x128x1024) (0 : Fin 3) 1 (fun j : Fin 16 => (![j.val, 0, 0] : Fin 3 → Nat)) S1x128x1024.size (fun i => slot_inb i.isLt) (fun j => by simp)
    (fun j a ha => by fin_cases a <;> first | exact absurd rfl ha | rfl) rfl (fun a ha => by fin_cases a <;> first | exact absurd rfl ha | rfl) rfl
theorem wSlot_set (i : Fin 16) : (wSlot i.val i.isLt).view.set = slotSet i := by
  refine (View.set_reshape _ _).trans ?_
  exact View.set_slice_whole _ _
theorem ptS_eq (c : Dev nD) (f : aWb.view.ty.Contents (Elt F)) (i : Fin 16) :
    (ptS c f i.val i.isLt : sProp 𝕄) = (aWb.view.loc (c : Thread nD τ) ↦[slotSet i]{fullShare} f) := by
  unfold ptS; rw [wSlot_set]
theorem s_split (c : Dev nD) (f : aWb.view.ty.Contents (Elt F)) : ptWb c f ⊢ gS c f := by
  rw [gS_eq]
  exact Entails.of_eq ((Ring.pointsTo_blocks (ℓ := aWb.view.loc (c : Thread nD τ)) (q := fullShare) slotSet slot_disjoint slot_cover f).trans
    (congrArg (bigSep Finset.univ) (funext fun i => (ptS_eq c f i).symm)))
theorem s_join (c : Dev nD) : gSx (F := F) c ⊢ iprop(∃ f, ptWb c f) := by
  rw [gSx_eq]
  simp only [ptS_eq]
  exact Ring.pointsTo_blocks_join_exists (ℓ := aWb.view.loc (c : Thread nD τ)) (q := fullShare) slotSet slot_disjoint slot_cover aWb.view.junk

abbrev slotSetH (i : Fin 16) : Finset S16x512x1024.Idx := (Rect.unit (s := S16x512x1024) ![i.val, 0, 0] S1x512x1024.size (slotH_inb i.isLt)).set
theorem slotH_disjoint (i j : Fin 16) (h : i ≠ j) : Disjoint (slotSetH i) (slotSetH j) :=
  Ring.lead_disjoint (s := S16x512x1024) (0 : Fin 3) 1 (fun j : Fin 16 => (![j.val, 0, 0] : Fin 3 → Nat)) S1x512x1024.size (fun i => slotH_inb i.isLt) (fun j => by simp) rfl i j h
theorem slotH_cover : Finset.univ.biUnion slotSetH = Finset.univ :=
  Ring.lead_cover (s := S16x512x1024) (0 : Fin 3) 1 (fun j : Fin 16 => (![j.val, 0, 0] : Fin 3 → Nat)) S1x512x1024.size (fun i => slotH_inb i.isLt) (fun j => by simp)
    (fun j a ha => by fin_cases a <;> first | exact absurd rfl ha | rfl) rfl (fun a ha => by fin_cases a <;> first | exact absurd rfl ha | rfl) rfl
theorem hSlot_set (i : Fin 16) : (hSlot i.val i.isLt).view.set = slotSetH i := by
  refine (View.set_reshape _ _).trans ?_
  exact View.set_slice_whole _ _
theorem ptT_eq (c : Dev nD) (f : aHb.view.ty.Contents (Elt F)) (i : Fin 16) :
    (ptT c f i.val i.isLt : sProp 𝕄) = (aHb.view.loc (c : Thread nD τ) ↦[slotSetH i]{fullShare} f) := by
  unfold ptT; rw [hSlot_set]
theorem t_split (c : Dev nD) (f : aHb.view.ty.Contents (Elt F)) : ptHb c f ⊢ gT c f := by
  rw [gT_eq]
  exact Entails.of_eq ((Ring.pointsTo_blocks (ℓ := aHb.view.loc (c : Thread nD τ)) (q := fullShare) slotSetH slotH_disjoint slotH_cover f).trans
    (congrArg (bigSep Finset.univ) (funext fun i => (ptT_eq c f i).symm)))
theorem t_join (c : Dev nD) : gTx (F := F) c ⊢ iprop(∃ f, ptHb c f) := by
  rw [gTx_eq]
  simp only [ptT_eq]
  exact Ring.pointsTo_blocks_join_exists (ℓ := aHb.view.loc (c : Thread nD τ)) (q := fullShare) slotSetH slotH_disjoint slotH_cover aHb.view.junk

theorem rWin_set (v0 : Elt F .i32) (hw : k0_chk1 v0) (i : Fin 16) : (rWin v0 hw i).view.set = outSet v0 hw i :=
  View.set_slice_whole _ _
theorem ptO_eq (c : Dev nD) (v0 : Elt F .i32) (hw : k0_chk1 v0) (f : aR.view.ty.Contents (Elt F)) (i : Fin 16) :
    (ptO c v0 hw f i : sProp 𝕄) = (aR.view.loc (c : Thread nD τ) ↦[outSet v0 hw i]{fullShare} f) := by
  unfold ptO; rw [rWin_set]
/-- The output held whole is its sixteen column blocks. -/
theorem o_eq (c : Dev nD) (v0 : BitVec 32) (h : 2 * v0.toNat < 2 ^ 32) (hw : k0_chk1 v0) (f : aR.view.ty.Contents (Elt F)) : ptR c f = gO c v0 hw f := by
  rw [gO_eq]
  exact (Ring.pointsTo_blocks (ℓ := aR.view.loc (c : Thread nD τ)) (q := fullShare) (outSet v0 hw) (out_disjoint v0 h hw) (out_cover v0 h hw) f).trans
    (congrArg (bigSep Finset.univ) (funext fun i => (ptO_eq c v0 hw f i).symm))

/-- What the body holds at the start, other than the staged operands: its buffers at anything and its counters at zero. -/
def runPre (c : Dev nD) (fw : aW.view.ty.Contents (Elt F)) (fcd : aCd.view.ty.Contents (Elt F)) (fcb : aCb.view.ty.Contents (Elt F)) (fsc : aSc.view.ty.Contents (Elt F)) (fh : aH.view.ty.Contents (Elt F)) (fr : aR.view.ty.Contents (Elt F)) : sProp 𝕄 :=
  iprop((∃ f, ptWb c f) ∗ (∃ f, ptHb c f) ∗ (∃ f, ptRb c f) ∗ (∃ f, ptRa c f) ∗ (∃ f, ptRc c f)
    ∗ (∃ f, ptCodes c f) ∗ (∃ f, ptCbv c f) ∗ (∃ f, ptSv c f) ∗ (∃ f, ptTab c f) ∗ (∃ f, ptScol c f)
    ∗ gQ0 (F := F) c ∗ gQ1 (F := F) c ∗ gQs (F := F) c ∗ gQ2 (F := F) c ∗ ptW c fw ∗ ptCd c fcd ∗ ptCb c fcb ∗ ptSc c fsc ∗ ptH c fh ∗ ptR c fr)

set_option maxHeartbeats 1000000 in
/-- The body, on whole buffers. -/
theorem run_whole (c : Dev nD) (X0 : aC0.view.ty.Contents (Elt F)) (v0 : BitVec 32) (hv0 : ∀ y, X0 y = v0) (h0 : 2 * v0.toNat < 2 ^ 32)
    (facc : aAcc.view.ty.Contents (Elt F)) (fw : aW.view.ty.Contents (Elt F)) (fcd : aCd.view.ty.Contents (Elt F)) (fcb : aCb.view.ty.Contents (Elt F)) (fsc : aSc.view.ty.Contents (Elt F)) (fh : aH.view.ty.Contents (Elt F)) (fr : aR.view.ty.Contents (Elt F))
    (W : Waits sig Unit) (Q : Unit → sProp 𝕄) :
    iprop(ptC c X0 ∗ ptAcc c facc ∗ runPre c fw fcd fcb fsc fh fr ∗ owes (c : Thread nD τ) 0 W
      ∗ ((ptC c X0 ∗ ptAcc c (accAt v0 (chk1_of v0 h0) (dval v0 (chk1_of v0 h0) fw fcd fcb fsc) fh 16) ∗ runPre c fw fcd fcb fsc fh (resC fw fcd fcb fsc) ∗ (∃ W' : Waits sig Unit, owes (c : Thread nD τ) 0 W')) -∗ Q PUnit.unit)) ⊢
    wp frame (wpE (defs₀ (F := F)) Variants.none (c : Thread nD τ) none) Set.univ
      (cc0_aqlm_scores (F := F) aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13) Q := by
  unfold runPre
  iintro ⟨HC, HAcc, ⟨⟨%fs, HS⟩, ⟨%ft, HT⟩, ⟨%frb, HRb⟩, ⟨%fra, HRa⟩, ⟨%frc, HRc⟩, ⟨%xcd, HCodes⟩, ⟨%xcb, HCbv⟩, ⟨%xsv, HSv⟩, ⟨%xtab, HTab⟩, ⟨%xscol, HScol⟩, HQ0, HQ1, HQs, HQ2, HW, HCd, HCb, HSc, HH, HR⟩, HE, Hk⟩
  ihave HW := (w_split c fw) $$ HW
  icases HW with ⟨HWr, HW⟩
  ihave HH := (h_split c fh) $$ HH
  icases HH with ⟨HHr, HH⟩
  ihave HS := (s_split c fs) $$ HS
  ihave HT := (t_split c ft) $$ HT
  ihave HR := (Entails.of_eq (o_eq c v0 h0 (chk1_of v0 h0) fr)) $$ HR
  iapply (run c X0 v0 hv0 (chk1_of v0 h0) facc fw fh fr fs ft frb fra frc fcd fcb fsc xcd xcb xsv xtab xscol (resC fw fcd fcb fsc) (res_emb v0 h0 (chk1_of v0 h0) fw fcd fcb fsc) W Q)
  isplitl [HC]; · iexact HC
  isplitl [HAcc]; · iexact HAcc
  isplitl [HW]; · iexact HW
  isplitl [HH]; · iexact HH
  isplitl [HS]; · iexact HS
  isplitl [HT]; · iexact HT
  isplitl [HRb]; · iexact HRb
  isplitl [HRa]; · iexact HRa
  isplitl [HRc]; · iexact HRc
  isplitl [HCd]; · iexact HCd
  isplitl [HCb]; · iexact HCb
  isplitl [HSc]; · iexact HSc
  isplitl [HCodes]; · iexact HCodes
  isplitl [HCbv]; · iexact HCbv
  isplitl [HSv]; · iexact HSv
  isplitl [HTab]; · iexact HTab
  isplitl [HScol]; · iexact HScol
  isplitl [HR]; · iexact HR
  isplitl [HQ0]; · iexact HQ0
  isplitl [HQ1]; · iexact HQ1
  isplitl [HQs]; · iexact HQs
  isplitl [HQ2]; · iexact HQ2
  isplitl [HE]; · iexact HE
  iintro ⟨HC, HAcc, HW, HH, HS, HT, HRb, HRa, HRc, HCd, HCb, HSc, HCodes, HCbv, HSv, HTab, HScol, HR, HQ0, HQ1, HQs, HQ2, HE⟩
  iapply Hk
  isplitl [HC]; · iexact HC
  isplitl [HAcc]; · iexact HAcc
  isplitr [HE]; swap; · iexact HE
  isplitl [HS]; · iapply (s_join c); iexact HS
  isplitl [HT]; · iapply (t_join c); iexact HT
  isplitl [HRb]; · iexact HRb
  isplitl [HRa]; · iexact HRa
  isplitl [HRc]; · iexact HRc
  isplitl [HCodes]; · iexact HCodes
  isplitl [HCbv]; · iexact HCbv
  isplitl [HSv]; · iexact HSv
  isplitl [HTab]; · iexact HTab
  isplitl [HScol]; · iexact HScol
  isplitl [HQ0]; · iexact HQ0
  isplitl [HQ1]; · iexact HQ1
  isplitl [HQs]; · iexact HQs
  isplitl [HQ2]; · iexact HQ2
  isplitl [HW HWr]
  · iapply (w_join c fw)
    isplitl [HWr]; · iexact HWr
    iexact HW
  isplitl [HCd]; · iexact HCd
  isplitl [HCb]; · iexact HCb
  isplitl [HSc]; · iexact HSc
  isplitl [HH HHr]
  · iapply (h_join c fh)
    isplitl [HHr]; · iexact HHr
    iexact HH
  iapply (Entails.of_eq (o_eq c v0 h0 (chk1_of v0 h0) (resC fw fcd fcb fsc)).symm)
  iexact HR

end Cert.KernelIdeal.Hand
end
-- ==== Proof.Frame.lean ====
module

public import proofs.«01_k».proof.Proof.Whole
public import proofs.«01_k».proof.Proof.Gen.KernelIdeal.Frame
public import Idealize.ShloMosaic.Lib.Pipeline.FrameValue
public import Idealize.ShloMosaic.Lib.Pipeline.FrameBody
public import Idealize.ShloMosaic.Lib.Pipeline.BigSepL
public import Idealize.ShloMosaic.Lib.Pipeline.Value
public import Idealize.ShloMosaic.Lib.Claim

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The buffer the body writes by its own copies: the narrowed residual, left in HBM. -/
def R0 : Finset (Ref sig .tc) := {main_v6_1}
/-- The HBM operands the body's copies read. -/
def H0 : Finset (Ref sig .tc) := {main_v1, main_v3, main_v4, main_arg3, main_v5}
theorem H0_sub : H0 ⊆ Pipeline.restRefs sig spec0 := by decide
theorem R0_sub : R0 ⊆ Pipeline.restRefs sig spec0 \ H0 := by decide

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own DMA cells, 2 to 52. -/
def osem0 : Fin 51 → SemLoc sig := fun j => SemLoc.dma (⟨j.val + 2, by have := j.isLt; omega⟩ : Fin 53)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(gQ0 (F := F) c ∗ gQ1 (F := F) c ∗ gQs (F := F) c ∗ gQ2 (F := F) c) := by
  rw [Pipeline.ownSems0_eq_of_list c osem0
    ([0, 1, 2, 3, 4, 5, 6, 7, 8, 9, 10, 11, 12, 13, 14, 15] ++ ([16, 17, 18, 19, 20, 21, 22, 23, 24, 25, 26, 27, 28, 29, 30, 31]
      ++ ([32, 33, 34] ++ [35, 36, 37, 38, 39, 40, 41, 42, 43, 44, 45, 46, 47, 48, 49, 50]))) (by decide) (by decide),
    bigSepL_append, bigSepL_append, bigSepL_append]
  rfl

theorem hbmPts0_eq (c : Dev nD) :
    (bigSep H0 (fun b => ((c : Thread nD τ).loc b) ↦{fullShare} V m c b) : sProp 𝕄)
      = iprop(ptW c (V m c main_v1) ∗ ptCd c (V m c main_v3) ∗ ptCb c (V m c main_v4) ∗ ptSc c (V m c main_arg3) ∗ ptH c (V m c main_v5)) := by
  rw [BI.bigSep_eq_bigSepL_of_eq [main_v1, main_v3, main_v4, main_arg3, main_v5] (by decide) (by decide)]; rfl
theorem routed0_eq (c : Dev nD) (g : (b : Ref sig .tc) → Buf (Elt F) ((c : Thread nD τ).loc b)) :
    (Pipeline.routed R0 c g : sProp 𝕄) = ptR c (g main_v6_1) := by
  unfold Pipeline.routed; rw [BI.bigSep_eq_bigSepL_of_eq [main_v6_1] (by decide) (by decide)]; rfl

/-- The invariant between points, conjunct by conjunct. -/
theorem Phi_eq (W : (c : Dev nD) → (b : Ref sig .tc) → Buf (Elt F) ((c : Thread nD τ).loc b)) (c : Dev nD) :
    (Pipeline.ΦDRG osem0 spec0 H0 R0 (V m) W c : sProp 𝕄)
      = iprop(iprop((∃ f, ptWb (F := F) c f) ∗ (∃ f, ptHb (F := F) c f) ∗ (∃ f, ptRb (F := F) c f) ∗ (∃ f, ptRa (F := F) c f) ∗ (∃ f, ptRc (F := F) c f)
          ∗ (∃ f, ptCodes (F := F) c f) ∗ (∃ f, ptCbv (F := F) c f) ∗ (∃ f, ptSv (F := F) c f) ∗ (∃ f, ptTab (F := F) c f) ∗ (∃ f, ptScol (F := F) c f))
          ∗ (∃ r, prngReg c r) ∗ iprop(gQ0 (F := F) c ∗ gQ1 (F := F) c ∗ gQs (F := F) c ∗ gQ2 (F := F) c)
          ∗ iprop(ptW c (V m c main_v1) ∗ ptCd c (V m c main_v3) ∗ ptCb c (V m c main_v4) ∗ ptSc c (V m c main_arg3) ∗ ptH c (V m c main_v5)) ∗ ptR c (W c main_v6_1)) := by
  rw [Pipeline.ΦDRG_eq, scopedRest0_eq, ownSems00_eq, hbmPts0_eq, routed0_eq]

/-- The word the kernel reads: the one element of `chunk_start`. -/
def word (c : Dev nD) : BitVec 32 := m ((c : Thread nD τ).loc main_arg5) (fun a => a.elim0)
theorem V_main_v0 (c : Dev nD) (y : S1.Idx) : V m c main_v0 y = word m c := by
  unfold word
  entry_read
  exact congrArg (m ((c : Thread nD τ).loc main_arg5)) (funext fun a => a.elim0)

/-- The result array left in HBM after the body: the residual of the decoded weights, narrowed. -/
def G (c : Dev nD) (b : Ref sig .tc) : Buf (Elt F) ((c : Thread nD τ).loc b) :=
  Function.update (V m c) main_v6_1 (resC (V m c main_v1) (V m c main_v3) (V m c main_v4) (V m c main_arg3)) b
theorem G_eq (c : Dev nD) : G m c main_v6_1 = resC (V m c main_v1) (V m c main_v3) (V m c main_v4) (V m c main_arg3) := Function.update_self _ _ _

variable (h0 : ∀ c : Dev nD, 2 * (word m c).toNat < 2 ^ 32)

/-- The products' buffer after the body. -/
def accOut (c : Dev nD) : aAcc.view.ty.Contents (Elt F) :=
  accAt (word m c) (chk1_of (word m c) (h0 c)) (dval (word m c) (chk1_of (word m c) (h0 c)) (V m c main_v1) (V m c main_v3) (V m c main_v4) (V m c main_arg3)) (V m c main_v5) 16

/-- The invariant before point `n`: that array as launched, then as the body leaves it. -/
def PhiAt (c : Dev nD) : ℕ → sProp 𝕄
  | 0 => Pipeline.ΦDRG osem0 spec0 H0 R0 (V m) (V m) c
  | _ + 1 => Pipeline.ΦDRG osem0 spec0 H0 R0 (V m) (G m) c

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => accOut m h0 c
  Φ t := PhiAt m c t.val
  q _ := fullShare
  owed _ := 0

theorem A_eq (c : Dev nD) (w : Fin cfg0.W) : (dats m h0 0 c).A w = V m c (Pipeline.arrRef spec0 w) := by
  dsimp only [dats]
theorem after0_0 (c : Dev nD) (t : Fin cfg0.N) : (dats m h0 0 c).after 0 t = iblk m c 0 t := by dsimp only [dats]
theorem after0_1 (c : Dev nD) (t : Fin cfg0.N) : (dats m h0 0 c).after 1 t = accOut m h0 c := by dsimp only [dats]
theorem before0_0 (c : Dev nD) (t : Fin cfg0.N) (d) : (dats m h0 0 c).before 0 t d = iblk m c 0 t :=
  ((dats m h0 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem iblk0 (c : Dev nD) (t : Fin cfg0.N) (y) : iblk m c 0 t y = word m c := V_main_v0 m c _

abbrev ms0_0 (t : Fin cfg0.N) : Memref sig .tc .smem S1 .i32 := win0_0.stage (cfg0.slots t 0)
abbrev ms0_1 (t : Fin cfg0.N) : Memref sig .tc .vmem S512x128 .f32 := win0_1.stage (cfg0.slots t 1)

def bodyPre (c : Dev nD) (t : Fin cfg0.N) : sProp 𝕄 :=
  iprop((dats m h0 0 c).Φ t.castSucc ∗ (dats m h0 0 c).owesAt () t.castSucc
    ∗ (∃ d, owns (c : Thread nD τ) (ms0_0 t) fullShare ((dats m h0 0 c).before 0 t d))
    ∗ (∃ d, owns (c : Thread nD τ) (ms0_1 t) fullShare ((dats m h0 0 c).before 1 t d)))
def bodyPost (c : Dev nD) (t : Fin cfg0.N) : sProp 𝕄 :=
  iprop((dats m h0 0 c).Φ t.succ ∗ (dats m h0 0 c).owesAt () t.succ
    ∗ owns (c : Thread nD τ) (ms0_0 t) fullShare ((dats m h0 0 c).after 0 t)
    ∗ owns (c : Thread nD τ) (ms0_1 t) fullShare ((dats m h0 0 c).after 1 t))

set_option maxHeartbeats 1000000 in
theorem sound_body (c : Dev nD) (t : Fin cfg0.N) :
    bodyPre m h0 c t ⊢ wp frame (wpE (defs₀ (F := F)) Variants.none c none) Set.univ (bodyAt0 t) (fun _ => bodyPost m h0 c t) := by
  obtain rfl := fin_N0 t
  unfold bodyPre bodyPost bodyAt0
  rw [show (dats m h0 0 c).Φ t0_0.castSucc = Pipeline.ΦDRG osem0 spec0 H0 R0 (V m) (V m) c from rfl,
    show (dats m h0 0 c).Φ t0_0.succ = Pipeline.ΦDRG osem0 spec0 H0 R0 (V m) (G m) c from rfl, Phi_eq, Phi_eq, after0_0, after0_1, G_eq]
  simp only [before0_0]
  unfold Dat.owesAt Pipeline.owesWithin
  rw [show (dats m h0 0 c).owed t0_0.castSucc = 0 from rfl, show (dats m h0 0 c).owed t0_0.succ = 0 from rfl]
  rw [show ms0_0 t0_0 = aC0 from rfl, show ms0_1 t0_0 = aAcc from rfl]
  simp only [aC0, aAcc, owns_whole]
  iintro ⟨⟨⟨HS0, HS1, HS2, HS3, HS4, HS5, HS6, HS7, HS8, HS9⟩, Hg, ⟨Hq0, Hq1, Hqs, Hq2⟩, ⟨Hw, Hcd, Hcb, Hsc, Hh⟩, Hr⟩, ⟨%W, -, HW⟩, ⟨%d0, HC⟩, ⟨%d1, HA⟩⟩
  iapply (run_whole c (iblk m c 0 t0_0) (word m c) (iblk0 m c t0_0) (h0 c) _ (V m c main_v1) (V m c main_v3) (V m c main_v4) (V m c main_arg3) (V m c main_v5) (V m c main_v6_1) W _)
  isplitl [HC]; · iexact HC
  isplitl [HA]; · iexact HA
  unfold runPre
  isplitl [HS0 HS1 HS2 HS3 HS4 HS5 HS6 HS7 HS8 HS9 Hq0 Hq1 Hqs Hq2 Hw Hcd Hcb Hsc Hh Hr]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [Hq0]; · iexact Hq0
    isplitl [Hq1]; · iexact Hq1
    isplitl [Hqs]; · iexact Hqs
    isplitl [Hq2]; · iexact Hq2
    isplitl [Hw]; · iexact Hw
    isplitl [Hcd]; · iexact Hcd
    isplitl [Hcb]; · iexact Hcb
    isplitl [Hsc]; · iexact Hsc
    isplitl [Hh]; · iexact Hh
    iexact Hr
  isplitl [HW]; · iexact HW
  iintro ⟨HC, HA, ⟨HS0, HS1, HS2, HS3, HS4, HS5, HS6, HS7, HS8, HS9, Hq0, Hq1, Hqs, Hq2, Hw, Hcd, Hcb, Hsc, Hh, Hr⟩, ⟨%W', HW'⟩⟩
  isplitl [HS0 HS1 HS2 HS3 HS4 HS5 HS6 HS7 HS8 HS9 Hg Hq0 Hq1 Hqs Hq2 Hw Hcd Hcb Hsc Hh Hr]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Hq0 Hq1 Hqs Hq2]
    · isplitl [Hq0]; · iexact Hq0
      isplitl [Hq1]; · iexact Hq1
      isplitl [Hqs]; · iexact Hqs
      iexact Hq2
    isplitl [Hw Hcd Hcb Hsc Hh]
    · isplitl [Hw]; · iexact Hw
      isplitl [Hcd]; · iexact Hcd
      isplitl [Hcb]; · iexact Hcb
      isplitl [Hsc]; · iexact Hsc
      iexact Hh
    iexact Hr
  isplitl [HW']
  · iexists W'; isplitr; · ipureintro; exact fun _ _ => Or.inl trivial
    iexact HW'
  isplitl [HC]; · iexact HC
  iexact HA

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m h0 0 c) (defs₀ (F := F)) Variants.none () Set.univ := fun t => by
  rw [bigSep_W0, bigSep_W0, defs₀_row]
  exact triple_restated (sound_body m h0 c t) rfl .rfl fun _ => .rfl

set_option backward.isDefEq.respectTransparency.types false in
theorem run_main : θ_run defs (onTc (τ := τ) (main (F := F))) (s₀ m ρ)
    (fun r => Pipeline.FramePostRG cfgs (dats m h0) 0 R0 (V m) (G m) r ∧ r.2.sem = fun _ => 0) :=
  Pipeline.θ_run_frame_dmaRG (Q' := _) cfgs (dats m h0) (0 : Fin 1) launch0 osem0 defs₀ Variants.none ownSemFacts0 H0 R0 H0_sub R0_sub m ρ main
    (hbody := fun c => (body_obligation m h0 c).loose) (hshare := fun c => (dats m h0 0 c).share_full fun _ => rfl)
    (howed := fun _ _ => rfl) (V := V m) (hmain := hmainD m Variants.none) (hA := A_eq m h0) (G := G m)
    (hin := fun _ => Entails.of_eq rfl) (hout := fun _ => Entails.of_eq rfl)

/-- What the products' array holds at the end. -/
theorem flushed1_eq (c : Dev nD) (t : Fin cfg0.N) : (dats m h0 0 c).flushed 1 t = (win0_1.blk t).view.read (Elt F) (accOut m h0 c) := by
  show (cfg0.win 1).cut (grid0.coords t) ((dats m h0 0 c).after 1 t) = _
  rw [after0_1]
  generalize accOut m h0 c = X
  funext y
  show X _ = X _
  refine congrArg X (funext fun a => Fin.ext ?_)
  show (y a : ℕ) = ((win0_1.rect t).emb y a : ℕ)
  obtain rfl := fin_N0 t
  have e : ∀ a, win0_1.index t0_0 a * win0_1.size a = 0 := by decide +kernel
  rw [Rect.emb_apply]
  show (y a : ℕ) = win0_1.index t0_0 a * win0_1.size a + 1 * (y a : ℕ)
  rw [e a, Nat.zero_add, Nat.one_mul]
theorem cover1 (i : S512x128.Idx) : ∃ t : Fin cfg0.N, (cfg0.win 1).flush t = true ∧ i ∈ ((cfg0.win 1).blk t).view.set := by
  refine ⟨t0_0, flush0_1 _, ?_⟩
  show i ∈ ((View.whole main_v6_0).slice (win0_1.rect t0_0)).set
  rw [View.set_slice_whole, Rect.mem_set_unit]
  have e : ∀ a, win0_1.index t0_0 a * win0_1.size a = 0 ∧ win0_1.xsize (grid0.coords t0_0) a = S512x128.size a := by
    decide +kernel
  intro a
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, (i a).isLt⟩
theorem arr1_eq (c : Dev nD) : (dats m h0 0 c).arrAt 1 cfg0.N = accOut m h0 c :=
  (dats m h0 0 c).arrAt_eq_of_cover 1 (accOut m h0 c) (fun t _ => flushed1_eq m h0 c t) cover1

/-- The whole run: the two results named, the arguments unchanged, every counter at zero. -/
theorem run_values : θ_run defs (onTc (τ := τ) (main (F := F))) ⟨m, fun _ => 0, ρ⟩ (fun r => (∀ c : Dev nD,
      r.2.mem ((c.tc : Thread nD τ).loc main_v6_0) = accOut m h0 c
      ∧ r.2.mem ((c.tc : Thread nD τ).loc main_v6_1) = resC (V m c main_v1) (V m c main_v3) (V m c main_v4) (V m c main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1.1 c).1 1).trans (arr1_eq m h0 c),
      (h.1.2 c main_v6_1 (by decide)).trans (G_eq m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩, h.2⟩)
    (run_main m ρ h0)

end Cert.KernelIdeal.Hand

end
-- ==== Proof.KDec.lean ====
module

public import proofs.«01_k».proof.Proof.Gen.Kernel.Skeleton
public import Idealize.ShloMosaic.Lib.Pointwise
public import Idealize.ShloMosaic.Lib.Pointwise.Index
public import Idealize.ShloMosaic.Lib.BitcastPair
public import Idealize.ShloMosaic.Lib.Pipeline.Value

@[expose] public section

set_option maxRecDepth 16384

noncomputable section

namespace Cert.Kernel.Hand

open Cert.Kernel Cert.Kernel.Gen
open Idealize.ShloMosaic

variable {F : FTy → Type} [FloatOps F]

/-- The lane number of every element. -/
def lane : IVec S8x128 32 := iota .tc S8x128 32 [1] iota_S8x128_d1_w32
/-- Whether the lane number has the bits `b`. -/
def bitv (b : BitVec 32) : IVec S8x128 1 := cmpi .ne (andi lane (broadcast S8x128 b)) (broadcast S8x128 0#32)
/-- Through a column shape and back. -/
def viaCol (x : IVec S8x128 32) : IVec S8x128 32 := shapeCast S8x128 (shapeCast S8x128x1 x shapeCasts_S8x128_S8x128x1) shapeCasts_S8x128x1_S8x128
/-- Lanes turned by `d` inside each group of eight. -/
def roll (d : BitVec 32) (x : FVec F S8x128 .f32) : FVec F S8x128 .f32 :=
  dynamicGather 1 x (viaCol (ori (andi lane (broadcast S8x128 4294967288#32)) (andi (subi lane (broadcast S8x128 d)) (broadcast S8x128 7#32))))
/-- One stage of the barrel shift over the eight vectors. -/
def stage (b : BitVec 32) (n : Fin 8) (x : Fin 8 → FVec F S8x128 .f32) : Fin 8 → FVec F S8x128 .f32 :=
  fun i => select (bitv b) (x (i + n)) (x i)
/-- The barrel shift over the eight vectors. -/
def barrel (x : Fin 8 → FVec F S8x128 .f32) : Fin 8 → FVec F S8x128 .f32 := stage 4#32 4 (stage 2#32 2 (stage 1#32 1 x))
/-- The eight vectors, one lane of each in turn. -/
def interl (x : Fin 8 → FVec F S8x128 .f32) (t : Fin 8) : FVec F S8x128 .f32 :=
  barrel ![barrel x 0, roll 1#32 (barrel x 1), roll 2#32 (barrel x 2), roll 3#32 (barrel x 3), roll 4#32 (barrel x 4),
    roll 5#32 (barrel x 5), roll 6#32 (barrel x 6), roll 7#32 (barrel x 7)] (-t)

theorem viaCol_eq (x : IVec S8x128 32) : viaCol x = x := by
  unfold viaCol
  funext i
  unfold shapeCast
  rw [Shape.reshapeEquiv_reshapeEquiv, Shape.reshapeEquiv_self]

theorem lane_at (r : Fin 8) (j : Fin 128) : lane (ix2 r j) = BitVec.ofNat 32 j.val := by
  unfold lane
  simp only [pointwise]
  congr 1
  show (0 * 128 + j.val) = j.val
  omega

def selE (b : BitVec 32) (j : Fin 128) : Bool := (BitVec.ofNat 32 j.val &&& b) != 0#32

theorem bitv_at (b : BitVec 32) (r : Fin 8) (j : Fin 128) : bitv b (ix2 r j) = BitVec.ofBool (selE b j) := by
  show Scalar.cmpi .ne (lane (ix2 r j) &&& b) 0#32 = _
  rw [lane_at]
  rfl

theorem stage_at (b : BitVec 32) (n : Fin 8) (x : Fin 8 → FVec F S8x128 .f32) (i r : Fin 8) (j : Fin 128) :
    stage b n x i (ix2 r j) = x (if selE b j then i + n else i) (ix2 r j) := by
  show Scalar.select (bitv b (ix2 r j)) (x (i + n) (ix2 r j)) (x i (ix2 r j)) = _
  rw [bitv_at]
  cases selE b j <;> rfl

theorem sel_all : ∀ (j : Fin 128) (i : Fin 8),
    (if selE 1#32 j then (if selE 2#32 j then (if selE 4#32 j then i + 4 else i) + 2 else (if selE 4#32 j then i + 4 else i)) + 1
      else (if selE 2#32 j then (if selE 4#32 j then i + 4 else i) + 2 else (if selE 4#32 j then i + 4 else i)))
    = i + ⟨j.val % 8, Nat.mod_lt _ (by decide)⟩ := by
  decide +kernel

theorem barrel_at (x : Fin 8 → FVec F S8x128 .f32) (i r : Fin 8) (j : Fin 128) :
    barrel x i (ix2 r j) = x (i + ⟨j.val % 8, Nat.mod_lt _ (by decide)⟩) (ix2 r j) := by
  unfold barrel
  rw [stage_at, stage_at, stage_at, sel_all]

theorem gather_at {α : Type} (x : S8x128.Idx → α) (idx : IVec S8x128 32) (r : Fin 8) (j : Fin 128) :
    dynamicGather 1 x idx (ix2 r j) = x (ix2 r ⟨(idx (ix2 r j)).toNat % 128, Nat.mod_lt _ (by decide)⟩) := by
  unfold dynamicGather
  congr 1
  funext b
  match b with
  | ⟨0, _⟩ => rfl
  | ⟨1, _⟩ => rfl

theorem roll_word : ∀ (d : Fin 8) (j : Fin 128),
    ((BitVec.ofNat 32 j.val &&& 4294967288#32) ||| ((BitVec.ofNat 32 j.val - BitVec.ofNat 32 d.val) &&& 7#32)).toNat % 128
      = j.val / 8 * 8 + (j.val + 8 - d.val) % 8 := by
  decide +kernel

theorem roll_at (d : Fin 8) (x : FVec F S8x128 .f32) (r : Fin 8) (j : Fin 128) :
    roll (BitVec.ofNat 32 d.val) x (ix2 r j) = x (ix2 r ⟨j.val / 8 * 8 + (j.val + 8 - d.val) % 8, by omega⟩) := by
  unfold roll
  rw [gather_at, viaCol_eq]
  congr 2
  apply Fin.ext
  show ((lane (ix2 r j) &&& 4294967288#32) ||| ((lane (ix2 r j) - BitVec.ofNat 32 d.val) &&& 7#32)).toNat % 128 = _
  rw [lane_at, roll_word]

theorem interl_at (x : Fin 8 → FVec F S8x128 .f32) (t r : Fin 8) (j : Fin 128) :
    interl x t (ix2 r j) = x ⟨j.val % 8, Nat.mod_lt _ (by decide)⟩ (ix2 r ⟨j.val / 8 * 8 + t.val, by omega⟩) := by
  unfold interl
  rw [barrel_at]
  have hv : ∀ d : Fin 8, (![barrel x 0, roll 1#32 (barrel x 1), roll 2#32 (barrel x 2), roll 3#32 (barrel x 3), roll 4#32 (barrel x 4),
    roll 5#32 (barrel x 5), roll 6#32 (barrel x 6), roll 7#32 (barrel x 7)] : Fin 8 → FVec F S8x128 .f32) d (ix2 r j)
      = barrel x d (ix2 r ⟨j.val / 8 * 8 + (j.val + 8 - d.val) % 8, by omega⟩) := by
    intro d
    match d with
    | ⟨0, _⟩ =>
      show barrel x 0 (ix2 r j) = _
      congr 2
      apply Fin.ext
      show j.val = j.val / 8 * 8 + (j.val + 8 - 0) % 8
      omega
    | ⟨1, _⟩ => exact roll_at 1 (barrel x 1) r j
    | ⟨2, _⟩ => exact roll_at 2 (barrel x 2) r j
    | ⟨3, _⟩ => exact roll_at 3 (barrel x 3) r j
    | ⟨4, _⟩ => exact roll_at 4 (barrel x 4) r j
    | ⟨5, _⟩ => exact roll_at 5 (barrel x 5) r j
    | ⟨6, _⟩ => exact roll_at 6 (barrel x 6) r j
    | ⟨7, _⟩ => exact roll_at 7 (barrel x 7) r j
  rw [hv, barrel_at]
  have hd : (-t + (⟨j.val % 8, Nat.mod_lt _ (by decide)⟩ : Fin 8)).val = (8 - t.val + j.val % 8) % 8 := by
    rw [Fin.val_add, Fin.neg_def]
    simp
  have e1 : j.val / 8 * 8 + (j.val + 8 - (-t + (⟨j.val % 8, Nat.mod_lt _ (by decide)⟩ : Fin 8)).val) % 8 = j.val / 8 * 8 + t.val := by
    rw [hd]; omega
  have e2 : -t + (⟨j.val % 8, Nat.mod_lt _ (by decide)⟩ : Fin 8) + ⟨(j.val / 8 * 8 + (j.val + 8 - (-t + (⟨j.val % 8, Nat.mod_lt _ (by decide)⟩ : Fin 8)).val) % 8) % 8, Nat.mod_lt _ (by decide)⟩ = ⟨j.val % 8, Nat.mod_lt _ (by decide)⟩ := by
    apply Fin.ext
    rw [Fin.val_add, hd]
    show ((8 - t.val + j.val % 8) % 8 + (j.val / 8 * 8 + (j.val + 8 - (8 - t.val + j.val % 8) % 8) % 8) % 8) % 8 = j.val % 8
    omega
  exact congr (congrArg x e2) (congrArg (ix2 r) (Fin.ext e1))

/-- The table's two halves looked up at the codes `c`. -/
def look (c : IVec S8x128 32) (a b : Vec F S1x1x1x8x128 .f32) : FVec F S8x128 .f32 :=
  select (cmpi .sge c (broadcast S8x128 128#32))
    (dynamicGather 1 (shapeCast S8x128 b shapeCasts_S1x1x1x8x128_S8x128) (viaCol (andi c (broadcast S8x128 127#32))))
    (dynamicGather 1 (shapeCast S8x128 a shapeCasts_S1x1x1x8x128_S8x128) (viaCol (andi c (broadcast S8x128 127#32))))

theorem word127 (c : BitVec 8) : (BitVec.setWidth 32 c &&& 127#32).toNat % 128 = c.toNat % 128 := by
  revert c; decide +kernel

theorem wordge (c : BitVec 8) : Scalar.cmpi .sge (BitVec.setWidth 32 c) 128#32 = BitVec.ofBool (decide (128 ≤ c.toNat)) := by
  revert c; decide +kernel

theorem look_at (c : IVec S8x128 32) (a b : Vec F S1x1x1x8x128 .f32) (T : Fin 256 → F .f32) (q : BitVec 8) (r : Fin 8) (l : Fin 128)
    (hc : c (ix2 r l) = BitVec.setWidth 32 q)
    (ha : ∀ l : Fin 128, a (ix5 (n0 := 1) (n1 := 1) (n2 := 1) (n3 := 8) (n4 := 128) 0 0 0 r l) = T ⟨l.val, by omega⟩)
    (hb : ∀ l : Fin 128, b (ix5 (n0 := 1) (n1 := 1) (n2 := 1) (n3 := 8) (n4 := 128) 0 0 0 r l) = T ⟨128 + l.val, by omega⟩) :
    look c a b (ix2 r l) = T ⟨q.toNat, q.isLt⟩ := by
  have hs : ∀ (z : Vec F S1x1x1x8x128 .f32) (l : Fin 128), shapeCast S8x128 z shapeCasts_S1x1x1x8x128_S8x128 (ix2 r l) = z (ix5 (n0 := 1) (n1 := 1) (n2 := 1) (n3 := 8) (n4 := 128) 0 0 0 r l) := by
    intro z l
    simp only [pointwise]
  have hg : ∀ (z : Vec F S1x1x1x8x128 .f32), dynamicGather 1 (shapeCast S8x128 z shapeCasts_S1x1x1x8x128_S8x128) (viaCol (andi c (broadcast S8x128 127#32))) (ix2 r l)
      = z (ix5 (n0 := 1) (n1 := 1) (n2 := 1) (n3 := 8) (n4 := 128) 0 0 0 r ⟨q.toNat % 128, Nat.mod_lt _ (by decide)⟩) := by
    intro z
    rw [gather_at, viaCol_eq, hs]
    congr 2
    apply Fin.ext
    show (c (ix2 r l) &&& 127#32).toNat % 128 = _
    rw [hc, word127]
  show Scalar.select (Scalar.cmpi .sge (c (ix2 r l)) 128#32) (dynamicGather 1 _ _ (ix2 r l)) (dynamicGather 1 _ _ (ix2 r l)) = _
  rw [hg, hg, hc, wordge, ha, hb]
  have hq := q.isLt
  by_cases h : 128 ≤ q.toNat
  · rw [decide_eq_true h]
    show T _ = T _
    congr 1; apply Fin.ext; show 128 + q.toNat % 128 = q.toNat; omega
  · rw [decide_eq_false h]
    show T _ = T _
    congr 1; apply Fin.ext; show q.toNat % 128 = q.toNat; omega

theorem perm_word : ∀ l : Fin 128, (((BitVec.ofNat 32 l.val &&& 7#32) * 16#32) + (BitVec.ofNat 32 l.val).sshiftRight 3).toNat % 128 = l.val % 8 * 16 + l.val / 8 := by
  decide +kernel

/-- Row `row j` of the word vector, bytes put together: byte `p` of word row `a` is row `4 a + p`. -/
theorem pack_bit (x : IVec S32x128 8) (a : Fin 8) (l : Fin 128) (q : ℕ) (hq : q < 32) :
    (bitcast S8x128 32 x bitcasts_S32x128_w8_S8x128_w32 (ix2 a l)).getLsbD q = (x (ix2 ⟨4 * a.val + q / 8, by omega⟩ l)).getLsbD (q % 8) := by
  rw [bitcast_getLsbD x bitcasts_S32x128_w8_S8x128_w32 (ix2 a l) q hq (by decide)]
  have er : S8x128.row (ix2 a l) = a.val := rfl
  have em : (S8x128.row (ix2 a l) * 32 + q) % 8 = q % 8 := by rw [er]; omega
  rw [em]
  congr 2
  funext b
  apply Fin.ext
  match b with
  | ⟨0, _⟩ => show (a.val * 32 + q) / 8 = 4 * a.val + q / 8; omega
  | ⟨1, _⟩ => rfl

theorem unpack_bit (x : IVec S8x128 32) (r : Fin 32) (l : Fin 128) (q : ℕ) (hq : q < 8) :
    (bitcast S32x128 8 x bitcasts_S8x128_w32_S32x128_w8 (ix2 r l)).getLsbD q = (x (ix2 ⟨r.val / 4, by omega⟩ l)).getLsbD (r.val % 4 * 8 + q) := by
  rw [bitcast_getLsbD x bitcasts_S8x128_w32_S32x128_w8 (ix2 r l) q hq (by decide)]
  have er : S32x128.row (ix2 r l) = r.val := rfl
  have em : (S32x128.row (ix2 r l) * 8 + q) % 32 = r.val % 4 * 8 + q := by rw [er]; omega
  rw [em]
  congr 2
  funext b
  apply Fin.ext
  match b with
  | ⟨0, _⟩ => show (r.val * 8 + q) / 32 = r.val / 4; omega
  | ⟨1, _⟩ => rfl

/-- The lane permutation of the packed codes. -/
def permv : IVec S8x128 32 := addi (muli (andi lane (broadcast S8x128 7#32)) (broadcast S8x128 16#32)) (shrsi lane (broadcast S8x128 3#32))

theorem permv_at (r : Fin 8) (l : Fin 128) : (permv (ix2 r l)).toNat % 128 = l.val % 8 * 16 + l.val / 8 := by
  show (((lane (ix2 r l) &&& 7#32) * 16#32) + Scalar.shrsi (lane (ix2 r l)) 3#32).toNat % 128 = _
  rw [lane_at]
  revert l; decide +kernel

/-- The unpacked codes at row `r`, lane `l`: the code of the same row at the group the lane holds. -/
theorem codes_at (C : Vec F S1x32x128 .i8) (r : Fin 32) (l : Fin 128) :
    k0_pay1 C (ix2 r l) = BitVec.setWidth 32 (C (ix3 (n0 := 1) (n1 := 32) (n2 := 128) 0 r ⟨l.val % 8 * 16 + l.val / 8, by omega⟩) : BitVec 8) := by
  show BitVec.setWidth 32 (bitcast S32x128 8 (dynamicGather 1 (bitcast S8x128 32 (shapeCast S32x128 C shapeCasts_S1x32x128_S32x128) bitcasts_S32x128_w8_S8x128_w32) (viaCol permv)) bitcasts_S8x128_w32_S32x128_w8 (ix2 r l)) = _
  congr 1
  apply BitVec.eq_of_getLsbD_eq
  intro q hq
  rw [unpack_bit _ r l q hq, gather_at, viaCol_eq, pack_bit _ _ _ _ (by omega)]
  have e : ∀ (a : Fin 32) (b : Fin 128), shapeCast S32x128 C shapeCasts_S1x32x128_S32x128 (ix2 a b) = C (ix3 (n0 := 1) (n1 := 32) (n2 := 128) 0 a b) := by
    intro a b
    simp only [pointwise]
  rw [e]
  have e1 : (r.val % 4 * 8 + q) % 8 = q := by omega
  rw [e1]
  congr 2
  congr 1
  · apply Fin.ext; show 4 * (r.val / 4) + (r.val % 4 * 8 + q) / 8 = r.val; omega
  · exact Fin.ext (permv_at _ l)

/-- One part of eight rows: the residual less the scaled, interleaved sums. -/
def rpart (c0 c1 : IVec S8x128 32) (T : Fin 2 → Fin 8 → Fin 2 → Vec F S1x1x1x8x128 .f32) (sc : Vec F S8x128 .f32)
    (w : Vec F S1x8x128 .f32) (i : Fin 8) : FVec F S8x128 .f32 :=
  subf (shapeCast S8x128 w shapeCasts_S1x8x128_S8x128)
    (mulf sc (interl (fun e => addf (look c0 (T 0 e 0) (T 0 e 1)) (look c1 (T 1 e 0) (T 1 e 1))) i))

theorem rpart_at (c0 c1 : IVec S8x128 32) (T : Fin 2 → Fin 8 → Fin 2 → Vec F S1x1x1x8x128 .f32) (sc : Vec F S8x128 .f32)
    (w : Vec F S1x8x128 .f32) (i r : Fin 8) (j : Fin 128) (B : Fin 2 → Fin 8 → Fin 256 → F .f32) (q0 q1 : BitVec 8)
    (h0 : c0 (ix2 r ⟨j.val / 8 * 8 + i.val, by omega⟩) = BitVec.setWidth 32 q0) (h1 : c1 (ix2 r ⟨j.val / 8 * 8 + i.val, by omega⟩) = BitVec.setWidth 32 q1)
    (hT : ∀ (m : Fin 2) (e : Fin 8) (hf : Fin 2) (l : Fin 128), T m e hf (ix5 (n0 := 1) (n1 := 1) (n2 := 1) (n3 := 8) (n4 := 128) 0 0 0 r l) = B m e ⟨128 * hf.val + l.val, by omega⟩) :
    rpart c0 c1 T sc w i (ix2 r j) = FloatOps.subf (w (ix3 (n0 := 1) (n1 := 8) (n2 := 128) 0 r j))
      (FloatOps.mulf (sc (ix2 r j)) (FloatOps.addf (B 0 ⟨j.val % 8, Nat.mod_lt _ (by decide)⟩ ⟨q0.toNat, q0.isLt⟩) (B 1 ⟨j.val % 8, Nat.mod_lt _ (by decide)⟩ ⟨q1.toNat, q1.isLt⟩))) := by
  have hs : shapeCast S8x128 w shapeCasts_S1x8x128_S8x128 (ix2 r j) = w (ix3 (n0 := 1) (n1 := 8) (n2 := 128) 0 r j) := by
    simp only [pointwise]
  show FloatOps.subf (shapeCast S8x128 w shapeCasts_S1x8x128_S8x128 (ix2 r j)) (FloatOps.mulf (sc (ix2 r j)) (interl _ i (ix2 r j))) = _
  rw [hs, interl_at]
  have hl : ∀ (m : Fin 2) (c : IVec S8x128 32) (q : BitVec 8) (e : Fin 8), c (ix2 r ⟨j.val / 8 * 8 + i.val, by omega⟩) = BitVec.setWidth 32 q →
      look c (T m e 0) (T m e 1) (ix2 r ⟨j.val / 8 * 8 + i.val, by omega⟩) = B m e ⟨q.toNat, q.isLt⟩ := by
    intro m c q e hc
    refine look_at c (T m e 0) (T m e 1) (B m e) q r _ hc (fun l => ?_) (fun l => ?_)
    · rw [hT]; congr 1; apply Fin.ext; show 128 * 0 + l.val = l.val; omega
    · rw [hT]; rfl
  show FloatOps.subf _ (FloatOps.mulf _ (FloatOps.addf (look c0 _ _ _) (look c1 _ _ _))) = _
  rw [hl 0 c0 q0 _ h0, hl 1 c1 q1 _ h1]

/-- A band of thirty-two rows, narrowed. -/
def rband (c0 c1 : Fin 4 → IVec S8x128 32) (T : Fin 2 → Fin 8 → Fin 2 → Vec F S1x1x1x8x128 .f32) (sc : Fin 4 → Vec F S8x128 .f32)
    (w : Fin 4 → Vec F S1x8x128 .f32) (i : Fin 8) : FVec F S32x128 .bf16 :=
  truncf .bf16 (concatenate S32x128 0 [⟨S8x128, rpart (c0 0) (c1 0) T (sc 0) (w 0) i⟩, ⟨S8x128, rpart (c0 1) (c1 1) T (sc 1) (w 1) i⟩,
    ⟨S8x128, rpart (c0 2) (c1 2) T (sc 2) (w 2) i⟩, ⟨S8x128, rpart (c0 3) (c1 3) T (sc 3) (w 3) i⟩] concatenates_S8x128_S8x128_S8x128_S8x128_S32x128_d0) bitsLt_bf16_f32

theorem rband_at (c0 c1 : Fin 4 → IVec S8x128 32) (T : Fin 2 → Fin 8 → Fin 2 → Vec F S1x1x1x8x128 .f32) (sc : Fin 4 → Vec F S8x128 .f32)
    (w : Fin 4 → Vec F S1x8x128 .f32) (i : Fin 8) (r : Fin 32) (j : Fin 128) :
    rband c0 c1 T sc w i (ix2 r j) = FloatOps.truncf .bf16 bitsLt_bf16_f32
      (rpart (c0 ⟨r.val / 8, by omega⟩) (c1 ⟨r.val / 8, by omega⟩) T (sc ⟨r.val / 8, by omega⟩) (w ⟨r.val / 8, by omega⟩) i (ix2 ⟨r.val % 8, by omega⟩ j)) := by
  unfold rband
  show FloatOps.truncf .bf16 bitsLt_bf16_f32 (concatenate S32x128 0 _ _ (ix2 r j)) = _
  exact congrArg _ (concatenate_ofFn_apply (t := S32x128) (s₁ := S8x128) 0 (fun n : Fin 4 => rpart (c0 n) (c1 n) T (sc n) (w n) i)
    concatenates_S8x128_S8x128_S8x128_S8x128_S32x128_d0 rfl 8 rfl (ix2 r j) ⟨r.val / 8, by omega⟩ rfl (ix2 ⟨r.val % 8, by omega⟩ j) rfl (by
      intro b hb
      match b with
      | ⟨0, _⟩ => exact absurd rfl hb
      | ⟨1, _⟩ => rfl))

/-- The chunk's block number, as the kernel computes it. -/
def base (v0 : BitVec 32) : BitVec 32 :=
  Scalar.select
    (Scalar.andi
      (Scalar.cmpi .ne
        (Scalar.subi (Scalar.extui (Scalar.cmpi .sgt v0 0#32)) (Scalar.extui (Scalar.cmpi .slt v0 0#32)))
        (Scalar.subi (Scalar.extui (Scalar.cmpi .sgt 128#32 0#32)) (Scalar.extui (Scalar.cmpi .slt 128#32 0#32))))
      (Scalar.cmpi .ne (Scalar.remsi v0 128#32) 0#32))
    (Scalar.subi (Scalar.divsi v0 128#32) 1#32) (Scalar.divsi v0 128#32)

/-- The first code column of the block that is `x` blocks after the chunk's, of the sixteen in a ring. -/
def ccol (v0 x : BitVec 32) : ℕ :=
  (Scalar.muli (Scalar.remsi (Scalar.addi (base v0) x) 16#32) 128#32).toNat

/-- The number of the block that trip `t` of the main loop fetches first. -/
def fetchX (t : Fin k0_t3_loop.trips) : BitVec 32 :=
  Scalar.addi (Scalar.muli 2#32 (Scalar.addi 0#32 (Scalar.muli (Scf.iv 0#32 1#32 t) 1#32))) 2#32

/-- The four row groups of a band's codes. -/
def cgrp (C : Vec F S1x32x128 .i8) : Fin 4 → IVec S8x128 32 := ![k0_pay2 C, k0_pay3 C, k0_pay4 C, k0_pay5 C]

theorem cgrp_at (C : Vec F S1x32x128 .i8) (q : Fin 4) (r : Fin 8) (l : Fin 128) :
    cgrp C q (ix2 r l) = BitVec.setWidth 32 (C (ix3 (n0 := 1) (n1 := 32) (n2 := 128) 0 ⟨8 * q.val + r.val, by omega⟩ ⟨l.val % 8 * 16 + l.val / 8, by omega⟩) : BitVec 8) := by
  have hs : ∀ (x : IVec S32x128 32) (o : Fin 2 → ℕ) (h : S32x128.Slices o S8x128) (ho : o = ![8 * q.val, 0]), extractStridedSlice S8x128 o x h (ix2 r l) = x (ix2 ⟨8 * q.val + r.val, by omega⟩ l) := by
    intro x o h ho
    refine extractStridedSlice_apply o x h (ix2 r l) (ix2 ⟨8 * q.val + r.val, by omega⟩ l) ?_
    subst ho
    intro a
    match a with
    | ⟨0, _⟩ => rfl
    | ⟨1, _⟩ => exact (Nat.zero_add _).symm
  have e : cgrp C q (ix2 r l) = k0_pay1 C (ix2 ⟨8 * q.val + r.val, by omega⟩ l) := by
    match q, hs with
    | ⟨0, _⟩, hs => exact hs (k0_pay1 C) ![0, 0] slices_S32x128_o0_0_S8x128 rfl
    | ⟨1, _⟩, hs => exact hs (k0_pay1 C) ![8, 0] slices_S32x128_o8_0_S8x128 rfl
    | ⟨2, _⟩, hs => exact hs (k0_pay1 C) ![16, 0] slices_S32x128_o16_0_S8x128 rfl
    | ⟨3, _⟩, hs => exact hs (k0_pay1 C) ![24, 0] slices_S32x128_o24_0_S8x128 rfl
  rw [e, codes_at]

theorem k0_off3_ceq (v0 : BitVec 32) (k : Fin k0_t1_loop.trips) : k0_off3 v0 k = ![0, 32 * k.val, ccol v0 0#32] := by
  have h : ∀ k : Fin k0_t1_loop.trips, k0_off3 0#32 k 1 = 32 * k.val := by decide +kernel
  have e : k0_off3 v0 k = ![0, k0_off3 0#32 k 1, ccol v0 0#32] := by unfold k0_off3 ccol base; rfl
  rw [e, h]

theorem k0_off4_ceq (v0 : BitVec 32) (k : Fin k0_t1_loop.trips) : k0_off4 v0 k = ![1, 32 * k.val, ccol v0 0#32] := by
  have h : ∀ k : Fin k0_t1_loop.trips, k0_off4 0#32 k 1 = 32 * k.val := by decide +kernel
  have e : k0_off4 v0 k = ![1, k0_off4 0#32 k 1, ccol v0 0#32] := by unfold k0_off4 ccol base; rfl
  rw [e, h]

theorem k0_off30_ceq (v0 : BitVec 32) (k : Fin k0_t2_loop.trips) : k0_off30 v0 k = ![0, 32 * k.val, ccol v0 1#32] := by
  have h : ∀ k : Fin k0_t2_loop.trips, k0_off30 0#32 k 1 = 32 * k.val := by decide +kernel
  have e : k0_off30 v0 k = ![0, k0_off30 0#32 k 1, ccol v0 1#32] := by unfold k0_off30 ccol base; rfl
  rw [e, h]

theorem k0_off31_ceq (v0 : BitVec 32) (k : Fin k0_t2_loop.trips) : k0_off31 v0 k = ![1, 32 * k.val, ccol v0 1#32] := by
  have h : ∀ k : Fin k0_t2_loop.trips, k0_off31 0#32 k 1 = 32 * k.val := by decide +kernel
  have e : k0_off31 v0 k = ![1, k0_off31 0#32 k 1, ccol v0 1#32] := by unfold k0_off31 ccol base; rfl
  rw [e, h]

theorem k0_off64_ceq (v0 : BitVec 32) (k0_t3 : Fin k0_t3_loop.trips) (k : Fin k0_t4_loop.trips) : k0_off64 v0 k0_t3 k = ![0, 32 * k.val, ccol v0 (fetchX k0_t3)] := by
  have h : ∀ k : Fin k0_t4_loop.trips, k0_off64 0#32 ⟨0, by decide⟩ k 1 = 32 * k.val := by decide +kernel
  have e : k0_off64 v0 k0_t3 k = ![0, k0_off64 0#32 ⟨0, by decide⟩ k 1, ccol v0 (fetchX k0_t3)] := by unfold k0_off64 ccol base fetchX; rfl
  rw [e, h]

theorem k0_off65_ceq (v0 : BitVec 32) (k0_t3 : Fin k0_t3_loop.trips) (k : Fin k0_t4_loop.trips) : k0_off65 v0 k0_t3 k = ![1, 32 * k.val, ccol v0 (fetchX k0_t3)] := by
  have h : ∀ k : Fin k0_t4_loop.trips, k0_off65 0#32 ⟨0, by decide⟩ k 1 = 32 * k.val := by decide +kernel
  have e : k0_off65 v0 k0_t3 k = ![1, k0_off65 0#32 ⟨0, by decide⟩ k 1, ccol v0 (fetchX k0_t3)] := by unfold k0_off65 ccol base fetchX; rfl
  rw [e, h]

theorem k0_off98_ceq (v0 : BitVec 32) (k0_t3 : Fin k0_t3_loop.trips) (k : Fin k0_t5_loop.trips) : k0_off98 v0 k0_t3 k = ![0, 32 * k.val, ccol v0 (Scalar.addi (fetchX k0_t3) 1#32)] := by
  have h : ∀ k : Fin k0_t5_loop.trips, k0_off98 0#32 ⟨0, by decide⟩ k 1 = 32 * k.val := by decide +kernel
  have e : k0_off98 v0 k0_t3 k = ![0, k0_off98 0#32 ⟨0, by decide⟩ k 1, ccol v0 (Scalar.addi (fetchX k0_t3) 1#32)] := by unfold k0_off98 ccol base fetchX; rfl
  rw [e, h]

theorem k0_off99_ceq (v0 : BitVec 32) (k0_t3 : Fin k0_t3_loop.trips) (k : Fin k0_t5_loop.trips) : k0_off99 v0 k0_t3 k = ![1, 32 * k.val, ccol v0 (Scalar.addi (fetchX k0_t3) 1#32)] := by
  have h : ∀ k : Fin k0_t5_loop.trips, k0_off99 0#32 ⟨0, by decide⟩ k 1 = 32 * k.val := by decide +kernel
  have e : k0_off99 v0 k0_t3 k = ![1, k0_off99 0#32 ⟨0, by decide⟩ k 1, ccol v0 (Scalar.addi (fetchX k0_t3) 1#32)] := by unfold k0_off99 ccol base fetchX; rfl
  rw [e, h]

end Cert.Kernel.Hand
end
-- ==== Proof.KBody.lean ====
module

public import proofs.«01_k».proof.Proof.KDec
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev aC0 : Memref sig .tc .smem S1 .i32 := Memref.whole cc0_stg0_0
abbrev aAcc : Memref sig .tc .vmem S512x128 .f32 := Memref.whole cc0_stg1_0
abbrev aW : Memref sig .tc .hbm S128x16384 .f32 := Memref.whole main_v1
abbrev aCd : Memref sig .tc .hbm S2x128x2048 .i8 := Memref.whole main_v3
abbrev aCb : Memref sig .tc .hbm S2x8x256 .bf16 := Memref.whole main_v4
abbrev aSc : Memref sig .tc .hbm S1x128 .f32 := Memref.whole main_arg3
abbrev aH : Memref sig .tc .hbm S512x16384 .f32 := Memref.whole main_v5
abbrev aR : Memref sig .tc .hbm S128x16384 .bf16 := Memref.whole main_v6_1
abbrev aWb : Memref sig .tc .vmem S16x128x1024 .f32 := Memref.whole cc0_scratch0
abbrev aHb : Memref sig .tc .vmem S16x512x1024 .f32 := Memref.whole cc0_scratch1
abbrev aRb : Memref sig .tc .vmem S16x128x1024 .bf16 := Memref.whole cc0_scratch2
abbrev aRa : Memref sig .tc .vmem S128x1024 .bf16 := Memref.whole cc0_scratch3
abbrev aRc : Memref sig .tc .vmem S128x1024 .bf16 := Memref.whole cc0_scratch4
abbrev aCodes : Memref sig .tc .vmem S2x128x2048 .i8 := Memref.whole cc0_scratch5
abbrev aCbv : Memref sig .tc .vmem S2x8x256 .bf16 := Memref.whole cc0_scratch6
abbrev aSv : Memref sig .tc .vmem S1x128 .f32 := Memref.whole cc0_scratch7
abbrev aTab : Memref sig .tc .vmem S2x8x2x8x128 .f32 := Memref.whole cc0_scratch8
abbrev aScol : Memref sig .tc .vmem S128x128 .f32 := Memref.whole cc0_scratch9

theorem slot_inb {n : ℕ} (h : n < 16) : ∀ a, (![n, 0, 0] : Fin 3 → ℕ) a + S1x128x1024.size a ≤ S16x128x1024.size a := by
  intro a
  match a with
  | ⟨0, _⟩ => show n + 1 ≤ 16; omega
  | ⟨1, _⟩ => show 0 + 128 ≤ 128; omega
  | ⟨2, _⟩ => show 0 + 1024 ≤ 1024; omega
theorem slotH_inb {n : ℕ} (h : n < 16) : ∀ a, (![n, 0, 0] : Fin 3 → ℕ) a + S1x512x1024.size a ≤ S16x512x1024.size a := by
  intro a
  match a with
  | ⟨0, _⟩ => show n + 1 ≤ 16; omega
  | ⟨1, _⟩ => show 0 + 512 ≤ 512; omega
  | ⟨2, _⟩ => show 0 + 1024 ≤ 1024; omega

/-- Slot `n` of the residual buffer. -/
abbrev wSlot (n : ℕ) (h : n < 16) : Memref sig .tc .vmem S128x1024 .f32 :=
  (aWb.slice (Rect.unit (s := S16x128x1024) ![n, 0, 0] S1x128x1024.size (slot_inb h)) (fun _ => rfl)).squeeze S128x1024 squeezes_S1x128x1024_S128x1024
/-- Slot `n` of the Hessian-row buffer. -/
abbrev hSlot (n : ℕ) (h : n < 16) : Memref sig .tc .vmem S512x1024 .f32 :=
  (aHb.slice (Rect.unit (s := S16x512x1024) ![n, 0, 0] S1x512x1024.size (slotH_inb h)) (fun _ => rfl)).squeeze S512x1024 squeezes_S1x512x1024_S512x1024

/-- The code of group `g` of row `r`, of the codebook `m`, in the block whose codes start at column `o`. -/
def tcode (XC : aCodes.view.ty.Contents (Elt F)) (o : ℕ) (m : Fin 2) (r : Fin 128) (g : ℕ) : BitVec 8 :=
  XC (ix3 (n0 := 2) (n1 := 128) (n2 := 2048) m r ⟨(o + g) % 2048, Nat.mod_lt _ (by decide)⟩)
/-- Entry `q` of column `e` of the codebook `m`, as the table holds it for row `r`. -/
def tent (XT : aTab.view.ty.Contents (Elt F)) (r : Fin 128) (m : Fin 2) (e : Fin 8) (q : Fin 256) : F .f32 :=
  XT (ix5 (n0 := 2) (n1 := 8) (n2 := 2) (n3 := 8) (n4 := 128) m e ⟨q.val / 128, by omega⟩ ⟨r.val % 8, by omega⟩ ⟨q.val % 128, by omega⟩)
/-- The residual at row `r` and column `cl` of a block: `x` less the scaled sum of the two codebook entries, narrowed. -/
def deci (XC : aCodes.view.ty.Contents (Elt F)) (XT : aTab.view.ty.Contents (Elt F)) (XS : aScol.view.ty.Contents (Elt F)) (o : ℕ)
    (x : F .f32) (r : Fin 128) (cl : Fin 1024) : F .bf16 :=
  FloatOps.truncf .bf16 bitsLt_bf16_f32 (FloatOps.subf x
    (FloatOps.mulf (XS (ix2 (n0 := 128) (n1 := 128) r ⟨cl.val % 128, Nat.mod_lt _ (by decide)⟩) : F .f32)
      (FloatOps.addf (tent XT r 0 ⟨cl.val % 8, Nat.mod_lt _ (by decide)⟩ ⟨(tcode XC o 0 r (cl.val / 8)).toNat, (tcode XC o 0 r (cl.val / 8)).isLt⟩)
        (tent XT r 1 ⟨cl.val % 8, Nat.mod_lt _ (by decide)⟩ ⟨(tcode XC o 1 r (cl.val / 8)).toNat, (tcode XC o 1 r (cl.val / 8)).isLt⟩))))
/-- The residual of slot `t`. -/
abbrev decs (XC : aCodes.view.ty.Contents (Elt F)) (XT : aTab.view.ty.Contents (Elt F)) (XS : aScol.view.ty.Contents (Elt F)) (o : ℕ)
    (t : Fin 16) (X : aWb.view.ty.Contents (Elt F)) : Fin 128 → Fin 1024 → F .bf16 :=
  fun r cl => deci XC XT XS o (X (ix3 (n0 := 16) (n1 := 128) (n2 := 1024) t r cl)) r cl

/-- Rows `32 k` to `32 k + 31` of slot `t` of the narrowed buffer, from the values `D`. -/
def bandR (t : ℕ) (D : Fin 128 → Fin 1024 → F .bf16) (k : ℕ) (g : aRb.view.ty.Contents (Elt F)) : aRb.view.ty.Contents (Elt F) :=
  fun y => if (y 0).val = t ∧ 32 * k ≤ (y 1).val ∧ (y 1).val < 32 * k + 32 then D (y 1) (y 2) else g y

/-- The narrowed buffer after `k` trips. -/
def updR (t : ℕ) (D : Fin 128 → Fin 1024 → F .bf16) (g : aRb.view.ty.Contents (Elt F)) : ℕ → aRb.view.ty.Contents (Elt F)
  | 0 => g
  | k + 1 => bandR t D k (updR t D g k)

/-- Rows `32 k` to `32 k + 31` of the matrix operand, from the values `D`. -/
def bandA (D : Fin 128 → Fin 1024 → F .bf16) (k : ℕ) (g : aRa.view.ty.Contents (Elt F)) : aRa.view.ty.Contents (Elt F) :=
  fun y => if 32 * k ≤ (y 0).val ∧ (y 0).val < 32 * k + 32 then D (y 0) (y 1) else g y

/-- The matrix operand after `k` trips of the loop of block `t` (the number only names the loop). -/
def updA (t : ℕ) (D : Fin 128 → Fin 1024 → F .bf16) (g : aRa.view.ty.Contents (Elt F)) : ℕ → aRa.view.ty.Contents (Elt F)
  | 0 => g
  | k + 1 => bandA D k (updA t D g k)

theorem forall_fin8 {P : Fin 8 → Prop} (h0 : P 0) (h1 : P 1) (h2 : P 2) (h3 : P 3) (h4 : P 4) (h5 : P 5) (h6 : P 6) (h7 : P 7) : ∀ i, P i := fun
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7

theorem shR_apply (p : FVec F S32x128 .bf16) (D : Fin 128 → Fin 1024 → F .bf16) (t k : ℕ) (i : Fin 8) (hk : k < 4) (o : Fin 3 → ℕ)
    (h : ∀ a, o a + S1x32x128.size a ≤ S16x128x1024.size a) (ho : o = ![t, 32 * k, 128 * i.val])
    (hp : ∀ (r : Fin 32) (j : Fin 128), p (ix2 r j) = D ⟨32 * k + r.val, by omega⟩ ⟨128 * i.val + j.val, by omega⟩) (x : S1x32x128.Idx) :
    shapeCast S1x32x128 p shapeCasts_S32x128_S1x32x128 x
      = D ((Rect.unit (s := S16x128x1024) o S1x32x128.size h).emb x 1) ((Rect.unit (s := S16x128x1024) o S1x32x128.size h).emb x 2) := by
  subst ho
  have e : x = ix3 (n0 := 1) (n1 := 32) (n2 := 128) 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have e2 : shapeCast S1x32x128 p shapeCasts_S32x128_S1x32x128 (ix3 (n0 := 1) (n1 := 32) (n2 := 128) 0 (x 1) (x 2)) = p (ix2 (n0 := 32) (n1 := 128) (x 1) (x 2)) := by
    simp only [pointwise]
  refine (congrArg _ e).trans (e2.trans ((hp (x 1) (x 2)).trans ?_))
  refine congr (congrArg D (Fin.ext ?_)) (Fin.ext ?_)
  · show 32 * k + (x 1).val = 32 * k + 1 * (x 1).val
    omega
  · show 128 * i.val + (x 2).val = 128 * i.val + 1 * (x 2).val
    omega

theorem shA_apply (p : FVec F S32x128 .bf16) (D : Fin 128 → Fin 1024 → F .bf16) (k : ℕ) (i : Fin 8) (hk : k < 4) (o : Fin 2 → ℕ)
    (h : ∀ a, o a + S32x128.size a ≤ S128x1024.size a) (ho : o = ![32 * k, 128 * i.val])
    (hp : ∀ (r : Fin 32) (j : Fin 128), p (ix2 r j) = D ⟨32 * k + r.val, by omega⟩ ⟨128 * i.val + j.val, by omega⟩) (x : S32x128.Idx) :
    shapeCast S32x128 p shapeCasts_S32x128_S32x128 x
      = D ((Rect.unit (s := S128x1024) o S32x128.size h).emb x 0) ((Rect.unit (s := S128x1024) o S32x128.size h).emb x 1) := by
  subst ho
  have e : x = ix2 (n0 := 32) (n1 := 128) (x 0) (x 1) := by
    funext a
    match a with
    | ⟨0, _⟩ => rfl
    | ⟨1, _⟩ => rfl
  have e2 : shapeCast S32x128 p shapeCasts_S32x128_S32x128 x = p x := by
    unfold shapeCast
    rw [Shape.reshapeEquiv_self]
  refine e2.trans ((congrArg p e).trans ((hp (x 0) (x 1)).trans ?_))
  refine congr (congrArg D (Fin.ext ?_)) (Fin.ext ?_)
  · show 32 * k + (x 0).val = 32 * k + 1 * (x 0).val
    omega
  · show 128 * i.val + (x 1).val = 128 * i.val + 1 * (x 1).val
    omega

theorem bandR_eq (t k : ℕ) (D : Fin 128 → Fin 1024 → F .bf16) (g : aRb.view.ty.Contents (Elt F)) (o : Fin 8 → Fin 3 → ℕ)
    (h : ∀ i a, o i a + S1x32x128.size a ≤ S16x128x1024.size a) (ho : ∀ i, o i = ![t, 32 * k, 128 * i.val]) (hk : k < 4) (p : Fin 8 → FVec F S32x128 .bf16)
    (hp : ∀ (i : Fin 8) (r : Fin 32) (j : Fin 128), p i (ix2 r j) = D ⟨32 * k + r.val, by omega⟩ ⟨128 * i.val + j.val, by omega⟩) :
    aRb.view.writes (Elt F) g [⟨Rect.unit (s := S16x128x1024) (o 7) S1x32x128.size (h 7), shapeCast S1x32x128 (p 7) shapeCasts_S32x128_S1x32x128⟩,
      ⟨Rect.unit (s := S16x128x1024) (o 6) S1x32x128.size (h 6), shapeCast S1x32x128 (p 6) shapeCasts_S32x128_S1x32x128⟩,
      ⟨Rect.unit (s := S16x128x1024) (o 5) S1x32x128.size (h 5), shapeCast S1x32x128 (p 5) shapeCasts_S32x128_S1x32x128⟩,
      ⟨Rect.unit (s := S16x128x1024) (o 4) S1x32x128.size (h 4), shapeCast S1x32x128 (p 4) shapeCasts_S32x128_S1x32x128⟩,
      ⟨Rect.unit (s := S16x128x1024) (o 3) S1x32x128.size (h 3), shapeCast S1x32x128 (p 3) shapeCasts_S32x128_S1x32x128⟩,
      ⟨Rect.unit (s := S16x128x1024) (o 2) S1x32x128.size (h 2), shapeCast S1x32x128 (p 2) shapeCasts_S32x128_S1x32x128⟩,
      ⟨Rect.unit (s := S16x128x1024) (o 1) S1x32x128.size (h 1), shapeCast S1x32x128 (p 1) shapeCasts_S32x128_S1x32x128⟩,
      ⟨Rect.unit (s := S16x128x1024) (o 0) S1x32x128.size (h 0), shapeCast S1x32x128 (p 0) shapeCasts_S32x128_S1x32x128⟩] = bandR t D k g := by
  have hmem : ∀ (L : List (View.Piece (Elt F) S16x128x1024 .bf16)), L = List.map (fun i : Fin 8 => (⟨Rect.unit (s := S16x128x1024) (o i) S1x32x128.size (h i), shapeCast S1x32x128 (p i) shapeCasts_S32x128_S1x32x128⟩ : View.Piece (Elt F) S16x128x1024 .bf16)) [7, 6, 5, 4, 3, 2, 1, 0] →
      aRb.view.writes (Elt F) g L = bandR t D k g := by
    intro L hL
    funext y
    show aRb.view.read (Elt F) (aRb.view.writes (Elt F) g L) y = _
    unfold bandR
    split
    · rename_i hy
      rw [View.read_writes_apply_of_pieces aRb.view g (fun y => D (y 1) (y 2)) L]
      · intro q hq x
        rw [hL, List.mem_map] at hq
        obtain ⟨i, -, rfl⟩ := hq
        exact shR_apply (p i) D t k i hk (o i) (h i) (ho i) (hp i) x
      · have hc : (y 2).val < 1024 := (y 2).isLt
        have hi : (y 2).val / 128 < 8 := by omega
        refine ⟨⟨Rect.unit (s := S16x128x1024) (o ⟨(y 2).val / 128, hi⟩) S1x32x128.size (h ⟨(y 2).val / 128, hi⟩), shapeCast S1x32x128 (p ⟨(y 2).val / 128, hi⟩) shapeCasts_S32x128_S1x32x128⟩, ?_, ?_⟩
        · rw [hL, List.mem_map]
          refine ⟨⟨(y 2).val / 128, hi⟩, ?_, rfl⟩
          generalize (⟨(y 2).val / 128, hi⟩ : Fin 8) = q
          revert q; decide
        · rw [Rect.mem_set_unit, ho]
          intro a
          match a with
          | ⟨0, _⟩ => show t ≤ (y 0).val ∧ (y 0).val < t + 1; omega
          | ⟨1, _⟩ => show 32 * k ≤ (y 1).val ∧ (y 1).val < 32 * k + 32; omega
          | ⟨2, _⟩ => show 128 * ((y 2).val / 128) ≤ (y 2).val ∧ (y 2).val < 128 * ((y 2).val / 128) + 128; omega
    · rename_i hy
      rw [View.read_writes_apply_of_forall_not_mem aRb.view g y L]
      · rfl
      · intro q hq hm
        rw [hL, List.mem_map] at hq
        obtain ⟨i, -, rfl⟩ := hq
        rw [Rect.mem_set_unit, ho] at hm
        apply hy
        have h0 : t ≤ (y 0).val ∧ (y 0).val < t + 1 := hm 0
        have h1 : 32 * k ≤ (y 1).val ∧ (y 1).val < 32 * k + 32 := hm 1
        omega
  exact hmem _ rfl

theorem bandA_eq (v : View sig .tc .vmem S128x1024 .bf16) (k : ℕ) (D : Fin 128 → Fin 1024 → F .bf16) (g : v.ty.Contents (Elt F))
    (q : Fin 8 → Fin 2 → ℕ) (hq : ∀ i a, q i a + S32x128.size a ≤ S128x1024.size a) (hqe : ∀ i, q i = ![32 * k, 128 * i.val]) (hk : k < 4) (p : Fin 8 → FVec F S32x128 .bf16)
    (hp : ∀ (i : Fin 8) (r : Fin 32) (j : Fin 128), p i (ix2 r j) = D ⟨32 * k + r.val, by omega⟩ ⟨128 * i.val + j.val, by omega⟩) :
    v.read (Elt F) (v.writes (Elt F) g [⟨Rect.unit (s := S128x1024) (q 7) S32x128.size (hq 7), shapeCast S32x128 (p 7) shapeCasts_S32x128_S32x128⟩,
      ⟨Rect.unit (s := S128x1024) (q 6) S32x128.size (hq 6), shapeCast S32x128 (p 6) shapeCasts_S32x128_S32x128⟩,
      ⟨Rect.unit (s := S128x1024) (q 5) S32x128.size (hq 5), shapeCast S32x128 (p 5) shapeCasts_S32x128_S32x128⟩,
      ⟨Rect.unit (s := S128x1024) (q 4) S32x128.size (hq 4), shapeCast S32x128 (p 4) shapeCasts_S32x128_S32x128⟩,
      ⟨Rect.unit (s := S128x1024) (q 3) S32x128.size (hq 3), shapeCast S32x128 (p 3) shapeCasts_S32x128_S32x128⟩,
      ⟨Rect.unit (s := S128x1024) (q 2) S32x128.size (hq 2), shapeCast S32x128 (p 2) shapeCasts_S32x128_S32x128⟩,
      ⟨Rect.unit (s := S128x1024) (q 1) S32x128.size (hq 1), shapeCast S32x128 (p 1) shapeCasts_S32x128_S32x128⟩,
      ⟨Rect.unit (s := S128x1024) (q 0) S32x128.size (hq 0), shapeCast S32x128 (p 0) shapeCasts_S32x128_S32x128⟩]) = bandA D k (v.read (Elt F) g) := by
  have hmem : ∀ (L : List (View.Piece (Elt F) S128x1024 .bf16)), L = List.map (fun i : Fin 8 => (⟨Rect.unit (s := S128x1024) (q i) S32x128.size (hq i), shapeCast S32x128 (p i) shapeCasts_S32x128_S32x128⟩ : View.Piece (Elt F) S128x1024 .bf16)) [7, 6, 5, 4, 3, 2, 1, 0] →
      v.read (Elt F) (v.writes (Elt F) g L) = bandA D k (v.read (Elt F) g) := by
    intro L hL
    funext y
    unfold bandA
    split
    · rename_i hy
      rw [View.read_writes_apply_of_pieces v g (fun y => D (y 0) (y 1)) L]
      · intro z hz x
        rw [hL, List.mem_map] at hz
        obtain ⟨i, -, rfl⟩ := hz
        exact shA_apply (p i) D k i hk (q i) (hq i) (hqe i) (hp i) x
      · have hc : (y 1).val < 1024 := (y 1).isLt
        have hi : (y 1).val / 128 < 8 := by omega
        refine ⟨⟨Rect.unit (s := S128x1024) (q ⟨(y 1).val / 128, hi⟩) S32x128.size (hq ⟨(y 1).val / 128, hi⟩), shapeCast S32x128 (p ⟨(y 1).val / 128, hi⟩) shapeCasts_S32x128_S32x128⟩, ?_, ?_⟩
        · rw [hL, List.mem_map]
          refine ⟨⟨(y 1).val / 128, hi⟩, ?_, rfl⟩
          generalize (⟨(y 1).val / 128, hi⟩ : Fin 8) = q
          revert q; decide
        · rw [Rect.mem_set_unit, hqe]
          intro a
          match a with
          | ⟨0, _⟩ => show 32 * k ≤ (y 0).val ∧ (y 0).val < 32 * k + 32; omega
          | ⟨1, _⟩ => show 128 * ((y 1).val / 128) ≤ (y 1).val ∧ (y 1).val < 128 * ((y 1).val / 128) + 128; omega
    · rename_i hy
      rw [View.read_writes_apply_of_forall_not_mem v g y L]
      · intro z hz hm
        rw [hL, List.mem_map] at hz
        obtain ⟨i, -, rfl⟩ := hz
        rw [Rect.mem_set_unit, hqe] at hm
        apply hy
        have h1 : 32 * k ≤ (y 0).val ∧ (y 0).val < 32 * k + 32 := hm 0
        omega
  exact hmem _ rfl

theorem inb_tab (m : Fin 2) (e : Fin 8) (hf : Fin 2) : ∀ a, (![m.val, e.val, hf.val, 0, 0] : Fin 5 → ℕ) a + S1x1x1x8x128.size a ≤ S2x8x2x8x128.size a := by
  intro a
  match a with
  | ⟨0, _⟩ => show m.val + 1 ≤ 2; omega
  | ⟨1, _⟩ => show e.val + 1 ≤ 8; omega
  | ⟨2, _⟩ => show hf.val + 1 ≤ 2; omega
  | ⟨3, _⟩ => show 0 + 8 ≤ 8; omega
  | ⟨4, _⟩ => show 0 + 128 ≤ 128; omega

/-- The table's rows, as the loops load them. -/
def tabs (XT : aTab.view.ty.Contents (Elt F)) (m : Fin 2) (e : Fin 8) (hf : Fin 2) : Vec F S1x1x1x8x128 .f32 :=
  aTab.view.readAt (Elt F) (Rect.unit (s := S2x8x2x8x128) ![m.val, e.val, hf.val, 0, 0] S1x1x1x8x128.size (inb_tab m e hf)).toLoadRect XT

theorem tabs_at (XT : aTab.view.ty.Contents (Elt F)) (m : Fin 2) (e : Fin 8) (hf : Fin 2) (r : Fin 8) (l : Fin 128) :
    tabs XT m e hf (ix5 (n0 := 1) (n1 := 1) (n2 := 1) (n3 := 8) (n4 := 128) 0 0 0 r l) = XT (ix5 (n0 := 2) (n1 := 8) (n2 := 2) (n3 := 8) (n4 := 128) m e hf r l) := by
  show XT ((Rect.unit (s := S2x8x2x8x128) ![m.val, e.val, hf.val, 0, 0] S1x1x1x8x128.size (inb_tab m e hf)).emb _) = _
  congr 1
  funext a
  apply Fin.ext
  match a with
  | ⟨0, _⟩ => show m.val + 1 * 0 = m.val; omega
  | ⟨1, _⟩ => show e.val + 1 * 0 = e.val; omega
  | ⟨2, _⟩ => show hf.val + 1 * 0 = hf.val; omega
  | ⟨3, _⟩ => show 0 + 1 * r.val = r.val; omega
  | ⟨4, _⟩ => show 0 + 1 * l.val = l.val; omega

/-- A band of thirty-two rows of the residual, as a trip computes it from what it loads. -/
def pval (XC : aCodes.view.ty.Contents (Elt F)) (XT : aTab.view.ty.Contents (Elt F)) (XS : aScol.view.ty.Contents (Elt F)) (X : aWb.view.ty.Contents (Elt F))
    (oc : Fin 2 → Fin 3 → ℕ) (hc : ∀ m a, oc m a + S1x32x128.size a ≤ S2x128x2048.size a)
    (os : Fin 4 → Fin 2 → ℕ) (hs : ∀ q a, os q a + S8x128.size a ≤ S128x128.size a)
    (ow : Fin 8 → Fin 4 → Fin 3 → ℕ) (hw : ∀ i q a, ow i q a + S1x8x128.size a ≤ S16x128x1024.size a) (i : Fin 8) : FVec F S32x128 .bf16 :=
  rband (cgrp (aCodes.view.readAt (Elt F) (Rect.unit (s := S2x128x2048) (oc 0) S1x32x128.size (hc 0)).toLoadRect XC))
    (cgrp (aCodes.view.readAt (Elt F) (Rect.unit (s := S2x128x2048) (oc 1) S1x32x128.size (hc 1)).toLoadRect XC))
    (tabs XT)
    (fun q => aScol.view.readAt (Elt F) (Rect.unit (s := S128x128) (os q) S8x128.size (hs q)).toLoadRect XS)
    (fun q => aWb.view.readAt (Elt F) (Rect.unit (s := S16x128x1024) (ow i q) S1x8x128.size (hw i q)).toLoadRect X) i

theorem pval_at (XC : aCodes.view.ty.Contents (Elt F)) (XT : aTab.view.ty.Contents (Elt F)) (XS : aScol.view.ty.Contents (Elt F)) (X : aWb.view.ty.Contents (Elt F))
    (oc : Fin 2 → Fin 3 → ℕ) (hc : ∀ m a, oc m a + S1x32x128.size a ≤ S2x128x2048.size a)
    (os : Fin 4 → Fin 2 → ℕ) (hs : ∀ q a, os q a + S8x128.size a ≤ S128x128.size a)
    (ow : Fin 8 → Fin 4 → Fin 3 → ℕ) (hw : ∀ i q a, ow i q a + S1x8x128.size a ≤ S16x128x1024.size a)
    (k o : ℕ) (t : Fin 16) (hk : k < 4) (hoc : ∀ m, oc m = ![m.val, 32 * k, o]) (hos : ∀ q, os q = ![32 * k + 8 * q.val, 0])
    (how : ∀ i q, ow i q = ![t.val, 32 * k + 8 * q.val, 128 * i.val]) (i : Fin 8) (r : Fin 32) (j : Fin 128) :
    pval XC XT XS X oc hc os hs ow hw i (ix2 r j) = decs XC XT XS o t X ⟨32 * k + r.val, by omega⟩ ⟨128 * i.val + j.val, by omega⟩ := by
  have hq : r.val / 8 < 4 := by omega
  have ho : o + 128 ≤ 2048 := by
    have := hc 0 2
    rw [hoc] at this
    exact this
  have hcode : ∀ (m : Fin 2), cgrp (aCodes.view.readAt (Elt F) (Rect.unit (s := S2x128x2048) (oc m) S1x32x128.size (hc m)).toLoadRect XC) ⟨r.val / 8, hq⟩ (ix2 ⟨r.val % 8, by omega⟩ ⟨j.val / 8 * 8 + i.val, by omega⟩)
      = BitVec.setWidth 32 (tcode XC o m ⟨32 * k + r.val, by omega⟩ ((128 * i.val + j.val) / 8)) := by
    intro m
    rw [cgrp_at]
    refine congrArg (BitVec.setWidth 32) (congrArg XC (?_ : (Rect.unit (s := S2x128x2048) (oc m) S1x32x128.size (hc m)).emb _ = _))
    have e1 := hoc m
    funext a
    apply Fin.ext
    match a with
    | ⟨0, _⟩ => exact (Nat.add_zero _).trans (congrFun e1 0)
    | ⟨1, _⟩ => exact (congrArg (· + 1 * (8 * (r.val / 8) + r.val % 8)) (congrFun e1 1)).trans (by show 32 * k + 1 * (8 * (r.val / 8) + r.val % 8) = 32 * k + r.val; omega)
    | ⟨2, _⟩ =>
      refine (congrArg (· + 1 * ((j.val / 8 * 8 + i.val) % 8 * 16 + (j.val / 8 * 8 + i.val) / 8)) (congrFun e1 2)).trans ?_
      show o + 1 * ((j.val / 8 * 8 + i.val) % 8 * 16 + (j.val / 8 * 8 + i.val) / 8) = (o + (128 * i.val + j.val) / 8) % 2048
      have a1 : (128 * i.val + j.val) / 8 = 16 * i.val + j.val / 8 := by omega
      have a2 : (j.val / 8 * 8 + i.val) % 8 = i.val := by omega
      have a3 : (j.val / 8 * 8 + i.val) / 8 = j.val / 8 := by omega
      rw [a1, a2, a3, Nat.mod_eq_of_lt (by omega)]
      omega
  unfold pval
  rw [rband_at, rpart_at _ _ _ _ _ i ⟨r.val % 8, by omega⟩ j (tent XT ⟨32 * k + r.val, by omega⟩) _ _ (hcode 0) (hcode 1) (by
    intro m e hf l
    rw [tabs_at]
    unfold tent
    congr 1
    funext a
    apply Fin.ext
    match a with
    | ⟨0, _⟩ => rfl
    | ⟨1, _⟩ => rfl
    | ⟨2, _⟩ => show hf.val = (128 * hf.val + l.val) / 128; omega
    | ⟨3, _⟩ => show r.val % 8 = (32 * k + r.val) % 8; omega
    | ⟨4, _⟩ => show l.val = (128 * hf.val + l.val) % 128; omega)]
  have hx : aWb.view.readAt (Elt F) (Rect.unit (s := S16x128x1024) (ow i ⟨r.val / 8, hq⟩) S1x8x128.size (hw i ⟨r.val / 8, hq⟩)).toLoadRect X (ix3 (n0 := 1) (n1 := 8) (n2 := 128) 0 ⟨r.val % 8, by omega⟩ j)
      = X (ix3 (n0 := 16) (n1 := 128) (n2 := 1024) t ⟨32 * k + r.val, by omega⟩ ⟨128 * i.val + j.val, by omega⟩) := by
    refine congrArg X (?_ : (Rect.unit (s := S16x128x1024) (ow i ⟨r.val / 8, hq⟩) S1x8x128.size (hw i ⟨r.val / 8, hq⟩)).emb _ = _)
    have e1 := how i ⟨r.val / 8, hq⟩
    funext a
    apply Fin.ext
    match a with
    | ⟨0, _⟩ => exact (Nat.add_zero _).trans (congrFun e1 0)
    | ⟨1, _⟩ => exact (congrArg (· + 1 * (r.val % 8)) (congrFun e1 1)).trans (by show 32 * k + 8 * (r.val / 8) + 1 * (r.val % 8) = 32 * k + r.val; omega)
    | ⟨2, _⟩ => exact (congrArg (· + 1 * j.val) (congrFun e1 2)).trans (by show 128 * i.val + 1 * j.val = 128 * i.val + j.val; omega)
  have hsx : aScol.view.readAt (Elt F) (Rect.unit (s := S128x128) (os ⟨r.val / 8, hq⟩) S8x128.size (hs ⟨r.val / 8, hq⟩)).toLoadRect XS (ix2 (n0 := 8) (n1 := 128) ⟨r.val % 8, by omega⟩ j)
      = XS (ix2 (n0 := 128) (n1 := 128) ⟨32 * k + r.val, by omega⟩ ⟨(128 * i.val + j.val) % 128, Nat.mod_lt _ (by decide)⟩) := by
    refine congrArg XS (?_ : (Rect.unit (s := S128x128) (os ⟨r.val / 8, hq⟩) S8x128.size (hs ⟨r.val / 8, hq⟩)).emb _ = _)
    have e1 := hos ⟨r.val / 8, hq⟩
    funext a
    apply Fin.ext
    match a with
    | ⟨0, _⟩ => exact (congrArg (· + 1 * (r.val % 8)) (congrFun e1 0)).trans (by show 32 * k + 8 * (r.val / 8) + 1 * (r.val % 8) = 32 * k + r.val; omega)
    | ⟨1, _⟩ => exact (congrArg (· + 1 * j.val) (congrFun e1 1)).trans (by show 0 + 1 * j.val = (128 * i.val + j.val) % 128; omega)
  rw [hx, hsx]
  have he : (⟨j.val % 8, Nat.mod_lt _ (by decide)⟩ : Fin 8) = ⟨(128 * i.val + j.val) % 8, Nat.mod_lt _ (by decide)⟩ := Fin.ext (by show j.val % 8 = (128 * i.val + j.val) % 8; omega)
  rw [he]
  rfl

abbrev slot2 (i : Fin k0_t3_loop.trips) : Fin 16 := ⟨2 * i.val + 2, by have : i.val < 7 := Nat.lt_of_lt_of_le i.isLt k0_t3_abs.2.1; omega⟩
abbrev slot3 (i : Fin k0_t3_loop.trips) : Fin 16 := ⟨2 * i.val + 3, by have : i.val < 7 := Nat.lt_of_lt_of_le i.isLt k0_t3_abs.2.1; omega⟩

theorem forall_fin2 {P : Fin 2 → Prop} (h0 : P 0) (h1 : P 1) : ∀ i, P i := fun
  | ⟨0, _⟩ => h0 | ⟨1, _⟩ => h1

end Cert.Kernel.Hand
end
-- ==== Proof.KVals.lean ====
module

public import proofs.«01_k».proof.Proof.KBody
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.VecWindow
public import Idealize.ShloMosaic.Lib.Pointwise
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev rWin (v0 : Elt F .i32) (hw : k0_chk1 v0) (i : Fin 16) : Memref sig .tc .hbm S128x1024 .bf16 :=
  aR.slice (Rect.unit (s := S128x16384) (k0_off1 v0 (BitVec.ofNat 32 i.val)) S128x1024.size (k0_off1_inb v0 hw i)) (fun _ => rfl)

/-- A coordinate of an element of a rectangle of unit strides. -/
theorem unit_emb_val {s : Shape} (off size : Fin s.rank → ℕ) (inb : ∀ a, off a + size a ≤ s.size a) (x : (Rect.unit (s := s) off size inb).shape.Idx) (a : Fin s.rank) :
    ((Rect.unit (s := s) off size inb).emb x a).val = off a + (x a).val := by
  rw [Rect.emb_apply]
  show off a + 1 * (x a).val = _
  omega

/-- Block `i` of the residual: the columns that the transfer into slot `i` of the residual buffer reads. -/
def wV (v0 : Elt F .i32) (hw : k0_chk1 v0) (fw : aW.view.ty.Contents (Elt F)) (i : Fin 16) : S128x1024.Idx → Elt F .f32 :=
  fun x => fw ((Rect.unit (s := S128x16384) (k0_off1 v0 (BitVec.ofNat 32 i.val)) S128x1024.size (k0_off1_inb v0 hw i)).emb x)

/-- Block `i` of the Hessian rows. -/
def hV (v0 : Elt F .i32) (hw : k0_chk1 v0) (fh : aH.view.ty.Contents (Elt F)) (i : Fin 16) : S512x1024.Idx → Elt F .f32 :=
  fun x => fh ((Rect.unit (s := S512x16384) (k0_off2 v0 (BitVec.ofNat 32 i.val)) S512x1024.size (k0_off2_inb v0 hw i)).emb x)

/-- The residual buffer with `p` landed in slot `i`. -/
abbrev wX (i : Fin 16) (p : S128x1024.Idx → Elt F .f32) : aWb.view.ty.Contents (Elt F) :=
  (wSlot i.val i.isLt).view.writes (Elt F) (wSlot i.val i.isLt).view.junk [⟨Rect.whole S128x1024, p⟩]
/-- The Hessian-row buffer with `p` landed in slot `i`. -/
abbrev hX (i : Fin 16) (p : S512x1024.Idx → Elt F .f32) : aHb.view.ty.Contents (Elt F) :=
  (hSlot i.val i.isLt).view.writes (Elt F) (hSlot i.val i.isLt).view.junk [⟨Rect.whole S512x1024, p⟩]

theorem wSlot_emb (i : Fin 16) (a : Fin 128) (b : Fin 1024) : (wSlot i.val i.isLt).view.emb (ix2 a b) = ix3 (n0 := 16) (n1 := 128) (n2 := 1024) i a b := by
  have e : Shape.reshapeEquiv (Shape.Squeezes.numel_eq squeezes_S1x128x1024_S128x1024) (ix2 a b) = ix3 (n0 := 1) (n1 := 128) (n2 := 1024) 0 a b :=
    (Shape.reshapeEquiv_cons_one (d := ![128, 1024]) (Shape.Squeezes.numel_eq squeezes_S1x128x1024_S128x1024) (ix2 a b)).trans (by funext a; fin_cases a <;> rfl)
  show (Rect.unit (s := S16x128x1024) ![i.val, 0, 0] S1x128x1024.size (slot_inb i.isLt)).emb (Shape.reshapeEquiv _ (ix2 a b)) = _
  refine (congrArg (Rect.unit (s := S16x128x1024) ![i.val, 0, 0] S1x128x1024.size (slot_inb i.isLt)).emb e).trans ?_
  funext d
  apply Fin.ext
  refine (unit_emb_val (s := S16x128x1024) _ _ _ _ d).trans ?_
  match d with
  | ⟨0, _⟩ => rfl
  | ⟨1, _⟩ => exact Nat.zero_add _
  | ⟨2, _⟩ => exact Nat.zero_add _

theorem hSlot_emb (i : Fin 16) (a : Fin 512) (b : Fin 1024) : (hSlot i.val i.isLt).view.emb (ix2 a b) = ix3 (n0 := 16) (n1 := 512) (n2 := 1024) i a b := by
  have e : Shape.reshapeEquiv (Shape.Squeezes.numel_eq squeezes_S1x512x1024_S512x1024) (ix2 a b) = ix3 (n0 := 1) (n1 := 512) (n2 := 1024) 0 a b :=
    (Shape.reshapeEquiv_cons_one (d := ![512, 1024]) (Shape.Squeezes.numel_eq squeezes_S1x512x1024_S512x1024) (ix2 a b)).trans (by funext a; fin_cases a <;> rfl)
  show (Rect.unit (s := S16x512x1024) ![i.val, 0, 0] S1x512x1024.size (slotH_inb i.isLt)).emb (Shape.reshapeEquiv _ (ix2 a b)) = _
  refine (congrArg (Rect.unit (s := S16x512x1024) ![i.val, 0, 0] S1x512x1024.size (slotH_inb i.isLt)).emb e).trans ?_
  funext d
  apply Fin.ext
  refine (unit_emb_val (s := S16x512x1024) _ _ _ _ d).trans ?_
  match d with
  | ⟨0, _⟩ => rfl
  | ⟨1, _⟩ => exact Nat.zero_add _
  | ⟨2, _⟩ => exact Nat.zero_add _

theorem wSlot_read (i : Fin 16) (a : Fin 128) (b : Fin 1024) (f : aWb.view.ty.Contents (Elt F)) :
    (wSlot i.val i.isLt).view.read (Elt F) f (ix2 a b) = f (ix3 (n0 := 16) (n1 := 128) (n2 := 1024) i a b) := congrArg f (wSlot_emb i a b)

theorem wX_apply (i : Fin 16) (p : S128x1024.Idx → Elt F .f32) (a : Fin 128) (b : Fin 1024) :
    wX i p (ix3 (n0 := 16) (n1 := 128) (n2 := 1024) i a b) = p (ix2 a b) := by
  have h := congrFun (View.read_writes_whole (wSlot i.val i.isLt).view (wSlot i.val i.isLt).view.junk p) (ix2 a b)
  exact (wSlot_read i a b _).symm.trans h

theorem hSlot_read (i : Fin 16) (a : Fin 512) (b : Fin 1024) (f : aHb.view.ty.Contents (Elt F)) :
    (hSlot i.val i.isLt).view.read (Elt F) f (ix2 a b) = f (ix3 (n0 := 16) (n1 := 512) (n2 := 1024) i a b) := congrArg f (hSlot_emb i a b)

theorem hX_apply (i : Fin 16) (p : S512x1024.Idx → Elt F .f32) (a : Fin 512) (b : Fin 1024) :
    hX i p (ix3 (n0 := 16) (n1 := 512) (n2 := 1024) i a b) = p (ix2 a b) := by
  have h := congrFun (View.read_writes_whole (hSlot i.val i.isLt).view (hSlot i.val i.isLt).view.junk p) (ix2 a b)
  exact (hSlot_read i a b _).symm.trans h

/-- What the product of block `i` reads of the Hessian rows. -/
def hblk (v0 : Elt F .i32) (hw : k0_chk1 v0) (fh : aH.view.ty.Contents (Elt F)) (i : Fin 16) : Vec F S1x512x1024 .f32 :=
  fun z => hV v0 hw fh i (ix2 (n0 := 512) (n1 := 1024) (z 1) (z 2))
/-- What the product of block `i` reads of the residual: the values `D` of the block. -/
def rblk (D : Fin 16 → Fin 128 → Fin 1024 → F .bf16) (i : Fin 16) : Vec F S128x1024 .bf16 :=
  fun x => D i (x 0) (x 1)

/-- The accumulator after the products of the first `n` blocks. -/
def accAt (v0 : Elt F .i32) (hw : k0_chk1 v0) (D : Fin 16 → Fin 128 → Fin 1024 → F .bf16) (fh : aH.view.ty.Contents (Elt F)) : ℕ → Vec F S512x128 .f32
  | 0 => k0_pay1789
  | n + 1 => k0_pay1790 (accAt v0 hw D fh n) (hblk v0 hw fh (Fin.ofNat 16 n)) (rblk D (Fin.ofNat 16 n))

/-- A load of slot `i` of the Hessian-row buffer, once block `i` has landed. -/
theorem hload (v0 : Elt F .i32) (hw : k0_chk1 v0) (fh : aH.view.ty.Contents (Elt F)) (i : Fin 16) (h : ∀ a, (![i.val, 0, 0] : Fin 3 → ℕ) a + S1x512x1024.size a ≤ S16x512x1024.size a) :
    aHb.view.readAt (Elt F) (Rect.unit (s := S16x512x1024) ![i.val, 0, 0] S1x512x1024.size h).toLoadRect (hX i (hV v0 hw fh i)) = hblk v0 hw fh i := by
  funext z
  have e : (Rect.unit (s := S16x512x1024) ![i.val, 0, 0] S1x512x1024.size h).emb z = ix3 (n0 := 16) (n1 := 512) (n2 := 1024) i (z 1) (z 2) := by
    funext d
    apply Fin.ext
    refine (unit_emb_val (s := S16x512x1024) _ _ _ _ d).trans ?_
    match d with
    | ⟨0, _⟩ => show i.val + (z 0).val = i.val; have : (z 0).val < 1 := (z 0).isLt; omega
    | ⟨1, _⟩ => exact Nat.zero_add _
    | ⟨2, _⟩ => exact Nat.zero_add _
  have hr : ∀ f : aHb.view.ty.Contents (Elt F), aHb.view.readAt (Elt F) (Rect.unit (s := S16x512x1024) ![i.val, 0, 0] S1x512x1024.size h).toLoadRect f z = f (ix3 (n0 := 16) (n1 := 512) (n2 := 1024) i (z 1) (z 2)) :=
    fun f => congrArg f e
  exact (hr _).trans (hX_apply i _ _ _)

theorem updA_four (t : ℕ) (D : Fin 128 → Fin 1024 → F .bf16) (g : aRa.view.ty.Contents (Elt F)) (y : S128x1024.Idx) :
    updA t D g 4 y = D (y 0) (y 1) := by
  have hy : (y 0).val < 128 := (y 0).isLt
  show bandA D 3 (bandA D 2 (bandA D 1 (bandA D 0 g))) y = _
  unfold bandA
  split; · rfl
  split; · rfl
  split; · rfl
  split; · rfl
  exfalso; rename_i h3 h2 h1 h0
  have : ((y 0).val / 32 = 0 ∨ (y 0).val / 32 = 1 ∨ (y 0).val / 32 = 2 ∨ (y 0).val / 32 = 3) := by omega
  omega

/-- A load of the whole of a matrix operand, filled from slot `i`. -/
theorem aload (i : Fin 16) (t : ℕ) (D : Fin 16 → Fin 128 → Fin 1024 → F .bf16) (g : aRa.view.ty.Contents (Elt F)) :
    (fun x : S128x1024.Idx => updA t (D i) g 4 ((Rect.unit (s := S128x1024) ![0, 0] S128x1024.size inb_S128x1024_S128x1024_0_0).emb x)) = rblk D i := by
  funext x
  have e : (Rect.unit (s := S128x1024) ![0, 0] S128x1024.size inb_S128x1024_S128x1024_0_0).emb x = x := Rect.emb_unit_full (s := S128x1024) (off := ![0, 0]) inb_S128x1024_S128x1024_0_0 x
  show updA t (D i) g 4 _ = _
  rw [e]
  exact updA_four t (D i) g x

theorem load_ra (i : Fin 16) (t : ℕ) (D : Fin 16 → Fin 128 → Fin 1024 → F .bf16) (g : aRa.view.ty.Contents (Elt F)) :
    aRa.view.readAt (Elt F) (Rect.unit (s := S128x1024) ![0, 0] S128x1024.size inb_S128x1024_S128x1024_0_0).toLoadRect (updA t (D i) g 4) = rblk D i :=
  aload i t D g
theorem load_rc (i : Fin 16) (t : ℕ) (D : Fin 16 → Fin 128 → Fin 1024 → F .bf16) (g : aRc.view.ty.Contents (Elt F)) :
    aRc.view.readAt (Elt F) (Rect.unit (s := S128x1024) ![0, 0] S128x1024.size inb_S128x1024_S128x1024_0_0).toLoadRect (updA t (D i) g 4) = rblk D i :=
  aload i t D g

/-- The accumulator's whole box. -/
abbrev boxAcc : Rect S512x128 := Rect.unit (s := S512x128) ![0, 0] S512x128.size inb_S512x128_S512x128_0_0

/-- The list of stores `L` into the accumulator ends with the sum over the first `n` blocks. -/
def AccL (v0 : Elt F .i32) (hw : k0_chk1 v0) (D : Fin 16 → Fin 128 → Fin 1024 → F .bf16) (fh : aH.view.ty.Contents (Elt F)) (n : ℕ) (L : List (View.Piece (Elt F) S512x128 .f32)) : Prop :=
  ∃ L', L = ⟨boxAcc, accAt v0 hw D fh n⟩ :: L'

theorem AccL_zero (v0 : Elt F .i32) (hw : k0_chk1 v0) (D : Fin 16 → Fin 128 → Fin 1024 → F .bf16) (fh : aH.view.ty.Contents (Elt F)) :
    AccL v0 hw D fh 0 [⟨boxAcc, k0_pay1789⟩] := ⟨[], rfl⟩

theorem AccL_step (v0 : Elt F .i32) (hw : k0_chk1 v0) (D : Fin 16 → Fin 128 → Fin 1024 → F .bf16) (fh : aH.view.ty.Contents (Elt F)) (n : ℕ)
    (L : List (View.Piece (Elt F) S512x128 .f32)) (p : Vec F S512x128 .f32) (zh : Vec F S1x512x1024 .f32) (zr : Vec F S128x1024 .bf16)
    (hp : p = k0_pay1790 (aAcc.view.readCov L boxAcc.toLoadRect) zh zr)
    (hh : zh = hblk v0 hw fh (Fin.ofNat 16 n)) (hr : zr = rblk D (Fin.ofNat 16 n)) (hL : AccL v0 hw D fh n L) :
    AccL v0 hw D fh (n + 1) (⟨boxAcc, p⟩ :: L) := by
  obtain ⟨L', rfl⟩ := hL
  refine ⟨⟨boxAcc, accAt v0 hw D fh n⟩ :: L', ?_⟩
  rw [hp, View.readCov_cons_toLoadRect, hh, hr]
  rfl

theorem AccL_final (v0 : Elt F .i32) (hw : k0_chk1 v0) (D : Fin 16 → Fin 128 → Fin 1024 → F .bf16) (fh : aH.view.ty.Contents (Elt F)) (n : ℕ)
    (L : List (View.Piece (Elt F) S512x128 .f32)) (f : aAcc.view.ty.Contents (Elt F)) (hL : AccL v0 hw D fh n L) :
    aAcc.view.writes (Elt F) f L = accAt v0 hw D fh n := by
  obtain ⟨L', rfl⟩ := hL
  funext y
  have e : boxAcc.emb y = y := Rect.emb_unit_full (s := S512x128) (off := ![0, 0]) inb_S512x128_S512x128_0_0 y
  have h := View.read_writes_cons_emb aAcc.view f boxAcc (accAt v0 hw D fh n) L' y
  have hr : ∀ (f : aAcc.view.ty.Contents (Elt F)), aAcc.view.read (Elt F) f (boxAcc.emb y) = f y := fun f => congrArg f e
  exact (hr _).symm.trans h

/-- The narrowed buffer holds the rounded blocks in its first `n` slots. -/
def RB (D : Fin 16 → Fin 128 → Fin 1024 → F .bf16) (n : ℕ) (g : aRb.view.ty.Contents (Elt F)) : Prop :=
  ∀ i : Fin 16, i.val < n → ∀ (a : Fin 128) (b : Fin 1024), g (ix3 (n0 := 16) (n1 := 128) (n2 := 1024) i a b) = rblk D i (ix2 a b)

theorem RB_zero (D : Fin 16 → Fin 128 → Fin 1024 → F .bf16) (g : aRb.view.ty.Contents (Elt F)) : RB D 0 g :=
  fun i h => absurd h (Nat.not_lt_zero _)

theorem RB_step (D : Fin 16 → Fin 128 → Fin 1024 → F .bf16) (n : ℕ) (hn : n < 16) (g : aRb.view.ty.Contents (Elt F)) (h : RB D n g) :
    RB D (n + 1) (updR n (D ⟨n, hn⟩) g 4) := by
  intro i hi a b
  have ha : a.val < 128 := a.isLt
  show bandR n _ 3 (bandR n _ 2 (bandR n _ 1 (bandR n _ 0 g))) (ix3 i a b) = _
  by_cases hin : i.val = n
  · subst hin
    have key : D ⟨i.val, hn⟩ a b = rblk D i (ix2 a b) := rfl
    unfold bandR
    split; · exact key
    split; · exact key
    split; · exact key
    split; · exact key
    exfalso; rename_i h3 h2 h1 h0
    have e1 : ((ix3 (n0 := 16) (n1 := 128) (n2 := 1024) i a b) 1).val = a.val := rfl
    have e0 : ((ix3 (n0 := 16) (n1 := 128) (n2 := 1024) i a b) 0).val = i.val := rfl
    rw [e1, e0] at h3 h2 h1 h0
    omega
  · have hz : ∀ k g', bandR n (D ⟨n, hn⟩) k g' (ix3 (n0 := 16) (n1 := 128) (n2 := 1024) i a b) = g' (ix3 (n0 := 16) (n1 := 128) (n2 := 1024) i a b) := by
      intro k g'
      unfold bandR
      rw [if_neg]
      intro hc
      exact hin hc.1
    rw [hz, hz, hz, hz]
    exact h i (by omega) a b

/-- Slot `i` of the narrowed buffer. -/
abbrev rSlot (i : Fin 16) : Memref sig .tc .vmem S128x1024 .bf16 :=
  (aRb.slice (Rect.unit (s := S16x128x1024) ![i.val, 0, 0] S1x128x1024.size (slot_inb i.isLt)) (fun _ => rfl)).squeeze S128x1024 squeezes_S1x128x1024_S128x1024

/-- What the copy out of slot `i` writes into its columns of the narrowed residual. -/
theorem out_eq (v0 : Elt F .i32) (hw : k0_chk1 v0) (D : Fin 16 → Fin 128 → Fin 1024 → F .bf16) (E : aR.view.ty.Contents (Elt F))
    (hE : ∀ (i : Fin 16) (x : S128x1024.Idx), D i (x 0) (x 1) = E ((Rect.unit (s := S128x16384) (k0_off1 v0 (BitVec.ofNat 32 i.val)) S128x1024.size (k0_off1_inb v0 hw i)).emb x)) (fr : aR.view.ty.Contents (Elt F)) (i : Fin 16) (g : aRb.view.ty.Contents (Elt F))
    (p : S128x1024.Idx → Elt F .bf16) (hp : p = (rSlot i).view.read (Elt F) g) (hg : RB D 16 g) :
    ∀ y ∈ (rWin v0 hw i).view.set, (rWin v0 hw i).view.writes (Elt F) fr [⟨Rect.whole S128x1024, p⟩] y = E y := by
  intro y hy
  obtain ⟨x, -, rfl⟩ := Finset.mem_map.mp hy
  have ex : (ix2 (n0 := 128) (n1 := 1024) (x 0) (x 1) : S128x1024.Idx) = x := by funext a; fin_cases a <;> rfl
  have hr : ∀ f : aR.view.ty.Contents (Elt F), (rWin v0 hw i).view.read (Elt F) f x = f ((rWin v0 hw i).view.emb x) := fun f => rfl
  refine (hr _).symm.trans ?_
  refine (congrFun (View.read_writes_whole (rWin v0 hw i).view fr p) x).trans ?_
  rw [hp]
  have hs : ∀ f : aRb.view.ty.Contents (Elt F), (rSlot i).view.read (Elt F) f (ix2 (n0 := 128) (n1 := 1024) (x 0) (x 1)) = f (ix3 (n0 := 16) (n1 := 128) (n2 := 1024) i (x 0) (x 1)) :=
    fun f => congrArg f (wSlot_emb i (x 0) (x 1))
  refine (congrArg ((rSlot i).view.read (Elt F) g) ex.symm).trans ?_
  refine (hs g).trans ?_
  refine (hg i i.isLt (x 0) (x 1)).trans ?_
  exact hE i x

end Cert.Kernel.Hand
end
-- ==== Proof.KTab.lean ====
module

public import proofs.«01_k».proof.Proof.KVals
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.VecWindow
public import Idealize.ShloMosaic.Lib.Pointwise
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The table, from the codebooks: every entry widened, the same in each of the eight rows. -/
def tabC (X : aCbv.view.ty.Contents (Elt F)) : aTab.view.ty.Contents (Elt F) :=
  fun y => FloatOps.extf .f32 bitsLt_bf16_f32 (X (ix3 (n0 := 2) (n1 := 8) (n2 := 256) (y 0) (y 1)
    ⟨128 * (y 2).val + (y 4).val, by have h2 : (y 2).val < 2 := (y 2).isLt; have h4 : (y 4).val < 128 := (y 4).isLt; show _ < 256; omega⟩) : F .bf16)
/-- The scales as a column, the same in every lane. -/
def scolC (X : aSv.view.ty.Contents (Elt F)) : aScol.view.ty.Contents (Elt F) :=
  fun y => X (ix2 (n0 := 1) (n1 := 128) 0 (y 0))

/-- The residual of every block. -/
def dval (v0 : Elt F .i32) (hw : k0_chk1 v0) (fw : aW.view.ty.Contents (Elt F)) (fcd : aCd.view.ty.Contents (Elt F)) (fcb : aCb.view.ty.Contents (Elt F)) (fsc : aSc.view.ty.Contents (Elt F)) :
    Fin 16 → Fin 128 → Fin 1024 → F .bf16 :=
  fun i => decs fcd (tabC fcb) (scolC fsc) (ccol v0 (BitVec.ofNat 32 i.val)) i (wX i (wV v0 hw fw i))

/-- What the kernel stores into the table for codebook `m`, column `e`, half `hf`. -/
def tpay (X : aCbv.view.ty.Contents (Elt F)) (m : Fin 2) (h : ∀ a, (![m.val, 0, 0] : Fin 3 → ℕ) a + S1x8x256.size a ≤ S2x8x256.size a)
    (o : Fin 2 → ℕ) (ho : S8x256.Slices o S1x128) : FVec F S1x1x1x8x128 .f32 :=
  shapeCast S1x1x1x8x128 (broadcastTo S8x128 (shapeCast S1x128 (extractStridedSlice S1x128 o
    (extf .f32 (shapeCast S8x256 (aCbv.view.readAt (Elt F) (Rect.unit (s := S2x8x256) ![m.val, 0, 0] S1x8x256.size h).toLoadRect X) shapeCasts_S1x8x256_S8x256) bitsLt_bf16_f32) ho)
    shapeCasts_S1x128_S1x128) broadcasts_S1x128_S8x128) shapeCasts_S8x128_S1x1x1x8x128

theorem tpay_at (X : aCbv.view.ty.Contents (Elt F)) (m : Fin 2) (h : ∀ a, (![m.val, 0, 0] : Fin 3 → ℕ) a + S1x8x256.size a ≤ S2x8x256.size a)
    (e : Fin 8) (hf : Fin 2) (o : Fin 2 → ℕ) (ho : S8x256.Slices o S1x128) (hoe : o = ![e.val, 128 * hf.val]) (r : Fin 8) (l : Fin 128) :
    tpay X m h o ho (ix5 (n0 := 1) (n1 := 1) (n2 := 1) (n3 := 8) (n4 := 128) 0 0 0 r l)
      = tabC X (ix5 (n0 := 2) (n1 := 8) (n2 := 2) (n3 := 8) (n4 := 128) m e hf r l) := by
  subst hoe
  unfold tpay
  have e1 : ∀ (z : FVec F S8x128 .f32), shapeCast S1x1x1x8x128 z shapeCasts_S8x128_S1x1x1x8x128 (ix5 (n0 := 1) (n1 := 1) (n2 := 1) (n3 := 8) (n4 := 128) 0 0 0 r l) = z (ix2 r l) := by
    intro z
    simp only [pointwise]
  have e2 : ∀ (z : FVec F S1x128 .f32), broadcastTo S8x128 z broadcasts_S1x128_S8x128 (ix2 r l) = z (ix2 0 l) := by
    intro z
    simp only [pointwise]
    rfl
  have e3 : ∀ (z : FVec F S1x128 .f32), shapeCast S1x128 z shapeCasts_S1x128_S1x128 = z := by
    intro z
    funext x
    unfold shapeCast
    rw [Shape.reshapeEquiv_self]
  rw [e1, e2, e3]
  refine (extractStridedSlice_apply _ _ ho (ix2 0 l) (ix2 (n0 := 8) (n1 := 256) e ⟨128 * hf.val + l.val, by omega⟩) (by
    intro a
    match a with
    | ⟨0, _⟩ => rfl
    | ⟨1, _⟩ => rfl)).trans ?_
  have e4 : ∀ (z : Vec F S1x8x256 .bf16) (a : Fin 8) (b : Fin 256), shapeCast S8x256 z shapeCasts_S1x8x256_S8x256 (ix2 a b) = z (ix3 (n0 := 1) (n1 := 8) (n2 := 256) 0 a b) := by
    intro z a b
    simp only [pointwise]
  show FloatOps.extf .f32 bitsLt_bf16_f32 (shapeCast S8x256 _ shapeCasts_S1x8x256_S8x256 (ix2 (n0 := 8) (n1 := 256) e _)) = _
  rw [e4]
  unfold tabC
  refine congrArg _ (congrArg X (?_ : (Rect.unit (s := S2x8x256) ![m.val, 0, 0] S1x8x256.size h).emb _ = _))
  funext a
  apply Fin.ext
  match a with
  | ⟨0, _⟩ => show m.val + 1 * 0 = m.val; omega
  | ⟨1, _⟩ => show 0 + 1 * e.val = e.val; omega
  | ⟨2, _⟩ => show 0 + 1 * (128 * hf.val + l.val) = 128 * hf.val + l.val; omega

theorem spay_at (X : aSv.view.ty.Contents (Elt F)) (z : Vec F S1x128 .f32) (hz : ∀ r : Fin 128, z (ix2 0 r) = X (ix2 (n0 := 1) (n1 := 128) 0 r)) (r l : Fin 128) :
    k0_pay1784 z (ix2 r l) = scolC X (ix2 (n0 := 128) (n1 := 128) r l) := by
  refine Eq.trans ?_ (hz r)
  unfold k0_pay1784
  have e3 : ∀ (z : FVec F S1x128 .f32), shapeCast S1x128 z shapeCasts_S1x128_S1x128 = z := by
    intro z
    funext x
    unfold shapeCast
    rw [Shape.reshapeEquiv_self]
  have e4 : ∀ (z : FVec F S128x128 .f32), shapeCast S128x128 z shapeCasts_S128x128_S128x128 = z := by
    intro z
    funext x
    unfold shapeCast
    rw [Shape.reshapeEquiv_self]
  have e2 : ∀ (z : FVec F S1x128 .f32) (a b : Fin 128), broadcastTo S128x128 z broadcasts_S1x128_S128x128 (ix2 a b) = z (ix2 0 b) := by
    intro z a b
    simp only [pointwise]
    rfl
  have e5 : ∀ (z : FVec F S128x128 .f32), transpose S128x128 [1, 0] z transposes_S128x128_p1_0_S128x128 (ix2 r l) = z (ix2 l r) := by
    intro z
    simp only [pointwise]
  show shapeCast S128x128 (transpose S128x128 [1, 0] (broadcastTo S128x128 (shapeCast S1x128 z shapeCasts_S1x128_S1x128) broadcasts_S1x128_S128x128) transposes_S128x128_p1_0_S128x128) shapeCasts_S128x128_S128x128 (ix2 r l) = z (ix2 0 r)
  rw [e4, e5, e2, e3]

/-- The codebook, column and half of the `q`-th store into the table. -/
def tm (q : Fin 32) : Fin 2 := ⟨q.val / 16, by omega⟩
def te (q : Fin 32) : Fin 8 := ⟨q.val % 16 / 2, by omega⟩
def th (q : Fin 32) : Fin 2 := ⟨q.val % 2, by omega⟩

/-- The table's stores, all thirty-two of them, leave the table of the codebooks. -/
theorem tab_eq (X : aCbv.view.ty.Contents (Elt F)) (f : aTab.view.ty.Contents (Elt F))
    (h : ∀ (m : Fin 2) a, (![m.val, 0, 0] : Fin 3 → ℕ) a + S1x8x256.size a ≤ S2x8x256.size a)
    (ho : ∀ (e : Fin 8) (hf : Fin 2), S8x256.Slices ![e.val, 128 * hf.val] S1x128)
    (L : List (View.Piece (Elt F) S2x8x2x8x128 .f32))
    (hL : L = List.map (fun q : Fin 32 => (⟨Rect.unit (s := S2x8x2x8x128) ![(tm q).val, (te q).val, (th q).val, 0, 0] S1x1x1x8x128.size (inb_tab (tm q) (te q) (th q)),
      tpay X (tm q) (h (tm q)) ![(te q).val, 128 * (th q).val] (ho (te q) (th q))⟩ : View.Piece (Elt F) S2x8x2x8x128 .f32))
      [31, 30, 29, 28, 27, 26, 25, 24, 23, 22, 21, 20, 19, 18, 17, 16, 15, 14, 13, 12, 11, 10, 9, 8, 7, 6, 5, 4, 3, 2, 1, 0]) :
    aTab.view.writes (Elt F) f L = tabC X := by
  funext y
  show aTab.view.read (Elt F) (aTab.view.writes (Elt F) f L) y = _
  have h0 : (y 0).val < 2 := (y 0).isLt
  have h1 : (y 1).val < 8 := (y 1).isLt
  have h2 : (y 2).val < 2 := (y 2).isLt
  have h3 : (y 3).val < 8 := (y 3).isLt
  have h4 : (y 4).val < 128 := (y 4).isLt
  rw [View.read_writes_apply_of_pieces aTab.view f (tabC X) L]
  · intro q hq x
    rw [hL, List.mem_map] at hq
    obtain ⟨i, -, rfl⟩ := hq
    have e : (ix5 (n0 := 1) (n1 := 1) (n2 := 1) (n3 := 8) (n4 := 128) 0 0 0 (x 3) (x 4) : S1x1x1x8x128.Idx) = x := by
      funext a
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl
      | ⟨4, _⟩ => rfl
    rw [← e]
    refine (tpay_at X (tm i) (h (tm i)) (te i) (th i) _ (ho (te i) (th i)) rfl (x 3) (x 4)).trans (congrArg (tabC X) ?_)
    funext a
    apply Fin.ext
    match a with
    | ⟨0, _⟩ => show (tm i).val = (tm i).val + 1 * 0; omega
    | ⟨1, _⟩ => show (te i).val = (te i).val + 1 * 0; omega
    | ⟨2, _⟩ => show (th i).val = (th i).val + 1 * 0; omega
    | ⟨3, _⟩ => show (x 3).val = 0 + 1 * (x 3).val; omega
    | ⟨4, _⟩ => show (x 4).val = 0 + 1 * (x 4).val; omega
  · have hi : 16 * (y 0).val + 2 * (y 1).val + (y 2).val < 32 := by omega
    have hq : ∀ q : Fin 32, q ∈ ([31, 30, 29, 28, 27, 26, 25, 24, 23, 22, 21, 20, 19, 18, 17, 16, 15, 14, 13, 12, 11, 10, 9, 8, 7, 6, 5, 4, 3, 2, 1, 0] : List (Fin 32)) := by decide
    refine ⟨_, by rw [hL]; exact List.mem_map_of_mem (hq ⟨16 * (y 0).val + 2 * (y 1).val + (y 2).val, hi⟩), ?_⟩
    · rw [Rect.mem_set_unit]
      intro a
      match a with
      | ⟨0, _⟩ => show (16 * (y 0).val + 2 * (y 1).val + (y 2).val) / 16 ≤ (y 0).val ∧ (y 0).val < (16 * (y 0).val + 2 * (y 1).val + (y 2).val) / 16 + 1; omega
      | ⟨1, _⟩ => show (16 * (y 0).val + 2 * (y 1).val + (y 2).val) % 16 / 2 ≤ (y 1).val ∧ (y 1).val < (16 * (y 0).val + 2 * (y 1).val + (y 2).val) % 16 / 2 + 1; omega
      | ⟨2, _⟩ => show (16 * (y 0).val + 2 * (y 1).val + (y 2).val) % 2 ≤ (y 2).val ∧ (y 2).val < (16 * (y 0).val + 2 * (y 1).val + (y 2).val) % 2 + 1; omega
      | ⟨3, _⟩ => show 0 ≤ (y 3).val ∧ (y 3).val < 0 + 8; omega
      | ⟨4, _⟩ => show 0 ≤ (y 4).val ∧ (y 4).val < 0 + 128; omega

/-- The scale column's store leaves the scales. -/
theorem scol_eq (X : aSv.view.ty.Contents (Elt F)) (f : aScol.view.ty.Contents (Elt F)) (z : Vec F S1x128 .f32)
    (hz : z = aSv.view.readAt (Elt F) (Rect.unit (s := S1x128) ![0, 0] S1x128.size inb_S1x128_S1x128_0_0).toLoadRect X)
    (h : ∀ a, (![0, 0] : Fin 2 → ℕ) a + S128x128.size a ≤ S128x128.size a) :
    aScol.view.writes (Elt F) f [⟨Rect.unit (s := S128x128) ![0, 0] S128x128.size h, k0_pay1784 z⟩] = scolC X := by
  funext y
  have e : (Rect.unit (s := S128x128) ![0, 0] S128x128.size h).emb y = y := Rect.emb_unit_full (s := S128x128) (off := ![0, 0]) h y
  have hw := View.read_writes_cons_emb aScol.view f (Rect.unit (s := S128x128) ![0, 0] S128x128.size h) (k0_pay1784 z) [] y
  have hr : ∀ (f : aScol.view.ty.Contents (Elt F)), aScol.view.read (Elt F) f ((Rect.unit (s := S128x128) ![0, 0] S128x128.size h).emb y) = f y := fun f => congrArg f e
  refine ((hr _).symm.trans hw).trans ?_
  have ey : (ix2 (n0 := 128) (n1 := 128) (y 0) (y 1) : S128x128.Idx) = y := by funext a; fin_cases a <;> rfl
  rw [← ey]
  refine spay_at X z (fun r => ?_) (y 0) (y 1)
  rw [hz]
  exact congrArg X (Rect.emb_unit_full (s := S1x128) (off := ![0, 0]) inb_S1x128_S1x128_0_0 (ix2 (n0 := 1) (n1 := 128) 0 r))

theorem codes_eq (x : aCodes.view.ty.Contents (Elt F)) (p : S2x128x2048.Idx → Elt F .i8) (X : aCodes.view.ty.Contents (Elt F)) (hp : p = X) :
    View.write (Elt F) aCodes.view x p Finset.univ = X :=
  (View.read_write_univ x p).trans hp

theorem cbv_eq (x : aCbv.view.ty.Contents (Elt F)) (p : S2x8x256.Idx → Elt F .bf16) (X : aCbv.view.ty.Contents (Elt F)) (hp : p = X) :
    View.write (Elt F) aCbv.view x p Finset.univ = X :=
  (View.read_write_univ x p).trans hp

theorem sv_eq (x : aSv.view.ty.Contents (Elt F)) (p : S1x128.Idx → Elt F .f32) (X : aSv.view.ty.Contents (Elt F)) (hp : p = X) :
    View.write (Elt F) aSv.view x p Finset.univ = X :=
  (View.read_write_univ x p).trans hp

end Cert.Kernel.Hand
end
-- ==== Proof.KLoop1.lean ====
module

public import proofs.«01_k».proof.Proof.KBody
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t1`: four trips of thirty-two rows, the narrowed buffer and the matrix operand filled row band by row band. -/
@[sl_loop] def inv_k0_t1 (c : Dev nD) (v0 : Elt F .i32) (k0_hw1 : k0_chk1 v0) (v17 v535 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRa.view.ty.Contents (Elt F)) :
    LoopInvTy_k0_t1 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 v535 where
  inv k _ := iprop(((wSlot 0 (by decide)).view.loc (c : Thread nD τ) ↦[(wSlot 0 (by decide)).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR 0 (decs XC XT XS (ccol v0 0#32) 0 X) g k)
    ∗ (aRa.view.loc (c : Thread nD τ) ↦{fullShare} updA 0 (decs XC XT XS (ccol v0 0#32) 0 X) ga k))
  step k acc := by
    have hk : k.val < 4 := Nat.lt_of_lt_of_le k.isLt k0_t1_abs.2.1
    unfold k0_t1_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR 0 (decs XC XT XS (ccol v0 0#32) 0 X) g (k.val + 1) = bandR 0 (decs XC XT XS (ccol v0 0#32) 0 X) k.val (updR 0 (decs XC XT XS (ccol v0 0#32) 0 X) g k.val) from rfl,
        ← bandR_eq 0 k.val (decs XC XT XS (ccol v0 0#32) 0 X) (updR 0 (decs XC XT XS (ccol v0 0#32) 0 X) g k.val) ![k0_off14 k, k0_off16 k, k0_off18 k, k0_off20 k, k0_off22 k, k0_off24 k, k0_off26 k, k0_off28 k] (forall_fin8 (k0_off14_inb k) (k0_off16_inb k) (k0_off18_inb k) (k0_off20_inb k) (k0_off22_inb k) (k0_off24_inb k) (k0_off26_inb k) (k0_off28_inb k)) (forall_fin8 (k0_off14_eq k) (k0_off16_eq k) (k0_off18_eq k) (k0_off20_eq k) (k0_off22_eq k) (k0_off24_eq k) (k0_off26_eq k) (k0_off28_eq k)) hk
          (pval XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)))
          (pval_at XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)) k.val (ccol v0 0#32) 0 hk (forall_fin2 (k0_off3_ceq v0 k) (k0_off4_ceq v0 k)) (fun q => k0_off5_eq k q) (forall_fin8 (fun q => k0_off6_eq k q) (fun q => k0_off7_eq k q) (fun q => k0_off8_eq k q) (fun q => k0_off9_eq k q) (fun q => k0_off10_eq k q) (fun q => k0_off11_eq k q) (fun q => k0_off12_eq k q) (fun q => k0_off13_eq k q)))]
      iexact HR
    · rw [show updA 0 (decs XC XT XS (ccol v0 0#32) 0 X) ga (k.val + 1) = bandA (decs XC XT XS (ccol v0 0#32) 0 X) k.val (updA 0 (decs XC XT XS (ccol v0 0#32) 0 X) ga k.val) from rfl,
        show updA 0 (decs XC XT XS (ccol v0 0#32) 0 X) ga k.val = aRa.view.read (Elt F) (updA 0 (decs XC XT XS (ccol v0 0#32) 0 X) ga k.val) from rfl,
        ← bandA_eq aRa.view k.val (decs XC XT XS (ccol v0 0#32) 0 X) (updA 0 (decs XC XT XS (ccol v0 0#32) 0 X) ga k.val) ![k0_off15 k, k0_off17 k, k0_off19 k, k0_off21 k, k0_off23 k, k0_off25 k, k0_off27 k, k0_off29 k] (forall_fin8 (k0_off15_inb k) (k0_off17_inb k) (k0_off19_inb k) (k0_off21_inb k) (k0_off23_inb k) (k0_off25_inb k) (k0_off27_inb k) (k0_off29_inb k)) (forall_fin8 (k0_off15_eq k) (k0_off17_eq k) (k0_off19_eq k) (k0_off21_eq k) (k0_off23_eq k) (k0_off25_eq k) (k0_off27_eq k) (k0_off29_eq k)) hk
          (pval XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)))
          (pval_at XC XT XS X ![k0_off3 v0 k, k0_off4 v0 k] (forall_fin2 (k0_off3_inb v0 k0_hw1 k) (k0_off4_inb v0 k0_hw1 k)) (fun q => k0_off5 k (BitVec.ofNat 32 (8 * q.val))) (fun q => k0_off5_inb k q) ![fun q => k0_off6 k (BitVec.ofNat 32 (8 * q.val)), fun q => k0_off7 k (BitVec.ofNat 32 (8 * q.val)), fun q => k0_off8 k (BitVec.ofNat 32 (8 * q.val)), fun q => k0_off9 k (BitVec.ofNat 32 (8 * q.val)), fun q => k0_off10 k (BitVec.ofNat 32 (8 * q.val)), fun q => k0_off11 k (BitVec.ofNat 32 (8 * q.val)), fun q => k0_off12 k (BitVec.ofNat 32 (8 * q.val)), fun q => k0_off13 k (BitVec.ofNat 32 (8 * q.val))] (forall_fin8 (fun q => k0_off6_inb k q) (fun q => k0_off7_inb k q) (fun q => k0_off8_inb k q) (fun q => k0_off9_inb k q) (fun q => k0_off10_inb k q) (fun q => k0_off11_inb k q) (fun q => k0_off12_inb k q) (fun q => k0_off13_inb k q)) k.val (ccol v0 0#32) 0 hk (forall_fin2 (k0_off3_ceq v0 k) (k0_off4_ceq v0 k)) (fun q => k0_off5_eq k q) (forall_fin8 (fun q => k0_off6_eq k q) (fun q => k0_off7_eq k q) (fun q => k0_off8_eq k q) (fun q => k0_off9_eq k q) (fun q => k0_off10_eq k q) (fun q => k0_off11_eq k q) (fun q => k0_off12_eq k q) (fun q => k0_off13_eq k q)))]
      iexact HA

end Cert.Kernel.Hand
end
-- ==== Proof.KLoop2.lean ====
module

public import proofs.«01_k».proof.Proof.KBody
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t2`: four trips of thirty-two rows, the narrowed buffer and the matrix operand filled row band by row band. -/
@[sl_loop] def inv_k0_t2 (c : Dev nD) (v0 : Elt F .i32) (k0_hw1 : k0_chk1 v0) (v17 v569 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRc.view.ty.Contents (Elt F)) :
    LoopInvTy_k0_t2 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 v569 where
  inv k _ := iprop(((wSlot 1 (by decide)).view.loc (c : Thread nD τ) ↦[(wSlot 1 (by decide)).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR 1 (decs XC XT XS (ccol v0 1#32) 1 X) g k)
    ∗ (aRc.view.loc (c : Thread nD τ) ↦{fullShare} updA 1 (decs XC XT XS (ccol v0 1#32) 1 X) ga k))
  step k acc := by
    have hk : k.val < 4 := Nat.lt_of_lt_of_le k.isLt k0_t2_abs.2.1
    unfold k0_t2_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR 1 (decs XC XT XS (ccol v0 1#32) 1 X) g (k.val + 1) = bandR 1 (decs XC XT XS (ccol v0 1#32) 1 X) k.val (updR 1 (decs XC XT XS (ccol v0 1#32) 1 X) g k.val) from rfl,
        ← bandR_eq 1 k.val (decs XC XT XS (ccol v0 1#32) 1 X) (updR 1 (decs XC XT XS (ccol v0 1#32) 1 X) g k.val) ![k0_off41 k, k0_off43 k, k0_off45 k, k0_off47 k, k0_off49 k, k0_off51 k, k0_off53 k, k0_off55 k] (forall_fin8 (k0_off41_inb k) (k0_off43_inb k) (k0_off45_inb k) (k0_off47_inb k) (k0_off49_inb k) (k0_off51_inb k) (k0_off53_inb k) (k0_off55_inb k)) (forall_fin8 (k0_off41_eq k) (k0_off43_eq k) (k0_off45_eq k) (k0_off47_eq k) (k0_off49_eq k) (k0_off51_eq k) (k0_off53_eq k) (k0_off55_eq k)) hk
          (pval XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)))
          (pval_at XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)) k.val (ccol v0 1#32) 1 hk (forall_fin2 (k0_off30_ceq v0 k) (k0_off31_ceq v0 k)) (fun q => k0_off32_eq k q) (forall_fin8 (fun q => k0_off33_eq k q) (fun q => k0_off34_eq k q) (fun q => k0_off35_eq k q) (fun q => k0_off36_eq k q) (fun q => k0_off37_eq k q) (fun q => k0_off38_eq k q) (fun q => k0_off39_eq k q) (fun q => k0_off40_eq k q)))]
      iexact HR
    · rw [show updA 1 (decs XC XT XS (ccol v0 1#32) 1 X) ga (k.val + 1) = bandA (decs XC XT XS (ccol v0 1#32) 1 X) k.val (updA 1 (decs XC XT XS (ccol v0 1#32) 1 X) ga k.val) from rfl,
        show updA 1 (decs XC XT XS (ccol v0 1#32) 1 X) ga k.val = aRc.view.read (Elt F) (updA 1 (decs XC XT XS (ccol v0 1#32) 1 X) ga k.val) from rfl,
        ← bandA_eq aRc.view k.val (decs XC XT XS (ccol v0 1#32) 1 X) (updA 1 (decs XC XT XS (ccol v0 1#32) 1 X) ga k.val) ![k0_off42 k, k0_off44 k, k0_off46 k, k0_off48 k, k0_off50 k, k0_off52 k, k0_off54 k, k0_off56 k] (forall_fin8 (k0_off42_inb k) (k0_off44_inb k) (k0_off46_inb k) (k0_off48_inb k) (k0_off50_inb k) (k0_off52_inb k) (k0_off54_inb k) (k0_off56_inb k)) (forall_fin8 (k0_off42_eq k) (k0_off44_eq k) (k0_off46_eq k) (k0_off48_eq k) (k0_off50_eq k) (k0_off52_eq k) (k0_off54_eq k) (k0_off56_eq k)) hk
          (pval XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)))
          (pval_at XC XT XS X ![k0_off30 v0 k, k0_off31 v0 k] (forall_fin2 (k0_off30_inb v0 k0_hw1 k) (k0_off31_inb v0 k0_hw1 k)) (fun q => k0_off32 k (BitVec.ofNat 32 (8 * q.val))) (fun q => k0_off32_inb k q) ![fun q => k0_off33 k (BitVec.ofNat 32 (8 * q.val)), fun q => k0_off34 k (BitVec.ofNat 32 (8 * q.val)), fun q => k0_off35 k (BitVec.ofNat 32 (8 * q.val)), fun q => k0_off36 k (BitVec.ofNat 32 (8 * q.val)), fun q => k0_off37 k (BitVec.ofNat 32 (8 * q.val)), fun q => k0_off38 k (BitVec.ofNat 32 (8 * q.val)), fun q => k0_off39 k (BitVec.ofNat 32 (8 * q.val)), fun q => k0_off40 k (BitVec.ofNat 32 (8 * q.val))] (forall_fin8 (fun q => k0_off33_inb k q) (fun q => k0_off34_inb k q) (fun q => k0_off35_inb k q) (fun q => k0_off36_inb k q) (fun q => k0_off37_inb k q) (fun q => k0_off38_inb k q) (fun q => k0_off39_inb k q) (fun q => k0_off40_inb k q)) k.val (ccol v0 1#32) 1 hk (forall_fin2 (k0_off30_ceq v0 k) (k0_off31_ceq v0 k)) (fun q => k0_off32_eq k q) (forall_fin8 (fun q => k0_off33_eq k q) (fun q => k0_off34_eq k q) (fun q => k0_off35_eq k q) (fun q => k0_off36_eq k q) (fun q => k0_off37_eq k q) (fun q => k0_off38_eq k q) (fun q => k0_off39_eq k q) (fun q => k0_off40_eq k q)))]
      iexact HA

end Cert.Kernel.Hand
end
-- ==== Proof.KLoop4.lean ====
module

public import proofs.«01_k».proof.Proof.KBody
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t4`: four trips of thirty-two rows, the narrowed buffer and the matrix operand filled row band by row band. -/
@[sl_loop] def inv_k0_t4 (c : Dev nD) (v0 : Elt F .i32) (k0_hw1 : k0_chk1 v0) (v17 : BitVec 32) (k0_t3 : Fin k0_t3_loop.trips) (v881 : BitVec 32) (v910 : FVec F S512x128 .f32) (v915 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRa.view.ty.Contents (Elt F)) :
    LoopInvTy_k0_t4 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 k0_t3 v881 v910 v915 where
  inv k _ := iprop(((wSlot (2 * k0_t3.val + 2) (slot2 k0_t3).isLt).view.loc (c : Thread nD τ) ↦[(wSlot (2 * k0_t3.val + 2) (slot2 k0_t3).isLt).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR (2 * k0_t3.val + 2) (decs XC XT XS (ccol v0 (fetchX k0_t3)) (slot2 k0_t3) X) g k)
    ∗ (aRa.view.loc (c : Thread nD τ) ↦{fullShare} updA (2 * k0_t3.val + 2) (decs XC XT XS (ccol v0 (fetchX k0_t3)) (slot2 k0_t3) X) ga k))
  step k acc := by
    have hk : k.val < 4 := Nat.lt_of_lt_of_le k.isLt k0_t4_abs.2.1
    have h3 : k0_t3.val < 7 := Nat.lt_of_lt_of_le k0_t3.isLt k0_t3_abs.2.1
    unfold k0_t4_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR (2 * k0_t3.val + 2) (decs XC XT XS (ccol v0 (fetchX k0_t3)) (slot2 k0_t3) X) g (k.val + 1) = bandR (2 * k0_t3.val + 2) (decs XC XT XS (ccol v0 (fetchX k0_t3)) (slot2 k0_t3) X) k.val (updR (2 * k0_t3.val + 2) (decs XC XT XS (ccol v0 (fetchX k0_t3)) (slot2 k0_t3) X) g k.val) from rfl,
        ← bandR_eq (2 * k0_t3.val + 2) k.val (decs XC XT XS (ccol v0 (fetchX k0_t3)) (slot2 k0_t3) X) (updR (2 * k0_t3.val + 2) (decs XC XT XS (ccol v0 (fetchX k0_t3)) (slot2 k0_t3) X) g k.val) ![k0_off75 k0_t3 k, k0_off77 k0_t3 k, k0_off79 k0_t3 k, k0_off81 k0_t3 k, k0_off83 k0_t3 k, k0_off85 k0_t3 k, k0_off87 k0_t3 k, k0_off89 k0_t3 k] (forall_fin8 (k0_off75_inb k0_t3 k) (k0_off77_inb k0_t3 k) (k0_off79_inb k0_t3 k) (k0_off81_inb k0_t3 k) (k0_off83_inb k0_t3 k) (k0_off85_inb k0_t3 k) (k0_off87_inb k0_t3 k) (k0_off89_inb k0_t3 k)) (forall_fin8 (k0_off75_eq k0_t3 k) (k0_off77_eq k0_t3 k) (k0_off79_eq k0_t3 k) (k0_off81_eq k0_t3 k) (k0_off83_eq k0_t3 k) (k0_off85_eq k0_t3 k) (k0_off87_eq k0_t3 k) (k0_off89_eq k0_t3 k)) hk
          (pval XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)))
          (pval_at XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)) k.val (ccol v0 (fetchX k0_t3)) (slot2 k0_t3) hk (forall_fin2 (k0_off64_ceq v0 k0_t3 k) (k0_off65_ceq v0 k0_t3 k)) (fun q => k0_off66_eq k q) (forall_fin8 (fun q => k0_off67_eq k0_t3 k q) (fun q => k0_off68_eq k0_t3 k q) (fun q => k0_off69_eq k0_t3 k q) (fun q => k0_off70_eq k0_t3 k q) (fun q => k0_off71_eq k0_t3 k q) (fun q => k0_off72_eq k0_t3 k q) (fun q => k0_off73_eq k0_t3 k q) (fun q => k0_off74_eq k0_t3 k q)))]
      iexact HR
    · rw [show updA (2 * k0_t3.val + 2) (decs XC XT XS (ccol v0 (fetchX k0_t3)) (slot2 k0_t3) X) ga (k.val + 1) = bandA (decs XC XT XS (ccol v0 (fetchX k0_t3)) (slot2 k0_t3) X) k.val (updA (2 * k0_t3.val + 2) (decs XC XT XS (ccol v0 (fetchX k0_t3)) (slot2 k0_t3) X) ga k.val) from rfl,
        show updA (2 * k0_t3.val + 2) (decs XC XT XS (ccol v0 (fetchX k0_t3)) (slot2 k0_t3) X) ga k.val = aRa.view.read (Elt F) (updA (2 * k0_t3.val + 2) (decs XC XT XS (ccol v0 (fetchX k0_t3)) (slot2 k0_t3) X) ga k.val) from rfl,
        ← bandA_eq aRa.view k.val (decs XC XT XS (ccol v0 (fetchX k0_t3)) (slot2 k0_t3) X) (updA (2 * k0_t3.val + 2) (decs XC XT XS (ccol v0 (fetchX k0_t3)) (slot2 k0_t3) X) ga k.val) ![k0_off76 k, k0_off78 k, k0_off80 k, k0_off82 k, k0_off84 k, k0_off86 k, k0_off88 k, k0_off90 k] (forall_fin8 (k0_off76_inb k) (k0_off78_inb k) (k0_off80_inb k) (k0_off82_inb k) (k0_off84_inb k) (k0_off86_inb k) (k0_off88_inb k) (k0_off90_inb k)) (forall_fin8 (k0_off76_eq k) (k0_off78_eq k) (k0_off80_eq k) (k0_off82_eq k) (k0_off84_eq k) (k0_off86_eq k) (k0_off88_eq k) (k0_off90_eq k)) hk
          (pval XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)))
          (pval_at XC XT XS X ![k0_off64 v0 k0_t3 k, k0_off65 v0 k0_t3 k] (forall_fin2 (k0_off64_inb v0 k0_hw1 k0_t3 k) (k0_off65_inb v0 k0_hw1 k0_t3 k)) (fun q => k0_off66 k (BitVec.ofNat 32 (8 * q.val))) (fun q => k0_off66_inb k q) ![fun q => k0_off67 k0_t3 k (BitVec.ofNat 32 (8 * q.val)), fun q => k0_off68 k0_t3 k (BitVec.ofNat 32 (8 * q.val)), fun q => k0_off69 k0_t3 k (BitVec.ofNat 32 (8 * q.val)), fun q => k0_off70 k0_t3 k (BitVec.ofNat 32 (8 * q.val)), fun q => k0_off71 k0_t3 k (BitVec.ofNat 32 (8 * q.val)), fun q => k0_off72 k0_t3 k (BitVec.ofNat 32 (8 * q.val)), fun q => k0_off73 k0_t3 k (BitVec.ofNat 32 (8 * q.val)), fun q => k0_off74 k0_t3 k (BitVec.ofNat 32 (8 * q.val))] (forall_fin8 (fun q => k0_off67_inb k0_t3 k q) (fun q => k0_off68_inb k0_t3 k q) (fun q => k0_off69_inb k0_t3 k q) (fun q => k0_off70_inb k0_t3 k q) (fun q => k0_off71_inb k0_t3 k q) (fun q => k0_off72_inb k0_t3 k q) (fun q => k0_off73_inb k0_t3 k q) (fun q => k0_off74_inb k0_t3 k q)) k.val (ccol v0 (fetchX k0_t3)) (slot2 k0_t3) hk (forall_fin2 (k0_off64_ceq v0 k0_t3 k) (k0_off65_ceq v0 k0_t3 k)) (fun q => k0_off66_eq k q) (forall_fin8 (fun q => k0_off67_eq k0_t3 k q) (fun q => k0_off68_eq k0_t3 k q) (fun q => k0_off69_eq k0_t3 k q) (fun q => k0_off70_eq k0_t3 k q) (fun q => k0_off71_eq k0_t3 k q) (fun q => k0_off72_eq k0_t3 k q) (fun q => k0_off73_eq k0_t3 k q) (fun q => k0_off74_eq k0_t3 k q)))]
      iexact HA

end Cert.Kernel.Hand
end
-- ==== Proof.KLoop5.lean ====
module

public import proofs.«01_k».proof.Proof.KBody
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- The loop `k0_t5`: four trips of thirty-two rows, the narrowed buffer and the matrix operand filled row band by row band. -/
@[sl_loop] def inv_k0_t5 (c : Dev nD) (v0 : Elt F .i32) (k0_hw1 : k0_chk1 v0) (v17 : BitVec 32) (k0_t3 : Fin k0_t3_loop.trips) (v917 : BitVec 32) (v951 : BitVec 32) (X : aWb.view.ty.Contents (Elt F)) (XC : aCodes.view.ty.Contents (Elt F)) (XT : aTab.view.ty.Contents (Elt F)) (XS : aScol.view.ty.Contents (Elt F)) (g : aRb.view.ty.Contents (Elt F)) (ga : aRc.view.ty.Contents (Elt F)) :
    LoopInvTy_k0_t5 (F := F) Unit ℕ (Pipeline.UD sig nD τ) ℕ Variants.none c none Set.univ aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13 v0 k0_hw1 v17 k0_t3 v917 v951 where
  inv k _ := iprop(((wSlot (2 * k0_t3.val + 3) (slot3 k0_t3).isLt).view.loc (c : Thread nD τ) ↦[(wSlot (2 * k0_t3.val + 3) (slot3 k0_t3).isLt).view.set]{fullShare} X)
    ∗ (aCodes.view.loc (c : Thread nD τ) ↦{fullShare} XC)
    ∗ (aTab.view.loc (c : Thread nD τ) ↦{fullShare} XT)
    ∗ (aScol.view.loc (c : Thread nD τ) ↦{fullShare} XS)
    ∗ (aRb.view.loc (c : Thread nD τ) ↦{fullShare} updR (2 * k0_t3.val + 3) (decs XC XT XS (ccol v0 (Scalar.addi (fetchX k0_t3) 1#32)) (slot3 k0_t3) X) g k)
    ∗ (aRc.view.loc (c : Thread nD τ) ↦{fullShare} updA (2 * k0_t3.val + 3) (decs XC XT XS (ccol v0 (Scalar.addi (fetchX k0_t3) 1#32)) (slot3 k0_t3) X) ga k))
  step k acc := by
    have hk : k.val < 4 := Nat.lt_of_lt_of_le k.isLt k0_t5_abs.2.1
    have h3 : k0_t3.val < 7 := Nat.lt_of_lt_of_le k0_t3.isLt k0_t3_abs.2.1
    unfold k0_t5_body
    iintro ⟨HX, HC, HT, HS, HR, HA⟩
    sl_exec
    sl_step
    isplitl [HX]; · iexact HX
    isplitl [HC]; · iexact HC
    isplitl [HT]; · iexact HT
    isplitl [HS]; · iexact HS
    isplitl [HR]
    · rw [show updR (2 * k0_t3.val + 3) (decs XC XT XS (ccol v0 (Scalar.addi (fetchX k0_t3) 1#32)) (slot3 k0_t3) X) g (k.val + 1) = bandR (2 * k0_t3.val + 3) (decs XC XT XS (ccol v0 (Scalar.addi (fetchX k0_t3) 1#32)) (slot3 k0_t3) X) k.val (updR (2 * k0_t3.val + 3) (decs XC XT XS (ccol v0 (Scalar.addi (fetchX k0_t3) 1#32)) (slot3 k0_t3) X) g k.val) from rfl,
        ← bandR_eq (2 * k0_t3.val + 3) k.val (decs XC XT XS (ccol v0 (Scalar.addi (fetchX k0_t3) 1#32)) (slot3 k0_t3) X) (updR (2 * k0_t3.val + 3) (decs XC XT XS (ccol v0 (Scalar.addi (fetchX k0_t3) 1#32)) (slot3 k0_t3) X) g k.val) ![k0_off109 k0_t3 k, k0_off111 k0_t3 k, k0_off113 k0_t3 k, k0_off115 k0_t3 k, k0_off117 k0_t3 k, k0_off119 k0_t3 k, k0_off121 k0_t3 k, k0_off123 k0_t3 k] (forall_fin8 (k0_off109_inb k0_t3 k) (k0_off111_inb k0_t3 k) (k0_off113_inb k0_t3 k) (k0_off115_inb k0_t3 k) (k0_off117_inb k0_t3 k) (k0_off119_inb k0_t3 k) (k0_off121_inb k0_t3 k) (k0_off123_inb k0_t3 k)) (forall_fin8 (k0_off109_eq k0_t3 k) (k0_off111_eq k0_t3 k) (k0_off113_eq k0_t3 k) (k0_off115_eq k0_t3 k) (k0_off117_eq k0_t3 k) (k0_off119_eq k0_t3 k) (k0_off121_eq k0_t3 k) (k0_off123_eq k0_t3 k)) hk
          (pval XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)))
          (pval_at XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)) k.val (ccol v0 (Scalar.addi (fetchX k0_t3) 1#32)) (slot3 k0_t3) hk (forall_fin2 (k0_off98_ceq v0 k0_t3 k) (k0_off99_ceq v0 k0_t3 k)) (fun q => k0_off100_eq k q) (forall_fin8 (fun q => k0_off101_eq k0_t3 k q) (fun q => k0_off102_eq k0_t3 k q) (fun q => k0_off103_eq k0_t3 k q) (fun q => k0_off104_eq k0_t3 k q) (fun q => k0_off105_eq k0_t3 k q) (fun q => k0_off106_eq k0_t3 k q) (fun q => k0_off107_eq k0_t3 k q) (fun q => k0_off108_eq k0_t3 k q)))]
      iexact HR
    · rw [show updA (2 * k0_t3.val + 3) (decs XC XT XS (ccol v0 (Scalar.addi (fetchX k0_t3) 1#32)) (slot3 k0_t3) X) ga (k.val + 1) = bandA (decs XC XT XS (ccol v0 (Scalar.addi (fetchX k0_t3) 1#32)) (slot3 k0_t3) X) k.val (updA (2 * k0_t3.val + 3) (decs XC XT XS (ccol v0 (Scalar.addi (fetchX k0_t3) 1#32)) (slot3 k0_t3) X) ga k.val) from rfl,
        show updA (2 * k0_t3.val + 3) (decs XC XT XS (ccol v0 (Scalar.addi (fetchX k0_t3) 1#32)) (slot3 k0_t3) X) ga k.val = aRc.view.read (Elt F) (updA (2 * k0_t3.val + 3) (decs XC XT XS (ccol v0 (Scalar.addi (fetchX k0_t3) 1#32)) (slot3 k0_t3) X) ga k.val) from rfl,
        ← bandA_eq aRc.view k.val (decs XC XT XS (ccol v0 (Scalar.addi (fetchX k0_t3) 1#32)) (slot3 k0_t3) X) (updA (2 * k0_t3.val + 3) (decs XC XT XS (ccol v0 (Scalar.addi (fetchX k0_t3) 1#32)) (slot3 k0_t3) X) ga k.val) ![k0_off110 k, k0_off112 k, k0_off114 k, k0_off116 k, k0_off118 k, k0_off120 k, k0_off122 k, k0_off124 k] (forall_fin8 (k0_off110_inb k) (k0_off112_inb k) (k0_off114_inb k) (k0_off116_inb k) (k0_off118_inb k) (k0_off120_inb k) (k0_off122_inb k) (k0_off124_inb k)) (forall_fin8 (k0_off110_eq k) (k0_off112_eq k) (k0_off114_eq k) (k0_off116_eq k) (k0_off118_eq k) (k0_off120_eq k) (k0_off122_eq k) (k0_off124_eq k)) hk
          (pval XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)))
          (pval_at XC XT XS X ![k0_off98 v0 k0_t3 k, k0_off99 v0 k0_t3 k] (forall_fin2 (k0_off98_inb v0 k0_hw1 k0_t3 k) (k0_off99_inb v0 k0_hw1 k0_t3 k)) (fun q => k0_off100 k (BitVec.ofNat 32 (8 * q.val))) (fun q => k0_off100_inb k q) ![fun q => k0_off101 k0_t3 k (BitVec.ofNat 32 (8 * q.val)), fun q => k0_off102 k0_t3 k (BitVec.ofNat 32 (8 * q.val)), fun q => k0_off103 k0_t3 k (BitVec.ofNat 32 (8 * q.val)), fun q => k0_off104 k0_t3 k (BitVec.ofNat 32 (8 * q.val)), fun q => k0_off105 k0_t3 k (BitVec.ofNat 32 (8 * q.val)), fun q => k0_off106 k0_t3 k (BitVec.ofNat 32 (8 * q.val)), fun q => k0_off107 k0_t3 k (BitVec.ofNat 32 (8 * q.val)), fun q => k0_off108 k0_t3 k (BitVec.ofNat 32 (8 * q.val))] (forall_fin8 (fun q => k0_off101_inb k0_t3 k q) (fun q => k0_off102_inb k0_t3 k q) (fun q => k0_off103_inb k0_t3 k q) (fun q => k0_off104_inb k0_t3 k q) (fun q => k0_off105_inb k0_t3 k q) (fun q => k0_off106_inb k0_t3 k q) (fun q => k0_off107_inb k0_t3 k q) (fun q => k0_off108_inb k0_t3 k q)) k.val (ccol v0 (Scalar.addi (fetchX k0_t3) 1#32)) (slot3 k0_t3) hk (forall_fin2 (k0_off98_ceq v0 k0_t3 k) (k0_off99_ceq v0 k0_t3 k)) (fun q => k0_off100_eq k q) (forall_fin8 (fun q => k0_off101_eq k0_t3 k q) (fun q => k0_off102_eq k0_t3 k q) (fun q => k0_off103_eq k0_t3 k q) (fun q => k0_off104_eq k0_t3 k q) (fun q => k0_off105_eq k0_t3 k q) (fun q => k0_off106_eq k0_t3 k q) (fun q => k0_off107_eq k0_t3 k q) (fun q => k0_off108_eq k0_t3 k q)))]
      iexact HA

end Cert.Kernel.Hand
end
-- ==== Proof.KRun.lean ====
module

public import proofs.«01_k».proof.Proof.KTab
public import proofs.«01_k».proof.Proof.KLoop1
public import proofs.«01_k».proof.Proof.KLoop2
public import proofs.«01_k».proof.Proof.KLoop4
public import proofs.«01_k».proof.Proof.KLoop5
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameValue
public import Idealize.ShloMosaic.Lib.Ring
public import Idealize.ShloMosaic.Lib.Tactic
public import Idealize.ShloMosaic.Lib.WordCmp
public import Idealize.ShloMosaic.Lib.Writes
public import Idealize.ShloMosaic.Lib.Pointwise.Index

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev ptC (c : Dev nD) (f : aC0.view.ty.Contents (Elt F)) : sProp 𝕄 := aC0.view.loc (c : Thread nD τ) ↦{fullShare} f
abbrev ptAcc (c : Dev nD) (f : aAcc.view.ty.Contents (Elt F)) : sProp 𝕄 := aAcc.view.loc (c : Thread nD τ) ↦{fullShare} f
abbrev ptRb (c : Dev nD) (f : aRb.view.ty.Contents (Elt F)) : sProp 𝕄 := aRb.view.loc (c : Thread nD τ) ↦{fullShare} f
abbrev ptRa (c : Dev nD) (f : aRa.view.ty.Contents (Elt F)) : sProp 𝕄 := aRa.view.loc (c : Thread nD τ) ↦{fullShare} f
abbrev ptRc (c : Dev nD) (f : aRc.view.ty.Contents (Elt F)) : sProp 𝕄 := aRc.view.loc (c : Thread nD τ) ↦{fullShare} f
abbrev ptCd (c : Dev nD) (f : aCd.view.ty.Contents (Elt F)) : sProp 𝕄 := aCd.view.loc (c : Thread nD τ) ↦{fullShare} f
abbrev ptCb (c : Dev nD) (f : aCb.view.ty.Contents (Elt F)) : sProp 𝕄 := aCb.view.loc (c : Thread nD τ) ↦{fullShare} f
abbrev ptSc (c : Dev nD) (f : aSc.view.ty.Contents (Elt F)) : sProp 𝕄 := aSc.view.loc (c : Thread nD τ) ↦{fullShare} f
abbrev ptCodes (c : Dev nD) (f : aCodes.view.ty.Contents (Elt F)) : sProp 𝕄 := aCodes.view.loc (c : Thread nD τ) ↦{fullShare} f
abbrev ptCbv (c : Dev nD) (f : aCbv.view.ty.Contents (Elt F)) : sProp 𝕄 := aCbv.view.loc (c : Thread nD τ) ↦{fullShare} f
abbrev ptSv (c : Dev nD) (f : aSv.view.ty.Contents (Elt F)) : sProp 𝕄 := aSv.view.loc (c : Thread nD τ) ↦{fullShare} f
abbrev ptTab (c : Dev nD) (f : aTab.view.ty.Contents (Elt F)) : sProp 𝕄 := aTab.view.loc (c : Thread nD τ) ↦{fullShare} f
abbrev ptScol (c : Dev nD) (f : aScol.view.ty.Contents (Elt F)) : sProp 𝕄 := aScol.view.loc (c : Thread nD τ) ↦{fullShare} f
abbrev tokW (c : Dev nD) (f : aW.view.ty.Contents (Elt F)) (i : Fin 16) : sProp 𝕄 := aW.view.loc (c : Thread nD τ) ↦{Transfers.shareTok fullShare 16 i} f
abbrev tokH (c : Dev nD) (f : aH.view.ty.Contents (Elt F)) (i : Fin 16) : sProp 𝕄 := aH.view.loc (c : Thread nD τ) ↦{Transfers.shareTok fullShare 16 i} f
abbrev ptS (c : Dev nD) (f : aWb.view.ty.Contents (Elt F)) (i : ℕ) (h : i < 16) : sProp 𝕄 := (wSlot i h).view.loc (c : Thread nD τ) ↦[(wSlot i h).view.set]{fullShare} f
abbrev ptT (c : Dev nD) (f : aHb.view.ty.Contents (Elt F)) (i : ℕ) (h : i < 16) : sProp 𝕄 := (hSlot i h).view.loc (c : Thread nD τ) ↦[(hSlot i h).view.set]{fullShare} f
abbrev ptO (c : Dev nD) (v0 : Elt F .i32) (hw : k0_chk1 v0) (f : aR.view.ty.Contents (Elt F)) (i : Fin 16) : sProp 𝕄 := (rWin v0 hw i).view.loc (c : Thread nD τ) ↦[(rWin v0 hw i).view.set]{fullShare} f
abbrev cel (c : Dev nD) (i : DmaSem sig) : sProp 𝕄 := semVal ((c : Thread nD τ), SemLoc.dma i) 0
def gW (c : Dev nD) (f : aW.view.ty.Contents (Elt F)) : sProp 𝕄 := iprop(tokW c f 0 ∗ tokW c f 1 ∗ tokW c f 2 ∗ tokW c f 3 ∗ tokW c f 4 ∗ tokW c f 5 ∗ tokW c f 6 ∗ tokW c f 7 ∗ tokW c f 8 ∗ tokW c f 9 ∗ tokW c f 10 ∗ tokW c f 11 ∗ tokW c f 12 ∗ tokW c f 13 ∗ tokW c f 14 ∗ tokW c f 15)
def gH (c : Dev nD) (f : aH.view.ty.Contents (Elt F)) : sProp 𝕄 := iprop(tokH c f 0 ∗ tokH c f 1 ∗ tokH c f 2 ∗ tokH c f 3 ∗ tokH c f 4 ∗ tokH c f 5 ∗ tokH c f 6 ∗ tokH c f 7 ∗ tokH c f 8 ∗ tokH c f 9 ∗ tokH c f 10 ∗ tokH c f 11 ∗ tokH c f 12 ∗ tokH c f 13 ∗ tokH c f 14 ∗ tokH c f 15)
def gS (c : Dev nD) (f : aWb.view.ty.Contents (Elt F)) : sProp 𝕄 := iprop(ptS c f 0 (by decide) ∗ ptS c f 1 (by decide) ∗ ptS c f 2 (by decide) ∗ ptS c f 3 (by decide) ∗ ptS c f 4 (by decide) ∗ ptS c f 5 (by decide) ∗ ptS c f 6 (by decide) ∗ ptS c f 7 (by decide) ∗ ptS c f 8 (by decide) ∗ ptS c f 9 (by decide) ∗ ptS c f 10 (by decide) ∗ ptS c f 11 (by decide) ∗ ptS c f 12 (by decide) ∗ ptS c f 13 (by decide) ∗ ptS c f 14 (by decide) ∗ ptS c f 15 (by decide))
def gT (c : Dev nD) (f : aHb.view.ty.Contents (Elt F)) : sProp 𝕄 := iprop(ptT c f 0 (by decide) ∗ ptT c f 1 (by decide) ∗ ptT c f 2 (by decide) ∗ ptT c f 3 (by decide) ∗ ptT c f 4 (by decide) ∗ ptT c f 5 (by decide) ∗ ptT c f 6 (by decide) ∗ ptT c f 7 (by decide) ∗ ptT c f 8 (by decide) ∗ ptT c f 9 (by decide) ∗ ptT c f 10 (by decide) ∗ ptT c f 11 (by decide) ∗ ptT c f 12 (by decide) ∗ ptT c f 13 (by decide) ∗ ptT c f 14 (by decide) ∗ ptT c f 15 (by decide))
def gO (c : Dev nD) (v0 : Elt F .i32) (hw : k0_chk1 v0) (f : aR.view.ty.Contents (Elt F)) : sProp 𝕄 := iprop(ptO c v0 hw f 0 ∗ ptO c v0 hw f 1 ∗ ptO c v0 hw f 2 ∗ ptO c v0 hw f 3 ∗ ptO c v0 hw f 4 ∗ ptO c v0 hw f 5 ∗ ptO c v0 hw f 6 ∗ ptO c v0 hw f 7 ∗ ptO c v0 hw f 8 ∗ ptO c v0 hw f 9 ∗ ptO c v0 hw f 10 ∗ ptO c v0 hw f 11 ∗ ptO c v0 hw f 12 ∗ ptO c v0 hw f 13 ∗ ptO c v0 hw f 14 ∗ ptO c v0 hw f 15)
def gSx (c : Dev nD)  : sProp 𝕄 := iprop((∃ f : aWb.view.ty.Contents (Elt F), ptS c f 0 (by decide)) ∗ (∃ f : aWb.view.ty.Contents (Elt F), ptS c f 1 (by decide)) ∗ (∃ f : aWb.view.ty.Contents (Elt F), ptS c f 2 (by decide)) ∗ (∃ f : aWb.view.ty.Contents (Elt F), ptS c f 3 (by decide)) ∗ (∃ f : aWb.view.ty.Contents (Elt F), ptS c f 4 (by decide)) ∗ (∃ f : aWb.view.ty.Contents (Elt F), ptS c f 5 (by decide)) ∗ (∃ f : aWb.view.ty.Contents (Elt F), ptS c f 6 (by decide)) ∗ (∃ f : aWb.view.ty.Contents (Elt F), ptS c f 7 (by decide)) ∗ (∃ f : aWb.view.ty.Contents (Elt F), ptS c f 8 (by decide)) ∗ (∃ f : aWb.view.ty.Contents (Elt F), ptS c f 9 (by decide)) ∗ (∃ f : aWb.view.ty.Contents (Elt F), ptS c f 10 (by decide)) ∗ (∃ f : aWb.view.ty.Contents (Elt F), ptS c f 11 (by decide)) ∗ (∃ f : aWb.view.ty.Contents (Elt F), ptS c f 12 (by decide)) ∗ (∃ f : aWb.view.ty.Contents (Elt F), ptS c f 13 (by decide)) ∗ (∃ f : aWb.view.ty.Contents (Elt F), ptS c f 14 (by decide)) ∗ (∃ f : aWb.view.ty.Contents (Elt F), ptS c f 15 (by decide)))
def gTx (c : Dev nD)  : sProp 𝕄 := iprop((∃ f : aHb.view.ty.Contents (Elt F), ptT c f 0 (by decide)) ∗ (∃ f : aHb.view.ty.Contents (Elt F), ptT c f 1 (by decide)) ∗ (∃ f : aHb.view.ty.Contents (Elt F), ptT c f 2 (by decide)) ∗ (∃ f : aHb.view.ty.Contents (Elt F), ptT c f 3 (by decide)) ∗ (∃ f : aHb.view.ty.Contents (Elt F), ptT c f 4 (by decide)) ∗ (∃ f : aHb.view.ty.Contents (Elt F), ptT c f 5 (by decide)) ∗ (∃ f : aHb.view.ty.Contents (Elt F), ptT c f 6 (by decide)) ∗ (∃ f : aHb.view.ty.Contents (Elt F), ptT c f 7 (by decide)) ∗ (∃ f : aHb.view.ty.Contents (Elt F), ptT c f 8 (by decide)) ∗ (∃ f : aHb.view.ty.Contents (Elt F), ptT c f 9 (by decide)) ∗ (∃ f : aHb.view.ty.Contents (Elt F), ptT c f 10 (by decide)) ∗ (∃ f : aHb.view.ty.Contents (Elt F), ptT c f 11 (by decide)) ∗ (∃ f : aHb.view.ty.Contents (Elt F), ptT c f 12 (by decide)) ∗ (∃ f : aHb.view.ty.Contents (Elt F), ptT c f 13 (by decide)) ∗ (∃ f : aHb.view.ty.Contents (Elt F), ptT c f 14 (by decide)) ∗ (∃ f : aHb.view.ty.Contents (Elt F), ptT c f 15 (by decide)))
def gQ0 (c : Dev nD)  : sProp 𝕄 := iprop(cel (F := F) c 2 ∗ cel (F := F) c 3 ∗ cel (F := F) c 4 ∗ cel (F := F) c 5 ∗ cel (F := F) c 6 ∗ cel (F := F) c 7 ∗ cel (F := F) c 8 ∗ cel (F := F) c 9 ∗ cel (F := F) c 10 ∗ cel (F := F) c 11 ∗ cel (F := F) c 12 ∗ cel (F := F) c 13 ∗ cel (F := F) c 14 ∗ cel (F := F) c 15 ∗ cel (F := F) c 16 ∗ cel (F := F) c 17)
def gQ1 (c : Dev nD)  : sProp 𝕄 := iprop(cel (F := F) c 18 ∗ cel (F := F) c 19 ∗ cel (F := F) c 20 ∗ cel (F := F) c 21 ∗ cel (F := F) c 22 ∗ cel (F := F) c 23 ∗ cel (F := F) c 24 ∗ cel (F := F) c 25 ∗ cel (F := F) c 26 ∗ cel (F := F) c 27 ∗ cel (F := F) c 28 ∗ cel (F := F) c 29 ∗ cel (F := F) c 30 ∗ cel (F := F) c 31 ∗ cel (F := F) c 32 ∗ cel (F := F) c 33)
def gQ2 (c : Dev nD)  : sProp 𝕄 := iprop(cel (F := F) c 37 ∗ cel (F := F) c 38 ∗ cel (F := F) c 39 ∗ cel (F := F) c 40 ∗ cel (F := F) c 41 ∗ cel (F := F) c 42 ∗ cel (F := F) c 43 ∗ cel (F := F) c 44 ∗ cel (F := F) c 45 ∗ cel (F := F) c 46 ∗ cel (F := F) c 47 ∗ cel (F := F) c 48 ∗ cel (F := F) c 49 ∗ cel (F := F) c 50 ∗ cel (F := F) c 51 ∗ cel (F := F) c 52)
def gQs (c : Dev nD)  : sProp 𝕄 := iprop(cel (F := F) c 34 ∗ cel (F := F) c 35 ∗ cel (F := F) c 36)

/-- The narrowed buffer after the loops of the first `n` blocks. -/
def gAll (D : Fin 16 → Fin 128 → Fin 1024 → F .bf16) (g : aRb.view.ty.Contents (Elt F)) : ℕ → aRb.view.ty.Contents (Elt F)
  | 0 => g
  | n + 1 => updR n (D (Fin.ofNat 16 n)) (gAll D g n) 4

theorem RB_all (D : Fin 16 → Fin 128 → Fin 1024 → F .bf16) (g : aRb.view.ty.Contents (Elt F)) : ∀ n, n ≤ 16 → RB D n (gAll D g n)
  | 0, _ => RB_zero D g
  | n + 1, h => by
    have e : (Fin.ofNat 16 n) = ⟨n, h⟩ := Fin.ext (Nat.mod_eq_of_lt h)
    show RB D (n + 1) (updR n (D (Fin.ofNat 16 n)) (gAll D g n) 4)
    rw [e]
    exact RB_step D n h _ (RB_all D g n (Nat.le_of_succ_le h))

theorem pay1737_eq (a : Vec F S512x128 .f32) (h : Vec F S1x512x1024 .f32) (r : Vec F S128x1024 .bf16) : k0_pay1737 a h r = k0_pay1790 a h r := rfl
theorem pay1795_eq (a : Vec F S512x128 .f32) (h : Vec F S1x512x1024 .f32) (r : Vec F S128x1024 .bf16) : k0_pay1795 (k0_pay1742 a) (k0_pay1743 h) r = k0_pay1790 a h r := rfl
theorem pay1800_eq (a : Vec F S512x128 .f32) (h : Vec F S1x512x1024 .f32) (r : Vec F S128x1024 .bf16) : k0_pay1800 a h r = k0_pay1790 a h r := rfl

theorem acc_conv (c : Dev nD) (v0 : Elt F .i32) (hw : k0_chk1 v0) (D D' : Fin 16 → Fin 128 → Fin 1024 → F .bf16) (hD : D = D') (fh : aH.view.ty.Contents (Elt F))
    (L : List (View.Piece (Elt F) S512x128 .f32)) (hL : AccL v0 hw D fh 16 L) :
    ptAcc c (aAcc.view.writes (Elt F) aAcc.view.junk L) ⊢ ptAcc c (accAt v0 hw D' fh 16) :=
  BIBase.Entails.of_eq (congrArg (ptAcc c) (hD ▸ AccL_final v0 hw D fh 16 L aAcc.view.junk hL))

theorem out_conv (c : Dev nD) (v0 : Elt F .i32) (hw : k0_chk1 v0) (D D' : Fin 16 → Fin 128 → Fin 1024 → F .bf16) (hD : D = D') (E : aR.view.ty.Contents (Elt F))
    (hE : ∀ (i : Fin 16) (x : S128x1024.Idx), D' i (x 0) (x 1) = E ((Rect.unit (s := S128x16384) (k0_off1 v0 (BitVec.ofNat 32 i.val)) S128x1024.size (k0_off1_inb v0 hw i)).emb x))
    (fr : aR.view.ty.Contents (Elt F)) (i : Fin 16) (g : aRb.view.ty.Contents (Elt F))
    (p : S128x1024.Idx → Elt F .bf16) (hp : p = (rSlot i).view.read (Elt F) g) (hg : RB D 16 g) :
    ptO c v0 hw ((rWin v0 hw i).view.writes (Elt F) fr [⟨Rect.whole S128x1024, p⟩]) i ⊢ ptO c v0 hw E i :=
  BIBase.Entails.of_eq (pointsTo_congr (out_eq v0 hw D' E hE fr i g p hp (hD ▸ hg)))

/-- The residual of every block, of what the codes', the table's and the scales' buffers hold. -/
abbrev draw (v0 : Elt F .i32) (hw : k0_chk1 v0) (fw : aW.view.ty.Contents (Elt F)) (XC : aCodes.view.ty.Contents (Elt F)) (XT : aTab.view.ty.Contents (Elt F)) (XS : aScol.view.ty.Contents (Elt F)) :
    Fin 16 → Fin 128 → Fin 1024 → F .bf16 :=
  fun i => decs XC XT XS (ccol v0 (BitVec.ofNat 32 i.val)) i (wX i (wV v0 hw fw i))

set_option sl_exec.dmaWindow true in
set_option maxHeartbeats 2000000 in
theorem run (c : Dev nD) (X0 : aC0.view.ty.Contents (Elt F)) (v0 : Elt F .i32) (hv0 : ∀ y, X0 y = v0) (hw : k0_chk1 v0)
    (facc : aAcc.view.ty.Contents (Elt F)) (fw : aW.view.ty.Contents (Elt F)) (fh : aH.view.ty.Contents (Elt F)) (fr : aR.view.ty.Contents (Elt F))
    (fs : aWb.view.ty.Contents (Elt F)) (ft : aHb.view.ty.Contents (Elt F)) (frb : aRb.view.ty.Contents (Elt F))
    (fra : aRa.view.ty.Contents (Elt F)) (frc : aRc.view.ty.Contents (Elt F)) (fcd : aCd.view.ty.Contents (Elt F)) (fcb : aCb.view.ty.Contents (Elt F)) (fsc : aSc.view.ty.Contents (Elt F))
    (xcd : aCodes.view.ty.Contents (Elt F)) (xcb : aCbv.view.ty.Contents (Elt F)) (xsv : aSv.view.ty.Contents (Elt F)) (xtab : aTab.view.ty.Contents (Elt F)) (xscol : aScol.view.ty.Contents (Elt F))
    (E : aR.view.ty.Contents (Elt F))
    (hE : ∀ (i : Fin 16) (x : S128x1024.Idx), dval v0 hw fw fcd fcb fsc i (x 0) (x 1) = E ((Rect.unit (s := S128x16384) (k0_off1 v0 (BitVec.ofNat 32 i.val)) S128x1024.size (k0_off1_inb v0 hw i)).emb x))
    (W : Waits sig Unit) (Q : Unit → sProp 𝕄) :
    iprop(ptC c X0 ∗ ptAcc c facc ∗ gW c fw ∗ gH c fh ∗ gS c fs ∗ gT c ft ∗ ptRb c frb ∗ ptRa c fra ∗ ptRc c frc ∗ ptCd c fcd ∗ ptCb c fcb ∗ ptSc c fsc ∗ ptCodes c xcd ∗ ptCbv c xcb ∗ ptSv c xsv ∗ ptTab c xtab ∗ ptScol c xscol ∗ gO c v0 hw fr ∗ gQ0 (F := F) c ∗ gQ1 (F := F) c ∗ gQs (F := F) c ∗ gQ2 (F := F) c ∗ owes (c : Thread nD τ) 0 W ∗ ((ptC c X0 ∗ ptAcc c (accAt v0 hw (dval v0 hw fw fcd fcb fsc) fh 16) ∗ gW c fw ∗ gH c fh ∗ gSx (F := F) c ∗ gTx (F := F) c ∗ (∃ f, ptRb c f) ∗ (∃ f, ptRa c f) ∗ (∃ f, ptRc c f) ∗ ptCd c fcd ∗ ptCb c fcb ∗ ptSc c fsc ∗ (∃ f, ptCodes c f) ∗ (∃ f, ptCbv c f) ∗ (∃ f, ptSv c f) ∗ (∃ f, ptTab c f) ∗ (∃ f, ptScol c f) ∗ gO c v0 hw E ∗ gQ0 (F := F) c ∗ gQ1 (F := F) c ∗ gQs (F := F) c ∗ gQ2 (F := F) c ∗ (∃ W' : Waits sig Unit, owes (c : Thread nD τ) 0 W')) -∗ Q PUnit.unit)) ⊢
    wp frame (wpE (defs₀ (F := F)) Variants.none (c : Thread nD τ) none) Set.univ
      (cc0_aqlm_scores (F := F) aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13) Q := by
  simp only [cc0_aqlm_scores_eq_skeleton]; unfold cc0_aqlm_scores_skel
  unfold gW gH gS gT gSx gTx gO gQ0 gQ1 gQs gQ2
  iintro ⟨HC, HAcc, ⟨HW0, HW1, HW2, HW3, HW4, HW5, HW6, HW7, HW8, HW9, HW10, HW11, HW12, HW13, HW14, HW15⟩, ⟨HH0, HH1, HH2, HH3, HH4, HH5, HH6, HH7, HH8, HH9, HH10, HH11, HH12, HH13, HH14, HH15⟩, ⟨HS0, HS1, HS2, HS3, HS4, HS5, HS6, HS7, HS8, HS9, HS10, HS11, HS12, HS13, HS14, HS15⟩, ⟨HT0, HT1, HT2, HT3, HT4, HT5, HT6, HT7, HT8, HT9, HT10, HT11, HT12, HT13, HT14, HT15⟩, HRb, HRa, HRc, HCd, HCb, HSc, HCodes, HCbv, HSv, HTab, HScol, ⟨HO0, HO1, HO2, HO3, HO4, HO5, HO6, HO7, HO8, HO9, HO10, HO11, HO12, HO13, HO14, HO15⟩, ⟨Hq0, Hq1, Hq2, Hq3, Hq4, Hq5, Hq6, Hq7, Hq8, Hq9, Hq10, Hq11, Hq12, Hq13, Hq14, Hq15⟩, ⟨Hq16, Hq17, Hq18, Hq19, Hq20, Hq21, Hq22, Hq23, Hq24, Hq25, Hq26, Hq27, Hq28, Hq29, Hq30, Hq31⟩, ⟨Hs0, Hs1, Hs2⟩, ⟨Hq32, Hq33, Hq34, Hq35, Hq36, Hq37, Hq38, Hq39, Hq40, Hq41, Hq42, Hq43, Hq44, Hq45, Hq46, Hq47⟩, HE, Hk⟩
  sl_exec
  rw [show run.sl.r X0 = v0 from hv0 _]
  sl_exec
  sl_unroll
  sl_exec
  sl_step
  have hC : View.write (Elt F) aCodes.view xcd (run.sl.dma0_2 fcd) Finset.univ = fcd := codes_eq xcd _ fcd rfl
  have hB : View.write (Elt F) aCbv.view xcb (run.sl.dma0 fcb) Finset.univ = fcb := cbv_eq xcb _ fcb rfl
  have hV : View.write (Elt F) aSv.view xsv (run.sl.dma0_1 fsc) Finset.univ = fsc := sv_eq xsv _ fsc rfl
  have hT : aTab.view.writes (Elt F) aTab.view.junk (run.sl.HTab_32 fcb xcb) = tabC fcb :=
    (tab_eq (View.write (Elt F) aCbv.view xcb (run.sl.dma0 fcb) Finset.univ) _
      (fun m => by revert m; decide) (fun e hf => by revert e hf; decide) _ rfl).trans (congrArg tabC hB)
  have hS : aScol.view.writes (Elt F) aScol.view.junk (run.sl.HScol_1 fsc xsv) = scolC fsc :=
    (scol_eq (View.write (Elt F) aSv.view xsv (run.sl.dma0_1 fsc) Finset.univ) _ _ rfl _).trans (congrArg scolC hV)
  have hD : (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) = dval v0 hw fw fcd fcb fsc := by
    rw [hC, hT, hS]
    rfl
  have hacc : AccL v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 16
      (⟨boxAcc, k0_pay1800 (run.sl.v725 v0 hw fw fh fra frc fcd fcb fsc xcd xcb xsv) (run.sl.v727 v0 hw fh) (run.sl.v730 v0 hw fw frc fcd fcb fsc xcd xcb xsv)⟩ :: ⟨boxAcc, k0_pay1795 (run.sl.r_23 v0 hw fw fh fra frc fcd fcb fsc xcd xcb xsv) (run.sl.r_24 v0 hw fh) (run.sl.v944_6 v0 hw fw fra fcd fcb fsc xcd xcb xsv)⟩ :: ⟨boxAcc, run.sl.r_22 v0 hw fw fh fra frc fcd fcb fsc xcd xcb xsv⟩ :: ⟨boxAcc, k0_pay1795 (run.sl.r_20 v0 hw fw fh fra frc fcd fcb fsc xcd xcb xsv) (run.sl.r_21 v0 hw fh) (run.sl.v944_5 v0 hw fw fra fcd fcb fsc xcd xcb xsv)⟩ :: ⟨boxAcc, run.sl.r_19 v0 hw fw fh fra frc fcd fcb fsc xcd xcb xsv⟩ :: ⟨boxAcc, k0_pay1795 (run.sl.r_17 v0 hw fw fh fra frc fcd fcb fsc xcd xcb xsv) (run.sl.r_18 v0 hw fh) (run.sl.v944_4 v0 hw fw fra fcd fcb fsc xcd xcb xsv)⟩ :: ⟨boxAcc, run.sl.r_16 v0 hw fw fh fra frc fcd fcb fsc xcd xcb xsv⟩ :: ⟨boxAcc, k0_pay1795 (run.sl.r_14 v0 hw fw fh fra frc fcd fcb fsc xcd xcb xsv) (run.sl.r_15 v0 hw fh) (run.sl.v944_3 v0 hw fw fra fcd fcb fsc xcd xcb xsv)⟩ :: ⟨boxAcc, run.sl.r_13 v0 hw fw fh fra frc fcd fcb fsc xcd xcb xsv⟩ :: ⟨boxAcc, k0_pay1795 (run.sl.r_11 v0 hw fw fh fra frc fcd fcb fsc xcd xcb xsv) (run.sl.r_12 v0 hw fh) (run.sl.v944_2 v0 hw fw fra fcd fcb fsc xcd xcb xsv)⟩ :: ⟨boxAcc, run.sl.r_10 v0 hw fw fh fra frc fcd fcb fsc xcd xcb xsv⟩ :: ⟨boxAcc, k0_pay1795 (run.sl.r_8 v0 hw fw fh fra frc fcd fcb fsc xcd xcb xsv) (run.sl.r_9 v0 hw fh) (run.sl.v944_1 v0 hw fw fra fcd fcb fsc xcd xcb xsv)⟩ :: ⟨boxAcc, run.sl.r_7 v0 hw fw fh fra frc fcd fcb fsc xcd xcb xsv⟩ :: ⟨boxAcc, k0_pay1795 (run.sl.r_5 v0 hw fw fh fra frc fcd fcb fsc xcd xcb xsv) (run.sl.r_6 v0 hw fh) (run.sl.v944 v0 hw fw fra fcd fcb fsc xcd xcb xsv)⟩ :: ⟨boxAcc, run.sl.r_4 v0 hw fw fh fra frc fcd fcb fsc xcd xcb xsv⟩ :: run.sl.HAcc_2 v0 hw fw fh fra fcd fcb fsc xcd xcb xsv) := by
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 15 _ _ _ _ (pay1800_eq _ _ _) (hload v0 hw fh (Fin.ofNat 16 15) _) (load_rc (Fin.ofNat 16 15) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 14 _ _ _ _ (pay1795_eq _ _ _) (hload v0 hw fh (Fin.ofNat 16 14) _) (load_ra (Fin.ofNat 16 14) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 13 _ _ _ _ (pay1737_eq _ _ _) (hload v0 hw fh (Fin.ofNat 16 13) _) (load_rc (Fin.ofNat 16 13) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 12 _ _ _ _ (pay1795_eq _ _ _) (hload v0 hw fh (Fin.ofNat 16 12) _) (load_ra (Fin.ofNat 16 12) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 11 _ _ _ _ (pay1737_eq _ _ _) (hload v0 hw fh (Fin.ofNat 16 11) _) (load_rc (Fin.ofNat 16 11) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 10 _ _ _ _ (pay1795_eq _ _ _) (hload v0 hw fh (Fin.ofNat 16 10) _) (load_ra (Fin.ofNat 16 10) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 9 _ _ _ _ (pay1737_eq _ _ _) (hload v0 hw fh (Fin.ofNat 16 9) _) (load_rc (Fin.ofNat 16 9) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 8 _ _ _ _ (pay1795_eq _ _ _) (hload v0 hw fh (Fin.ofNat 16 8) _) (load_ra (Fin.ofNat 16 8) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 7 _ _ _ _ (pay1737_eq _ _ _) (hload v0 hw fh (Fin.ofNat 16 7) _) (load_rc (Fin.ofNat 16 7) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 6 _ _ _ _ (pay1795_eq _ _ _) (hload v0 hw fh (Fin.ofNat 16 6) _) (load_ra (Fin.ofNat 16 6) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 5 _ _ _ _ (pay1737_eq _ _ _) (hload v0 hw fh (Fin.ofNat 16 5) _) (load_rc (Fin.ofNat 16 5) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 4 _ _ _ _ (pay1795_eq _ _ _) (hload v0 hw fh (Fin.ofNat 16 4) _) (load_ra (Fin.ofNat 16 4) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 3 _ _ _ _ (pay1737_eq _ _ _) (hload v0 hw fh (Fin.ofNat 16 3) _) (load_rc (Fin.ofNat 16 3) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 2 _ _ _ _ (pay1795_eq _ _ _) (hload v0 hw fh (Fin.ofNat 16 2) _) (load_ra (Fin.ofNat 16 2) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 1 _ _ _ _ (pay1737_eq _ _ _) (hload v0 hw fh (Fin.ofNat 16 1) _) (load_rc (Fin.ofNat 16 1) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    refine AccL_step v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) fh 0 _ _ _ _ (rfl) (hload v0 hw fh (Fin.ofNat 16 0) _) (load_ra (Fin.ofNat 16 0) _ (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) _) ?_
    exact AccL_zero v0 hw _ fh
  iapply Hk
  isplitl [HC]; · iexact HC
  isplitl [HAcc]
  · iapply (acc_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD fh _ hacc)
    iexact HAcc
  isplitl [HW0 HW1 HW2 HW3 HW4 HW5 HW6 HW7 HW8 HW9 HW10 HW11 HW12 HW13 HW14 HW15]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    isplitl [HW8]; · iexact HW8
    isplitl [HW9]; · iexact HW9
    isplitl [HW10]; · iexact HW10
    isplitl [HW11]; · iexact HW11
    isplitl [HW12]; · iexact HW12
    isplitl [HW13]; · iexact HW13
    isplitl [HW14]; · iexact HW14
    iexact HW15
  isplitl [HH0 HH1 HH2 HH3 HH4 HH5 HH6 HH7 HH8 HH9 HH10 HH11 HH12 HH13 HH14 HH15]
  · isplitl [HH0]; · iexact HH0
    isplitl [HH1]; · iexact HH1
    isplitl [HH2]; · iexact HH2
    isplitl [HH3]; · iexact HH3
    isplitl [HH4]; · iexact HH4
    isplitl [HH5]; · iexact HH5
    isplitl [HH6]; · iexact HH6
    isplitl [HH7]; · iexact HH7
    isplitl [HH8]; · iexact HH8
    isplitl [HH9]; · iexact HH9
    isplitl [HH10]; · iexact HH10
    isplitl [HH11]; · iexact HH11
    isplitl [HH12]; · iexact HH12
    isplitl [HH13]; · iexact HH13
    isplitl [HH14]; · iexact HH14
    iexact HH15
  isplitl [HS0 HS1 HS2 HS3 HS4 HS5 HS6 HS7 HS8 HS9 HS10 HS11 HS12 HS13 HS14 HS15]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    iexists _; iexact HS15
  isplitl [HT0 HT1 HT2 HT3 HT4 HT5 HT6 HT7 HT8 HT9 HT10 HT11 HT12 HT13 HT14 HT15]
  · isplitl [HT0]; · iexists _; iexact HT0
    isplitl [HT1]; · iexists _; iexact HT1
    isplitl [HT2]; · iexists _; iexact HT2
    isplitl [HT3]; · iexists _; iexact HT3
    isplitl [HT4]; · iexists _; iexact HT4
    isplitl [HT5]; · iexists _; iexact HT5
    isplitl [HT6]; · iexists _; iexact HT6
    isplitl [HT7]; · iexists _; iexact HT7
    isplitl [HT8]; · iexists _; iexact HT8
    isplitl [HT9]; · iexists _; iexact HT9
    isplitl [HT10]; · iexists _; iexact HT10
    isplitl [HT11]; · iexists _; iexact HT11
    isplitl [HT12]; · iexists _; iexact HT12
    isplitl [HT13]; · iexists _; iexact HT13
    isplitl [HT14]; · iexists _; iexact HT14
    iexists _; iexact HT15
  isplitl [HRb]; · iexists _; iexact HRb
  isplitl [HRa]; · iexists _; iexact HRa
  isplitl [HRc]; · iexists _; iexact HRc
  isplitl [HCd]; · iexact HCd
  isplitl [HCb]; · iexact HCb
  isplitl [HSc]; · iexact HSc
  isplitl [HCodes]; · iexists _; iexact HCodes
  isplitl [HCbv]; · iexists _; iexact HCbv
  isplitl [HSv]; · iexists _; iexact HSv
  isplitl [HTab]; · iexists _; iexact HTab
  isplitl [HScol]; · iexists _; iexact HScol
  isplitl [HO0 HO1 HO2 HO3 HO4 HO5 HO6 HO7 HO8 HO9 HO10 HO11 HO12 HO13 HO14 HO15]
  · isplitl [HO0]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 0 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_35 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO0
    isplitl [HO1]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 1 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_36 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO1
    isplitl [HO2]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 2 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_37 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO2
    isplitl [HO3]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 3 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_38 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO3
    isplitl [HO4]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 4 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_39 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO4
    isplitl [HO5]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 5 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_40 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO5
    isplitl [HO6]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 6 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_41 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO6
    isplitl [HO7]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 7 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_42 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO7
    isplitl [HO8]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 8 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_43 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO8
    isplitl [HO9]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 9 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_44 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO9
    isplitl [HO10]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 10 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_45 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO10
    isplitl [HO11]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 11 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_46 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO11
    isplitl [HO12]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 12 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_47 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO12
    isplitl [HO13]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 13 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_48 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO13
    isplitl [HO14]; · iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 14 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_49 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO14
    iapply (out_conv c v0 hw (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) (dval v0 hw fw fcd fcb fsc) hD E hE fr 15 (gAll (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16) (run.sl.dma0_50 v0 hw fw frb fcd fcb fsc xcd xcb xsv) rfl (RB_all (draw v0 hw fw (View.write (Elt F) aCodes.view xcd (run.sl.dma0_2 fcd) Finset.univ) (aTab.view.writes (Elt F) aTab.view.junk (run.sl.HTab_32 fcb xcb)) (aScol.view.writes (Elt F) aScol.view.junk (run.sl.HScol_1 fsc xsv))) frb 16 (Nat.le_refl 16))); iexact HO15
  isplitl [Hq0 Hq1 Hq2 Hq3 Hq4 Hq5 Hq6 Hq7 Hq8 Hq9 Hq10 Hq11 Hq12 Hq13 Hq14 Hq15]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    iexact Hq15
  isplitl [Hq16 Hq17 Hq18 Hq19 Hq20 Hq21 Hq22 Hq23 Hq24 Hq25 Hq26 Hq27 Hq28 Hq29 Hq30 Hq31]
  · isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  isplitl [Hs0 Hs1 Hs2]
  · isplitl [Hs0]; · iexact Hs0
    isplitl [Hs1]; · iexact Hs1
    iexact Hs2
  isplitl [Hq32 Hq33 Hq34 Hq35 Hq36 Hq37 Hq38 Hq39 Hq40 Hq41 Hq42 Hq43 Hq44 Hq45 Hq46 Hq47]
  · isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    iexact Hq47
  iexists _; iexact HE
end Cert.Kernel.Hand
end
-- ==== Proof.KIdx.lean ====
module

public import proofs.«01_k».proof.Proof.KVals
public import Idealize.ShloMosaic.Lib.Affine

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The first column of the block that is `x` blocks after the chunk's, of the sixteen in a ring. -/
def col (v0 x : BitVec 32) : BitVec 32 :=
  Scalar.muli (Scalar.remsi (Scalar.addi (base v0) x) 16#32) 1024#32

theorem toNat_divsi (x : BitVec 32) (hx : 2 * x.toNat < 2 ^ 32) : (Scalar.divsi x 128#32).toNat = x.toNat / 128 := by
  have hi : x.toInt = x.toNat := BitVec.toInt_eq_toNat_of_lt hx
  refine Affine.nat_eq (ea := x.toInt / 128) (Affine.divsi (Affine.word x) (Affine.word 128#32) ⟨rfl, ?_, by decide⟩) _ ?_
  · omega
  · omega

theorem base_toNat (v0 : BitVec 32) (h : 2 * v0.toNat < 2 ^ 32) : (base v0).toNat = v0.toNat / 128 := by
  have hc : ¬ Scalar.andi
      (Scalar.cmpi .ne
        (Scalar.subi (Scalar.extui (Scalar.cmpi .sgt v0 0#32)) (Scalar.extui (Scalar.cmpi .slt v0 0#32)))
        (Scalar.subi (Scalar.extui (Scalar.cmpi .sgt 128#32 0#32)) (Scalar.extui (Scalar.cmpi .slt 128#32 0#32))))
      (Scalar.cmpi .ne (Scalar.remsi v0 128#32) 0#32) = 1#1 := by
    intro hc
    obtain ⟨h1, h2⟩ := IntOp.andi_eq_one.mp hc
    have hr : (Scalar.remsi v0 128#32).toNat = v0.toNat % 128 := IntOp.toNat_remsi _ h 128 (by decide) (by decide)
    have h0 : v0.toNat ≠ 0 := by
      intro h0
      have : v0 = 0#32 := BitVec.eq_of_toNat_eq (by simpa using h0)
      subst this
      exact absurd h2 (by decide)
    have hi : v0.toInt = v0.toNat := BitVec.toInt_eq_toNat_of_lt h
    have hp : Scalar.cmpi .sgt v0 0#32 = 1#1 := IntOp.cmpi_sgt.mpr (by rw [hi]; simp; omega)
    have hn : Scalar.cmpi .slt v0 0#32 = 0#1 := by
      rcases (by revert h; generalize Scalar.cmpi .slt v0 0#32 = c; intro _; revert c; decide : Scalar.cmpi .slt v0 0#32 = 0#1 ∨ Scalar.cmpi .slt v0 0#32 = 1#1) with e | e
      · exact e
      · have := IntOp.cmpi_slt.mp e
        rw [hi] at this
        simp at this
        omega
    rw [hp, hn] at h1
    exact absurd h1 (by decide)
  unfold base
  rw [show Scalar.select _ _ _ = Scalar.divsi v0 128#32 from if_neg hc]
  exact toNat_divsi v0 h

theorem col_toNat (v0 x : BitVec 32) (h : 2 * v0.toNat < 2 ^ 32) (hx : x.toNat < 32) :
    (col v0 x).toNat = ((v0.toNat / 128 + x.toNat) % 16) * 1024 := by
  have hb := base_toNat v0 h
  have ha : (Scalar.addi (base v0) x).toNat = v0.toNat / 128 + x.toNat := by
    rw [Scalar.addi, IntOp.addi, BitVec.toNat_add, hb]
    omega
  have hr : (Scalar.remsi (Scalar.addi (base v0) x) 16#32).toNat = (v0.toNat / 128 + x.toNat) % 16 := by
    rw [← ha]
    exact IntOp.toNat_remsi _ (by rw [ha]; omega) 16 (by decide) (by decide)
  rw [col, Scalar.muli, IntOp.muli, BitVec.toNat_mul, hr]
  show _ * 1024 % 2 ^ 32 = _
  omega

theorem dvd_any (x : BitVec 32) : 1024 ∣ (Scalar.muli x 1024#32).toNat := by
  rw [Scalar.muli, IntOp.muli, BitVec.toNat_mul]
  show 1024 ∣ x.toNat * 1024 % 2 ^ 32
  omega

theorem inb_w (v0 x : BitVec 32) (h : 2 * v0.toNat < 2 ^ 32) (hx : x.toNat < 32) (a : Fin 2) :
    (![0, (col v0 x).toNat] : Fin 2 → ℕ) a + S128x1024.size a ≤ S128x16384.size a := by
  have hc := col_toNat v0 x h hx
  match a with
  | ⟨0, _⟩ => exact le_refl 128
  | ⟨1, _⟩ => show (col v0 x).toNat + 1024 ≤ 16384; omega

theorem inb_h (v0 x : BitVec 32) (h : 2 * v0.toNat < 2 ^ 32) (hx : x.toNat < 32) (a : Fin 2) :
    (![0, (col v0 x).toNat] : Fin 2 → ℕ) a + S512x1024.size a ≤ S512x16384.size a := by
  have hc := col_toNat v0 x h hx
  match a with
  | ⟨0, _⟩ => exact le_refl 512
  | ⟨1, _⟩ => show (col v0 x).toNat + 1024 ≤ 16384; omega

theorem fin16_lt (i : Fin 16) : (BitVec.ofNat 32 i.val).toNat < 32 := by revert i; decide
theorem fin16_val (i : Fin 16) : (BitVec.ofNat 32 i.val).toNat = i.val := by revert i; decide

theorem off1_eq' (v0 x : BitVec 32) : k0_off1 v0 x = ![0, (col v0 x).toNat] := rfl
theorem off2_eq' (v0 x : BitVec 32) : k0_off2 v0 x = ![0, (col v0 x).toNat] := rfl

theorem fetch_lt : ∀ t : Fin k0_t3_loop.trips, (fetchX t).toNat < 32 := by decide
theorem fetch_lt2 : ∀ t : Fin k0_t3_loop.trips, (Scalar.subi (fetchX t) 1#32).toNat < 32 := by decide
theorem fetch_lt3 : ∀ t : Fin k0_t3_loop.trips, (Scalar.subi (Scalar.addi (fetchX t) 1#32) 1#32).toNat < 32 := by decide
theorem fetch_lt' : ∀ t : Fin k0_t3_loop.trips, (Scalar.addi (fetchX t) 1#32).toNat < 32 := by decide

theorem chk1_0_of (v0 : BitVec 32) (h : 2 * v0.toNat < 2 ^ 32) : k0_chk1_0 v0 := by
  unfold k0_chk1_0
  refine ⟨dvd_any _, fun r a => inb_w v0 _ h (fin16_lt r) a, dvd_any _, fun r a => inb_h v0 _ h (fin16_lt r) a, ?_⟩
  iterate 27 refine ⟨dvd_any _, ?_⟩
  exact dvd_any _

theorem off59_eq (v0 : BitVec 32) (t : Fin k0_t3_loop.trips) : k0_off59 v0 t = ![0, (col v0 (fetchX t)).toNat] := by unfold k0_off59 col base fetchX; rfl
theorem off62_eq (v0 : BitVec 32) (t : Fin k0_t3_loop.trips) : k0_off62 v0 t = ![0, (col v0 (Scalar.subi (fetchX t) 1#32)).toNat] := by unfold k0_off62 col base fetchX; rfl
theorem off93_eq (v0 : BitVec 32) (t : Fin k0_t3_loop.trips) : k0_off93 v0 t = ![0, (col v0 (Scalar.addi (fetchX t) 1#32)).toNat] := by unfold k0_off93 col base fetchX; rfl
theorem off96_eq (v0 : BitVec 32) (t : Fin k0_t3_loop.trips) : k0_off96 v0 t = ![0, (col v0 (Scalar.subi (Scalar.addi (fetchX t) 1#32) 1#32)).toNat] := by unfold k0_off96 col base fetchX; rfl

theorem ccol_toNat (v0 x : BitVec 32) (h : 2 * v0.toNat < 2 ^ 32) (hx : x.toNat < 32) :
    ccol v0 x = ((v0.toNat / 128 + x.toNat) % 16) * 128 := by
  have hb := base_toNat v0 h
  have ha : (Scalar.addi (base v0) x).toNat = v0.toNat / 128 + x.toNat := by
    rw [Scalar.addi, IntOp.addi, BitVec.toNat_add, hb]
    omega
  have hr : (Scalar.remsi (Scalar.addi (base v0) x) 16#32).toNat = (v0.toNat / 128 + x.toNat) % 16 := by
    rw [← ha]
    exact IntOp.toNat_remsi _ (by rw [ha]; omega) 16 (by decide) (by decide)
  rw [ccol, Scalar.muli, IntOp.muli, BitVec.toNat_mul, hr]
  show _ * 128 % 2 ^ 32 = _
  omega

theorem dvd_any' (x : BitVec 32) : 128 ∣ (Scalar.muli x 128#32).toNat := by
  rw [Scalar.muli, IntOp.muli, BitVec.toNat_mul]
  show 128 ∣ x.toNat * 128 % 2 ^ 32
  omega

theorem inb_c (v0 x : BitVec 32) (h : 2 * v0.toNat < 2 ^ 32) (hx : x.toNat < 32) (m k : ℕ) (hm : m < 2) (hk : k < 4) (a : Fin 3) :
    (![m, 32 * k, ccol v0 x] : Fin 3 → ℕ) a + S1x32x128.size a ≤ S2x128x2048.size a := by
  have hc := ccol_toNat v0 x h hx
  match a with
  | ⟨0, _⟩ => show m + 1 ≤ 2; omega
  | ⟨1, _⟩ => show 32 * k + 32 ≤ 128; omega
  | ⟨2, _⟩ => show ccol v0 x + 128 ≤ 2048; omega

theorem trip1 (k : Fin k0_t1_loop.trips) : k.val < 4 := Nat.lt_of_lt_of_le k.isLt k0_t1_abs.2.1
theorem trip2 (k : Fin k0_t2_loop.trips) : k.val < 4 := Nat.lt_of_lt_of_le k.isLt k0_t2_abs.2.1
theorem trip4 (k : Fin k0_t4_loop.trips) : k.val < 4 := Nat.lt_of_lt_of_le k.isLt k0_t4_abs.2.1
theorem trip5 (k : Fin k0_t5_loop.trips) : k.val < 4 := Nat.lt_of_lt_of_le k.isLt k0_t5_abs.2.1

theorem chk1_1_of (v0 : BitVec 32) (h : 2 * v0.toNat < 2 ^ 32) : k0_chk1_1 v0 := by
  unfold k0_chk1_1
  refine ⟨dvd_any _, dvd_any _, dvd_any _, dvd_any' _,
    fun k a => by rw [k0_off3_ceq]; exact inb_c v0 _ h (by decide) 0 _ (by decide) (trip1 k) a,
    fun k a => by rw [k0_off4_ceq]; exact inb_c v0 _ h (by decide) 1 _ (by decide) (trip1 k) a,
    dvd_any _, dvd_any _, dvd_any' _,
    fun k a => by rw [k0_off30_ceq]; exact inb_c v0 _ h (by decide) 0 _ (by decide) (trip2 k) a,
    fun k a => by rw [k0_off31_ceq]; exact inb_c v0 _ h (by decide) 1 _ (by decide) (trip2 k) a,
    fun _ => dvd_any _, fun t a => by rw [off59_eq]; exact inb_w v0 _ h (fetch_lt t) a,
    fun _ => dvd_any _, fun t a => by rw [off62_eq]; exact inb_h v0 _ h (fetch_lt2 t) a,
    fun _ => dvd_any' _,
    fun t k a => by rw [k0_off64_ceq]; exact inb_c v0 _ h (fetch_lt t) 0 _ (by decide) (trip4 k) a,
    fun t k a => by rw [k0_off65_ceq]; exact inb_c v0 _ h (fetch_lt t) 1 _ (by decide) (trip4 k) a,
    fun _ => dvd_any _, fun t a => by rw [off93_eq]; exact inb_w v0 _ h (fetch_lt' t) a,
    fun _ => dvd_any _, fun t a => by rw [off96_eq]; exact inb_h v0 _ h (fetch_lt3 t) a,
    fun _ => dvd_any' _,
    fun t k a => by rw [k0_off98_ceq]; exact inb_c v0 _ h (fetch_lt' t) 0 _ (by decide) (trip5 k) a,
    fun t k a => by rw [k0_off99_ceq]; exact inb_c v0 _ h (fetch_lt' t) 1 _ (by decide) (trip5 k) a,
    dvd_any _, dvd_any _, fun r hinb => Affine.words_rows (by decide) rfl rfl, ?_⟩
  iterate 3 refine ⟨dvd_any _, ?_⟩
  exact dvd_any _

theorem chk1_2_of (v0 : BitVec 32) : k0_chk1_2 v0 := by
  unfold k0_chk1_2
  iterate 26 refine ⟨dvd_any _, ?_⟩
  exact dvd_any _

/-- A chunk that starts at or after position zero meets the side condition of the body. -/
theorem chk1_of (v0 : BitVec 32) (h : 2 * v0.toNat < 2 ^ 32) : k0_chk1 v0 :=
  ⟨chk1_0_of v0 h, chk1_1_of v0 h, chk1_2_of v0⟩

/-- The block in the array that is the `i`-th in the ring. -/
def ring (v0 : BitVec 32) (i : ℕ) : ℕ := (v0.toNat / 128 + i) % 16

theorem off1_eq (v0 : BitVec 32) (h : 2 * v0.toNat < 2 ^ 32) (i : Fin 16) :
    k0_off1 v0 (BitVec.ofNat 32 i.val) = ![0, ring v0 i.val * 1024] := by
  rw [off1_eq', col_toNat v0 _ h (fin16_lt i), fin16_val]; rfl
theorem off2_eq (v0 : BitVec 32) (h : 2 * v0.toNat < 2 ^ 32) (i : Fin 16) :
    k0_off2 v0 (BitVec.ofNat 32 i.val) = ![0, ring v0 i.val * 1024] := by
  rw [off2_eq', col_toNat v0 _ h (fin16_lt i), fin16_val]; rfl

/-- The elements of the output that block `i` is copied to. -/
def outSet (v0 : BitVec 32) (hw : k0_chk1 v0) (i : Fin 16) : Finset S128x16384.Idx :=
  (Rect.unit (s := S128x16384) (k0_off1 v0 (BitVec.ofNat 32 i.val)) S128x1024.size (k0_off1_inb v0 hw i)).set

theorem mem_outSet (v0 : BitVec 32) (h : 2 * v0.toNat < 2 ^ 32) (hw : k0_chk1 v0) (i : Fin 16) (y : S128x16384.Idx) :
    y ∈ outSet v0 hw i ↔ (y 1).val / 1024 = ring v0 i.val := by
  unfold outSet
  refine Rect.mem_set_unit.trans ?_
  rw [off1_eq v0 h i]
  constructor
  · intro hy
    have h1 := hy (1 : Fin 2)
    change ring v0 i.val * 1024 ≤ (y 1).val ∧ (y 1).val < ring v0 i.val * 1024 + 1024 at h1
    omega
  · intro hy a
    match a with
    | ⟨0, _⟩ => exact ⟨Nat.zero_le _, by show (y 0).val < 0 + 128; have : (y 0).val < 128 := (y 0).isLt; omega⟩
    | ⟨1, _⟩ =>
      show ring v0 i.val * 1024 ≤ (y 1).val ∧ (y 1).val < ring v0 i.val * 1024 + 1024
      omega

theorem out_disjoint (v0 : BitVec 32) (h : 2 * v0.toNat < 2 ^ 32) (hw : k0_chk1 v0) (i j : Fin 16) (hij : i ≠ j) :
    Disjoint (outSet v0 hw i) (outSet v0 hw j) := by
  rw [Finset.disjoint_left]
  intro y hi hj
  rw [mem_outSet v0 h] at hi hj
  apply hij
  apply Fin.ext
  have := hi.symm.trans hj
  unfold ring at this
  omega

/-- The place in the ring of block `k` of the array. -/
def place (v0 : BitVec 32) (k : ℕ) : Fin 16 := ⟨(k + (16 - v0.toNat / 128 % 16)) % 16, Nat.mod_lt _ (by decide)⟩

theorem ring_place (v0 : BitVec 32) (k : ℕ) (hk : k < 16) : ring v0 (place v0 k).val = k := by
  unfold ring place
  show (v0.toNat / 128 + (k + (16 - v0.toNat / 128 % 16)) % 16) % 16 = k
  omega

theorem out_cover (v0 : BitVec 32) (h : 2 * v0.toNat < 2 ^ 32) (hw : k0_chk1 v0) :
    Finset.univ.biUnion (outSet v0 hw) = Finset.univ := by
  ext y
  simp only [Finset.mem_biUnion, Finset.mem_univ, true_and, iff_true]
  refine ⟨place v0 ((y 1).val / 1024), (mem_outSet v0 h hw _ y).mpr (ring_place v0 _ ?_).symm⟩
  have : (y 1).val < 16384 := (y 1).isLt
  omega

end Cert.Kernel.Hand
end
-- ==== Proof.KRes.lean ====
module

public import proofs.«01_k».proof.Proof.KTab
public import proofs.«01_k».proof.Proof.KIdx
public import Idealize.ShloMosaic.Lib.Pointwise
public import Idealize.ShloMosaic.Lib.ValueIdx

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The entry of codebook `m`, column `e`, that the code `q` names. -/
def cent (fcb : aCb.view.ty.Contents (Elt F)) (m : Fin 2) (e : Fin 8) (q : BitVec 8) : F .f32 :=
  FloatOps.extf .f32 bitsLt_bf16_f32 (fcb (ix3 (n0 := 2) (n1 := 8) (n2 := 256) m e ⟨q.toNat, q.isLt⟩) : F .bf16)

/-- The residual at a row and a column of the whole array. -/
def resE (fw : aW.view.ty.Contents (Elt F)) (fcd : aCd.view.ty.Contents (Elt F)) (fcb : aCb.view.ty.Contents (Elt F)) (fsc : aSc.view.ty.Contents (Elt F))
    (r : Fin 128) (q : Fin 16384) : F .bf16 :=
  FloatOps.truncf .bf16 bitsLt_bf16_f32 (FloatOps.subf (fw (ix2 (n0 := 128) (n1 := 16384) r q) : F .f32)
    (FloatOps.mulf (fsc (ix2 (n0 := 1) (n1 := 128) 0 r) : F .f32)
      (FloatOps.addf (cent fcb 0 ⟨q.val % 8, by omega⟩ (fcd (ix3 (n0 := 2) (n1 := 128) (n2 := 2048) 0 r ⟨q.val / 8, by omega⟩)))
        (cent fcb 1 ⟨q.val % 8, by omega⟩ (fcd (ix3 (n0 := 2) (n1 := 128) (n2 := 2048) 1 r ⟨q.val / 8, by omega⟩))))))

/-- The residual, as the array the kernel copies it to. -/
def resC (fw : aW.view.ty.Contents (Elt F)) (fcd : aCd.view.ty.Contents (Elt F)) (fcb : aCb.view.ty.Contents (Elt F)) (fsc : aSc.view.ty.Contents (Elt F)) :
    aR.view.ty.Contents (Elt F) := fun y => resE fw fcd fcb fsc (y 0) (y 1)

/-- The table's entry is the codebook's. -/
theorem tent_tab (fcb : aCb.view.ty.Contents (Elt F)) (r : Fin 128) (m : Fin 2) (e : Fin 8) (q : BitVec 8) :
    tent (tabC fcb) r m e ⟨q.toNat, q.isLt⟩ = cent fcb m e q := by
  unfold tent cent tabC
  refine congrArg (fun z : Fin 256 => (FloatOps.extf .f32 bitsLt_bf16_f32 (fcb (ix3 (n0 := 2) (n1 := 8) (n2 := 256) m e z) : F .bf16) : F .f32)) (Fin.ext ?_)
  show 128 * (q.toNat / 128) + q.toNat % 128 = q.toNat
  omega

/-- The column of the array that is column `k` of the block `i`-th in the ring. -/
def pos (v0 : BitVec 32) (i : ℕ) (k : Fin 1024) : Fin 16384 :=
  ⟨ring v0 i * 1024 + k.val, by have := k.isLt; have : ring v0 i < 16 := Nat.mod_lt _ (by decide); omega⟩

theorem off1_emb (v0 : BitVec 32) (h : 2 * v0.toNat < 2 ^ 32) (hw : k0_chk1 v0) (i : Fin 16) (x : S128x1024.Idx) :
    (Rect.unit (s := S128x16384) (k0_off1 v0 (BitVec.ofNat 32 i.val)) S128x1024.size (k0_off1_inb v0 hw i)).emb x
      = ix2 (n0 := 128) (n1 := 16384) (x 0) (pos v0 i.val (x 1)) := by
  funext d
  apply Fin.ext
  refine (unit_emb_val (s := S128x16384) _ _ _ _ d).trans ?_
  refine (congrArg (· + _) (congrFun (off1_eq v0 h i) d)).trans ?_
  match d with
  | ⟨0, _⟩ => exact Nat.zero_add _
  | ⟨1, _⟩ => rfl

/-- A block's residual is the array's, at the block's columns. -/
theorem dval_eq (v0 : BitVec 32) (h : 2 * v0.toNat < 2 ^ 32) (hw : k0_chk1 v0) (fw : aW.view.ty.Contents (Elt F)) (fcd : aCd.view.ty.Contents (Elt F))
    (fcb : aCb.view.ty.Contents (Elt F)) (fsc : aSc.view.ty.Contents (Elt F)) (i : Fin 16) (r : Fin 128) (cl : Fin 1024) :
    dval (F := F) v0 hw fw fcd fcb fsc i r cl = resE fw fcd fcb fsc r (pos v0 i.val cl) := by
  have hcl := cl.isLt
  have hr : ring v0 i.val < 16 := Nat.mod_lt _ (by decide)
  have ho : ccol v0 (BitVec.ofNat 32 i.val) = ring v0 i.val * 128 := by
    rw [ccol_toNat v0 _ h (fin16_lt i), fin16_val]; rfl
  have hx : wX i (wV v0 hw fw i) (ix3 (n0 := 16) (n1 := 128) (n2 := 1024) i r cl) = fw (ix2 (n0 := 128) (n1 := 16384) r (pos v0 i.val cl)) :=
    (wX_apply i _ r cl).trans (congrArg fw (off1_emb v0 h hw i (ix2 r cl)))
  have hc : ∀ m : Fin 2, tcode fcd (ring v0 i.val * 128) m r (cl.val / 8)
      = fcd (ix3 (n0 := 2) (n1 := 128) (n2 := 2048) m r ⟨(pos v0 i.val cl).val / 8, by omega⟩) := by
    intro m
    unfold tcode
    refine congrArg (fun z : Fin 2048 => fcd (ix3 (n0 := 2) (n1 := 128) (n2 := 2048) m r z)) (Fin.ext ?_)
    show (ring v0 i.val * 128 + cl.val / 8) % 2048 = (ring v0 i.val * 1024 + cl.val) / 8
    omega
  have he : (⟨cl.val % 8, Nat.mod_lt _ (by decide)⟩ : Fin 8) = ⟨(pos v0 i.val cl).val % 8, by omega⟩ := by
    apply Fin.ext
    show cl.val % 8 = (ring v0 i.val * 1024 + cl.val) % 8
    omega
  show deci fcd (tabC fcb) (scolC fsc) (ccol v0 (BitVec.ofNat 32 i.val)) (wX i (wV v0 hw fw i) (ix3 (n0 := 16) (n1 := 128) (n2 := 1024) i r cl)) r cl = _
  rw [ho, hx]
  unfold deci resE
  rw [tent_tab, tent_tab, hc, hc, he]
  rfl

theorem res_emb (v0 : BitVec 32) (h : 2 * v0.toNat < 2 ^ 32) (hw : k0_chk1 v0) (fw : aW.view.ty.Contents (Elt F)) (fcd : aCd.view.ty.Contents (Elt F))
    (fcb : aCb.view.ty.Contents (Elt F)) (fsc : aSc.view.ty.Contents (Elt F)) (i : Fin 16) (x : S128x1024.Idx) :
    dval v0 hw fw fcd fcb fsc i (x 0) (x 1)
      = resC fw fcd fcb fsc ((Rect.unit (s := S128x16384) (k0_off1 v0 (BitVec.ofNat 32 i.val)) S128x1024.size (k0_off1_inb v0 hw i)).emb x) :=
  (dval_eq v0 h hw fw fcd fcb fsc i (x 0) (x 1)).trans (congrArg (resC fw fcd fcb fsc) (off1_emb v0 h hw i x)).symm

end Cert.Kernel.Hand

end
-- ==== Proof.KWhole.lean ====
module

public import proofs.«01_k».proof.Proof.KRun
public import proofs.«01_k».proof.Proof.KRes

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem gW_eq (c : Dev nD) (f : aW.view.ty.Contents (Elt F)) : (gW (F := F) c f : sProp 𝕄) = bigSep Finset.univ (fun i : Fin 16 => tokW c f i) := by
  rw [bigSep_univ_eq_bigSepL ([0, 1, 2, 3, 4, 5, 6, 7, 8, 9, 10, 11, 12, 13, 14, 15] : List (Fin 16)) (by decide) (by decide)]; rfl

theorem gH_eq (c : Dev nD) (f : aH.view.ty.Contents (Elt F)) : (gH (F := F) c f : sProp 𝕄) = bigSep Finset.univ (fun i : Fin 16 => tokH c f i) := by
  rw [bigSep_univ_eq_bigSepL ([0, 1, 2, 3, 4, 5, 6, 7, 8, 9, 10, 11, 12, 13, 14, 15] : List (Fin 16)) (by decide) (by decide)]; rfl

theorem gS_eq (c : Dev nD) (f : aWb.view.ty.Contents (Elt F)) : (gS (F := F) c f : sProp 𝕄) = bigSep Finset.univ (fun i : Fin 16 => ptS c f i.val i.isLt) := by
  rw [bigSep_univ_eq_bigSepL ([0, 1, 2, 3, 4, 5, 6, 7, 8, 9, 10, 11, 12, 13, 14, 15] : List (Fin 16)) (by decide) (by decide)]; rfl

theorem gT_eq (c : Dev nD) (f : aHb.view.ty.Contents (Elt F)) : (gT (F := F) c f : sProp 𝕄) = bigSep Finset.univ (fun i : Fin 16 => ptT c f i.val i.isLt) := by
  rw [bigSep_univ_eq_bigSepL ([0, 1, 2, 3, 4, 5, 6, 7, 8, 9, 10, 11, 12, 13, 14, 15] : List (Fin 16)) (by decide) (by decide)]; rfl

theorem gSx_eq (c : Dev nD)  : (gSx (F := F) c  : sProp 𝕄) = bigSep Finset.univ (fun i : Fin 16 => iprop(∃ f : aWb.view.ty.Contents (Elt F), ptS c f i.val i.isLt)) := by
  rw [bigSep_univ_eq_bigSepL ([0, 1, 2, 3, 4, 5, 6, 7, 8, 9, 10, 11, 12, 13, 14, 15] : List (Fin 16)) (by decide) (by decide)]; rfl

theorem gTx_eq (c : Dev nD)  : (gTx (F := F) c  : sProp 𝕄) = bigSep Finset.univ (fun i : Fin 16 => iprop(∃ f : aHb.view.ty.Contents (Elt F), ptT c f i.val i.isLt)) := by
  rw [bigSep_univ_eq_bigSepL ([0, 1, 2, 3, 4, 5, 6, 7, 8, 9, 10, 11, 12, 13, 14, 15] : List (Fin 16)) (by decide) (by decide)]; rfl

theorem gO_eq (c : Dev nD) (v0 : Elt F .i32) (hw : k0_chk1 v0) (f : aR.view.ty.Contents (Elt F)) : (gO (F := F) c v0 hw f : sProp 𝕄) = bigSep Finset.univ (fun i : Fin 16 => ptO c v0 hw f i) := by
  rw [bigSep_univ_eq_bigSepL ([0, 1, 2, 3, 4, 5, 6, 7, 8, 9, 10, 11, 12, 13, 14, 15] : List (Fin 16)) (by decide) (by decide)]; rfl

abbrev ptW (c : Dev nD) (f : aW.view.ty.Contents (Elt F)) : sProp 𝕄 := aW.view.loc (c : Thread nD τ) ↦{fullShare} f
abbrev ptH (c : Dev nD) (f : aH.view.ty.Contents (Elt F)) : sProp 𝕄 := aH.view.loc (c : Thread nD τ) ↦{fullShare} f
abbrev ptR (c : Dev nD) (f : aR.view.ty.Contents (Elt F)) : sProp 𝕄 := aR.view.loc (c : Thread nD τ) ↦{fullShare} f
abbrev ptWb (c : Dev nD) (f : aWb.view.ty.Contents (Elt F)) : sProp 𝕄 := aWb.view.loc (c : Thread nD τ) ↦{fullShare} f
abbrev ptHb (c : Dev nD) (f : aHb.view.ty.Contents (Elt F)) : sProp 𝕄 := aHb.view.loc (c : Thread nD τ) ↦{fullShare} f
abbrev restW (c : Dev nD) (f : aW.view.ty.Contents (Elt F)) : sProp 𝕄 := aW.view.loc (c : Thread nD τ) ↦{Transfers.shareDrop fullShare 16} f
abbrev restH (c : Dev nD) (f : aH.view.ty.Contents (Elt F)) : sProp 𝕄 := aH.view.loc (c : Thread nD τ) ↦{Transfers.shareDrop fullShare 16} f

/-- The residual held whole are a share for each of the sixteen transfers and what remains. -/
theorem w_split (c : Dev nD) (f : aW.view.ty.Contents (Elt F)) : ptW c f ⊢ iprop(restW c f ∗ gW c f) := by
  rw [gW_eq]; exact Transfers.pointsTo_toks_split fullShare 16
theorem w_join (c : Dev nD) (f : aW.view.ty.Contents (Elt F)) : iprop(restW c f ∗ gW c f) ⊢ ptW c f := by
  rw [gW_eq]; exact Transfers.pointsTo_toks_join fullShare 16
theorem h_split (c : Dev nD) (f : aH.view.ty.Contents (Elt F)) : ptH c f ⊢ iprop(restH c f ∗ gH c f) := by
  rw [gH_eq]; exact Transfers.pointsTo_toks_split fullShare 16
theorem h_join (c : Dev nD) (f : aH.view.ty.Contents (Elt F)) : iprop(restH c f ∗ gH c f) ⊢ ptH c f := by
  rw [gH_eq]; exact Transfers.pointsTo_toks_join fullShare 16

abbrev slotSet (i : Fin 16) : Finset S16x128x1024.Idx := (Rect.unit (s := S16x128x1024) ![i.val, 0, 0] S1x128x1024.size (slot_inb i.isLt)).set
theorem slot_disjoint (i j : Fin 16) (h : i ≠ j) : Disjoint (slotSet i) (slotSet j) :=
  Ring.lead_disjoint (s := S16x128x1024) (0 : Fin 3) 1 (fun j : Fin 16 => (![j.val, 0, 0] : Fin 3 → Nat)) S1x128x1024.size (fun i => slot_inb i.isLt) (fun j => by simp) rfl i j h
theorem slot_cover : Finset.univ.biUnion slotSet = Finset.univ :=
  Ring.lead_cover (s := S16x128x1024) (0 : Fin 3) 1 (fun j : Fin 16 => (![j.val, 0, 0] : Fin 3 → Nat)) S1x128x1024.size (fun i => slot_inb i.isLt) (fun j => by simp)
    (fun j a ha => by fin_cases a <;> first | exact absurd rfl ha | rfl) rfl (fun a ha => by fin_cases a <;> first | exact absurd rfl ha | rfl) rfl
theorem wSlot_set (i : Fin 16) : (wSlot i.val i.isLt).view.set = slotSet i := by
  refine (View.set_reshape _ _).trans ?_
  exact View.set_slice_whole _ _
theorem ptS_eq (c : Dev nD) (f : aWb.view.ty.Contents (Elt F)) (i : Fin 16) :
    (ptS c f i.val i.isLt : sProp 𝕄) = (aWb.view.loc (c : Thread nD τ) ↦[slotSet i]{fullShare} f) := by
  unfold ptS; rw [wSlot_set]
theorem s_split (c : Dev nD) (f : aWb.view.ty.Contents (Elt F)) : ptWb c f ⊢ gS c f := by
  rw [gS_eq]
  exact Entails.of_eq ((Ring.pointsTo_blocks (ℓ := aWb.view.loc (c : Thread nD τ)) (q := fullShare) slotSet slot_disjoint slot_cover f).trans
    (congrArg (bigSep Finset.univ) (funext fun i => (ptS_eq c f i).symm)))
theorem s_join (c : Dev nD) : gSx (F := F) c ⊢ iprop(∃ f, ptWb c f) := by
  rw [gSx_eq]
  simp only [ptS_eq]
  exact Ring.pointsTo_blocks_join_exists (ℓ := aWb.view.loc (c : Thread nD τ)) (q := fullShare) slotSet slot_disjoint slot_cover aWb.view.junk

abbrev slotSetH (i : Fin 16) : Finset S16x512x1024.Idx := (Rect.unit (s := S16x512x1024) ![i.val, 0, 0] S1x512x1024.size (slotH_inb i.isLt)).set
theorem slotH_disjoint (i j : Fin 16) (h : i ≠ j) : Disjoint (slotSetH i) (slotSetH j) :=
  Ring.lead_disjoint (s := S16x512x1024) (0 : Fin 3) 1 (fun j : Fin 16 => (![j.val, 0, 0] : Fin 3 → Nat)) S1x512x1024.size (fun i => slotH_inb i.isLt) (fun j => by simp) rfl i j h
theorem slotH_cover : Finset.univ.biUnion slotSetH = Finset.univ :=
  Ring.lead_cover (s := S16x512x1024) (0 : Fin 3) 1 (fun j : Fin 16 => (![j.val, 0, 0] : Fin 3 → Nat)) S1x512x1024.size (fun i => slotH_inb i.isLt) (fun j => by simp)
    (fun j a ha => by fin_cases a <;> first | exact absurd rfl ha | rfl) rfl (fun a ha => by fin_cases a <;> first | exact absurd rfl ha | rfl) rfl
theorem hSlot_set (i : Fin 16) : (hSlot i.val i.isLt).view.set = slotSetH i := by
  refine (View.set_reshape _ _).trans ?_
  exact View.set_slice_whole _ _
theorem ptT_eq (c : Dev nD) (f : aHb.view.ty.Contents (Elt F)) (i : Fin 16) :
    (ptT c f i.val i.isLt : sProp 𝕄) = (aHb.view.loc (c : Thread nD τ) ↦[slotSetH i]{fullShare} f) := by
  unfold ptT; rw [hSlot_set]
theorem t_split (c : Dev nD) (f : aHb.view.ty.Contents (Elt F)) : ptHb c f ⊢ gT c f := by
  rw [gT_eq]
  exact Entails.of_eq ((Ring.pointsTo_blocks (ℓ := aHb.view.loc (c : Thread nD τ)) (q := fullShare) slotSetH slotH_disjoint slotH_cover f).trans
    (congrArg (bigSep Finset.univ) (funext fun i => (ptT_eq c f i).symm)))
theorem t_join (c : Dev nD) : gTx (F := F) c ⊢ iprop(∃ f, ptHb c f) := by
  rw [gTx_eq]
  simp only [ptT_eq]
  exact Ring.pointsTo_blocks_join_exists (ℓ := aHb.view.loc (c : Thread nD τ)) (q := fullShare) slotSetH slotH_disjoint slotH_cover aHb.view.junk

theorem rWin_set (v0 : Elt F .i32) (hw : k0_chk1 v0) (i : Fin 16) : (rWin v0 hw i).view.set = outSet v0 hw i :=
  View.set_slice_whole _ _
theorem ptO_eq (c : Dev nD) (v0 : Elt F .i32) (hw : k0_chk1 v0) (f : aR.view.ty.Contents (Elt F)) (i : Fin 16) :
    (ptO c v0 hw f i : sProp 𝕄) = (aR.view.loc (c : Thread nD τ) ↦[outSet v0 hw i]{fullShare} f) := by
  unfold ptO; rw [rWin_set]
/-- The output held whole is its sixteen column blocks. -/
theorem o_eq (c : Dev nD) (v0 : BitVec 32) (h : 2 * v0.toNat < 2 ^ 32) (hw : k0_chk1 v0) (f : aR.view.ty.Contents (Elt F)) : ptR c f = gO c v0 hw f := by
  rw [gO_eq]
  exact (Ring.pointsTo_blocks (ℓ := aR.view.loc (c : Thread nD τ)) (q := fullShare) (outSet v0 hw) (out_disjoint v0 h hw) (out_cover v0 h hw) f).trans
    (congrArg (bigSep Finset.univ) (funext fun i => (ptO_eq c v0 hw f i).symm))

/-- What the body holds at the start, other than the staged operands: its buffers at anything and its counters at zero. -/
def runPre (c : Dev nD) (fw : aW.view.ty.Contents (Elt F)) (fcd : aCd.view.ty.Contents (Elt F)) (fcb : aCb.view.ty.Contents (Elt F)) (fsc : aSc.view.ty.Contents (Elt F)) (fh : aH.view.ty.Contents (Elt F)) (fr : aR.view.ty.Contents (Elt F)) : sProp 𝕄 :=
  iprop((∃ f, ptWb c f) ∗ (∃ f, ptHb c f) ∗ (∃ f, ptRb c f) ∗ (∃ f, ptRa c f) ∗ (∃ f, ptRc c f)
    ∗ (∃ f, ptCodes c f) ∗ (∃ f, ptCbv c f) ∗ (∃ f, ptSv c f) ∗ (∃ f, ptTab c f) ∗ (∃ f, ptScol c f)
    ∗ gQ0 (F := F) c ∗ gQ1 (F := F) c ∗ gQs (F := F) c ∗ gQ2 (F := F) c ∗ ptW c fw ∗ ptCd c fcd ∗ ptCb c fcb ∗ ptSc c fsc ∗ ptH c fh ∗ ptR c fr)

set_option maxHeartbeats 1000000 in
/-- The body, on whole buffers. -/
theorem run_whole (c : Dev nD) (X0 : aC0.view.ty.Contents (Elt F)) (v0 : BitVec 32) (hv0 : ∀ y, X0 y = v0) (h0 : 2 * v0.toNat < 2 ^ 32)
    (facc : aAcc.view.ty.Contents (Elt F)) (fw : aW.view.ty.Contents (Elt F)) (fcd : aCd.view.ty.Contents (Elt F)) (fcb : aCb.view.ty.Contents (Elt F)) (fsc : aSc.view.ty.Contents (Elt F)) (fh : aH.view.ty.Contents (Elt F)) (fr : aR.view.ty.Contents (Elt F))
    (W : Waits sig Unit) (Q : Unit → sProp 𝕄) :
    iprop(ptC c X0 ∗ ptAcc c facc ∗ runPre c fw fcd fcb fsc fh fr ∗ owes (c : Thread nD τ) 0 W
      ∗ ((ptC c X0 ∗ ptAcc c (accAt v0 (chk1_of v0 h0) (dval v0 (chk1_of v0 h0) fw fcd fcb fsc) fh 16) ∗ runPre c fw fcd fcb fsc fh (resC fw fcd fcb fsc) ∗ (∃ W' : Waits sig Unit, owes (c : Thread nD τ) 0 W')) -∗ Q PUnit.unit)) ⊢
    wp frame (wpE (defs₀ (F := F)) Variants.none (c : Thread nD τ) none) Set.univ
      (cc0_aqlm_scores (F := F) aC0 (Memref.isWhole_whole _) aW (Memref.isWhole_whole _) aCd (Memref.isWhole_whole _) aCb (Memref.isWhole_whole _) aSc (Memref.isWhole_whole _) aH (Memref.isWhole_whole _) aAcc (Memref.isWhole_whole _) aR (Memref.isWhole_whole _) aWb (Memref.isWhole_whole _) aHb (Memref.isWhole_whole _) aRb (Memref.isWhole_whole _) aRa (Memref.isWhole_whole _) aRc (Memref.isWhole_whole _) aCodes (Memref.isWhole_whole _) aCbv (Memref.isWhole_whole _) aSv (Memref.isWhole_whole _) aTab (Memref.isWhole_whole _) aScol (Memref.isWhole_whole _) cc0_scratch10 cc0_scratch11 cc0_scratch12 cc0_scratch13) Q := by
  unfold runPre
  iintro ⟨HC, HAcc, ⟨⟨%fs, HS⟩, ⟨%ft, HT⟩, ⟨%frb, HRb⟩, ⟨%fra, HRa⟩, ⟨%frc, HRc⟩, ⟨%xcd, HCodes⟩, ⟨%xcb, HCbv⟩, ⟨%xsv, HSv⟩, ⟨%xtab, HTab⟩, ⟨%xscol, HScol⟩, HQ0, HQ1, HQs, HQ2, HW, HCd, HCb, HSc, HH, HR⟩, HE, Hk⟩
  ihave HW := (w_split c fw) $$ HW
  icases HW with ⟨HWr, HW⟩
  ihave HH := (h_split c fh) $$ HH
  icases HH with ⟨HHr, HH⟩
  ihave HS := (s_split c fs) $$ HS
  ihave HT := (t_split c ft) $$ HT
  ihave HR := (Entails.of_eq (o_eq c v0 h0 (chk1_of v0 h0) fr)) $$ HR
  iapply (run c X0 v0 hv0 (chk1_of v0 h0) facc fw fh fr fs ft frb fra frc fcd fcb fsc xcd xcb xsv xtab xscol (resC fw fcd fcb fsc) (res_emb v0 h0 (chk1_of v0 h0) fw fcd fcb fsc) W Q)
  isplitl [HC]; · iexact HC
  isplitl [HAcc]; · iexact HAcc
  isplitl [HW]; · iexact HW
  isplitl [HH]; · iexact HH
  isplitl [HS]; · iexact HS
  isplitl [HT]; · iexact HT
  isplitl [HRb]; · iexact HRb
  isplitl [HRa]; · iexact HRa
  isplitl [HRc]; · iexact HRc
  isplitl [HCd]; · iexact HCd
  isplitl [HCb]; · iexact HCb
  isplitl [HSc]; · iexact HSc
  isplitl [HCodes]; · iexact HCodes
  isplitl [HCbv]; · iexact HCbv
  isplitl [HSv]; · iexact HSv
  isplitl [HTab]; · iexact HTab
  isplitl [HScol]; · iexact HScol
  isplitl [HR]; · iexact HR
  isplitl [HQ0]; · iexact HQ0
  isplitl [HQ1]; · iexact HQ1
  isplitl [HQs]; · iexact HQs
  isplitl [HQ2]; · iexact HQ2
  isplitl [HE]; · iexact HE
  iintro ⟨HC, HAcc, HW, HH, HS, HT, HRb, HRa, HRc, HCd, HCb, HSc, HCodes, HCbv, HSv, HTab, HScol, HR, HQ0, HQ1, HQs, HQ2, HE⟩
  iapply Hk
  isplitl [HC]; · iexact HC
  isplitl [HAcc]; · iexact HAcc
  isplitr [HE]; swap; · iexact HE
  isplitl [HS]; · iapply (s_join c); iexact HS
  isplitl [HT]; · iapply (t_join c); iexact HT
  isplitl [HRb]; · iexact HRb
  isplitl [HRa]; · iexact HRa
  isplitl [HRc]; · iexact HRc
  isplitl [HCodes]; · iexact HCodes
  isplitl [HCbv]; · iexact HCbv
  isplitl [HSv]; · iexact HSv
  isplitl [HTab]; · iexact HTab
  isplitl [HScol]; · iexact HScol
  isplitl [HQ0]; · iexact HQ0
  isplitl [HQ1]; · iexact HQ1
  isplitl [HQs]; · iexact HQs
  isplitl [HQ2]; · iexact HQ2
  isplitl [HW HWr]
  · iapply (w_join c fw)
    isplitl [HWr]; · iexact HWr
    iexact HW
  isplitl [HCd]; · iexact HCd
  isplitl [HCb]; · iexact HCb
  isplitl [HSc]; · iexact HSc
  isplitl [HH HHr]
  · iapply (h_join c fh)
    isplitl [HHr]; · iexact HHr
    iexact HH
  iapply (Entails.of_eq (o_eq c v0 h0 (chk1_of v0 h0) (resC fw fcd fcb fsc)).symm)
  iexact HR

end Cert.Kernel.Hand
end
-- ==== Proof.KFrame.lean ====
module

public import proofs.«01_k».proof.Proof.KWhole
public import proofs.«01_k».proof.Proof.Gen.Kernel.Frame
public import Idealize.ShloMosaic.Lib.Pipeline.FrameValue
public import Idealize.ShloMosaic.Lib.Pipeline.FrameBody
public import Idealize.ShloMosaic.Lib.Pipeline.BigSepL
public import Idealize.ShloMosaic.Lib.Pipeline.Value
public import Idealize.ShloMosaic.Lib.Claim

@[expose] public section

set_option maxRecDepth 16384
set_option warn.classDefReducibility false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The buffer the body writes by its own copies: the narrowed residual, left in HBM. -/
def R0 : Finset (Ref sig .tc) := {main_v6_1}
/-- The HBM operands the body's copies read. -/
def H0 : Finset (Ref sig .tc) := {main_v1, main_v3, main_v4, main_arg3, main_v5}
theorem H0_sub : H0 ⊆ Pipeline.restRefs sig spec0 := by decide
theorem R0_sub : R0 ⊆ Pipeline.restRefs sig spec0 \ H0 := by decide

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own DMA cells, 2 to 52. -/
def osem0 : Fin 51 → SemLoc sig := fun j => SemLoc.dma (⟨j.val + 2, by have := j.isLt; omega⟩ : Fin 53)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(gQ0 (F := F) c ∗ gQ1 (F := F) c ∗ gQs (F := F) c ∗ gQ2 (F := F) c) := by
  rw [Pipeline.ownSems0_eq_of_list c osem0
    ([0, 1, 2, 3, 4, 5, 6, 7, 8, 9, 10, 11, 12, 13, 14, 15] ++ ([16, 17, 18, 19, 20, 21, 22, 23, 24, 25, 26, 27, 28, 29, 30, 31]
      ++ ([32, 33, 34] ++ [35, 36, 37, 38, 39, 40, 41, 42, 43, 44, 45, 46, 47, 48, 49, 50]))) (by decide) (by decide),
    bigSepL_append, bigSepL_append, bigSepL_append]
  rfl

theorem hbmPts0_eq (c : Dev nD) :
    (bigSep H0 (fun b => ((c : Thread nD τ).loc b) ↦{fullShare} V m c b) : sProp 𝕄)
      = iprop(ptW c (V m c main_v1) ∗ ptCd c (V m c main_v3) ∗ ptCb c (V m c main_v4) ∗ ptSc c (V m c main_arg3) ∗ ptH c (V m c main_v5)) := by
  rw [BI.bigSep_eq_bigSepL_of_eq [main_v1, main_v3, main_v4, main_arg3, main_v5] (by decide) (by decide)]; rfl
theorem routed0_eq (c : Dev nD) (g : (b : Ref sig .tc) → Buf (Elt F) ((c : Thread nD τ).loc b)) :
    (Pipeline.routed R0 c g : sProp 𝕄) = ptR c (g main_v6_1) := by
  unfold Pipeline.routed; rw [BI.bigSep_eq_bigSepL_of_eq [main_v6_1] (by decide) (by decide)]; rfl

/-- The invariant between points, conjunct by conjunct. -/
theorem Phi_eq (W : (c : Dev nD) → (b : Ref sig .tc) → Buf (Elt F) ((c : Thread nD τ).loc b)) (c : Dev nD) :
    (Pipeline.ΦDRG osem0 spec0 H0 R0 (V m) W c : sProp 𝕄)
      = iprop(iprop((∃ f, ptWb (F := F) c f) ∗ (∃ f, ptHb (F := F) c f) ∗ (∃ f, ptRb (F := F) c f) ∗ (∃ f, ptRa (F := F) c f) ∗ (∃ f, ptRc (F := F) c f)
          ∗ (∃ f, ptCodes (F := F) c f) ∗ (∃ f, ptCbv (F := F) c f) ∗ (∃ f, ptSv (F := F) c f) ∗ (∃ f, ptTab (F := F) c f) ∗ (∃ f, ptScol (F := F) c f))
          ∗ (∃ r, prngReg c r) ∗ iprop(gQ0 (F := F) c ∗ gQ1 (F := F) c ∗ gQs (F := F) c ∗ gQ2 (F := F) c)
          ∗ iprop(ptW c (V m c main_v1) ∗ ptCd c (V m c main_v3) ∗ ptCb c (V m c main_v4) ∗ ptSc c (V m c main_arg3) ∗ ptH c (V m c main_v5)) ∗ ptR c (W c main_v6_1)) := by
  rw [Pipeline.ΦDRG_eq, scopedRest0_eq, ownSems00_eq, hbmPts0_eq, routed0_eq]

/-- The word the kernel reads: the one element of `chunk_start`. -/
def word (c : Dev nD) : BitVec 32 := m ((c : Thread nD τ).loc main_arg5) (fun a => a.elim0)
theorem V_main_v0 (c : Dev nD) (y : S1.Idx) : V m c main_v0 y = word m c := by
  unfold word
  entry_read
  exact congrArg (m ((c : Thread nD τ).loc main_arg5)) (funext fun a => a.elim0)

/-- The result array left in HBM after the body: the residual of the decoded weights, narrowed. -/
def G (c : Dev nD) (b : Ref sig .tc) : Buf (Elt F) ((c : Thread nD τ).loc b) :=
  Function.update (V m c) main_v6_1 (resC (V m c main_v1) (V m c main_v3) (V m c main_v4) (V m c main_arg3)) b
theorem G_eq (c : Dev nD) : G m c main_v6_1 = resC (V m c main_v1) (V m c main_v3) (V m c main_v4) (V m c main_arg3) := Function.update_self _ _ _

variable (h0 : ∀ c : Dev nD, 2 * (word m c).toNat < 2 ^ 32)

/-- The products' buffer after the body. -/
def accOut (c : Dev nD) : aAcc.view.ty.Contents (Elt F) :=
  accAt (word m c) (chk1_of (word m c) (h0 c)) (dval (word m c) (chk1_of (word m c) (h0 c)) (V m c main_v1) (V m c main_v3) (V m c main_v4) (V m c main_arg3)) (V m c main_v5) 16

/-- The invariant before point `n`: that array as launched, then as the body leaves it. -/
def PhiAt (c : Dev nD) : ℕ → sProp 𝕄
  | 0 => Pipeline.ΦDRG osem0 spec0 H0 R0 (V m) (V m) c
  | _ + 1 => Pipeline.ΦDRG osem0 spec0 H0 R0 (V m) (G m) c

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => accOut m h0 c
  Φ t := PhiAt m c t.val
  q _ := fullShare
  owed _ := 0

theorem A_eq (c : Dev nD) (w : Fin cfg0.W) : (dats m h0 0 c).A w = V m c (Pipeline.arrRef spec0 w) := by
  dsimp only [dats]
theorem after0_0 (c : Dev nD) (t : Fin cfg0.N) : (dats m h0 0 c).after 0 t = iblk m c 0 t := by dsimp only [dats]
theorem after0_1 (c : Dev nD) (t : Fin cfg0.N) : (dats m h0 0 c).after 1 t = accOut m h0 c := by dsimp only [dats]
theorem before0_0 (c : Dev nD) (t : Fin cfg0.N) (d) : (dats m h0 0 c).before 0 t d = iblk m c 0 t :=
  ((dats m h0 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem iblk0 (c : Dev nD) (t : Fin cfg0.N) (y) : iblk m c 0 t y = word m c := V_main_v0 m c _

abbrev ms0_0 (t : Fin cfg0.N) : Memref sig .tc .smem S1 .i32 := win0_0.stage (cfg0.slots t 0)
abbrev ms0_1 (t : Fin cfg0.N) : Memref sig .tc .vmem S512x128 .f32 := win0_1.stage (cfg0.slots t 1)

def bodyPre (c : Dev nD) (t : Fin cfg0.N) : sProp 𝕄 :=
  iprop((dats m h0 0 c).Φ t.castSucc ∗ (dats m h0 0 c).owesAt () t.castSucc
    ∗ (∃ d, owns (c : Thread nD τ) (ms0_0 t) fullShare ((dats m h0 0 c).before 0 t d))
    ∗ (∃ d, owns (c : Thread nD τ) (ms0_1 t) fullShare ((dats m h0 0 c).before 1 t d)))
def bodyPost (c : Dev nD) (t : Fin cfg0.N) : sProp 𝕄 :=
  iprop((dats m h0 0 c).Φ t.succ ∗ (dats m h0 0 c).owesAt () t.succ
    ∗ owns (c : Thread nD τ) (ms0_0 t) fullShare ((dats m h0 0 c).after 0 t)
    ∗ owns (c : Thread nD τ) (ms0_1 t) fullShare ((dats m h0 0 c).after 1 t))

set_option maxHeartbeats 1000000 in
theorem sound_body (c : Dev nD) (t : Fin cfg0.N) :
    bodyPre m h0 c t ⊢ wp frame (wpE (defs₀ (F := F)) Variants.none c none) Set.univ (bodyAt0 t) (fun _ => bodyPost m h0 c t) := by
  obtain rfl := fin_N0 t
  unfold bodyPre bodyPost bodyAt0
  rw [show (dats m h0 0 c).Φ t0_0.castSucc = Pipeline.ΦDRG osem0 spec0 H0 R0 (V m) (V m) c from rfl,
    show (dats m h0 0 c).Φ t0_0.succ = Pipeline.ΦDRG osem0 spec0 H0 R0 (V m) (G m) c from rfl, Phi_eq, Phi_eq, after0_0, after0_1, G_eq]
  simp only [before0_0]
  unfold Dat.owesAt Pipeline.owesWithin
  rw [show (dats m h0 0 c).owed t0_0.castSucc = 0 from rfl, show (dats m h0 0 c).owed t0_0.succ = 0 from rfl]
  rw [show ms0_0 t0_0 = aC0 from rfl, show ms0_1 t0_0 = aAcc from rfl]
  simp only [aC0, aAcc, owns_whole]
  iintro ⟨⟨⟨HS0, HS1, HS2, HS3, HS4, HS5, HS6, HS7, HS8, HS9⟩, Hg, ⟨Hq0, Hq1, Hqs, Hq2⟩, ⟨Hw, Hcd, Hcb, Hsc, Hh⟩, Hr⟩, ⟨%W, -, HW⟩, ⟨%d0, HC⟩, ⟨%d1, HA⟩⟩
  iapply (run_whole c (iblk m c 0 t0_0) (word m c) (iblk0 m c t0_0) (h0 c) _ (V m c main_v1) (V m c main_v3) (V m c main_v4) (V m c main_arg3) (V m c main_v5) (V m c main_v6_1) W _)
  isplitl [HC]; · iexact HC
  isplitl [HA]; · iexact HA
  unfold runPre
  isplitl [HS0 HS1 HS2 HS3 HS4 HS5 HS6 HS7 HS8 HS9 Hq0 Hq1 Hqs Hq2 Hw Hcd Hcb Hsc Hh Hr]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [Hq0]; · iexact Hq0
    isplitl [Hq1]; · iexact Hq1
    isplitl [Hqs]; · iexact Hqs
    isplitl [Hq2]; · iexact Hq2
    isplitl [Hw]; · iexact Hw
    isplitl [Hcd]; · iexact Hcd
    isplitl [Hcb]; · iexact Hcb
    isplitl [Hsc]; · iexact Hsc
    isplitl [Hh]; · iexact Hh
    iexact Hr
  isplitl [HW]; · iexact HW
  iintro ⟨HC, HA, ⟨HS0, HS1, HS2, HS3, HS4, HS5, HS6, HS7, HS8, HS9, Hq0, Hq1, Hqs, Hq2, Hw, Hcd, Hcb, Hsc, Hh, Hr⟩, ⟨%W', HW'⟩⟩
  isplitl [HS0 HS1 HS2 HS3 HS4 HS5 HS6 HS7 HS8 HS9 Hg Hq0 Hq1 Hqs Hq2 Hw Hcd Hcb Hsc Hh Hr]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    isplitl [Hg]; · iexact Hg
    isplitl [Hq0 Hq1 Hqs Hq2]
    · isplitl [Hq0]; · iexact Hq0
      isplitl [Hq1]; · iexact Hq1
      isplitl [Hqs]; · iexact Hqs
      iexact Hq2
    isplitl [Hw Hcd Hcb Hsc Hh]
    · isplitl [Hw]; · iexact Hw
      isplitl [Hcd]; · iexact Hcd
      isplitl [Hcb]; · iexact Hcb
      isplitl [Hsc]; · iexact Hsc
      iexact Hh
    iexact Hr
  isplitl [HW']
  · iexists W'; isplitr; · ipureintro; exact fun _ _ => Or.inl trivial
    iexact HW'
  isplitl [HC]; · iexact HC
  iexact HA

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m h0 0 c) (defs₀ (F := F)) Variants.none () Set.univ := fun t => by
  rw [bigSep_W0, bigSep_W0, defs₀_row]
  exact triple_restated (sound_body m h0 c t) rfl .rfl fun _ => .rfl

set_option backward.isDefEq.respectTransparency.types false in
theorem run_main : θ_run defs (onTc (τ := τ) (main (F := F))) (s₀ m ρ)
    (fun r => Pipeline.FramePostRG cfgs (dats m h0) 0 R0 (V m) (G m) r ∧ r.2.sem = fun _ => 0) :=
  Pipeline.θ_run_frame_dmaRG (Q' := _) cfgs (dats m h0) (0 : Fin 1) launch0 osem0 defs₀ Variants.none ownSemFacts0 H0 R0 H0_sub R0_sub m ρ main
    (hbody := fun c => (body_obligation m h0 c).loose) (hshare := fun c => (dats m h0 0 c).share_full fun _ => rfl)
    (howed := fun _ _ => rfl) (V := V m) (hmain := hmainD m Variants.none) (hA := A_eq m h0) (G := G m)
    (hin := fun _ => Entails.of_eq rfl) (hout := fun _ => Entails.of_eq rfl)

/-- What the products' array holds at the end. -/
theorem flushed1_eq (c : Dev nD) (t : Fin cfg0.N) : (dats m h0 0 c).flushed 1 t = (win0_1.blk t).view.read (Elt F) (accOut m h0 c) := by
  show (cfg0.win 1).cut (grid0.coords t) ((dats m h0 0 c).after 1 t) = _
  rw [after0_1]
  generalize accOut m h0 c = X
  funext y
  show X _ = X _
  refine congrArg X (funext fun a => Fin.ext ?_)
  show (y a : ℕ) = ((win0_1.rect t).emb y a : ℕ)
  obtain rfl := fin_N0 t
  have e : ∀ a, win0_1.index t0_0 a * win0_1.size a = 0 := by decide +kernel
  rw [Rect.emb_apply]
  show (y a : ℕ) = win0_1.index t0_0 a * win0_1.size a + 1 * (y a : ℕ)
  rw [e a, Nat.zero_add, Nat.one_mul]
theorem cover1 (i : S512x128.Idx) : ∃ t : Fin cfg0.N, (cfg0.win 1).flush t = true ∧ i ∈ ((cfg0.win 1).blk t).view.set := by
  refine ⟨t0_0, flush0_1 _, ?_⟩
  show i ∈ ((View.whole main_v6_0).slice (win0_1.rect t0_0)).set
  rw [View.set_slice_whole, Rect.mem_set_unit]
  have e : ∀ a, win0_1.index t0_0 a * win0_1.size a = 0 ∧ win0_1.xsize (grid0.coords t0_0) a = S512x128.size a := by
    decide +kernel
  intro a
  show win0_1.index t0_0 a * win0_1.size a ≤ (i a : Nat) ∧ (i a : Nat) < win0_1.index t0_0 a * win0_1.size a + win0_1.xsize (grid0.coords t0_0) a
  rw [(e a).1, (e a).2, Nat.zero_add]
  exact ⟨Nat.zero_le _, (i a).isLt⟩
theorem arr1_eq (c : Dev nD) : (dats m h0 0 c).arrAt 1 cfg0.N = accOut m h0 c :=
  (dats m h0 0 c).arrAt_eq_of_cover 1 (accOut m h0 c) (fun t _ => flushed1_eq m h0 c t) cover1

/-- The whole run: the two results named, the arguments unchanged, every counter at zero. -/
theorem run_values : θ_run defs (onTc (τ := τ) (main (F := F))) ⟨m, fun _ => 0, ρ⟩ (fun r => (∀ c : Dev nD,
      r.2.mem ((c.tc : Thread nD τ).loc main_v6_0) = accOut m h0 c
      ∧ r.2.mem ((c.tc : Thread nD τ).loc main_v6_1) = resC (V m c main_v1) (V m c main_v3) (V m c main_v4) (V m c main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1.1 c).1 1).trans (arr1_eq m h0 c),
      (h.1.2 c main_v6_1 (by decide)).trans (G_eq m c),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c)⟩, h.2⟩)
    (run_main m ρ h0)

end Cert.Kernel.Hand

end
-- ==== Proof.Value.lean ====
module

public import proofs.«01_k».proof.Proof.Res
public import Idealize.ShloMosaic.Lib.Pointwise
public import Idealize.ShloMosaic.Lib.ValueIdx
public import Idealize.ShloMosaic.PureOps.Ideal.Laws

@[expose] public section

set_option maxRecDepth 16384
set_option warn.classDefReducibility false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- One block's product added to the sum so far, at an element. -/
theorem pay1790_apply (acc : Vec Ideal S512x128 .f32) (zh : Vec Ideal S1x512x1024 .f32) (zr : Vec Ideal S128x1024 .bf16) (a : Fin 512) (b : Fin 128) :
    k0_pay1790 (F := Ideal) acc zh zr (ix2 a b)
      = ((acc (ix2 a b) : EReal) + ∑ k : Fin 1024, (zh (ix3 (n0 := 1) 0 a k) : EReal) * (zr (ix2 b k) : EReal) : EReal) := by
  unfold k0_pay1790
  simp only [pointwise]
  rw [zero_add]

theorem pay1789_apply (j : S512x128.Idx) : k0_pay1789 (F := Ideal) j = (0 : EReal) := by
  unfold k0_pay1789
  exact Ideal.ofBits_zero_f32

theorem hV_apply (v0 : BitVec 32) (h : 2 * v0.toNat < 2 ^ 32) (hw : k0_chk1 v0) (fh : S512x16384.Idx → EReal) (i : Fin 16) (a : Fin 512) (k : Fin 1024) :
    hV (F := Ideal) v0 hw fh i (ix2 a k) = fh (ix2 (n0 := 512) (n1 := 16384) a (pos v0 i.val k)) := by
  unfold hV
  refine congrArg fh (funext fun d => Fin.ext ?_)
  refine (unit_emb_val (s := S512x16384) _ _ _ _ d).trans ?_
  refine (congrArg (· + _) (congrFun (off2_eq v0 h i) d)).trans ?_
  match d with
  | ⟨0, _⟩ => exact Nat.zero_add _
  | ⟨1, _⟩ => rfl

/-- The sum over the first `n` blocks, at an element. -/
theorem accAt_apply (v0 : BitVec 32) (h : 2 * v0.toNat < 2 ^ 32) (hw : k0_chk1 v0) (fw : aW.view.ty.Contents (Elt Ideal)) (fcd : aCd.view.ty.Contents (Elt Ideal))
    (fcb : aCb.view.ty.Contents (Elt Ideal)) (fsc : aSc.view.ty.Contents (Elt Ideal)) (fh : S512x16384.Idx → EReal)
    (a : Fin 512) (b : Fin 128) (n : ℕ) (hn : n ≤ 16) :
    (accAt (F := Ideal) v0 hw (dval v0 hw fw fcd fcb fsc) fh n (ix2 a b) : EReal)
      = ∑ i ∈ Finset.range n, ∑ k : Fin 1024, (fh (ix2 a (pos v0 i k)) * (resE (F := Ideal) fw fcd fcb fsc b (pos v0 i k) : EReal)) := by
  induction n with
  | zero => exact pay1789_apply _
  | succ n ih =>
    rw [Finset.sum_range_succ, ← ih (Nat.le_of_succ_le hn)]
    refine (pay1790_apply _ _ _ a b).trans ?_
    refine congrArg (_ + ·) (Finset.sum_congr rfl fun k _ => ?_)
    have e : (Fin.ofNat 16 n).val = n := Nat.mod_eq_of_lt hn
    have hh := hV_apply v0 h hw fh (Fin.ofNat 16 n) a k
    have hr := dval_eq (F := Ideal) v0 h hw fw fcd fcb fsc (Fin.ofNat 16 n) b k
    rw [e] at hh hr
    exact congrArg₂ (fun x y : EReal => x * y) hh hr

theorem pos_bijective (v0 : BitVec 32) : Function.Bijective (fun p : Fin 16 × Fin 1024 => pos v0 p.1.val p.2) := by
  refine (Fintype.bijective_iff_surjective_and_card _).mpr ⟨fun q => ?_, by simp⟩
  have hq := q.isLt
  refine ⟨(place v0 (q.val / 1024), ⟨q.val % 1024, Nat.mod_lt _ (by decide)⟩), Fin.ext ?_⟩
  show ring v0 (place v0 (q.val / 1024)).val * 1024 + q.val % 1024 = q.val
  rw [ring_place v0 _ (by omega)]
  omega

/-- The sixteen blocks together are the whole contraction, whatever block the chunk starts at. -/
theorem accAt_full (v0 : BitVec 32) (h : 2 * v0.toNat < 2 ^ 32) (hw : k0_chk1 v0) (fw : aW.view.ty.Contents (Elt Ideal)) (fcd : aCd.view.ty.Contents (Elt Ideal))
    (fcb : aCb.view.ty.Contents (Elt Ideal)) (fsc : aSc.view.ty.Contents (Elt Ideal)) (fh : S512x16384.Idx → EReal)
    (a : Fin 512) (b : Fin 128) :
    (accAt (F := Ideal) v0 hw (dval v0 hw fw fcd fcb fsc) fh 16 (ix2 a b) : EReal)
      = ∑ q : Fin 16384, (fh (ix2 a q) * (resE (F := Ideal) fw fcd fcb fsc b q : EReal)) := by
  rw [accAt_apply v0 h hw fw fcd fcb fsc fh a b 16 (le_refl _), Finset.sum_range]
  rw [← Fintype.sum_prod_type' (f := fun (i : Fin 16) (k : Fin 1024) =>
    (fh (ix2 a (pos v0 i.val k)) * (resE (F := Ideal) fw fcd fcb fsc b (pos v0 i.val k) : EReal)))]
  exact (pos_bijective v0).sum_comp (fun q : Fin 16384 => fh (ix2 a q) * (resE (F := Ideal) fw fcd fcb fsc b q : EReal))

end Cert.KernelIdeal.Hand

end
-- ==== Proof.Ref.lean ====
module

public import proofs.«01_k».proof.Proof.Gen.ReferenceIdeal
public import Idealize.ShloMosaic.Lib.Claim
public import Idealize.ShloMosaic.Lib.Pointwise
public import Idealize.ShloMosaic.Lib.ValueIdx
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

variable {F : FTy → Type} [FloatOps F]

/-- An index of a code, as the reference makes it of the code itself: two hundred and fifty-six more where it is negative. -/
def codeIdx (codes : IVec S1x128x2048x2 8) : IVec S1x128x2048x2 32 :=
  select (cmpi .slt (extui 32 codes natLt_8_32) (broadcastInDim S1x128x2048x2 ![] bcast_S_S1x128x2048x2 (constantI S_ 32 0#32)))
    (addi (extui 32 codes natLt_8_32) (broadcastInDim S1x128x2048x2 ![] bcast_S_S1x128x2048x2 (constantI S_ 32 256#32))) (extui 32 codes natLt_8_32)

/-- The codebook's index. -/
def bookIdx : IVec S2 32 :=
  select (cmpi .slt (iotaInDim S2 32 0) (broadcastInDim S2 ![] bcast_S_S2 (constantI S_ 32 0#32)))
    (addi (iotaInDim S2 32 0) (broadcastInDim S2 ![] bcast_S_S2 (constantI S_ 32 2#32))) (iotaInDim S2 32 0)

/-- Both, in one array. -/
def bothIdx (codes : IVec S1x128x2048x2 8) : IVec S1x128x2048x2x2 32 :=
  concatenate S1x128x2048x2x2 4 [⟨S1x128x2048x2x1, broadcastInDim S1x128x2048x2x1 ![0, 1, 2, 3] bcast_S1x128x2048x2_S1x128x2048x2x1_0_1_2_3
      (broadcastInDim S1x128x2048x2 ![3] bcast_S2_S1x128x2048x2_3 bookIdx)⟩,
    ⟨S1x128x2048x2x1, broadcastInDim S1x128x2048x2x1 ![0, 1, 2, 3] bcast_S1x128x2048x2_S1x128x2048x2x1_0_1_2_3 (codeIdx codes)⟩]
    concatenates_S1x128x2048x2x1_S1x128x2048x2x1_S1x128x2048x2x2_d4

/-- The entries the codes name. -/
def refC (codes : IVec S1x128x2048x2 8) (books : Vec F S2x256x8 .bf16) : FVec F S1x128x2048x2x8 .f32 :=
  Host.gather gather_S2x256x8_S1x128x2048x2x2_S1x128x2048x2x8_4_01_n_n_01_4_118 (extf .f32 books bitsLt_bf16_f32) (bothIdx codes)

/-- The residual: `w` less the scaled sums of the entries, narrowed. -/
def refD (w : Vec F S1x128x16384 .f32) (codes : IVec S1x128x2048x2 8) (books : Vec F S2x256x8 .bf16) (scales : Vec F S1x128 .f32) : FVec F S1x128x16384 .bf16 :=
  truncf .bf16 (subf w (shapeCast S1x128x16384 (mulf
    (broadcastInDim S1x128x2048x8 ![0, 1, 2, 3] bcast_S1x128x1x1_S1x128x2048x8_0_1_2_3 (broadcastInDim S1x128x1x1 ![0, 1] bcast_S1x128_S1x128x1x1_0_1 scales))
    (Host.reduceAdd (refC codes books) (constant S_ .f32 0x00000000#32) reducesTo_S1x128x2048x2x8_S1x128x2048x8_d3 h_S_))
    shapeCasts_S1x128x2048x8_S1x128x16384)) bitsLt_bf16_f32

/-- What the reference's product ends holding. -/
def refP (w : Vec F S1x128x16384 .f32) (codes : IVec S1x128x2048x2 8) (books : Vec F S2x256x8 .bf16) (scales : Vec F S1x128 .f32) (h : Vec F S64x8x16384 .f32) : Vec F S512x128 .f32 :=
  shapeCast S512x128 (Host.dotGeneral dot_S64x8x16384_S1x128x16384_S64x8x1x128_2_2_01_01_n_n none
    (truncf .bf16 h bitsLt_bf16_f32) (refD w codes books scales)) shapeCasts_S64x8x1x128_S512x128

/-- What the reference's residual ends holding. -/
def refR (w : Vec F S1x128x16384 .f32) (codes : IVec S1x128x2048x2 8) (books : Vec F S2x256x8 .bf16) (scales : Vec F S1x128 .f32) : Vec F S128x16384 .bf16 :=
  shapeCast S128x16384 (refD w codes books scales) shapeCasts_S1x128x16384_S128x16384

/-- The reference's run: both results and the six arguments. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v27) = refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v28) = refR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  all_goals rfl

theorem codeIdx_at (codes : IVec S1x128x2048x2 8) (b : Fin 1) (s : Fin 128) (g : Fin 2048) (m : Fin 2) :
    (codeIdx codes (ix4 b s g m)).toInt.toNat = (codes (ix4 b s g m)).toNat := by
  show (Scalar.select (Scalar.cmpi .slt ((codes (ix4 b s g m)).zeroExtend 32) 0#32) ((codes (ix4 b s g m)).zeroExtend 32 + 256#32) ((codes (ix4 b s g m)).zeroExtend 32)).toInt.toNat = _
  generalize codes (ix4 b s g m) = x
  revert x; decide +kernel

theorem bookIdx_at (m : Fin 2) : (bookIdx (ix1 m)).toInt.toNat = m.val := by
  revert m; decide +kernel

theorem bothIdx_at0 (codes : IVec S1x128x2048x2 8) (b : Fin 1) (s : Fin 128) (g : Fin 2048) (m : Fin 2) :
    bothIdx codes (ix5 b s g m 0) = bookIdx (ix1 m) := by
  unfold bothIdx
  generalize bookIdx = x
  generalize codeIdx codes = y
  simp only [pointwise]
  try rfl

theorem bothIdx_at1 (codes : IVec S1x128x2048x2 8) (b : Fin 1) (s : Fin 128) (g : Fin 2048) (m : Fin 2) :
    bothIdx codes (ix5 b s g m 1) = codeIdx codes (ix4 b s g m) := by
  unfold bothIdx
  generalize broadcastInDim S1x128x2048x2 ![3] bcast_S2_S1x128x2048x2_3 bookIdx = x
  generalize codeIdx codes = y
  refine (concatenate_pair_apply_right (t := S1x128x2048x2x2) (s₁ := S1x128x2048x2x1) (s₂ := S1x128x2048x2x1) 4 _ _ concatenates_S1x128x2048x2x1_S1x128x2048x2x1_S1x128x2048x2x2_d4 (ix5 b s g m 1) rfl rfl
    (ix5 (n0 := 1) (n1 := 128) (n2 := 2048) (n3 := 2) (n4 := 1) b s g m 0) (fun a ha => ?_) (by show (0 : ℕ) + 1 = 1; rfl)).trans ?_
  · match a with
    | ⟨0, _⟩ => rfl
    | ⟨1, _⟩ => rfl
    | ⟨2, _⟩ => rfl
    | ⟨3, _⟩ => rfl
    | ⟨4, _⟩ => exact absurd rfl ha
  · simp only [pointwise]
    exact congrArg y (congrArg (fun z : Fin 1 => ix4 (n0 := 1) (n1 := 128) (n2 := 2048) (n3 := 2) z s g m) (Subsingleton.elim (0 : Fin 1) b))

theorem gather_at {α : Type} (x : S2x256x8.Idx → α) (idx : IVec S1x128x2048x2x2 32) (b : Fin 1) (s : Fin 128) (g : Fin 2048) (m : Fin 2) (e : Fin 8) (q : Fin 256)
    (hm : (idx (ix5 b s g m 0)).toInt.toNat = m.val) (hq : (idx (ix5 b s g m 1)).toInt.toNat = q.val) :
    Host.gather gather_S2x256x8_S1x128x2048x2x2_S1x128x2048x2x8_4_01_n_n_01_4_118 x idx (ix5 b s g m e) = x (ix3 m q e) := by
  have hs : ∀ (k : Fin 2), (gather_S2x256x8_S1x128x2048x2x2_S1x128x2048x2x8_4_01_n_n_01_4_118).siIdx (ix5 b s g m e) k = ix5 b s g m k := by
    intro k
    funext a
    refine Fin.ext ?_
    match a with
    | ⟨0, _⟩ => rfl
    | ⟨1, _⟩ => rfl
    | ⟨2, _⟩ => rfl
    | ⟨3, _⟩ => rfl
    | ⟨4, _⟩ => rfl
  unfold Host.gather
  congr 1
  funext a
  refine Fin.ext ?_
  show (gather_S2x256x8_S1x128x2048x2x2_S1x128x2048x2x8_4_01_n_n_01_4_118).start (ix5 b s g m e) idx a + (gather_S2x256x8_S1x128x2048x2x2_S1x128x2048x2x8_4_01_n_n_01_4_118).batchCoord (ix5 b s g m e) a
      + (gather_S2x256x8_S1x128x2048x2x2_S1x128x2048x2x8_4_01_n_n_01_4_118).offCoord (ix5 b s g m e) a = _
  rw [GatherDims.batchCoord_eq_zero _ _ _ (List.not_mem_nil), Nat.add_zero]
  fin_cases a
  · rw [GatherDims.offCoord_eq_zero _ _ _ (by decide)]
    unfold GatherDims.start
    rw [dif_pos (by decide)]
    refine (congrArg (fun z => min (idx z).toInt.toNat _ + 0) (hs 0)).trans ?_
    show min (idx (ix5 b s g m 0)).toInt.toNat 1 + 0 = m.val
    rw [hm]; omega
  · rw [GatherDims.offCoord_eq_zero _ _ _ (by decide)]
    unfold GatherDims.start
    rw [dif_pos (by decide)]
    refine (congrArg (fun z => min (idx z).toInt.toNat _ + 0) (hs 1)).trans ?_
    show min (idx (ix5 b s g m 1)).toInt.toNat 255 + 0 = q.val
    rw [hq]; omega
  · unfold GatherDims.start GatherDims.offCoord
    rw [dif_neg (by decide), dif_pos (by decide)]
    exact Nat.zero_add _

theorem refC_at (codes : IVec S1x128x2048x2 8) (books : Vec F S2x256x8 .bf16) (b : Fin 1) (s : Fin 128) (g : Fin 2048) (m : Fin 2) (e : Fin 8) :
    refC codes books (ix5 b s g m e) = FloatOps.extf .f32 bitsLt_bf16_f32 (books (ix3 m ⟨(codes (ix4 b s g m)).toNat, (codes (ix4 b s g m)).isLt⟩ e) : F .bf16) :=
  gather_at _ _ b s g m e ⟨_, (codes (ix4 b s g m)).isLt⟩
    ((congrArg (fun z : BitVec 32 => z.toInt.toNat) (bothIdx_at0 codes b s g m)).trans (bookIdx_at m))
    ((congrArg (fun z : BitVec 32 => z.toInt.toNat) (bothIdx_at1 codes b s g m)).trans (codeIdx_at codes b s g m))

/-- The reference's residual at an element. -/
theorem refD_at (w : Vec Ideal S1x128x16384 .f32) (codes : IVec S1x128x2048x2 8) (books : Vec Ideal S2x256x8 .bf16) (scales : Vec Ideal S1x128 .f32) (s : Fin 128) (q : Fin 16384) :
    refD (F := Ideal) w codes books scales (ix3 (n0 := 1) 0 s q)
      = ((w (ix3 (n0 := 1) 0 s q) : EReal) - (scales (ix2 (n0 := 1) 0 s) : EReal)
          * (refC codes books (ix5 (n0 := 1) 0 s ⟨q.val / 8, by omega⟩ 0 ⟨q.val % 8, by omega⟩) + refC codes books (ix5 (n0 := 1) 0 s ⟨q.val / 8, by omega⟩ 1 ⟨q.val % 8, by omega⟩) : EReal) : EReal) := by
  unfold refD
  generalize refC codes books = z
  simp only [pointwise]
  refine (show _ = (w (ix3 (n0 := 1) 0 s q) : EReal) - (scales (ix2 (n0 := 1) 0 s) : EReal)
    * (0 + ∑ x : Fin 2, (z (ix5 (n0 := 1) 0 s ⟨q.val / 8, by omega⟩ x ⟨q.val % 8, by omega⟩) : EReal)) from rfl).trans ?_
  rw [zero_add, Fin.sum_univ_two]

/-- The reference's product at an element. -/
theorem refP_apply (w : Vec Ideal S1x128x16384 .f32) (codes : IVec S1x128x2048x2 8) (books : Vec Ideal S2x256x8 .bf16) (scales : Vec Ideal S1x128 .f32) (h : Vec Ideal S64x8x16384 .f32) (a : Fin 512) (b : Fin 128) :
    refP (F := Ideal) w codes books scales h (ix2 a b)
      = (∑ q : Fin 16384, (h (ix3 (n0 := 64) (n1 := 8) ⟨a.val / 8, by omega⟩ ⟨a.val % 8, by omega⟩ q) : EReal)
          * (refD w codes books scales (ix3 (n0 := 1) 0 b q) : EReal) : EReal) := by
  unfold refP
  generalize refD w codes books scales = z
  simp only [pointwise]
  exact zero_add _

end Cert.ReferenceIdeal.Hand

end
-- ==== Proof.Entry.lean ====
module

public import proofs.«01_k».proof.Proof.Frame
public import proofs.«01_k».proof.Proof.Value
public import proofs.«01_k».proof.Proof.Ref

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- The arrays as the program is given them. -/
abbrev argW : Vec Ideal S1x128x16384 .f32 := m ((c.tc : Thread nD τ).loc main_arg0)
abbrev argC : IVec S1x128x2048x2 8 := m ((c.tc : Thread nD τ).loc main_arg1)
abbrev argB : Vec Ideal S2x256x8 .bf16 := m ((c.tc : Thread nD τ).loc main_arg2)
abbrev argS : Vec Ideal S1x128 .f32 := m ((c.tc : Thread nD τ).loc main_arg3)
abbrev argH : Vec Ideal S64x8x16384 .f32 := m ((c.tc : Thread nD τ).loc main_arg4)

/-- What the kernel is given: `w` and the rows reshaped, the codes and the codebooks transposed. -/
theorem V_v1 : V m c main_v1 = shapeCast S128x16384 (argW m c) shapeCasts_S1x128x16384_S128x16384 := by
  entry_read
  rfl

theorem V_v3 : V m c main_v3 = transpose S2x128x2048 [2, 0, 1] (shapeCast S128x2048x2 (argC m c) shapeCasts_S1x128x2048x2_S128x2048x2) transposes_S128x2048x2_S2x128x2048_2_0_1 := by
  entry_read
  rfl

theorem V_v4 : V m c main_v4 = transpose S2x8x256 [0, 2, 1] (argB m c) transposes_S2x256x8_S2x8x256_0_2_1 := by
  entry_read
  rfl

theorem V_v5 : V m c main_v5 = shapeCast S512x16384 (argH m c) shapeCasts_S64x8x16384_S512x16384 := by
  entry_read
  rfl

theorem w_apply (b : Fin 128) (q : Fin 16384) :
    shapeCast S128x16384 (argW m c) shapeCasts_S1x128x16384_S128x16384 (ix2 b q) = argW m c (ix3 (n0 := 1) 0 b q) := by
  simp only [pointwise]

theorem h_apply (a : Fin 512) (q : Fin 16384) :
    shapeCast S512x16384 (argH m c) shapeCasts_S64x8x16384_S512x16384 (ix2 a q)
      = argH m c (ix3 (n0 := 64) (n1 := 8) ⟨a.val / 8, by omega⟩ ⟨a.val % 8, by omega⟩ q) := by
  simp only [pointwise]

theorem c_apply (k : Fin 2) (r : Fin 128) (g : Fin 2048) :
    transpose S2x128x2048 [2, 0, 1] (shapeCast S128x2048x2 (argC m c) shapeCasts_S1x128x2048x2_S128x2048x2) transposes_S128x2048x2_S2x128x2048_2_0_1 (ix3 k r g)
      = argC m c (ix4 (n0 := 1) 0 r g k) := by
  simp only [pointwise]

theorem b_apply (k : Fin 2) (e : Fin 8) (q : Fin 256) :
    transpose S2x8x256 [0, 2, 1] (argB m c) transposes_S2x256x8_S2x8x256_0_2_1 (ix3 k e q) = argB m c (ix3 k q e) := by
  simp only [pointwise]

/-- An entry a code names is the same in both programs. -/
theorem cent_apply (k : Fin 2) (e : Fin 8) (r : Fin 128) (g : Fin 2048) :
    cent (F := Ideal) (V m c main_v4) k e (V m c main_v3 (ix3 k r g))
      = Cert.ReferenceIdeal.Hand.refC (F := Ideal) (argC m c) (argB m c) (ix5 (n0 := 1) 0 r g k e) := by
  rw [Cert.ReferenceIdeal.Hand.refC_at, V_v3, V_v4]
  rw [c_apply]
  exact congrArg (fun z : EReal => z) (b_apply m c k e _)

/-- The kernel's residual is the reference's, element by element. -/
theorem resE_apply (r : Fin 128) (q : Fin 16384) :
    resE (F := Ideal) (V m c main_v1) (V m c main_v3) (V m c main_v4) (V m c main_arg3) r q
      = Cert.ReferenceIdeal.Hand.refD (F := Ideal) (argW m c) (argC m c) (argB m c) (argS m c) (ix3 (n0 := 1) 0 r q) := by
  rw [Cert.ReferenceIdeal.Hand.refD_at]
  unfold resE
  rw [cent_apply, cent_apply, V_v1, w_apply, V_main_arg3]
  rfl

/-- The kernel's product is the reference's. -/
theorem accOut_eq (h0 : ∀ c : Dev nD, 2 * (word m c).toNat < 2 ^ 32) :
    accOut m h0 c = Cert.ReferenceIdeal.Hand.refP (F := Ideal) (argW m c) (argC m c) (argB m c) (argS m c) (argH m c) := by
  funext y
  obtain ⟨a, b, rfl⟩ : ∃ (a : Fin 512) (b : Fin 128), y = ix2 a b := ⟨y 0, y 1, by
    funext d; match d with
    | ⟨0, _⟩ => rfl
    | ⟨1, _⟩ => rfl⟩
  refine Eq.trans ?_ (Cert.ReferenceIdeal.Hand.refP_apply _ _ _ _ _ a b).symm
  refine (accAt_full (word m c) (h0 c) _ _ _ _ _ _ a b).trans ?_
  refine Finset.sum_congr rfl fun q _ => ?_
  rw [V_v5]
  exact congrArg₂ (· * · : EReal → EReal → EReal) (h_apply m c a q) (resE_apply m c b q)

/-- The kernel's residual, as it leaves it in HBM, is the reference's. -/
theorem rOut_eq : resC (V m c main_v1) (V m c main_v3) (V m c main_v4) (V m c main_arg3)
    = Cert.ReferenceIdeal.Hand.refR (F := Ideal) (argW m c) (argC m c) (argB m c) (argS m c) := by
  funext y
  obtain ⟨a, b, rfl⟩ : ∃ (a : Fin 128) (b : Fin 16384), y = ix2 a b := ⟨y 0, y 1, by
    funext d; match d with
    | ⟨0, _⟩ => rfl
    | ⟨1, _⟩ => rfl⟩
  refine (resE_apply m c a b).trans ?_
  unfold Cert.ReferenceIdeal.Hand.refR
  generalize Cert.ReferenceIdeal.Hand.refD (F := Ideal) (argW m c) (argC m c) (argB m c) (argS m c) = z
  symm
  simp only [pointwise]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_chunk_start_nonneg
public import proofs.«01_k».proof.Proof.Frame
public import proofs.«01_k».proof.Proof.KFrame
public import proofs.«01_k».proof.Proof.Value
public import proofs.«01_k».proof.Proof.Ref
public import proofs.«01_k».proof.Proof.Entry
public import Idealize.ShloMosaic.Adequacy
public import Idealize.ShloMosaic.Init

@[expose] public section

noncomputable section

namespace Cert.Proof

open Idealize.ShloMosaic Idealize.ShloMosaic.TcCoe
open Idealize.SL.Sem

/-- The precondition, read at the one word: `chunk_start` is not negative. -/
theorem word_nonneg {F : FTy → Type} [FloatOps F] [Cert.Pre_chunk_start_nonneg.Facts]
    (a : FVec F Cert.Pre_chunk_start_nonneg.S1x128x16384 .f32) (k : IVec Cert.Pre_chunk_start_nonneg.S1x128x2048x2 8)
    (e : FVec F Cert.Pre_chunk_start_nonneg.S2x256x8 .bf16) (s : FVec F Cert.Pre_chunk_start_nonneg.S1x128 .f32)
    (b : FVec F Cert.Pre_chunk_start_nonneg.S64x8x16384 .f32) (w : IVec Cert.Pre_chunk_start_nonneg.S_ 32)
    (h : Cert.Pre_chunk_start_nonneg.fn (F := F) a k e s b w = fun _ => 1#1) :
    2 * (w (fun a => a.elim0)).toNat < 2 ^ 32 :=
  (Scalar.nonneg_iff _).1 (congrFun h (fun a => a.elim0))

open Cert.ReferenceIdeal in
theorem refP_congr {w w' : Vec Ideal S1x128x16384 .f32} {k k' : IVec S1x128x2048x2 8} {e e' : Vec Ideal S2x256x8 .bf16} {s s' : Vec Ideal S1x128 .f32} {h h' : Vec Ideal S64x8x16384 .f32}
    (e1 : w = w') (e2 : k = k') (e3 : e = e') (e4 : s = s') (e5 : h = h') :
    Cert.ReferenceIdeal.Hand.refP (F := Ideal) w k e s h = Cert.ReferenceIdeal.Hand.refP (F := Ideal) w' k' e' s' h' := by
  subst e1 e2 e3 e4 e5; rfl

open Cert.ReferenceIdeal in
theorem refR_congr {w w' : Vec Ideal S1x128x16384 .f32} {k k' : IVec S1x128x2048x2 8} {e e' : Vec Ideal S2x256x8 .bf16} {s s' : Vec Ideal S1x128 .f32}
    (e1 : w = w') (e2 : k = k') (e3 : e = e') (e4 : s = s') :
    Cert.ReferenceIdeal.Hand.refR (F := Ideal) w k e s = Cert.ReferenceIdeal.Hand.refR (F := Ideal) w' k' e' s' := by
  subst e1 e2 e3 e4; rfl

theorem frame_p : Cert.quiescent_Kernel := fun m g hpre =>
  (θ_run Cert.Kernel.defs _ _).mono (fun _ h => ⟨fun c => (h.1 c).2.2, h.2⟩)
    (Cert.Kernel.Hand.run_values (F := Bits) m g fun c => word_nonneg _ _ _ _ _ _ (hpre c))

theorem frame_pi : Cert.quiescent_KernelIdeal := fun m g hpre =>
  (θ_run Cert.KernelIdeal.defs _ _).mono (fun _ h => ⟨fun c => (h.1 c).2.2, h.2⟩)
    (Cert.KernelIdeal.Hand.run_values (F := Ideal) m g fun c => word_nonneg _ _ _ _ _ _ (hpre c))

theorem frame_ri : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Hand.run (F := Ideal) m g)

theorem algebraic : Cert.algebraic_KernelIdeal_ReferenceIdeal := fun m g m' g' hpre hagree =>
  have h0 := fun c => word_nonneg _ _ _ _ _ _ (hpre c)
  ⟨fun c => Cert.ReferenceIdeal.Hand.refP (F := Ideal) (Cert.KernelIdeal.Hand.argW m c) (Cert.KernelIdeal.Hand.argC m c) (Cert.KernelIdeal.Hand.argB m c) (Cert.KernelIdeal.Hand.argS m c) (Cert.KernelIdeal.Hand.argH m c),
    fun c => Cert.ReferenceIdeal.Hand.refR (F := Ideal) (Cert.KernelIdeal.Hand.argW m c) (Cert.KernelIdeal.Hand.argC m c) (Cert.KernelIdeal.Hand.argB m c) (Cert.KernelIdeal.Hand.argS m c),
    (θ_run Cert.KernelIdeal.defs _ _).mono
      (fun _ h c => ⟨(h.1 c).1.trans (Cert.KernelIdeal.Hand.accOut_eq m c h0),
        (h.1 c).2.1.trans (Cert.KernelIdeal.Hand.rOut_eq m c), (h.1 c).2.2⟩)
      (Cert.KernelIdeal.Hand.run_values (F := Ideal) m g h0),
    (θ_run Cert.ReferenceIdeal.defs _ _).mono
      (fun _ h c => ⟨(h c).1.trans (refP_congr (hagree c).1 (hagree c).2.1 (hagree c).2.2.1 (hagree c).2.2.2.1 (hagree c).2.2.2.2.1),
        (h c).2.1.trans (refR_congr (hagree c).1 (hagree c).2.1 (hagree c).2.2.1 (hagree c).2.2.2.1), (h c).2.2⟩)
      (Cert.ReferenceIdeal.Hand.run (F := Ideal) m' g')⟩

theorem claim : Cert.Claim :=
  ⟨Cert.Kernel.Gen.facts, Cert.KernelIdeal.Gen.facts, Cert.ReferenceIdeal.Gen.facts, Cert.Pre_chunk_start_nonneg.Gen.facts,
    frame_p, frame_pi, frame_ri, trivial, algebraic⟩

end Cert.Proof

end
